-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_sgu_weights_finite [hPre_sgu_weights_finite : Cert.Pre_sgu_weights_finite.Facts] (m : (ℓ : Loc Cert.SguIdeal.nD Cert.SguIdeal.τ Cert.SguIdeal.sig) → Buf (Elt Ideal) ℓ) : Prop :=
  ∀ c : Dev Cert.SguIdeal.nD,
    (Cert.Pre_sgu_weights_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8))) = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_sgu_weights_finite [hPre_sgu_weights_finite : Cert.Pre_sgu_weights_finite.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_sgu_weights_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Wkv (m : (ℓ : Loc Cert.Wkv.nD Cert.Wkv.τ Cert.Wkv.sig) → Buf (Elt Bits) ℓ) : Prop :=
  True

def Pre_WkvIdeal (m : (ℓ : Loc Cert.WkvIdeal.nD Cert.WkvIdeal.τ Cert.WkvIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6)
      ∧ r.2.mem ((c.tc : Thread Cert.Sgu.nD Cert.Sgu.τ).loc Cert.Sgu.main_arg7) = m ((c.tc : Thread Cert.Sgu.nD Cert.Sgu.τ).loc Cert.Sgu.main_arg7)
      ∧ r.2.mem ((c.tc : Thread Cert.Sgu.nD Cert.Sgu.τ).loc Cert.Sgu.main_arg8) = m ((c.tc : Thread Cert.Sgu.nD Cert.Sgu.τ).loc Cert.Sgu.main_arg8))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
      ∧ r.2.mem ((c.tc : Thread Cert.SguIdeal.nD Cert.SguIdeal.τ).loc Cert.SguIdeal.main_arg8) = m ((c.tc : Thread Cert.SguIdeal.nD Cert.SguIdeal.τ).loc Cert.SguIdeal.main_arg8))
      ∧ r.2.sem = fun _ => 0)

def quiescent_SguIdeal_pre_sgu_weights_finite [hSguIdeal : Cert.SguIdeal.Facts] [hPre_sgu_weights_finite : Cert.Pre_sgu_weights_finite.Facts] : Prop :=
  ∀ (m : (ℓ : Loc Cert.SguIdeal.nD Cert.SguIdeal.τ Cert.SguIdeal.sig) → Buf (Elt Ideal) ℓ) (g : Dev Cert.SguIdeal.nD → PrngReg), Pre_SguIdeal_sgu_weights_finite m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
      ∧ r.2.mem ((c.tc : Thread Cert.SguIdeal.nD Cert.SguIdeal.τ).loc Cert.SguIdeal.main_arg8) = m ((c.tc : Thread Cert.SguIdeal.nD Cert.SguIdeal.τ).loc Cert.SguIdeal.main_arg8))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6)
      ∧ r.2.mem ((c.tc : Thread Cert.SguRefIdeal.nD Cert.SguRefIdeal.τ).loc Cert.SguRefIdeal.main_arg7) = m ((c.tc : Thread Cert.SguRefIdeal.nD Cert.SguRefIdeal.τ).loc Cert.SguRefIdeal.main_arg7)
      ∧ r.2.mem ((c.tc : Thread Cert.SguRefIdeal.nD Cert.SguRefIdeal.τ).loc Cert.SguRefIdeal.main_arg8) = m ((c.tc : Thread Cert.SguRefIdeal.nD Cert.SguRefIdeal.τ).loc Cert.SguRefIdeal.main_arg8))
      ∧ r.2.sem = fun _ => 0)

def quiescent_SguRefIdeal_pre_sgu_weights_finite [hSguRefIdeal : Cert.SguRefIdeal.Facts] [hPre_sgu_weights_finite : Cert.Pre_sgu_weights_finite.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_sgu_weights_finite m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6)
      ∧ r.2.mem ((c.tc : Thread Cert.SguRefIdeal.nD Cert.SguRefIdeal.τ).loc Cert.SguRefIdeal.main_arg7) = m ((c.tc : Thread Cert.SguRefIdeal.nD Cert.SguRefIdeal.τ).loc Cert.SguRefIdeal.main_arg7)
      ∧ r.2.mem ((c.tc : Thread Cert.SguRefIdeal.nD Cert.SguRefIdeal.τ).loc Cert.SguRefIdeal.main_arg8) = m ((c.tc : Thread Cert.SguRefIdeal.nD Cert.SguRefIdeal.τ).loc Cert.SguRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9)
      ∧ r.2.mem ((c.tc : Thread Cert.In.nD Cert.In.τ).loc Cert.In.main_arg10) = m ((c.tc : Thread Cert.In.nD Cert.In.τ).loc Cert.In.main_arg10)
      ∧ r.2.mem ((c.tc : Thread Cert.In.nD Cert.In.τ).loc Cert.In.main_arg11) = m ((c.tc : Thread Cert.In.nD Cert.In.τ).loc Cert.In.main_arg11)
      ∧ r.2.mem ((c.tc : Thread Cert.In.nD Cert.In.τ).loc Cert.In.main_arg12) = m ((c.tc : Thread Cert.In.nD Cert.In.τ).loc Cert.In.main_arg12)
      ∧ r.2.mem ((c.tc : Thread Cert.In.nD Cert.In.τ).loc Cert.In.main_arg13) = m ((c.tc : Thread Cert.In.nD Cert.In.τ).loc Cert.In.main_arg13)
      ∧ r.2.mem ((c.tc : Thread Cert.In.nD Cert.In.τ).loc Cert.In.main_arg14) = m ((c.tc : Thread Cert.In.nD Cert.In.τ).loc Cert.In.main_arg14)
      ∧ r.2.mem ((c.tc : Thread Cert.In.nD Cert.In.τ).loc Cert.In.main_arg15) = m ((c.tc : Thread Cert.In.nD Cert.In.τ).loc Cert.In.main_arg15)
      ∧ r.2.mem ((c.tc : Thread Cert.In.nD Cert.In.τ).loc Cert.In.main_arg16) = m ((c.tc : Thread Cert.In.nD Cert.In.τ).loc Cert.In.main_arg16)
      ∧ r.2.mem ((c.tc : Thread Cert.In.nD Cert.In.τ).loc Cert.In.main_arg17) = m ((c.tc : Thread Cert.In.nD Cert.In.τ).loc Cert.In.main_arg17)
      ∧ r.2.mem ((c.tc : Thread Cert.In.nD Cert.In.τ).loc Cert.In.main_arg18) = m ((c.tc : Thread Cert.In.nD Cert.In.τ).loc Cert.In.main_arg18))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10)
      ∧ r.2.mem ((c.tc : Thread Cert.InIdeal.nD Cert.InIdeal.τ).loc Cert.InIdeal.main_arg11) = m ((c.tc : Thread Cert.InIdeal.nD Cert.InIdeal.τ).loc Cert.InIdeal.main_arg11)
      ∧ r.2.mem ((c.tc : Thread Cert.InIdeal.nD Cert.InIdeal.τ).loc Cert.InIdeal.main_arg12) = m ((c.tc : Thread Cert.InIdeal.nD Cert.InIdeal.τ).loc Cert.InIdeal.main_arg12)
      ∧ r.2.mem ((c.tc : Thread Cert.InIdeal.nD Cert.InIdeal.τ).loc Cert.InIdeal.main_arg13) = m ((c.tc : Thread Cert.InIdeal.nD Cert.InIdeal.τ).loc Cert.InIdeal.main_arg13)
      ∧ r.2.mem ((c.tc : Thread Cert.InIdeal.nD Cert.InIdeal.τ).loc Cert.InIdeal.main_arg14) = m ((c.tc : Thread Cert.InIdeal.nD Cert.InIdeal.τ).loc Cert.InIdeal.main_arg14)
      ∧ r.2.mem ((c.tc : Thread Cert.InIdeal.nD Cert.InIdeal.τ).loc Cert.InIdeal.main_arg15) = m ((c.tc : Thread Cert.InIdeal.nD Cert.InIdeal.τ).loc Cert.InIdeal.main_arg15)
      ∧ r.2.mem ((c.tc : Thread Cert.InIdeal.nD Cert.InIdeal.τ).loc Cert.InIdeal.main_arg16) = m ((c.tc : Thread Cert.InIdeal.nD Cert.InIdeal.τ).loc Cert.InIdeal.main_arg16)
      ∧ r.2.mem ((c.tc : Thread Cert.InIdeal.nD Cert.InIdeal.τ).loc Cert.InIdeal.main_arg17) = m ((c.tc : Thread Cert.InIdeal.nD Cert.InIdeal.τ).loc Cert.InIdeal.main_arg17)
      ∧ r.2.mem ((c.tc : Thread Cert.InIdeal.nD Cert.InIdeal.τ).loc Cert.InIdeal.main_arg18) = m ((c.tc : Thread Cert.InIdeal.nD Cert.InIdeal.τ).loc Cert.InIdeal.main_arg18))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11)
      ∧ r.2.mem ((c.tc : Thread Cert.InRefIdeal.nD Cert.InRefIdeal.τ).loc Cert.InRefIdeal.main_arg12) = m ((c.tc : Thread Cert.InRefIdeal.nD Cert.InRefIdeal.τ).loc Cert.InRefIdeal.main_arg12)
      ∧ r.2.mem ((c.tc : Thread Cert.InRefIdeal.nD Cert.InRefIdeal.τ).loc Cert.InRefIdeal.main_arg13) = m ((c.tc : Thread Cert.InRefIdeal.nD Cert.InRefIdeal.τ).loc Cert.InRefIdeal.main_arg13)
      ∧ r.2.mem ((c.tc : Thread Cert.InRefIdeal.nD Cert.InRefIdeal.τ).loc Cert.InRefIdeal.main_arg14) = m ((c.tc : Thread Cert.InRefIdeal.nD Cert.InRefIdeal.τ).loc Cert.InRefIdeal.main_arg14)
      ∧ r.2.mem ((c.tc : Thread Cert.InRefIdeal.nD Cert.InRefIdeal.τ).loc Cert.InRefIdeal.main_arg15) = m ((c.tc : Thread Cert.InRefIdeal.nD Cert.InRefIdeal.τ).loc Cert.InRefIdeal.main_arg15)
      ∧ r.2.mem ((c.tc : Thread Cert.InRefIdeal.nD Cert.InRefIdeal.τ).loc Cert.InRefIdeal.main_arg16) = m ((c.tc : Thread Cert.InRefIdeal.nD Cert.InRefIdeal.τ).loc Cert.InRefIdeal.main_arg16)
      ∧ r.2.mem ((c.tc : Thread Cert.InRefIdeal.nD Cert.InRefIdeal.τ).loc Cert.InRefIdeal.main_arg17) = m ((c.tc : Thread Cert.InRefIdeal.nD Cert.InRefIdeal.τ).loc Cert.InRefIdeal.main_arg17)
      ∧ r.2.mem ((c.tc : Thread Cert.InRefIdeal.nD Cert.InRefIdeal.τ).loc Cert.InRefIdeal.main_arg18) = m ((c.tc : Thread Cert.InRefIdeal.nD Cert.InRefIdeal.τ).loc Cert.InRefIdeal.main_arg18))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10))
      ∧ r.2.sem = fun _ => 0)

def quiescent_Wkv [hWkv : Cert.Wkv.Facts] : Prop :=
  ∀ (m : (ℓ : Loc Cert.Wkv.nD Cert.Wkv.τ Cert.Wkv.sig) → Buf (Elt Bits) ℓ) (g : Dev Cert.Wkv.nD → PrngReg), Pre_Wkv m →
    θ_run (Cert.Wkv.defs (F := Bits)) (onTc (τ := Cert.Wkv.τ) (Cert.Wkv.main (F := Bits))) ⟨m, fun _ => 0, g⟩ (fun r => (∀ c : Dev Cert.Wkv.nD,
      r.2.mem ((c.tc : Thread Cert.Wkv.nD Cert.Wkv.τ).loc Cert.Wkv.main_arg0) = m ((c.tc : Thread Cert.Wkv.nD Cert.Wkv.τ).loc Cert.Wkv.main_arg0)
      ∧ r.2.mem ((c.tc : Thread Cert.Wkv.nD Cert.Wkv.τ).loc Cert.Wkv.main_arg1) = m ((c.tc : Thread Cert.Wkv.nD Cert.Wkv.τ).loc Cert.Wkv.main_arg1)
      ∧ r.2.mem ((c.tc : Thread Cert.Wkv.nD Cert.Wkv.τ).loc Cert.Wkv.main_arg2) = m ((c.tc : Thread Cert.Wkv.nD Cert.Wkv.τ).loc Cert.Wkv.main_arg2)
      ∧ r.2.mem ((c.tc : Thread Cert.Wkv.nD Cert.Wkv.τ).loc Cert.Wkv.main_arg3) = m ((c.tc : Thread Cert.Wkv.nD Cert.Wkv.τ).loc Cert.Wkv.main_arg3)
      ∧ r.2.mem ((c.tc : Thread Cert.Wkv.nD Cert.Wkv.τ).loc Cert.Wkv.main_arg4) = m ((c.tc : Thread Cert.Wkv.nD Cert.Wkv.τ).loc Cert.Wkv.main_arg4)
      ∧ r.2.mem ((c.tc : Thread Cert.Wkv.nD Cert.Wkv.τ).loc Cert.Wkv.main_arg5) = m ((c.tc : Thread Cert.Wkv.nD Cert.Wkv.τ).loc Cert.Wkv.main_arg5))
      ∧ r.2.sem = fun _ => 0)

def quiescent_WkvIdeal [hWkvIdeal : Cert.WkvIdeal.Facts] : Prop :=
  ∀ (m : (ℓ : Loc Cert.WkvIdeal.nD Cert.WkvIdeal.τ Cert.WkvIdeal.sig) → Buf (Elt Ideal) ℓ) (g : Dev Cert.WkvIdeal.nD → PrngReg), Pre_WkvIdeal m →
    θ_run (Cert.WkvIdeal.defs (F := Ideal)) (onTc (τ := Cert.WkvIdeal.τ) (Cert.WkvIdeal.main (F := Ideal))) ⟨m, fun _ => 0, g⟩ (fun r => (∀ c : Dev Cert.WkvIdeal.nD,
      r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
      ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
      ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
      ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3)
      ∧ r.2.mem ((c.tc : Thread Cert.WkvIdeal.nD Cert.WkvIdeal.τ).loc Cert.WkvIdeal.main_arg4) = m ((c.tc : Thread Cert.WkvIdeal.nD Cert.WkvIdeal.τ).loc Cert.WkvIdeal.main_arg4)
      ∧ r.2.mem ((c.tc : Thread Cert.WkvIdeal.nD Cert.WkvIdeal.τ).loc Cert.WkvIdeal.main_arg5) = m ((c.tc : Thread Cert.WkvIdeal.nD Cert.WkvIdeal.τ).loc Cert.WkvIdeal.main_arg5))
      ∧ r.2.sem = fun _ => 0)

def preserves_Sgu_SguIdeal : Prop :=
  True

def algebraic_SguIdeal_SguRefIdeal_pre_sgu_weights_finite [hSguIdeal : Cert.SguIdeal.Facts] [hSguRefIdeal : Cert.SguRefIdeal.Facts] [hPre_sgu_weights_finite : Cert.Pre_sgu_weights_finite.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_sgu_weights_finite m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)
      ∧ m' ((c.tc : Thread Cert.SguRefIdeal.nD Cert.SguRefIdeal.τ).loc Cert.SguRefIdeal.main_arg7) = m ((c.tc : Thread Cert.SguIdeal.nD Cert.SguIdeal.τ).loc Cert.SguIdeal.main_arg7)
      ∧ m' ((c.tc : Thread Cert.SguRefIdeal.nD Cert.SguRefIdeal.τ).loc Cert.SguRefIdeal.main_arg8) = m ((c.tc : Thread Cert.SguIdeal.nD Cert.SguIdeal.τ).loc Cert.SguIdeal.main_arg8)) →
    ∃ (v0 : (c : Dev Cert.SguIdeal.nD) → Buf (Elt Ideal) ((c.tc : Thread Cert.SguIdeal.nD Cert.SguIdeal.τ).loc Cert.SguIdeal.main_v20)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v20) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
          ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
          ∧ r.2.mem ((c.tc : Thread Cert.SguIdeal.nD Cert.SguIdeal.τ).loc Cert.SguIdeal.main_arg8) = m ((c.tc : Thread Cert.SguIdeal.nD Cert.SguIdeal.τ).loc Cert.SguIdeal.main_arg8))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v88) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6)
          ∧ r.2.mem ((c.tc : Thread Cert.SguRefIdeal.nD Cert.SguRefIdeal.τ).loc Cert.SguRefIdeal.main_arg7) = m' ((c.tc : Thread Cert.SguRefIdeal.nD Cert.SguRefIdeal.τ).loc Cert.SguRefIdeal.main_arg7)
          ∧ r.2.mem ((c.tc : Thread Cert.SguRefIdeal.nD Cert.SguRefIdeal.τ).loc Cert.SguRefIdeal.main_arg8) = m' ((c.tc : Thread Cert.SguRefIdeal.nD Cert.SguRefIdeal.τ).loc Cert.SguRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v24) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)) →
    ∃ (v0 : (c : Dev Cert.OutIdeal.nD) → Buf (Elt Ideal) ((c.tc : Thread Cert.OutIdeal.nD Cert.OutIdeal.τ).loc Cert.OutIdeal.main_v22)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v22) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v74) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)
      ∧ m' ((c.tc : Thread Cert.InRefIdeal.nD Cert.InRefIdeal.τ).loc Cert.InRefIdeal.main_arg10) = m ((c.tc : Thread Cert.InIdeal.nD Cert.InIdeal.τ).loc Cert.InIdeal.main_arg10)
      ∧ m' ((c.tc : Thread Cert.InRefIdeal.nD Cert.InRefIdeal.τ).loc Cert.InRefIdeal.main_arg11) = m ((c.tc : Thread Cert.InIdeal.nD Cert.InIdeal.τ).loc Cert.InIdeal.main_arg11)
      ∧ m' ((c.tc : Thread Cert.InRefIdeal.nD Cert.InRefIdeal.τ).loc Cert.InRefIdeal.main_arg12) = m ((c.tc : Thread Cert.InIdeal.nD Cert.InIdeal.τ).loc Cert.InIdeal.main_arg12)
      ∧ m' ((c.tc : Thread Cert.InRefIdeal.nD Cert.InRefIdeal.τ).loc Cert.InRefIdeal.main_arg13) = m ((c.tc : Thread Cert.InIdeal.nD Cert.InIdeal.τ).loc Cert.InIdeal.main_arg13)
      ∧ m' ((c.tc : Thread Cert.InRefIdeal.nD Cert.InRefIdeal.τ).loc Cert.InRefIdeal.main_arg14) = m ((c.tc : Thread Cert.InIdeal.nD Cert.InIdeal.τ).loc Cert.InIdeal.main_arg14)
      ∧ m' ((c.tc : Thread Cert.InRefIdeal.nD Cert.InRefIdeal.τ).loc Cert.InRefIdeal.main_arg15) = m ((c.tc : Thread Cert.InIdeal.nD Cert.InIdeal.τ).loc Cert.InIdeal.main_arg15)
      ∧ m' ((c.tc : Thread Cert.InRefIdeal.nD Cert.InRefIdeal.τ).loc Cert.InRefIdeal.main_arg16) = m ((c.tc : Thread Cert.InIdeal.nD Cert.InIdeal.τ).loc Cert.InIdeal.main_arg16)
      ∧ m' ((c.tc : Thread Cert.InRefIdeal.nD Cert.InRefIdeal.τ).loc Cert.InRefIdeal.main_arg17) = m ((c.tc : Thread Cert.InIdeal.nD Cert.InIdeal.τ).loc Cert.InIdeal.main_arg17)
      ∧ m' ((c.tc : Thread Cert.InRefIdeal.nD Cert.InRefIdeal.τ).loc Cert.InRefIdeal.main_arg18) = m ((c.tc : Thread Cert.InIdeal.nD Cert.InIdeal.τ).loc Cert.InIdeal.main_arg18)) →
    ∃ (v0 : (c : Dev Cert.InIdeal.nD) → Buf (Elt Ideal) ((c.tc : Thread Cert.InIdeal.nD Cert.InIdeal.τ).loc Cert.InIdeal.main_v55_0)) (v1 : (c : Dev Cert.InIdeal.nD) → Buf (Elt Ideal) ((c.tc : Thread Cert.InIdeal.nD Cert.InIdeal.τ).loc Cert.InIdeal.main_v55_2)) (v2 : (c : Dev Cert.InIdeal.nD) → Buf (Elt Ideal) ((c.tc : Thread Cert.InIdeal.nD Cert.InIdeal.τ).loc Cert.InIdeal.main_v55_3)) (v3 : (c : Dev Cert.InIdeal.nD) → Buf (Elt Ideal) ((c.tc : Thread Cert.InIdeal.nD Cert.InIdeal.τ).loc Cert.InIdeal.main_v55_4)) (v4 : (c : Dev Cert.InIdeal.nD) → Buf (Elt Ideal) ((c.tc : Thread Cert.InIdeal.nD Cert.InIdeal.τ).loc Cert.InIdeal.main_v55_5)) (v5 : (c : Dev Cert.InIdeal.nD) → Buf (Elt Ideal) ((c.tc : Thread Cert.InIdeal.nD Cert.InIdeal.τ).loc Cert.InIdeal.main_v55_6)) (v6 : (c : Dev Cert.InIdeal.nD) → Buf (Elt Ideal) ((c.tc : Thread Cert.InIdeal.nD Cert.InIdeal.τ).loc Cert.InIdeal.main_v55_7)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v55_0) = v0 c
          ∧ r.2.mem ((c.tc : Thread Cert.InIdeal.nD Cert.InIdeal.τ).loc Cert.InIdeal.main_v55_2) = v1 c
          ∧ r.2.mem ((c.tc : Thread Cert.InIdeal.nD Cert.InIdeal.τ).loc Cert.InIdeal.main_v55_3) = v2 c
          ∧ r.2.mem ((c.tc : Thread Cert.InIdeal.nD Cert.InIdeal.τ).loc Cert.InIdeal.main_v55_4) = v3 c
          ∧ r.2.mem ((c.tc : Thread Cert.InIdeal.nD Cert.InIdeal.τ).loc Cert.InIdeal.main_v55_5) = v4 c
          ∧ r.2.mem ((c.tc : Thread Cert.InIdeal.nD Cert.InIdeal.τ).loc Cert.InIdeal.main_v55_6) = v5 c
          ∧ r.2.mem ((c.tc : Thread Cert.InIdeal.nD Cert.InIdeal.τ).loc Cert.InIdeal.main_v55_7) = v6 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9)
          ∧ r.2.mem ((c.tc : Thread Cert.InIdeal.nD Cert.InIdeal.τ).loc Cert.InIdeal.main_arg10) = m ((c.tc : Thread Cert.InIdeal.nD Cert.InIdeal.τ).loc Cert.InIdeal.main_arg10)
          ∧ r.2.mem ((c.tc : Thread Cert.InIdeal.nD Cert.InIdeal.τ).loc Cert.InIdeal.main_arg11) = m ((c.tc : Thread Cert.InIdeal.nD Cert.InIdeal.τ).loc Cert.InIdeal.main_arg11)
          ∧ r.2.mem ((c.tc : Thread Cert.InIdeal.nD Cert.InIdeal.τ).loc Cert.InIdeal.main_arg12) = m ((c.tc : Thread Cert.InIdeal.nD Cert.InIdeal.τ).loc Cert.InIdeal.main_arg12)
          ∧ r.2.mem ((c.tc : Thread Cert.InIdeal.nD Cert.InIdeal.τ).loc Cert.InIdeal.main_arg13) = m ((c.tc : Thread Cert.InIdeal.nD Cert.InIdeal.τ).loc Cert.InIdeal.main_arg13)
          ∧ r.2.mem ((c.tc : Thread Cert.InIdeal.nD Cert.InIdeal.τ).loc Cert.InIdeal.main_arg14) = m ((c.tc : Thread Cert.InIdeal.nD Cert.InIdeal.τ).loc Cert.InIdeal.main_arg14)
          ∧ r.2.mem ((c.tc : Thread Cert.InIdeal.nD Cert.InIdeal.τ).loc Cert.InIdeal.main_arg15) = m ((c.tc : Thread Cert.InIdeal.nD Cert.InIdeal.τ).loc Cert.InIdeal.main_arg15)
          ∧ r.2.mem ((c.tc : Thread Cert.InIdeal.nD Cert.InIdeal.τ).loc Cert.InIdeal.main_arg16) = m ((c.tc : Thread Cert.InIdeal.nD Cert.InIdeal.τ).loc Cert.InIdeal.main_arg16)
          ∧ r.2.mem ((c.tc : Thread Cert.InIdeal.nD Cert.InIdeal.τ).loc Cert.InIdeal.main_arg17) = m ((c.tc : Thread Cert.InIdeal.nD Cert.InIdeal.τ).loc Cert.InIdeal.main_arg17)
          ∧ r.2.mem ((c.tc : Thread Cert.InIdeal.nD Cert.InIdeal.τ).loc Cert.InIdeal.main_arg18) = m ((c.tc : Thread Cert.InIdeal.nD Cert.InIdeal.τ).loc Cert.InIdeal.main_arg18))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v129) = v0 c
          ∧ r.2.mem ((c.tc : Thread Cert.InRefIdeal.nD Cert.InRefIdeal.τ).loc Cert.InRefIdeal.main_v130) = v1 c
          ∧ r.2.mem ((c.tc : Thread Cert.InRefIdeal.nD Cert.InRefIdeal.τ).loc Cert.InRefIdeal.main_v131) = v2 c
          ∧ r.2.mem ((c.tc : Thread Cert.InRefIdeal.nD Cert.InRefIdeal.τ).loc Cert.InRefIdeal.main_v132) = v3 c
          ∧ r.2.mem ((c.tc : Thread Cert.InRefIdeal.nD Cert.InRefIdeal.τ).loc Cert.InRefIdeal.main_v133) = v4 c
          ∧ r.2.mem ((c.tc : Thread Cert.InRefIdeal.nD Cert.InRefIdeal.τ).loc Cert.InRefIdeal.main_v135) = v5 c
          ∧ r.2.mem ((c.tc : Thread Cert.InRefIdeal.nD Cert.InRefIdeal.τ).loc Cert.InRefIdeal.main_v137) = v6 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10)
          ∧ r.2.mem ((c.tc : Thread Cert.InRefIdeal.nD Cert.InRefIdeal.τ).loc Cert.InRefIdeal.main_arg11) = m' ((c.tc : Thread Cert.InRefIdeal.nD Cert.InRefIdeal.τ).loc Cert.InRefIdeal.main_arg11)
          ∧ r.2.mem ((c.tc : Thread Cert.InRefIdeal.nD Cert.InRefIdeal.τ).loc Cert.InRefIdeal.main_arg12) = m' ((c.tc : Thread Cert.InRefIdeal.nD Cert.InRefIdeal.τ).loc Cert.InRefIdeal.main_arg12)
          ∧ r.2.mem ((c.tc : Thread Cert.InRefIdeal.nD Cert.InRefIdeal.τ).loc Cert.InRefIdeal.main_arg13) = m' ((c.tc : Thread Cert.InRefIdeal.nD Cert.InRefIdeal.τ).loc Cert.InRefIdeal.main_arg13)
          ∧ r.2.mem ((c.tc : Thread Cert.InRefIdeal.nD Cert.InRefIdeal.τ).loc Cert.InRefIdeal.main_arg14) = m' ((c.tc : Thread Cert.InRefIdeal.nD Cert.InRefIdeal.τ).loc Cert.InRefIdeal.main_arg14)
          ∧ r.2.mem ((c.tc : Thread Cert.InRefIdeal.nD Cert.InRefIdeal.τ).loc Cert.InRefIdeal.main_arg15) = m' ((c.tc : Thread Cert.InRefIdeal.nD Cert.InRefIdeal.τ).loc Cert.InRefIdeal.main_arg15)
          ∧ r.2.mem ((c.tc : Thread Cert.InRefIdeal.nD Cert.InRefIdeal.τ).loc Cert.InRefIdeal.main_arg16) = m' ((c.tc : Thread Cert.InRefIdeal.nD Cert.InRefIdeal.τ).loc Cert.InRefIdeal.main_arg16)
          ∧ r.2.mem ((c.tc : Thread Cert.InRefIdeal.nD Cert.InRefIdeal.τ).loc Cert.InRefIdeal.main_arg17) = m' ((c.tc : Thread Cert.InRefIdeal.nD Cert.InRefIdeal.τ).loc Cert.InRefIdeal.main_arg17)
          ∧ r.2.mem ((c.tc : Thread Cert.InRefIdeal.nD Cert.InRefIdeal.τ).loc Cert.InRefIdeal.main_arg18) = m' ((c.tc : Thread Cert.InRefIdeal.nD Cert.InRefIdeal.τ).loc Cert.InRefIdeal.main_arg18))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)) →
    ∃ (v0 : (c : Dev Cert.MidIdeal.nD) → Buf (Elt Ideal) ((c.tc : Thread Cert.MidIdeal.nD Cert.MidIdeal.τ).loc Cert.MidIdeal.main_v22)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v22) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v61) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10))

def preserves_Wkv_WkvIdeal : Prop :=
  True

def Claim : Prop :=
  ∃ (hSgu : Cert.Sgu.Facts) (hSguIdeal : Cert.SguIdeal.Facts) (hSguRefIdeal : Cert.SguRefIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hMid : Cert.Mid.Facts) (hMidIdeal : Cert.MidIdeal.Facts) (hMidRefIdeal : Cert.MidRefIdeal.Facts) (hWkv : Cert.Wkv.Facts) (hWkvIdeal : Cert.WkvIdeal.Facts) (hPre_sgu_weights_finite : Cert.Pre_sgu_weights_finite.Facts),
    quiescent_Sgu (hSgu := hSgu)
    ∧ quiescent_SguIdeal (hSguIdeal := hSguIdeal)
    ∧ quiescent_SguIdeal_pre_sgu_weights_finite (hSguIdeal := hSguIdeal) (hPre_sgu_weights_finite := hPre_sgu_weights_finite)
    ∧ quiescent_SguRefIdeal (hSguRefIdeal := hSguRefIdeal)
    ∧ quiescent_SguRefIdeal_pre_sgu_weights_finite (hSguRefIdeal := hSguRefIdeal) (hPre_sgu_weights_finite := hPre_sgu_weights_finite)
    ∧ quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ quiescent_Mid (hMid := hMid)
    ∧ quiescent_MidIdeal (hMidIdeal := hMidIdeal)
    ∧ quiescent_MidRefIdeal (hMidRefIdeal := hMidRefIdeal)
    ∧ quiescent_Wkv (hWkv := hWkv)
    ∧ quiescent_WkvIdeal (hWkvIdeal := hWkvIdeal)
    ∧ preserves_Sgu_SguIdeal
    ∧ algebraic_SguIdeal_SguRefIdeal_pre_sgu_weights_finite (hSguIdeal := hSguIdeal) (hSguRefIdeal := hSguRefIdeal) (hPre_sgu_weights_finite := hPre_sgu_weights_finite)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
    ∧ preserves_Mid_MidIdeal
    ∧ algebraic_MidIdeal_MidRefIdeal (hMidIdeal := hMidIdeal) (hMidRefIdeal := hMidRefIdeal)
    ∧ preserves_Wkv_WkvIdeal
-- ==== Pre_sgu_weights_finite.lean ====
abbrev S2x16384x1024 : Shape := ⟨3, ![2, 16384, 1024]⟩
abbrev S4x1024 : Shape := ⟨2, ![4, 1024]⟩
abbrev S2x1024x4096 : Shape := ⟨3, ![2, 1024, 4096]⟩
abbrev S2x4096 : Shape := ⟨2, ![2, 4096]⟩
abbrev S2x2048 : Shape := ⟨2, ![2, 2048]⟩
abbrev S2x16x128x128 : Shape := ⟨4, ![2, 16, 128, 128]⟩
abbrev S2x16x128 : Shape := ⟨3, ![2, 16, 128]⟩
abbrev S2x2048x1024 : Shape := ⟨3, ![2, 2048, 1024]⟩
abbrev S1x1024x2048 : Shape := ⟨3, ![1, 1024, 2048]⟩
abbrev S1024x2048 : Shape := ⟨2, ![1024, 2048]⟩
abbrev S1x2048 : Shape := ⟨2, ![1, 2048]⟩
abbrev S2048 : Shape := ⟨1, ![2048]⟩
abbrev S1x1024 : Shape := ⟨2, ![1, 1024]⟩
abbrev S1024 : Shape := ⟨1, ![1024]⟩
abbrev S_ : Shape := ⟨0, ![]⟩
abbrev S1024x1 : Shape := ⟨2, ![1024, 1]⟩

class Facts : Prop where
  slices_S2x1024x4096_S1x1024x2048_0_0_2048 : S2x1024x4096.Slices ![0, 0, 2048] S1x1024x2048
  shapeCasts_S1x1024x2048_S1024x2048 : S1x1024x2048.ShapeCasts S1024x2048
  slices_S2x4096_S1x2048_0_2048 : S2x4096.Slices ![0, 2048] S1x2048
  shapeCasts_S1x2048_S2048 : S1x2048.ShapeCasts S2048
  slices_S4x1024_S1x1024_0_0 : S4x1024.Slices ![0, 0] S1x1024
  shapeCasts_S1x1024_S1024 : S1x1024.ShapeCasts S1024
  bcast_S_S1024x2048 : S_.BroadcastsInDim S1024x2048 (![] : Fin 0 → Fin S1024x2048.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S1024x2048_0_1 : S1x2048.BroadcastsInDim S1024x2048 (![0, 1] : Fin 2 → Fin S1024x2048.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x2048_0_1 : S1024x1.BroadcastsInDim S1024x2048 (![0, 1] : Fin 2 → Fin S1024x2048.rank)

variable [Facts]

def fn {F : FTy → Type} [FloatOps F] (main_arg0 : FVec F S2x16384x1024 .f32) (main_arg1 : FVec F S4x1024 .f32) (main_arg2 : FVec F S2x1024x4096 .f32) (main_arg3 : FVec F S2x4096 .f32) (main_arg4 : FVec F S2x2048 .f32) (main_arg5 : FVec F S2x2048 .f32) (main_arg6 : FVec F S2x16x128x128 .f32) (main_arg7 : FVec F S2x16x128 .f32) (main_arg8 : FVec F S2x2048x1024 .f32) : IVec S1024x2048 1 :=
  let main_v0 : FVec F S1x1024x2048 .f32 := (extractStridedSlice S1x1024x2048 ![0, 0, 2048] · slices_S2x1024x4096_S1x1024x2048_0_0_2048) main_arg2
  let main_v1 : FVec F S1024x2048 .f32 := shapeCast S1024x2048 main_v0 shapeCasts_S1x1024x2048_S1024x2048
  let main_v2 : FVec F S1x2048 .f32 := (extractStridedSlice S1x2048 ![0, 2048] · slices_S2x4096_S1x2048_0_2048) main_arg3
  let main_v3 : FVec F S2048 .f32 := shapeCast S2048 main_v2 shapeCasts_S1x2048_S2048
  let main_v4 : FVec F S1x1024 .f32 := (extractStridedSlice S1x1024 ![0, 0] · slices_S4x1024_S1x1024_0_0) main_arg1
  let main_v5 : FVec F S1024 .f32 := shapeCast S1024 main_v4 shapeCasts_S1x1024_S1024
  let main_v6 : FVec F S1024x2048 .f32 := Host.absf main_v1
  let main_cst : FVec F S_ .f32 := constant S_ .f32 0x7F800000#32
  let main_v7 : FVec F S1024x2048 .f32 := broadcastInDim S1024x2048 ![] bcast_S_S1024x2048 main_cst
  let main_v8 : IVec S1024x2048 1 := cmpf .olt main_v6 main_v7
  let main_v9 : FVec F S2048 .f32 := Host.absf main_v3
  let main_v10 : FVec F S1x2048 .f32 := broadcastInDim S1x2048 ![1] bcast_S2048_S1x2048_1 main_v9
  let main_cst_0 : FVec F S_ .f32 := constant S_ .f32 0x7F800000#32
  let main_v11 : FVec F S1x2048 .f32 := broadcastInDim S1x2048 ![] bcast_S_S1x2048 main_cst_0
  let main_v12 : IVec S1x2048 1 := cmpf .olt main_v10 main_v11
  let main_v13 : IVec S1024x2048 1 := broadcastInDim S1024x2048 ![0, 1] bcast_S1x2048_S1024x2048_0_1 main_v12
  let main_v14 : IVec S1024x2048 1 := andi main_v8 main_v13
  let main_v15 : FVec F S1024 .f32 := Host.absf main_v5
  let main_v16 : FVec F S1024x1 .f32 := broadcastInDim S1024x1 ![0] bcast_S1024_S1024x1_0 main_v15
  let main_cst_1 : FVec F S_ .f32 := constant S_ .f32 0x7F800000#32
  let main_v17 : FVec F S1024x1 .f32 := broadcastInDim S1024x1 ![] bcast_S_S1024x1 main_cst_1
  let main_v18 : IVec S1024x1 1 := cmpf .olt main_v16 main_v17
  let main_v19 : IVec S1024x2048 1 := broadcastInDim S1024x2048 ![0, 1] bcast_S1024x1_S1024x2048_0_1 main_v18
  let main_v20 : IVec S1024x2048 1 := andi main_v14 main_v19
  main_v20
-- ==== Sgu.lean ====
abbrev S2x16384x1024 : Shape := ⟨3, ![2, 16384, 1024]⟩
abbrev S4x1024 : Shape := ⟨2, ![4, 1024]⟩
abbrev S2x1024x4096 : Shape := ⟨3, ![2, 1024, 4096]⟩
abbrev S2x4096 : Shape := ⟨2, ![2, 4096]⟩
abbrev S2x2048 : Shape := ⟨2, ![2, 2048]⟩
abbrev S2x16x128x128 : Shape := ⟨4, ![2, 16, 128, 128]⟩
abbrev S2x16x128 : Shape := ⟨3, ![2, 16, 128]⟩
abbrev S2x2048x1024 : Shape := ⟨3, ![2, 2048, 1024]⟩
abbrev S32768x1024 : Shape := ⟨2, ![32768, 1024]⟩
abbrev S1x1024 : Shape := ⟨2, ![1, 1024]⟩
abbrev S1024 : Shape := ⟨1, ![1024]⟩
abbrev S1x4096 : Shape := ⟨2, ![1, 4096]⟩
abbrev S4096 : Shape := ⟨1, ![4096]⟩
abbrev S1x2048 : Shape := ⟨2, ![1, 2048]⟩
abbrev S2048 : Shape := ⟨1, ![2048]⟩
abbrev S1x16x128x128 : Shape := ⟨4, ![1, 16, 128, 128]⟩
abbrev S16x128x128 : Shape := ⟨3, ![16, 128, 128]⟩
abbrev S1x16x128 : Shape := ⟨3, ![1, 16, 128]⟩
abbrev S16x128 : Shape := ⟨2, ![16, 128]⟩
abbrev S16x128x1 : Shape := ⟨3, ![16, 128, 1]⟩
abbrev S512x1024 : Shape := ⟨2, ![512, 1024]⟩
abbrev S1x1024x4096 : Shape := ⟨3, ![1, 1024, 4096]⟩
abbrev S1x2048x1024 : Shape := ⟨3, ![1, 2048, 1024]⟩
abbrev S512x2048 : Shape := ⟨2, ![512, 2048]⟩
abbrev S512 : Shape := ⟨1, ![512]⟩
abbrev S512x1 : Shape := ⟨2, ![512, 1]⟩
abbrev S1x1024x2048 : Shape := ⟨3, ![1, 1024, 2048]⟩
abbrev S1024x2048 : Shape := ⟨2, ![1024, 2048]⟩
abbrev S128x128 : Shape := ⟨2, ![128, 128]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩
abbrev S1x128x128 : Shape := ⟨3, ![1, 128, 128]⟩
abbrev S128x512 : Shape := ⟨2, ![128, 512]⟩
abbrev S1x128x1 : Shape := ⟨3, ![1, 128, 1]⟩
abbrev S128x1 : Shape := ⟨2, ![128, 1]⟩
abbrev S2048x1024 : Shape := ⟨2, ![2048, 1024]⟩

abbrev nBuf : Space → Nat
  | .hbm => 30
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S2x1024x4096, .f32⟩
  | .hbm, ⟨3, _⟩ => ⟨S2x4096, .f32⟩
  | .hbm, ⟨4, _⟩ => ⟨S2x2048, .f32⟩
  | .hbm, ⟨5, _⟩ => ⟨S2x2048, .f32⟩
  | .hbm, ⟨6, _⟩ => ⟨S2x16x128x128, .f32⟩
  | .hbm, ⟨7, _⟩ => ⟨S2x16x128, .f32⟩
  | .hbm, ⟨8, _⟩ => ⟨S2x2048x1024, .f32⟩
  | .hbm, ⟨9, _⟩ => ⟨S32768x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S2x1024x4096, .bf16⟩
  | .hbm, ⟨14, _⟩ => ⟨S1x4096, .f32⟩
  | .hbm, ⟨15, _⟩ => ⟨S4096, .f32⟩
  | .hbm, ⟨16, _⟩ => ⟨S1x4096, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S1x16x128x128, .f32⟩
  | .hbm, ⟨24, _⟩ => ⟨S16x128x128, .f32⟩
  | .hbm, ⟨25, _⟩ => ⟨S1x16x128, .f32⟩
  | .hbm, ⟨26, _⟩ => ⟨S16x128, .f32⟩
  | .hbm, ⟨27, _⟩ => ⟨S16x128x1, .f32⟩
  | .hbm, ⟨28, _⟩ => ⟨S2x2048x1024, .bf16⟩
  | .hbm, ⟨29, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x4096, .f32⟩
  | .local _ .vmem, ⟨5, _⟩ => ⟨S1x2048, .f32⟩
  | .local _ .vmem, ⟨6, _⟩ => ⟨S1x2048, .f32⟩
  | .local _ .vmem, ⟨7, _⟩ => ⟨S16x128x128, .f32⟩
  | .local _ .vmem, ⟨8, _⟩ => ⟨S16x128x1, .f32⟩
  | .local _ .vmem, ⟨9, _⟩ => ⟨S1x2048x1024, .bf16⟩
  | .local _ .vmem, ⟨10, _⟩ => ⟨S512x1024, .f32⟩
  | .local _ .vmem, ⟨11, _⟩ => ⟨S512x1024, .f32⟩
  | .local _ .vmem, ⟨12, _⟩ => ⟨S512x2048, .bf16⟩
  | .local _ .vmem, ⟨13, _⟩ => ⟨S512x2048, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SguRefIdeal.lean ====
abbrev S2x16384x1024 : Shape := ⟨3, ![2, 16384, 1024]⟩
abbrev S4x1024 : Shape := ⟨2, ![4, 1024]⟩
abbrev S2x1024x4096 : Shape := ⟨3, ![2, 1024, 4096]⟩
abbrev S2x4096 : Shape := ⟨2, ![2, 4096]⟩
abbrev S2x2048 : Shape := ⟨2, ![2, 2048]⟩
abbrev S2x16x128x128 : Shape := ⟨4, ![2, 16, 128, 128]⟩
abbrev S2x16x128 : Shape := ⟨3, ![2, 16, 128]⟩
abbrev S2x2048x1024 : Shape := ⟨3, ![2, 2048, 1024]⟩
abbrev S_ : Shape := ⟨0, ![]⟩
abbrev S2x16384 : Shape := ⟨2, ![2, 16384]⟩
abbrev S2x16384x1 : Shape := ⟨3, ![2, 16384, 1]⟩
abbrev S1x1024 : Shape := ⟨2, ![1, 1024]⟩
abbrev S1024 : Shape := ⟨1, ![1024]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x2048 : Shape := ⟨2, ![1, 2048]⟩
abbrev S2048 : Shape := ⟨1, ![2048]⟩
abbrev S1x16x128x128 : Shape := ⟨4, ![1, 16, 128, 128]⟩
abbrev S16x128x128 : Shape := ⟨3, ![16, 128, 128]⟩
abbrev S1x16x128 : Shape := ⟨3, ![1, 16, 128]⟩
abbrev S16x128 : Shape := ⟨2, ![16, 128]⟩
abbrev S1x2048x1024 : Shape := ⟨3, ![1, 2048, 1024]⟩
abbrev S2048x1024 : Shape := ⟨2, ![2048, 1024]⟩
abbrev S2x16384x4096 : Shape := ⟨3, ![2, 16384, 4096]⟩
abbrev S1x1x4096 : Shape := ⟨3, ![1, 1, 4096]⟩
abbrev S2x16384x2048 : Shape := ⟨3, ![2, 16384, 2048]⟩
abbrev S1x1x2048 : Shape := ⟨3, ![1, 1, 2048]⟩
abbrev S2x128x128x16x128 : Shape := ⟨5, ![2, 128, 128, 16, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S16x2x128x128x128 : Shape := ⟨5, ![16, 2, 128, 128, 128]⟩
abbrev S128x16 : Shape := ⟨2, ![128, 16]⟩
abbrev S1x1x128x16x1 : Shape := ⟨5, ![1, 1, 128, 16, 1]⟩
abbrev S32768x1024 : Shape := ⟨2, ![32768, 1024]⟩

abbrev nBuf : Space → Nat
  | .hbm => 125
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S2x1024x4096, .f32⟩
  | .hbm, ⟨3, _⟩ => ⟨S2x4096, .f32⟩
  | .hbm, ⟨4, _⟩ => ⟨S2x2048, .f32⟩
  | .hbm, ⟨5, _⟩ => ⟨S2x2048, .f32⟩
  | .hbm, ⟨6, _⟩ => ⟨S2x16x128x128, .f32⟩
  | .hbm, ⟨7, _⟩ => ⟨S2x16x128, .f32⟩
  | .hbm, ⟨8, _⟩ => ⟨S2x2048x1024, .f32⟩
  | .hbm, ⟨9, _⟩ => ⟨S2x16384x1024, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S2x16384x1024, .f32⟩
  | .hbm, ⟨26, _⟩ => ⟨S2x16384x1024, .f32⟩
  | .hbm, ⟨27, _⟩ => ⟨S1x1024x4096, .f32⟩
  | .hbm, ⟨28, _⟩ => ⟨S1024x4096, .f32⟩
  | .hbm, ⟨29, _⟩ => ⟨S1x4096, .f32⟩
  | .hbm, ⟨30, _⟩ => ⟨S4096, .f32⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S2048, .f32⟩
  | .hbm, ⟨35, _⟩ => ⟨S1x16x128x128, .f32⟩
  | .hbm, ⟨36, _⟩ => ⟨S16x128x128, .f32⟩
  | .hbm, ⟨37, _⟩ => ⟨S1x16x128, .f32⟩
  | .hbm, ⟨38, _⟩ => ⟨S16x128, .f32⟩
  | .hbm, ⟨39, _⟩ => ⟨S1x2048x1024, .f32⟩
  | .hbm, ⟨40, _⟩ => ⟨S2048x1024, .f32⟩
  | .hbm, ⟨41, _⟩ => ⟨S2x16384x4096, .f32⟩
  | .hbm, ⟨42, _⟩ => ⟨S1x1x4096, .f32⟩
  | .hbm, ⟨43, _⟩ => ⟨S2x16384x4096, .f32⟩
  | .hbm, ⟨44, _⟩ => ⟨S2x16384x4096, .f32⟩
  | .hbm, ⟨45, _⟩ => ⟨S_, .f32⟩
  | .hbm, ⟨46, _⟩ => ⟨S2x16384x4096, .f32⟩
  | .hbm, ⟨47, _⟩ => ⟨S2x16384x4096, .f32⟩
  | .hbm, ⟨48, _⟩ => ⟨S2x16384x4096, .f32⟩
  | .hbm, ⟨49, _⟩ => ⟨S_, .f32⟩
  | .hbm, ⟨50, _⟩ => ⟨S2x16384x4096, .f32⟩
  | .hbm, ⟨51, _⟩ => ⟨S2x16384x4096, .f32⟩
  | .hbm, ⟨52, _⟩ => ⟨S2x16384x4096, .f32⟩
  | .hbm, ⟨53, _⟩ => ⟨S2x16384x4096, .f32⟩
  | .hbm, ⟨54, _⟩ => ⟨S2x16384x2048, .f32⟩
  | .hbm, ⟨55, _⟩ => ⟨S2x16384x2048, .f32⟩
  | .hbm, ⟨56, _⟩ => ⟨S_, .f32⟩
  | .hbm, ⟨57, _⟩ => ⟨S2x16384, .f32⟩
  | .hbm, ⟨58, _⟩ => ⟨S2x16384x1, .f32⟩
  | .hbm, ⟨59, _⟩ => ⟨S_, .f32⟩
  | .hbm, ⟨60, _⟩ => ⟨S2x16384x1, .f32⟩
  | .hbm, ⟨61, _⟩ => ⟨S2x16384x1, .f32⟩
  | .hbm, ⟨62, _⟩ => ⟨S2x16384x2048, .f32⟩
  | .hbm, ⟨63, _⟩ => ⟨S2x16384x2048, .f32⟩
  | .hbm, ⟨64, _⟩ => ⟨S2x16384x2048, .f32⟩
  | .hbm, ⟨65, _⟩ => ⟨S_, .f32⟩
  | .hbm, ⟨66, _⟩ => ⟨S2x16384, .f32⟩
  | .hbm, ⟨67, _⟩ => ⟨S2x16384x1, .f32⟩
  | .hbm, ⟨68, _⟩ => ⟨S_, .f32⟩
  | .hbm, ⟨69, _⟩ => ⟨S2x16384x1, .f32⟩
  | .hbm, ⟨70, _⟩ => ⟨S2x16384x1, .f32⟩
  | .hbm, ⟨71, _⟩ => ⟨S2x16384x2048, .f32⟩
  | .hbm, ⟨72, _⟩ => ⟨S2x16384x2048, .f32⟩
  | .hbm, ⟨73, _⟩ => ⟨S_, .f32⟩
  | .hbm, ⟨74, _⟩ => ⟨S2x16384x1, .f32⟩
  | .hbm, ⟨75, _⟩ => ⟨S2x16384x1, .f32⟩
  | .hbm, ⟨76, _⟩ => ⟨S2x16384x1, .f32⟩
  | .hbm, ⟨77, _⟩ => ⟨S2x16384x2048, .f32⟩
  | .hbm, ⟨78, _⟩ => ⟨S2x16384x2048, .f32⟩
  | .hbm, ⟨79, _⟩ => ⟨S1x1x2048, .f32⟩
  | .hbm, ⟨80, _⟩ => ⟨S2x16384x2048, .f32⟩
  | .hbm, ⟨81, _⟩ => ⟨S2x16384x2048, .f32⟩
  | .hbm, ⟨82, _⟩ => ⟨S1x1x2048, .f32⟩
  | .hbm, ⟨83, _⟩ => ⟨S2x16384x2048, .f32⟩
  | .hbm, ⟨84, _⟩ => ⟨S2x16384x2048, .f32⟩
  | .hbm, ⟨85, _⟩ => ⟨S2x128x128x16x128, .f32⟩
  | .hbm, ⟨86, _⟩ => ⟨S128, .i32⟩
  | .hbm, ⟨87, _⟩ => ⟨S_, .i32⟩
  | .hbm, ⟨88, _⟩ => ⟨S_, .i32⟩
  | .hbm, ⟨89, _⟩ => ⟨S128, .i32⟩
  | .hbm, ⟨90, _⟩ => ⟨S128, .i32⟩
  | .hbm, ⟨91, _⟩ => ⟨S128, .i32⟩
  | .hbm, ⟨92, _⟩ => ⟨S_, .i32⟩
  | .hbm, ⟨93, _⟩ => ⟨S128, .i32⟩
  | .hbm, ⟨94, _⟩ => ⟨S128, .i1⟩
  | .hbm, ⟨95, _⟩ => ⟨S128, .i32⟩
  | .hbm, ⟨96, _⟩ => ⟨S128, .i32⟩
  | .hbm, ⟨97, _⟩ => ⟨S_, .i32⟩
  | .hbm, ⟨98, _⟩ => ⟨S128, .i32⟩
  | .hbm, ⟨99, _⟩ => ⟨S128, .i1⟩
  | .hbm, ⟨100, _⟩ => ⟨S128, .i1⟩
  | .hbm, ⟨101, _⟩ => ⟨S_, .i32⟩
  | .hbm, ⟨102, _⟩ => ⟨S128, .i32⟩
  | .hbm, ⟨103, _⟩ => ⟨S128, .i32⟩
  | .hbm, ⟨104, _⟩ => ⟨S128, .i32⟩
  | .hbm, ⟨105, _⟩ => ⟨S1x128, .i32⟩
  | .hbm, ⟨106, _⟩ => ⟨S128x1, .i32⟩
  | .hbm, ⟨107, _⟩ => ⟨S128x128, .i32⟩
  | .hbm, ⟨108, _⟩ => ⟨S128x128, .i32⟩
  | .hbm, ⟨109, _⟩ => ⟨S128x128, .i1⟩
  | .hbm, ⟨110, _⟩ => ⟨S1x128x128, .i1⟩
  | .hbm, ⟨111, _⟩ => ⟨S1x128x128, .f32⟩
  | .hbm, ⟨112, _⟩ => ⟨S16x128x128, .f32⟩
  | .hbm, ⟨113, _⟩ => ⟨S16x128x128, .f32⟩
  | .hbm, ⟨114, _⟩ => ⟨S16x2x128x128x128, .f32⟩
  | .hbm, ⟨115, _⟩ => ⟨S2x128x128x16x128, .f32⟩
  | .hbm, ⟨116, _⟩ => ⟨S128x16, .f32⟩
  | .hbm, ⟨117, _⟩ => ⟨S1x1x128x16x1, .f32⟩
  | .hbm, ⟨118, _⟩ => ⟨S2x128x128x16x128, .f32⟩
  | .hbm, ⟨119, _⟩ => ⟨S2x128x128x16x128, .f32⟩
  | .hbm, ⟨120, _⟩ => ⟨S2x16384x2048, .f32⟩
  | .hbm, ⟨121, _⟩ => ⟨S2x16384x2048, .f32⟩
  | .hbm, ⟨122, _⟩ => ⟨S2x16384x1024, .f32⟩
  | .hbm, ⟨123, _⟩ => ⟨S2x16384x1024, .f32⟩
  | .hbm, ⟨124, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_c : Ref sig .tc := ⟨.hbm, 97, rfl⟩
abbrev main_call0_v9 : Ref sig .tc := ⟨.hbm, 98, rfl⟩
abbrev main_call0_v10 : Ref sig .tc := ⟨.hbm, 99, rfl⟩
abbrev main_call0_v11 : Ref sig .tc := ⟨.hbm, 100, rfl⟩
abbrev main_call0_c_0 : Ref sig .tc := ⟨.hbm, 101, rfl⟩
abbrev main_call0_v12 : Ref sig .tc := ⟨.hbm, 102, rfl⟩
abbrev main_call0_v13 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩

abbrev nD : Nat := 1
abbrev τ : Topo := Topo.v7x

variable {F : FTy → Type} [FloatOps F]
-- ==== Ffn.lean ====
abbrev S2x16384x1024 : Shape := ⟨3, ![2, 16384, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1024x1 : Shape := ⟨2, ![1024, 1]⟩
abbrev S1x1024x1024 : Shape := ⟨3, ![1, 1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S4x1024x4096, .f32⟩
  | .hbm, ⟨3, _⟩ => ⟨S4x4096x1024, .f32⟩
  | .hbm, ⟨4, _⟩ => ⟨S32768x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S4x1024x4096, .bf16⟩
  | .hbm, ⟨9, _⟩ => ⟨S4x4096x1024, .bf16⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S1024x1024, .f32⟩
  | .local _ .vmem, ⟨6, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S2x16384x1024 : Shape := ⟨3, ![2, 16384, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S_ : Shape := ⟨0, ![]⟩
abbrev S2x16384 : Shape := ⟨2, ![2, 16384]⟩
abbrev S2x16384x1 : Shape := ⟨3, ![2, 16384, 1]⟩
abbrev S1x1024 : Shape := ⟨2, ![1, 1024]⟩
abbrev S1024 : Shape := ⟨1, ![1024]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x16384x4096 : Shape := ⟨3, ![2, 16384, 4096]⟩
abbrev S1x4096x1024 : Shape := ⟨3, ![1, 4096, 1024]⟩
abbrev S4096x1024 : Shape := ⟨2, ![4096, 1024]⟩
abbrev S32768x1024 : Shape := ⟨2, ![32768, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S4x1024x4096, .f32⟩
  | .hbm, ⟨3, _⟩ => ⟨S4x4096x1024, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S1x1024x4096, .f32⟩
  | .hbm, ⟨23, _⟩ => ⟨S1024x4096, .f32⟩
  | .hbm, ⟨24, _⟩ => ⟨S2x16384x4096, .f32⟩
  | .hbm, ⟨25, _⟩ => ⟨S_, .f32⟩
  | .hbm, ⟨26, _⟩ => ⟨S2x16384x4096, .f32⟩
  | .hbm, ⟨27, _⟩ => ⟨S2x16384x4096, .f32⟩
  | .hbm, ⟨28, _⟩ => ⟨S2x16384x4096, .f32⟩
  | .hbm, ⟨29, _⟩ => ⟨S1x4096x1024, .f32⟩
  | .hbm, ⟨30, _⟩ => ⟨S4096x1024, .f32⟩
  | .hbm, ⟨31, _⟩ => ⟨S2x16384x1024, .f32⟩
  | .hbm, ⟨32, _⟩ => ⟨S2x16384x1024, .f32⟩
  | .hbm, ⟨33, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Out.lean ====
abbrev S2x16384x1024 : Shape := ⟨3, ![2, 16384, 1024]⟩
abbrev S32768x1024 : Shape := ⟨2, ![32768, 1024]⟩
abbrev S2x1024 : Shape := ⟨2, ![2, 1024]⟩
abbrev S2x1024x1024 : Shape := ⟨3, ![2, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x1024 : Shape := ⟨2, ![1, 1024]⟩
abbrev S512x1024 : Shape := ⟨2, ![512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S256x128 : Shape := ⟨2, ![256, 128]⟩
abbrev S2048x128 : Shape := ⟨2, ![2048, 128]⟩
abbrev S1024x1024 : Shape := ⟨2, ![1024, 1024]⟩
abbrev S512 : Shape := ⟨1, ![512]⟩
abbrev S512x1 : Shape := ⟨2, ![512, 1]⟩

abbrev nBuf : Space → Nat
  | .hbm => 51
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .bf16⟩
  | .hbm, ⟨2, _⟩ => ⟨S32768x1024, .bf16⟩
  | .hbm, ⟨3, _⟩ => ⟨S32768x1024, .f32⟩
  | .hbm, ⟨4, _⟩ => ⟨S2x1024, .f32⟩
  | .hbm, ⟨5, _⟩ => ⟨S2x1024, .f32⟩
  | .hbm, ⟨6, _⟩ => ⟨S2x1024x1024, .f32⟩
  | .hbm, ⟨7, _⟩ => ⟨S4x1024, .f32⟩
  | .hbm, ⟨8, _⟩ => ⟨S4x1024x4096, .f32⟩
  | .hbm, ⟨9, _⟩ => ⟨S4x4096x1024, .f32⟩
  | .hbm, ⟨10, _⟩ => ⟨S1024, .f32⟩
  | .hbm, ⟨11, _⟩ => ⟨S128, .i32⟩
  | .hbm, ⟨12, _⟩ => ⟨S_, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S1x128, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S128x128, .bf16⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S2x1024x1024, .bf16⟩
  | .hbm, ⟨43, _⟩ => ⟨S32768x1024, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S4x1024x4096, .bf16⟩
  | .hbm, ⟨48, _⟩ => ⟨S4x4096x1024, .bf16⟩
  | .hbm, ⟨49, _⟩ => ⟨S1x1024, .f32⟩
  | .hbm, ⟨50, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024x1024, .bf16⟩
  | .local _ .vmem, ⟨11, _⟩ => ⟨S128x128, .bf16⟩
  | .local _ .vmem, ⟨12, _⟩ => ⟨S1x1024, .f32⟩
  | .local _ .vmem, ⟨13, _⟩ => ⟨S1x1024x4096, .bf16⟩
  | .local _ .vmem, ⟨14, _⟩ => ⟨S1x4096x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutRefIdeal.lean ====
abbrev S2x16384x1024 : Shape := ⟨3, ![2, 16384, 1024]⟩
abbrev S32768x1024 : Shape := ⟨2, ![32768, 1024]⟩
abbrev S2x1024 : Shape := ⟨2, ![2, 1024]⟩
abbrev S2x1024x1024 : Shape := ⟨3, ![2, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S2x16384x16x64 : Shape := ⟨4, ![2, 16384, 16, 64]⟩
abbrev S_ : Shape := ⟨0, ![]⟩
abbrev S2x16384x16 : Shape := ⟨3, ![2, 16384, 16]⟩
abbrev S2x16384x16x1 : Shape := ⟨4, ![2, 16384, 16, 1]⟩
abbrev S1x1024 : Shape := ⟨2, ![1, 1024]⟩
abbrev S1x1024x1024 : Shape := ⟨3, ![1, 1024, 1024]⟩
abbrev S1024x1024 : Shape := ⟨2, ![1024, 1024]⟩
abbrev S32768 : Shape := ⟨1, ![32768]⟩
abbrev S32768x1 : Shape := ⟨2, ![32768, 1]⟩
abbrev S1x1024x4096 : Shape := ⟨3, ![1, 1024, 4096]⟩
abbrev S1024x4096 : Shape := ⟨2, ![1024, 4096]⟩
abbrev S32768x4096 : Shape := ⟨2, ![32768, 4096]⟩
abbrev S1x4096x1024 : Shape := ⟨3, ![1, 4096, 1024]⟩
abbrev S4096x1024 : Shape := ⟨2, ![4096, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .bf16⟩
  | .hbm, ⟨2, _⟩ => ⟨S32768x1024, .bf16⟩
  | .hbm, ⟨3, _⟩ => ⟨S32768x1024, .f32⟩
  | .hbm, ⟨4, _⟩ => ⟨S2x1024, .f32⟩
  | .hbm, ⟨5, _⟩ => ⟨S2x1024, .f32⟩
  | .hbm, ⟨6, _⟩ => ⟨S2x1024x1024, .f32⟩
  | .hbm, ⟨7, _⟩ => ⟨S4x1024, .f32⟩
  | .hbm, ⟨8, _⟩ => ⟨S4x1024x4096, .f32⟩
  | .hbm, ⟨9, _⟩ => ⟨S4x4096x1024, .f32⟩
  | .hbm, ⟨10, _⟩ => ⟨S1024, .f32⟩
  | .hbm, ⟨11, _⟩ => ⟨S2x16384x16x64, .f32⟩
  | .hbm, ⟨12, _⟩ => ⟨S_, .f32⟩
  | .hbm, ⟨13, _⟩ => ⟨S2x16384x16, .f32⟩
  | .hbm, ⟨14, _⟩ => ⟨S2x16384x16x1, .f32⟩
  | .hbm, ⟨15, _⟩ => ⟨S_, .f32⟩
  | .hbm, ⟨16, _⟩ => ⟨S2x16384x16x1, .f32⟩
  | .hbm, ⟨17, _⟩ => ⟨S2x16384x16x1, .f32⟩
  | .hbm, ⟨18, _⟩ => ⟨S2x16384x16x64, .f32⟩
  | .hbm, ⟨19, _⟩ => ⟨S2x16384x16x64, .f32⟩
  | .hbm, ⟨20, _⟩ => ⟨S2x16384x16x64, .f32⟩
  | .hbm, ⟨21, _⟩ => ⟨S_, .f32⟩
  | .hbm, ⟨22, _⟩ => ⟨S2x16384x16, .f32⟩
  | .hbm, ⟨23, _⟩ => ⟨S2x16384x16x1, .f32⟩
  | .hbm, ⟨24, _⟩ => ⟨S_, .f32⟩
  | .hbm, ⟨25, _⟩ => ⟨S2x16384x16x1, .f32⟩
  | .hbm, ⟨26, _⟩ => ⟨S2x16384x16x1, .f32⟩
  | .hbm, ⟨27, _⟩ => ⟨S2x16384x16x64, .f32⟩
  | .hbm, ⟨28, _⟩ => ⟨S2x16384x16x64, .f32⟩
  | .hbm, ⟨29, _⟩ => ⟨S_, .f32⟩
  | .hbm, ⟨30, _⟩ => ⟨S2x16384x16x1, .f32⟩
  | .hbm, ⟨31, _⟩ => ⟨S2x16384x16x1, .f32⟩
  | .hbm, ⟨32, _⟩ => ⟨S2x16384x16x1, .f32⟩
  | .hbm, ⟨33, _⟩ => ⟨S2x16384x16x64, .f32⟩
  | .hbm, ⟨34, _⟩ => ⟨S2x16384x16x64, .f32⟩
  | .hbm, ⟨35, _⟩ => ⟨S32768x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S1x1024x1024, .f32⟩
  | .hbm, ⟨51, _⟩ => ⟨S1024x1024, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S1024, .f32⟩
  | .hbm, ⟨56, _⟩ => ⟨S32768x1024, .f32⟩
  | .hbm, ⟨57, _⟩ => ⟨S_, .f32⟩
  | .hbm, ⟨58, _⟩ => ⟨S32768, .f32⟩
  | .hbm, ⟨59, _⟩ => ⟨S32768x1, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x1, .f32⟩
  | .hbm, ⟨67, _⟩ => ⟨S32768x1024, .f32⟩
  | .hbm, ⟨68, _⟩ => ⟨S32768x1024, .f32⟩
  | .hbm, ⟨69, _⟩ => ⟨S1x1024, .f32⟩
  | .hbm, ⟨70, _⟩ => ⟨S32768x1024, .f32⟩
  | .hbm, ⟨71, _⟩ => ⟨S32768x1024, .f32⟩
  | .hbm, ⟨72, _⟩ => ⟨S1x1024x4096, .f32⟩
  | .hbm, ⟨73, _⟩ => ⟨S1024x4096, .f32⟩
  | .hbm, ⟨74, _⟩ => ⟨S32768x4096, .f32⟩
  | .hbm, ⟨75, _⟩ => ⟨S_, .f32⟩
  | .hbm, ⟨76, _⟩ => ⟨S32768x4096, .f32⟩
  | .hbm, ⟨77, _⟩ => ⟨S32768x4096, .f32⟩
  | .hbm, ⟨78, _⟩ => ⟨S32768x4096, .f32⟩
  | .hbm, ⟨79, _⟩ => ⟨S1x4096x1024, .f32⟩
  | .hbm, ⟨80, _⟩ => ⟨S4096x1024, .f32⟩
  | .hbm, ⟨81, _⟩ => ⟨S32768x1024, .f32⟩
  | .hbm, ⟨82, _⟩ => ⟨S32768x1024, .f32⟩
  | .hbm, ⟨83, _⟩ => ⟨S32768x1024, .f32⟩
  | .hbm, ⟨84, _⟩ => ⟨S_, .f32⟩
  | .hbm, ⟨85, _⟩ => ⟨S32768, .f32⟩
  | .hbm, ⟨86, _⟩ => ⟨S32768x1, .f32⟩
  | .hbm, ⟨87, _⟩ => ⟨S_, .f32⟩
  | .hbm, ⟨88, _⟩ => ⟨S32768x1, .f32⟩
  | .hbm, ⟨89, _⟩ => ⟨S32768x1, .f32⟩
  | .hbm, ⟨90, _⟩ => ⟨S_, .f32⟩
  | .hbm, ⟨91, _⟩ => ⟨S32768x1, .f32⟩
  | .hbm, ⟨92, _⟩ => ⟨S32768x1, .f32⟩
  | .hbm, ⟨93, _⟩ => ⟨S32768x1, .f32⟩
  | .hbm, ⟨94, _⟩ => ⟨S32768x1024, .f32⟩
  | .hbm, ⟨95, _⟩ => ⟨S32768x1024, .f32⟩
  | .hbm, ⟨96, _⟩ => ⟨S1x1024, .f32⟩
  | .hbm, ⟨97, _⟩ => ⟨S32768x1024, .f32⟩
  | .hbm, ⟨98, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_call0_cst : Ref sig .tc := ⟨.hbm, 75, rfl⟩
abbrev main_call0_v0 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_7 : Ref sig .tc := ⟨.hbm, 84, rfl⟩
abbrev main_v63 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== In.lean ====
abbrev S2x16384x1024 : Shape := ⟨3, ![2, 16384, 1024]⟩
abbrev S4x1024 : Shape := ⟨2, ![4, 1024]⟩
abbrev S2x6x1024 : Shape := ⟨3, ![2, 6, 1024]⟩
abbrev S2x3x1024x1024 : Shape := ⟨4, ![2, 3, 1024, 1024]⟩
abbrev S2x1024 : Shape := ⟨2, ![2, 1024]⟩
abbrev S2x1024x64 : Shape := ⟨3, ![2, 1024, 64]⟩
abbrev S2x64x1024 : Shape := ⟨3, ![2, 64, 1024]⟩
abbrev S1x1024 : Shape := ⟨2, ![1, 1024]⟩
abbrev S1x1024x32 : Shape := ⟨3, ![1, 1024, 32]⟩
abbrev S1x32x1024 : Shape := ⟨3, ![1, 32, 1024]⟩
abbrev S2x1024x128 : Shape := ⟨3, ![2, 1024, 128]⟩
abbrev S2x128x1024 : Shape := ⟨3, ![2, 128, 1024]⟩
abbrev S2x16x64 : Shape := ⟨3, ![2, 16, 64]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1024 : Shape := ⟨1, ![1024]⟩
abbrev S1x6x1024 : Shape := ⟨3, ![1, 6, 1024]⟩
abbrev S6x1024 : Shape := ⟨2, ![6, 1024]⟩
abbrev S1x1024x64 : Shape := ⟨3, ![1, 1024, 64]⟩
abbrev S1024x64 : Shape := ⟨2, ![1024, 64]⟩
abbrev S1x64x1024 : Shape := ⟨3, ![1, 64, 1024]⟩
abbrev S64x1024 : Shape := ⟨2, ![64, 1024]⟩
abbrev S1x1024x128 : Shape := ⟨3, ![1, 1024, 128]⟩
abbrev S1024x128 : Shape := ⟨2, ![1024, 128]⟩
abbrev S1x128x1024 : Shape := ⟨3, ![1, 128, 1024]⟩
abbrev S128x1024 : Shape := ⟨2, ![128, 1024]⟩
abbrev S1x16x64 : Shape := ⟨3, ![1, 16, 64]⟩
abbrev S16x64 : Shape := ⟨2, ![16, 64]⟩
abbrev S1024x32 : Shape := ⟨2, ![1024, 32]⟩
abbrev S32x1024 : Shape := ⟨2, ![32, 1024]⟩
abbrev S32768x1024 : Shape := ⟨2, ![32768, 1024]⟩
abbrev S512x1024 : Shape := ⟨2, ![512, 1024]⟩
abbrev S8x1024 : Shape := ⟨2, ![8, 1024]⟩
abbrev S1x3x1024x1024 : Shape := ⟨4, ![1, 3, 1024, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S512x64 : Shape := ⟨2, ![512, 64]⟩
abbrev S512x128 : Shape := ⟨2, ![512, 128]⟩
abbrev S512x32 : Shape := ⟨2, ![512, 32]⟩
abbrev S1x1x1024x1024 : Shape := ⟨4, ![1, 1, 1024, 1024]⟩
abbrev S1024x1024 : Shape := ⟨2, ![1024, 1024]⟩
abbrev S4096x128 : Shape := ⟨2, ![4096, 128]⟩

abbrev nBuf : Space → Nat
  | .hbm => 99
  | .vmem => 40
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S4x1024, .f32⟩
  | .hbm, ⟨3, _⟩ => ⟨S2x6x1024, .f32⟩
  | .hbm, ⟨4, _⟩ => ⟨S2x3x1024x1024, .f32⟩
  | .hbm, ⟨5, _⟩ => ⟨S2x1024, .f32⟩
  | .hbm, ⟨6, _⟩ => ⟨S2x1024x64, .f32⟩
  | .hbm, ⟨7, _⟩ => ⟨S2x64x1024, .f32⟩
  | .hbm, ⟨8, _⟩ => ⟨S2x1024, .f32⟩
  | .hbm, ⟨9, _⟩ => ⟨S2x1024x64, .f32⟩
  | .hbm, ⟨10, _⟩ => ⟨S2x64x1024, .f32⟩
  | .hbm, ⟨11, _⟩ => ⟨S1x1024, .f32⟩
  | .hbm, ⟨12, _⟩ => ⟨S1x1024x32, .f32⟩
  | .hbm, ⟨13, _⟩ => ⟨S1x32x1024, .f32⟩
  | .hbm, ⟨14, _⟩ => ⟨S2x1024x128, .f32⟩
  | .hbm, ⟨15, _⟩ => ⟨S2x128x1024, .f32⟩
  | .hbm, ⟨16, _⟩ => ⟨S2x1024, .f32⟩
  | .hbm, ⟨17, _⟩ => ⟨S2x1024, .f32⟩
  | .hbm, ⟨18, _⟩ => ⟨S2x16x64, .f32⟩
  | .hbm, ⟨19, _⟩ => ⟨S128, .i32⟩
  | .hbm, ⟨20, _⟩ => ⟨S_, .i32⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S128, .i32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S128, .i1⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S128x1, .i32⟩
  | .hbm, ⟨39, _⟩ => ⟨S1x128, .i32⟩
  | .hbm, ⟨40, _⟩ => ⟨S128x128, .i32⟩
  | .hbm, ⟨41, _⟩ => ⟨S128x128, .i32⟩
  | .hbm, ⟨42, _⟩ => ⟨S128x128, .i1⟩
  | .hbm, ⟨43, _⟩ => ⟨S128x128, .bf16⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S1x6x1024, .f32⟩
  | .hbm, ⟨48, _⟩ => ⟨S6x1024, .f32⟩
  | .hbm, ⟨49, _⟩ => ⟨S2x3x1024x1024, .bf16⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S1x1024x64, .f32⟩
  | .hbm, ⟨54, _⟩ => ⟨S1024x64, .f32⟩
  | .hbm, ⟨55, _⟩ => ⟨S1024x64, .bf16⟩
  | .hbm, ⟨56, _⟩ => ⟨S1x64x1024, .f32⟩
  | .hbm, ⟨57, _⟩ => ⟨S64x1024, .f32⟩
  | .hbm, ⟨58, _⟩ => ⟨S64x1024, .bf16⟩
  | .hbm, ⟨59, _⟩ => ⟨S1x1024, .f32⟩
  | .hbm, ⟨60, _⟩ => ⟨S1024, .f32⟩
  | .hbm, ⟨61, _⟩ => ⟨S1x1024, .f32⟩
  | .hbm, ⟨62, _⟩ => ⟨S1x1024x64, .f32⟩
  | .hbm, ⟨63, _⟩ => ⟨S1024x64, .f32⟩
  | .hbm, ⟨64, _⟩ => ⟨S1024x64, .bf16⟩
  | .hbm, ⟨65, _⟩ => ⟨S1x64x1024, .f32⟩
  | .hbm, ⟨66, _⟩ => ⟨S64x1024, .f32⟩
  | .hbm, ⟨67, _⟩ => ⟨S64x1024, .bf16⟩
  | .hbm, ⟨68, _⟩ => ⟨S1x1024x128, .f32⟩
  | .hbm, ⟨69, _⟩ => ⟨S1024x128, .f32⟩
  | .hbm, ⟨70, _⟩ => ⟨S1024x128, .bf16⟩
  | .hbm, ⟨71, _⟩ => ⟨S1x128x1024, .f32⟩
  | .hbm, ⟨72, _⟩ => ⟨S128x1024, .f32⟩
  | .hbm, ⟨73, _⟩ => ⟨S128x1024, .bf16⟩
  | .hbm, ⟨74, _⟩ => ⟨S1x1024, .f32⟩
  | .hbm, ⟨75, _⟩ => ⟨S1024, .f32⟩
  | .hbm, ⟨76, _⟩ => ⟨S1x1024, .f32⟩
  | .hbm, ⟨77, _⟩ => ⟨S1x1024, .f32⟩
  | .hbm, ⟨78, _⟩ => ⟨S1024, .f32⟩
  | .hbm, ⟨79, _⟩ => ⟨S1x1024, .f32⟩
  | .hbm, ⟨80, _⟩ => ⟨S1x16x64, .f32⟩
  | .hbm, ⟨81, _⟩ => ⟨S16x64, .f32⟩
  | .hbm, ⟨82, _⟩ => ⟨S1x1024, .f32⟩
  | .hbm, ⟨83, _⟩ => ⟨S1024, .f32⟩
  | .hbm, ⟨84, _⟩ => ⟨S1x1024, .f32⟩
  | .hbm, ⟨85, _⟩ => ⟨S1024x32, .f32⟩
  | .hbm, ⟨86, _⟩ => ⟨S1024x32, .bf16⟩
  | .hbm, ⟨87, _⟩ => ⟨S32x1024, .f32⟩
  | .hbm, ⟨88, _⟩ => ⟨S32x1024, .bf16⟩
  | .hbm, ⟨89, _⟩ => ⟨S32768x1024, .f32⟩
  | .hbm, ⟨90, _⟩ => ⟨S32768x1024, .f32⟩
  | .hbm, ⟨91, _⟩ => ⟨S32768x1024, .f32⟩
  | .hbm, ⟨92, _⟩ => ⟨S32768x1024, .f32⟩
  | .hbm, ⟨93, _⟩ => ⟨S32768x1024, .f32⟩
  | .hbm, ⟨94, _⟩ => ⟨S32768x1024, .f32⟩
  | .hbm, ⟨95, _⟩ => ⟨S32768x1024, .f32⟩
  | .hbm, ⟨96, _⟩ => ⟨S32768x1024, .f32⟩
  | .hbm, ⟨97, _⟩ => ⟨S32768x1024, .bf16⟩
  | .hbm, ⟨98, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S6x1024, .f32⟩
  | .local _ .vmem, ⟨8, _⟩ => ⟨S1x3x1024x1024, .bf16⟩
  | .local _ .vmem, ⟨9, _⟩ => ⟨S1x1024, .f32⟩
  | .local _ .vmem, ⟨10, _⟩ => ⟨S1024x64, .bf16⟩
  | .local _ .vmem, ⟨11, _⟩ => ⟨S64x1024, .bf16⟩
  | .local _ .vmem, ⟨12, _⟩ => ⟨S1x1024, .f32⟩
  | .local _ .vmem, ⟨13, _⟩ => ⟨S1024x64, .bf16⟩
  | .local _ .vmem, ⟨14, _⟩ => ⟨S64x1024, .bf16⟩
  | .local _ .vmem, ⟨15, _⟩ => ⟨S1x1024, .f32⟩
  | .local _ .vmem, ⟨16, _⟩ => ⟨S1024x32, .bf16⟩
  | .local _ .vmem, ⟨17, _⟩ => ⟨S32x1024, .bf16⟩
  | .local _ .vmem, ⟨18, _⟩ => ⟨S1024x128, .bf16⟩
  | .local _ .vmem, ⟨19, _⟩ => ⟨S128x1024, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S128x128, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55_0 : Ref sig .tc := ⟨.hbm, 91, rfl⟩
abbrev main_v55_1 : Ref sig .tc := ⟨.hbm, 92, rfl⟩
abbrev main_v55_2 : Ref sig .tc := ⟨.hbm, 93, rfl⟩
abbrev main_v55_3 : Ref sig .tc := ⟨.hbm, 94, rfl⟩
abbrev main_v55_4 : Ref sig .tc := ⟨.hbm, 95, rfl⟩
abbrev main_v55_5 : Ref sig .tc := ⟨.hbm, 96, rfl⟩
abbrev main_v55_6 : Ref sig .tc := ⟨.hbm, 97, rfl⟩
abbrev main_v55_7 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_stg26_0 : Ref sig .tc := ⟨.vmem, 34, rfl⟩
abbrev cc0_stg26_1 : Ref sig .tc := ⟨.vmem, 35, rfl⟩
abbrev cc0_stg27_0 : Ref sig .tc := ⟨.vmem, 36, rfl⟩
abbrev cc0_stg27_1 : Ref sig .tc := ⟨.vmem, 37, rfl⟩
abbrev cc0_stg28_0 : Ref sig .tc := ⟨.vmem, 38, rfl⟩
abbrev cc0_stg28_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem23_1 : DmaSem sig := 29
abbrev cc0_sem24_0 : DmaSem sig := 30
abbrev cc0_sem24_1 : DmaSem sig := 31
abbrev cc0_sem25_0 : DmaSem sig := 32
abbrev cc0_sem25_1 : DmaSem sig := 33
abbrev cc0_sem26_0 : DmaSem sig := 34
abbrev cc0_sem26_1 : DmaSem sig := 35
abbrev cc0_sem27_0 : DmaSem sig := 36
abbrev cc0_sem27_1 : DmaSem sig := 37
abbrev cc0_sem28_0 : DmaSem sig := 38
abbrev cc0_sem28_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x32 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== InRefIdeal.lean ====
abbrev S2x16384x1024 : Shape := ⟨3, ![2, 16384, 1024]⟩
abbrev S4x1024 : Shape := ⟨2, ![4, 1024]⟩
abbrev S2x6x1024 : Shape := ⟨3, ![2, 6, 1024]⟩
abbrev S2x3x1024x1024 : Shape := ⟨4, ![2, 3, 1024, 1024]⟩
abbrev S2x1024 : Shape := ⟨2, ![2, 1024]⟩
abbrev S2x1024x64 : Shape := ⟨3, ![2, 1024, 64]⟩
abbrev S2x64x1024 : Shape := ⟨3, ![2, 64, 1024]⟩
abbrev S1x1024 : Shape := ⟨2, ![1, 1024]⟩
abbrev S1x1024x32 : Shape := ⟨3, ![1, 1024, 32]⟩
abbrev S1x32x1024 : Shape := ⟨3, ![1, 32, 1024]⟩
abbrev S2x1024x128 : Shape := ⟨3, ![2, 1024, 128]⟩
abbrev S2x128x1024 : Shape := ⟨3, ![2, 128, 1024]⟩
abbrev S2x16x64 : Shape := ⟨3, ![2, 16, 64]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16385x1024 : Shape := ⟨3, ![2, 16385, 1024]⟩
abbrev S1x2x16384x1024 : Shape := ⟨4, ![1, 2, 16384, 1024]⟩
abbrev S1x6x1024 : Shape := ⟨3, ![1, 6, 1024]⟩
abbrev S6x1024 : Shape := ⟨2, ![6, 1024]⟩
abbrev S6x1x1x1024 : Shape := ⟨4, ![6, 1, 1, 1024]⟩
abbrev S6x2x16384x1024 : Shape := ⟨4, ![6, 2, 16384, 1024]⟩
abbrev S3x2x16384x1024 : Shape := ⟨4, ![3, 2, 16384, 1024]⟩
abbrev S1x3x1024x1024 : Shape := ⟨4, ![1, 3, 1024, 1024]⟩
abbrev S3x1024x1024 : Shape := ⟨3, ![3, 1024, 1024]⟩
abbrev S1024x32 : Shape := ⟨2, ![1024, 32]⟩
abbrev S2x16384x32 : Shape := ⟨3, ![2, 16384, 32]⟩
abbrev S32x1024 : Shape := ⟨2, ![32, 1024]⟩
abbrev S1x1024x64 : Shape := ⟨3, ![1, 1024, 64]⟩
abbrev S1024x64 : Shape := ⟨2, ![1024, 64]⟩
abbrev S2x16384x64 : Shape := ⟨3, ![2, 16384, 64]⟩
abbrev S1x64x1024 : Shape := ⟨3, ![1, 64, 1024]⟩
abbrev S64x1024 : Shape := ⟨2, ![64, 1024]⟩
abbrev S1x1024x128 : Shape := ⟨3, ![1, 1024, 128]⟩
abbrev S1024x128 : Shape := ⟨2, ![1024, 128]⟩
abbrev S2x16384x128 : Shape := ⟨3, ![2, 16384, 128]⟩
abbrev S1x128x1024 : Shape := ⟨3, ![1, 128, 1024]⟩
abbrev S128x1024 : Shape := ⟨2, ![128, 1024]⟩
abbrev S2x16384x16x64 : Shape := ⟨4, ![2, 16384, 16, 64]⟩
abbrev S2x16384x16 : Shape := ⟨3, ![2, 16384, 16]⟩
abbrev S2x16384x16x1 : Shape := ⟨4, ![2, 16384, 16, 1]⟩
abbrev S1x16x64 : Shape := ⟨3, ![1, 16, 64]⟩
abbrev S16x64 : Shape := ⟨2, ![16, 64]⟩
abbrev S1x1x16x64 : Shape := ⟨4, ![1, 1, 16, 64]⟩
abbrev S32768x1024 : Shape := ⟨2, ![32768, 1024]⟩

abbrev nBuf : Space → Nat
  | .hbm => 173
  | .vmem => 0
  | .smem => 0
  | _ => 0

abbrev hbmTy0_0 (i : Nat) : BufTy := match i % 128 with
  | 0 => ⟨S2x16384x1024, .f32⟩
  | 1 => ⟨S2x16384x1024, .f32⟩
  | 2 => ⟨S4x1024, .f32⟩
  | 3 => ⟨S2x6x1024, .f32⟩
  | 4 => ⟨S2x3x1024x1024, .f32⟩
  | 5 => ⟨S2x1024, .f32⟩
  | 6 => ⟨S2x1024x64, .f32⟩
  | 7 => ⟨S2x64x1024, .f32⟩
  | 8 => ⟨S2x1024, .f32⟩
  | 9 => ⟨S2x1024x64, .f32⟩
  | 10 => ⟨S2x64x1024, .f32⟩
  | 11 => ⟨S1x1024, .f32⟩
  | 12 => ⟨S1x1024x32, .f32⟩
  | 13 => ⟨S1x32x1024, .f32⟩
  | 14 => ⟨S2x1024x128, .f32⟩
  | 15 => ⟨S2x128x1024, .f32⟩
  | 16 => ⟨S2x1024, .f32⟩
  | 17 => ⟨S2x1024, .f32⟩
  | 18 => ⟨S2x16x64, .f32⟩
  | 19 => ⟨S1x1024, .f32⟩
  | 20 => ⟨S1024, .f32⟩
  | 21 => ⟨S2x16384x1024, .f32⟩
  | 22 => ⟨S_, .f32⟩
  | 23 => ⟨S2x16384, .f32⟩
  | 24 => ⟨S2x16384x1, .f32⟩
  | 25 => ⟨S_, .f32⟩
  | 26 => ⟨S2x16384x1, .f32⟩
  | 27 => ⟨S2x16384x1, .f32⟩
  | 28 => ⟨S_, .f32⟩
  | 29 => ⟨S2x16384x1, .f32⟩
  | 30 => ⟨S2x16384x1, .f32⟩
  | 31 => ⟨S2x16384x1, .f32⟩
  | 32 => ⟨S2x16384x1024, .f32⟩
  | 33 => ⟨S2x16384x1024, .f32⟩
  | 34 => ⟨S1x1x1024, .f32⟩
  | 35 => ⟨S2x16384x1024, .f32⟩
  | 36 => ⟨S2x16384x1024, .f32⟩
  | 37 => ⟨S_, .i32⟩
  | 38 => ⟨S_, .f32⟩
  | 39 => ⟨S2x16385x1024, .f32⟩
  | 40 => ⟨S2x16384x1024, .f32⟩
  | 41 => ⟨S2x16384x1024, .f32⟩
  | 42 => ⟨S1x2x16384x1024, .f32⟩
  | 43 => ⟨S1x2x16384x1024, .f32⟩
  | 44 => ⟨S1x6x1024, .f32⟩
  | 45 => ⟨S6x1024, .f32⟩
  | 46 => ⟨S6x1x1x1024, .f32⟩
  | 47 => ⟨S6x2x16384x1024, .f32⟩
  | 48 => ⟨S6x2x16384x1024, .f32⟩
  | 49 => ⟨S6x2x16384x1024, .f32⟩
  | 50 => ⟨S6x2x16384x1024, .f32⟩
  | 51 => ⟨S6x2x16384x1024, .f32⟩
  | 52 => ⟨S3x2x16384x1024, .f32⟩
  | 53 => ⟨S1x3x1024x1024, .f32⟩
  | 54 => ⟨S3x1024x1024, .f32⟩
  | 55 => ⟨S3x2x16384x1024, .f32⟩
  | 56 => ⟨S1x2x16384x1024, .f32⟩
  | 57 => ⟨S2x16384x1024, .f32⟩
  | 58 => ⟨S1x2x16384x1024, .f32⟩
  | 59 => ⟨S2x16384x1024, .f32⟩
  | 60 => ⟨S1x2x16384x1024, .f32⟩
  | 61 => ⟨S2x16384x1024, .f32⟩
  | 62 => ⟨S1x2x16384x1024, .f32⟩
  | 63 => ⟨S2x16384x1024, .f32⟩
  | 64 => ⟨S1x2x16384x1024, .f32⟩
  | 65 => ⟨S2x16384x1024, .f32⟩
  | 66 => ⟨S1x2x16384x1024, .f32⟩
  | 67 => ⟨S2x16384x1024, .f32⟩
  | 68 => ⟨S2x16384x1024, .f32⟩
  | 69 => ⟨S1024, .f32⟩
  | 70 => ⟨S1024x32, .f32⟩
  | 71 => ⟨S2x16384x32, .f32⟩
  | 72 => ⟨S32x1024, .f32⟩
  | 73 => ⟨S2x16384x1024, .f32⟩
  | 74 => ⟨S1x1x1024, .f32⟩
  | 75 => ⟨S2x16384x1024, .f32⟩
  | 76 => ⟨S2x16384x1024, .f32⟩
  | 77 => ⟨S2x16384x1024, .f32⟩
  | 78 => ⟨S2x16384x1024, .f32⟩
  | 79 => ⟨S_, .f32⟩
  | 80 => ⟨S2x16384x1024, .f32⟩
  | 81 => ⟨S2x16384x1024, .f32⟩
  | 82 => ⟨S_, .f32⟩
  | 83 => ⟨S2x16384x1024, .f32⟩
  | 84 => ⟨S2x16384x1024, .f32⟩
  | 85 => ⟨S2x16384x1024, .f32⟩
  | 86 => ⟨S2x16384x1024, .f32⟩
  | 87 => ⟨S1x1024, .f32⟩
  | 88 => ⟨S1024, .f32⟩
  | 89 => ⟨S1x1024x64, .f32⟩
  | 90 => ⟨S1024x64, .f32⟩
  | 91 => ⟨S2x16384x64, .f32⟩
  | 92 => ⟨S1x64x1024, .f32⟩
  | 93 => ⟨S64x1024, .f32⟩
  | 94 => ⟨S2x16384x1024, .f32⟩
  | 95 => ⟨S1x1x1024, .f32⟩
  | 96 => ⟨S2x16384x1024, .f32⟩
  | 97 => ⟨S2x16384x1024, .f32⟩
  | 98 => ⟨S2x16384x1024, .f32⟩
  | 99 => ⟨S2x16384x1024, .f32⟩
  | 100 => ⟨S_, .f32⟩
  | 101 => ⟨S2x16384x1024, .f32⟩
  | 102 => ⟨S2x16384x1024, .f32⟩
  | 103 => ⟨S_, .f32⟩
  | 104 => ⟨S2x16384x1024, .f32⟩
  | 105 => ⟨S2x16384x1024, .f32⟩
  | 106 => ⟨S1x1024x128, .f32⟩
  | 107 => ⟨S1024x128, .f32⟩
  | 108 => ⟨S2x16384x128, .f32⟩
  | 109 => ⟨S2x16384x128, .f32⟩
  | 110 => ⟨S2x16384x128, .f32⟩
  | 111 => ⟨S_, .f32⟩
  | 112 => ⟨S2x16384x128, .f32⟩
  | 113 => ⟨S2x16384x128, .f32⟩
  | 114 => ⟨S_, .f32⟩
  | 115 => ⟨S2x16384x128, .f32⟩
  | 116 => ⟨S2x16384x128, .f32⟩
  | 117 => ⟨S1x128x1024, .f32⟩
  | 118 => ⟨S128x1024, .f32⟩
  | 119 => ⟨S2x16384x1024, .f32⟩
  | 120 => ⟨S1x1024, .f32⟩
  | 121 => ⟨S1024, .f32⟩
  | 122 => ⟨S1x1x1024, .f32⟩
  | 123 => ⟨S2x16384x1024, .f32⟩
  | 124 => ⟨S2x16384x1024, .f32⟩
  | 125 => ⟨S2x16384x16x64, .f32⟩
  | 126 => ⟨S2x16384x16x64, .f32⟩
  | 127 => ⟨S_, .f32⟩
  | _ => ⟨S2x16384x1024, .f32⟩

abbrev hbmTy0_1 (i : Nat) : BufTy := match i % 128 with
  | 0 => ⟨S2x16384x16, .f32⟩
  | 1 => ⟨S2x16384x16x1, .f32⟩
  | 2 => ⟨S2x16384x16x1, .f32⟩
  | 3 => ⟨S_, .f32⟩
  | 4 => ⟨S2x16384x16x1, .f32⟩
  | 5 => ⟨S2x16384x16x1, .f32⟩
  | 6 => ⟨S2x16384x16x64, .f32⟩
  | 7 => ⟨S2x16384x16x64, .f32⟩
  | 8 => ⟨S_, .f32⟩
  | 9 => ⟨S2x16384x1024, .f32⟩
  | 10 => ⟨S2x16384x1024, .f32⟩
  | 11 => ⟨S1x1024, .f32⟩
  | 12 => ⟨S1024, .f32⟩
  | 13 => ⟨S1x1x1024, .f32⟩
  | 14 => ⟨S2x16384x1024, .f32⟩
  | 15 => ⟨S2x16384x1024, .f32⟩
  | 16 => ⟨S_, .f32⟩
  | 17 => ⟨S2x16384x1024, .f32⟩
  | 18 => ⟨S2x16384x1024, .f32⟩
  | 19 => ⟨S2x16384x1024, .f32⟩
  | 20 => ⟨S2x16384x16x64, .f32⟩
  | 21 => ⟨S2x16384x16x64, .f32⟩
  | 22 => ⟨S2x16384x16x64, .f32⟩
  | 23 => ⟨S1x16x64, .f32⟩
  | 24 => ⟨S16x64, .f32⟩
  | 25 => ⟨S1x1x16x64, .f32⟩
  | 26 => ⟨S2x16384x16x64, .f32⟩
  | 27 => ⟨S2x16384x16x64, .f32⟩
  | 28 => ⟨S_, .f32⟩
  | 29 => ⟨S2x16384x16, .f32⟩
  | 30 => ⟨S2x16384x16x1, .f32⟩
  | 31 => ⟨S2x16384x16x64, .f32⟩
  | 32 => ⟨S2x16384x16x64, .f32⟩
  | 33 => ⟨S2x16384x16x64, .f32⟩
  | 34 => ⟨S2x16384x16x64, .f32⟩
  | 35 => ⟨S2x16384x16x64, .f32⟩
  | 36 => ⟨S32768x1024, .f32⟩
  | 37 => ⟨S32768x1024, .f32⟩
  | 38 => ⟨S32768x1024, .f32⟩
  | 39 => ⟨S32768x1024, .f32⟩
  | 40 => ⟨S32768x1024, .f32⟩
  | 41 => ⟨S32768x1024, .f32⟩
  | 42 => ⟨S32768x1024, .bf16⟩
  | 43 => ⟨S32768x1024, .f32⟩
  | 44 => ⟨S32768x1024, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_call0_v0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_2 : Ref sig .tc := ⟨.hbm, 79, rfl⟩
abbrev main_v55 : Ref sig .tc := ⟨.hbm, 80, rfl⟩
abbrev main_v56 : Ref sig .tc := ⟨.hbm, 81, rfl⟩
abbrev main_cst_3 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_4 : Ref sig .tc := ⟨.hbm, 100, rfl⟩
abbrev main_v74 : Ref sig .tc := ⟨.hbm, 101, rfl⟩
abbrev main_v75 : Ref sig .tc := ⟨.hbm, 102, rfl⟩
abbrev main_cst_5 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_6 : Ref sig .tc := ⟨.hbm, 111, rfl⟩
abbrev main_v83 : Ref sig .tc := ⟨.hbm, 112, rfl⟩
abbrev main_v84 : Ref sig .tc := ⟨.hbm, 113, rfl⟩
abbrev main_cst_7 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_8 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_9 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_10 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_11 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_12 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩

abbrev nD : Nat := 1
abbrev τ : Topo := Topo.v7x

variable {F : FTy → Type} [FloatOps F]
-- ==== Mid.lean ====
abbrev S2x16384x1024 : Shape := ⟨3, ![2, 16384, 1024]⟩
abbrev S32768x1024 : Shape := ⟨2, ![32768, 1024]⟩
abbrev S2x1024 : Shape := ⟨2, ![2, 1024]⟩
abbrev S2x1024x1024 : Shape := ⟨3, ![2, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x1024 : Shape := ⟨2, ![1, 1024]⟩
abbrev S512x1024 : Shape := ⟨2, ![512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S256x128 : Shape := ⟨2, ![256, 128]⟩
abbrev S2048x128 : Shape := ⟨2, ![2048, 128]⟩
abbrev S1024x1024 : Shape := ⟨2, ![1024, 1024]⟩
abbrev S512 : Shape := ⟨1, ![512]⟩
abbrev S512x1 : Shape := ⟨2, ![512, 1]⟩

abbrev nBuf : Space → Nat
  | .hbm => 51
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .bf16⟩
  | .hbm, ⟨2, _⟩ => ⟨S32768x1024, .bf16⟩
  | .hbm, ⟨3, _⟩ => ⟨S32768x1024, .f32⟩
  | .hbm, ⟨4, _⟩ => ⟨S2x1024, .f32⟩
  | .hbm, ⟨5, _⟩ => ⟨S2x1024, .f32⟩
  | .hbm, ⟨6, _⟩ => ⟨S2x1024x1024, .f32⟩
  | .hbm, ⟨7, _⟩ => ⟨S4x1024, .f32⟩
  | .hbm, ⟨8, _⟩ => ⟨S4x1024x4096, .f32⟩
  | .hbm, ⟨9, _⟩ => ⟨S4x4096x1024, .f32⟩
  | .hbm, ⟨10, _⟩ => ⟨S1024, .f32⟩
  | .hbm, ⟨11, _⟩ => ⟨S128, .i32⟩
  | .hbm, ⟨12, _⟩ => ⟨S_, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S1x128, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S128x128, .bf16⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S2x1024x1024, .bf16⟩
  | .hbm, ⟨43, _⟩ => ⟨S32768x1024, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S4x1024x4096, .bf16⟩
  | .hbm, ⟨48, _⟩ => ⟨S4x4096x1024, .bf16⟩
  | .hbm, ⟨49, _⟩ => ⟨S1x1024, .f32⟩
  | .hbm, ⟨50, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024x1024, .bf16⟩
  | .local _ .vmem, ⟨11, _⟩ => ⟨S128x128, .bf16⟩
  | .local _ .vmem, ⟨12, _⟩ => ⟨S1x1024, .f32⟩
  | .local _ .vmem, ⟨13, _⟩ => ⟨S1x1024x4096, .bf16⟩
  | .local _ .vmem, ⟨14, _⟩ => ⟨S1x4096x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MidRefIdeal.lean ====
abbrev S2x16384x1024 : Shape := ⟨3, ![2, 16384, 1024]⟩
abbrev S32768x1024 : Shape := ⟨2, ![32768, 1024]⟩
abbrev S2x1024 : Shape := ⟨2, ![2, 1024]⟩
abbrev S2x1024x1024 : Shape := ⟨3, ![2, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S2x16384x16x64 : Shape := ⟨4, ![2, 16384, 16, 64]⟩
abbrev S_ : Shape := ⟨0, ![]⟩
abbrev S2x16384x16 : Shape := ⟨3, ![2, 16384, 16]⟩
abbrev S2x16384x16x1 : Shape := ⟨4, ![2, 16384, 16, 1]⟩
abbrev S1x1024 : Shape := ⟨2, ![1, 1024]⟩
abbrev S1x1024x1024 : Shape := ⟨3, ![1, 1024, 1024]⟩
abbrev S1024x1024 : Shape := ⟨2, ![1024, 1024]⟩
abbrev S32768 : Shape := ⟨1, ![32768]⟩
abbrev S32768x1 : Shape := ⟨2, ![32768, 1]⟩
abbrev S1x1024x4096 : Shape := ⟨3, ![1, 1024, 4096]⟩
abbrev S1024x4096 : Shape := ⟨2, ![1024, 4096]⟩
abbrev S32768x4096 : Shape := ⟨2, ![32768, 4096]⟩
abbrev S1x4096x1024 : Shape := ⟨3, ![1, 4096, 1024]⟩
abbrev S4096x1024 : Shape := ⟨2, ![4096, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .bf16⟩
  | .hbm, ⟨2, _⟩ => ⟨S32768x1024, .bf16⟩
  | .hbm, ⟨3, _⟩ => ⟨S32768x1024, .f32⟩
  | .hbm, ⟨4, _⟩ => ⟨S2x1024, .f32⟩
  | .hbm, ⟨5, _⟩ => ⟨S2x1024, .f32⟩
  | .hbm, ⟨6, _⟩ => ⟨S2x1024x1024, .f32⟩
  | .hbm, ⟨7, _⟩ => ⟨S4x1024, .f32⟩
  | .hbm, ⟨8, _⟩ => ⟨S4x1024x4096, .f32⟩
  | .hbm, ⟨9, _⟩ => ⟨S4x4096x1024, .f32⟩
  | .hbm, ⟨10, _⟩ => ⟨S1024, .f32⟩
  | .hbm, ⟨11, _⟩ => ⟨S2x16384x16x64, .f32⟩
  | .hbm, ⟨12, _⟩ => ⟨S_, .f32⟩
  | .hbm, ⟨13, _⟩ => ⟨S2x16384x16, .f32⟩
  | .hbm, ⟨14, _⟩ => ⟨S2x16384x16x1, .f32⟩
  | .hbm, ⟨15, _⟩ => ⟨S_, .f32⟩
  | .hbm, ⟨16, _⟩ => ⟨S2x16384x16x1, .f32⟩
  | .hbm, ⟨17, _⟩ => ⟨S2x16384x16x1, .f32⟩
  | .hbm, ⟨18, _⟩ => ⟨S2x16384x16x64, .f32⟩
  | .hbm, ⟨19, _⟩ => ⟨S2x16384x16x64, .f32⟩
  | .hbm, ⟨20, _⟩ => ⟨S2x16384x16x64, .f32⟩
  | .hbm, ⟨21, _⟩ => ⟨S_, .f32⟩
  | .hbm, ⟨22, _⟩ => ⟨S2x16384x16, .f32⟩
  | .hbm, ⟨23, _⟩ => ⟨S2x16384x16x1, .f32⟩
  | .hbm, ⟨24, _⟩ => ⟨S_, .f32⟩
  | .hbm, ⟨25, _⟩ => ⟨S2x16384x16x1, .f32⟩
  | .hbm, ⟨26, _⟩ => ⟨S2x16384x16x1, .f32⟩
  | .hbm, ⟨27, _⟩ => ⟨S2x16384x16x64, .f32⟩
  | .hbm, ⟨28, _⟩ => ⟨S2x16384x16x64, .f32⟩
  | .hbm, ⟨29, _⟩ => ⟨S_, .f32⟩
  | .hbm, ⟨30, _⟩ => ⟨S2x16384x16x1, .f32⟩
  | .hbm, ⟨31, _⟩ => ⟨S2x16384x16x1, .f32⟩
  | .hbm, ⟨32, _⟩ => ⟨S2x16384x16x1, .f32⟩
  | .hbm, ⟨33, _⟩ => ⟨S2x16384x16x64, .f32⟩
  | .hbm, ⟨34, _⟩ => ⟨S2x16384x16x64, .f32⟩
  | .hbm, ⟨35, _⟩ => ⟨S32768x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S1x1024x1024, .f32⟩
  | .hbm, ⟨51, _⟩ => ⟨S1024x1024, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S1024, .f32⟩
  | .hbm, ⟨56, _⟩ => ⟨S32768x1024, .f32⟩
  | .hbm, ⟨57, _⟩ => ⟨S_, .f32⟩
  | .hbm, ⟨58, _⟩ => ⟨S32768, .f32⟩
  | .hbm, ⟨59, _⟩ => ⟨S32768x1, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x1, .f32⟩
  | .hbm, ⟨67, _⟩ => ⟨S32768x1024, .f32⟩
  | .hbm, ⟨68, _⟩ => ⟨S32768x1024, .f32⟩
  | .hbm, ⟨69, _⟩ => ⟨S1x1024, .f32⟩
  | .hbm, ⟨70, _⟩ => ⟨S32768x1024, .f32⟩
  | .hbm, ⟨71, _⟩ => ⟨S32768x1024, .f32⟩
  | .hbm, ⟨72, _⟩ => ⟨S1x1024x4096, .f32⟩
  | .hbm, ⟨73, _⟩ => ⟨S1024x4096, .f32⟩
  | .hbm, ⟨74, _⟩ => ⟨S32768x4096, .f32⟩
  | .hbm, ⟨75, _⟩ => ⟨S_, .f32⟩
  | .hbm, ⟨76, _⟩ => ⟨S32768x4096, .f32⟩
  | .hbm, ⟨77, _⟩ => ⟨S32768x4096, .f32⟩
  | .hbm, ⟨78, _⟩ => ⟨S32768x4096, .f32⟩
  | .hbm, ⟨79, _⟩ => ⟨S1x4096x1024, .f32⟩
  | .hbm, ⟨80, _⟩ => ⟨S4096x1024, .f32⟩
  | .hbm, ⟨81, _⟩ => ⟨S32768x1024, .f32⟩
  | .hbm, ⟨82, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_call0_cst : Ref sig .tc := ⟨.hbm, 75, rfl⟩
abbrev main_call0_v0 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Wkv.lean ====
abbrev S2x16384x1024 : Shape := ⟨3, ![2, 16384, 1024]⟩
abbrev S2x256x1024 : Shape := ⟨3, ![2, 256, 1024]⟩
abbrev S16x64x128 : Shape := ⟨3, ![16, 64, 128]⟩
abbrev S64x128 : Shape := ⟨2, ![64, 128]⟩
abbrev S64x256 : Shape := ⟨2, ![64, 256]⟩
abbrev S64x192 : Shape := ⟨2, ![64, 192]⟩
abbrev S1x64x1024 : Shape := ⟨3, ![1, 64, 1024]⟩
abbrev S64x1024 : Shape := ⟨2, ![64, 1024]⟩
abbrev S192x1024 : Shape := ⟨2, ![192, 1024]⟩
abbrev S1x1024 : Shape := ⟨2, ![1, 1024]⟩
abbrev S1x128 : Shape := ⟨2, ![1, 128]⟩
abbrev S128x128 : Shape := ⟨2, ![128, 128]⟩
abbrev S256x128 : Shape := ⟨2, ![256, 128]⟩
abbrev S128x256 : Shape := ⟨2, ![128, 256]⟩
abbrev S1x64x128 : Shape := ⟨3, ![1, 64, 128]⟩

abbrev nBuf : Space → Nat
  | .hbm => 7
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S2x16384x1024, .f32⟩
  | .hbm, ⟨5, _⟩ => ⟨S2x16384x1024, .f32⟩
  | .hbm, ⟨6, _⟩ => ⟨S2x16384x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x256x1024, .f32⟩
  | .local _ .vmem, ⟨5, _⟩ => ⟨S2x256x1024, .f32⟩
  | .local _ .vmem, ⟨6, _⟩ => ⟨S2x256x1024, .f32⟩
  | .local _ .vmem, ⟨7, _⟩ => ⟨S2x256x1024, .f32⟩
  | .local _ .vmem, ⟨8, _⟩ => ⟨S2x256x1024, .f32⟩
  | .local _ .vmem, ⟨9, _⟩ => ⟨S2x256x1024, .f32⟩
  | .local _ .vmem, ⟨10, _⟩ => ⟨S2x256x1024, .f32⟩
  | .local _ .vmem, ⟨11, _⟩ => ⟨S2x256x1024, .f32⟩
  | .local _ .vmem, ⟨12, _⟩ => ⟨S2x256x1024, .f32⟩
  | .local _ .vmem, ⟨13, _⟩ => ⟨S2x256x1024, .f32⟩
  | .local _ .vmem, ⟨14, _⟩ => ⟨S16x64x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Proof.Rows.lean ====
/- What one row of the kernels' arrays becomes, as plain functions over the extended reals: the root-mean-square
   normalization of a row and the squared-relu perceptron on it. Both programs of a claim are read down to these. -/
module

public import Idealize.ShloMosaic.Lib.Pointwise

@[expose] public section

set_option maxRecDepth 16384

noncomputable section

namespace Cert.Rows

open Idealize.ShloMosaic

/-- The factor a row is multiplied by in its root-mean-square normalization. -/
def rmsScale (x : Fin 1024 → EReal) : EReal :=
  Ideal.rsqrt (Ideal.div (∑ k, x k * x k) (Ideal.ofBits .f32 0x44800000#32) + Ideal.ofBits .f32 0x358637BD#32)

/-- A row, root-mean-square normalized and scaled lane by lane. -/
def rms (x g : Fin 1024 → EReal) (k : Fin 1024) : EReal := x k * rmsScale x * g k

/-- One hidden unit of the perceptron: the square of the positive part of a dot product. -/
def unit (h : Fin 1024 → EReal) (w : Fin 1024 → EReal) : EReal :=
  max (∑ k, h k * w k) 0 * max (∑ k, h k * w k) 0

/-- The perceptron layer of one row, with its residual. -/
def ffn (x g : Fin 1024 → EReal) (w1 : Fin 1024 → Fin 4096 → EReal) (w2 : Fin 4096 → Fin 1024 → EReal) (j : Fin 1024) : EReal :=
  x j + ∑ k, unit (rms x g) (fun l => w1 l k) * w2 k j

/-- The perceptron layer of a row depends on its operands element by element. -/
theorem ffn_congr {x x' g g' : Fin 1024 → EReal} {w1 w1' : Fin 1024 → Fin 4096 → EReal} {w2 w2' : Fin 4096 → Fin 1024 → EReal}
    (hx : ∀ k, x k = x' k) (hg : ∀ k, g k = g' k) (h1 : ∀ l k, w1 l k = w1' l k) (h2 : ∀ k j, w2 k j = w2' k j) (j : Fin 1024) :
    ffn x g w1 w2 j = ffn x' g' w1' w2' j := by
  rw [funext hx, funext hg, funext fun l => funext (h1 l), funext fun k => funext (h2 k)]

/-- A sum over 4096 terms is its four quarters, added from the left onto any first term. -/
theorem sum_quarters (a : EReal) (f : Fin 4096 → EReal) :
    a + ∑ k, f k = a + (∑ k : Fin 1024, f ⟨k, by omega⟩) + (∑ k : Fin 1024, f ⟨1024 + k, by omega⟩)
      + (∑ k : Fin 1024, f ⟨2048 + k, by omega⟩) + ∑ k : Fin 1024, f ⟨3072 + k, by omega⟩ := by
  rw [Fin.sum_univ_tiles 4 1024 rfl f, Fin.sum_univ_four]
  simp only [← add_assoc]
  refine congrArg₂ (· + ·) (congrArg₂ (· + ·) (congrArg₂ (· + ·) (congrArg₂ (· + ·) rfl ?_) ?_) ?_) ?_ <;>
    refine Finset.sum_congr rfl fun k _ => congrArg f (Fin.ext ?_) <;> simp

/-- The sum of a row over the lanes of one group of 128, weighted by a column of a matrix. -/
def laneSum (o : Fin 128 → Fin 128 → EReal) (y : Fin 1024 → EReal) (j : Fin 1024) : EReal :=
  ∑ k : Fin 128, y ⟨128 * (j.val / 128) + k.val, by omega⟩ * o k ⟨j.val % 128, Nat.mod_lt _ (by decide)⟩

/-- The mean of a row over the 64 lanes of a lane's head. -/
def headMean (y : Fin 1024 → EReal) (j : Fin 1024) : EReal :=
  Ideal.div (∑ k : Fin 64, y ⟨j.val / 64 * 64 + k.val, by omega⟩) (Ideal.ofBits .f32 0x42800000#32)

/-- A row without its means, for one way `s` of taking the means. -/
def dev (s : (Fin 1024 → EReal) → Fin 1024 → EReal) (y : Fin 1024 → EReal) (k : Fin 1024) : EReal := y k - s y k

/-- The group normalization of a row, with its bonus and its gate. -/
def gated (s : (Fin 1024 → EReal) → Fin 1024 → EReal) (y lg lb bon gt : Fin 1024 → EReal) (k : Fin 1024) : EReal :=
  (dev s y k * Ideal.rsqrt (s (fun l => dev s y l * dev s y l) k + Ideal.ofBits .f32 0x3A27C5AC#32) * lg k + lb k + bon k) * gt k

/-- The output projection of a gated row, with its residual. -/
def proj (s : (Fin 1024 → EReal) → Fin 1024 → EReal) (y lg lb bon gt x : Fin 1024 → EReal) (wo : Fin 1024 → Fin 1024 → EReal)
    (r : Fin 1024) : EReal := x r + ∑ k, gated s y lg lb bon gt k * wo k r

/-- The last row of the model: projection, perceptron layer, final normalization. -/
def tail (s : (Fin 1024 → EReal) → Fin 1024 → EReal) (y lg lb bon gt x : Fin 1024 → EReal) (wo : Fin 1024 → Fin 1024 → EReal)
    (ng : Fin 1024 → EReal) (w1 : Fin 1024 → Fin 4096 → EReal) (w2 : Fin 4096 → Fin 1024 → EReal) (fg : Fin 1024 → EReal)
    (j : Fin 1024) : EReal := rms (ffn (proj s y lg lb bon gt x wo) ng w1 w2) fg j

/-- The matrix of ones on its two diagonal blocks of 64, which sums a row within each head. -/
def blockOnes (k c : Fin 128) : EReal := if k.val / 64 = c.val / 64 then 1 else 0

/-- Sums of the lanes of a group, weighted by the two blocks of ones, are the sums within the heads. -/
theorem laneSum_blockOnes (y : Fin 1024 → EReal) (j : Fin 1024) :
    laneSum blockOnes y j = ∑ k : Fin 64, y ⟨j.val / 64 * 64 + k.val, by omega⟩ := by
  unfold laneSum blockOnes
  rw [Fin.sum_univ_tiles 2 64 rfl, Fin.sum_univ_two]
  have h0 : ∀ k : Fin 64, (k.val + 64 * 0) / 64 = 0 := fun k => by omega
  rcases (by omega : j.val % 128 / 64 = 0 ∨ j.val % 128 / 64 = 1) with h | h
  · refine (congrArg₂ (· + ·) (Finset.sum_congr rfl fun k _ => ?_) (Finset.sum_eq_zero fun k _ => ?_)).trans (add_zero _)
    · show _ * (if _ then (1 : EReal) else 0) = _
      rw [if_pos (by simp; omega), mul_one]
      exact congrArg y (Fin.ext (by simp; omega))
    · show _ * (if _ then (1 : EReal) else 0) = _
      rw [if_neg (by simp; omega), mul_zero]
  · refine (congrArg₂ (· + ·) (Finset.sum_eq_zero fun k _ => ?_) (Finset.sum_congr rfl fun k _ => ?_)).trans (zero_add _)
    · show _ * (if _ then (1 : EReal) else 0) = _
      rw [if_neg (by simp; omega), mul_zero]
    · show _ * (if _ then (1 : EReal) else 0) = _
      rw [if_pos (by simp; omega), mul_one]
      exact congrArg y (Fin.ext (by simp; omega))

/-- The pattern of one sixty-fourth. -/
theorem ofBits_64th : Ideal.ofBits .f32 0x3C800000#32 = (((1 : ℝ) / 64 : ℝ) : EReal) := by
  simp [Ideal.ofBits, Ideal.ieee, -EReal.coe_mul]; norm_num

/-- The pattern of sixty-four. -/
theorem ofBits_64 : Ideal.ofBits .f32 0x42800000#32 = ((64 : ℝ) : EReal) := by
  simp [Ideal.ofBits, Ideal.ieee, -EReal.coe_mul]; norm_num

/-- A product with one sixty-fourth is the quotient by sixty-four. -/
theorem mul_64th (x : EReal) : x * Ideal.ofBits .f32 0x3C800000#32 = Ideal.div x (Ideal.ofBits .f32 0x42800000#32) := by
  have h : ((64 : ℝ) : EReal) ≠ 0 := by exact_mod_cast (by norm_num : (64 : ℝ) ≠ 0)
  rw [ofBits_64th, ofBits_64]
  unfold Ideal.div
  rw [if_neg h, ← EReal.coe_inv, one_div]

/-- The last row depends on its operands element by element. -/
theorem tail_congr (s : (Fin 1024 → EReal) → Fin 1024 → EReal) {y y' lg lg' lb lb' bon bon' gt gt' x x' ng ng' fg fg' : Fin 1024 → EReal}
    {wo wo' : Fin 1024 → Fin 1024 → EReal} {w1 w1' : Fin 1024 → Fin 4096 → EReal} {w2 w2' : Fin 4096 → Fin 1024 → EReal}
    (hy : ∀ k, y k = y' k) (hlg : ∀ k, lg k = lg' k) (hlb : ∀ k, lb k = lb' k) (hbon : ∀ k, bon k = bon' k) (hgt : ∀ k, gt k = gt' k)
    (hx : ∀ k, x k = x' k) (hwo : ∀ k r, wo k r = wo' k r) (hng : ∀ k, ng k = ng' k) (h1 : ∀ l k, w1 l k = w1' l k) (h2 : ∀ k j, w2 k j = w2' k j)
    (hfg : ∀ k, fg k = fg' k) (j : Fin 1024) :
    tail s y lg lb bon gt x wo ng w1 w2 fg j = tail s y' lg' lb' bon' gt' x' wo' ng' w1' w2' fg' j := by
  rw [funext hy, funext hlg, funext hlb, funext hbon, funext hgt, funext hx, funext hng, funext hfg, funext fun k => funext (hwo k),
    funext fun l => funext (h1 l), funext fun k => funext (h2 k)]

/-- The mean within a head, at a lane of it. -/
theorem headMean_head (y : Fin 1024 → EReal) (h : Fin 16) (l : Fin 64) (hl : h.val * 64 + l.val < 1024) :
    headMean y ⟨h.val * 64 + l.val, hl⟩ = Ideal.div (∑ k : Fin 64, y ⟨h.val * 64 + k.val, by omega⟩) (Ideal.ofBits .f32 0x42800000#32) := by
  have e : (h.val * 64 + l.val) / 64 = h.val := by omega
  simp only [headMean, e]

end Cert.Rows

end
-- ==== Proof.SguRows.lean ====
/- The gating unit, as functions of the rows of one block over the extended reals, and the two ways of taking a
   variance: the mean of the squares less the square of the mean, and the mean of the squared differences. They agree
   on finite rows; the rows are finite when the weights they are computed from are. -/
module

public import proofs.«01_k».proof.Proof.Rows

@[expose] public section

set_option maxRecDepth 16384

noncomputable section

namespace Cert.Rows
open Idealize.ShloMosaic

/-- The activation, with the programs' constants. -/
def gelu (z : EReal) : EReal :=
  z * Ideal.ofBits .f32 0x3F000000#32 * (Ideal.ofBits .f32 0x3F800000#32 + Ideal.erf (z * Ideal.ofBits .f32 0x3F3504F3#32))

/-- The mean of a row of 2048 lanes. -/
def mean (z : Fin 2048 → EReal) : EReal := Ideal.div (∑ j, z j) (Ideal.ofBits .f32 0x45000000#32)

/-- The layer normalization of a row, for a given variance. -/
def lnorm (v : EReal) (z g b : Fin 2048 → EReal) (j : Fin 2048) : EReal :=
  (z j - mean z) * Ideal.rsqrt (v + Ideal.ofBits .f32 0x3727C5AC#32) * g j + b j

/-- The variance as the mean of the squares less the square of the mean. -/
def varK (z : Fin 2048 → EReal) : EReal := mean (fun j => z j * z j) - mean z * mean z

/-- The variance as the mean of the squared differences from the mean. -/
def varR (z : Fin 2048 → EReal) : EReal := mean (fun j => (z j - mean z) * (z j - mean z))

/-- A value that is a real number. -/
def IsReal (z : EReal) : Prop := ∃ r : ℝ, z = (r : EReal)

/-- A sum of reals. -/
theorem sum_coe {n : ℕ} (r : Fin n → ℝ) : (∑ j, (r j : EReal)) = ((∑ j, r j : ℝ) : EReal) := by
  induction n with
  | zero => simp
  | succ n ih => rw [Fin.sum_univ_succ, Fin.sum_univ_succ, ih, EReal.coe_add]

/-- The number of lanes of a half. -/
theorem ofBits_2048 : Ideal.ofBits .f32 0x45000000#32 = ((2048 : ℝ) : EReal) := by
  simp [Ideal.ofBits, Ideal.ieee, -EReal.coe_mul]; norm_num

/-- The number of lanes of a row. -/
theorem ofBits_1024 : Ideal.ofBits .f32 0x44800000#32 = ((1024 : ℝ) : EReal) := by
  simp [Ideal.ofBits, Ideal.ieee, -EReal.coe_mul]; norm_num

/-- One half. -/
theorem ofBits_half : Ideal.ofBits .f32 0x3F000000#32 = (((1 : ℝ) / 2 : ℝ) : EReal) := by
  simp [Ideal.ofBits, Ideal.ieee, -EReal.coe_mul]; norm_num

/-- One. -/
theorem ofBits_one : Ideal.ofBits .f32 0x3F800000#32 = ((1 : ℝ) : EReal) := by
  simp [Ideal.ofBits, Ideal.ieee, -EReal.coe_mul]; norm_num

/-- The rounded half square root of two, as the programs hold it. -/
theorem ofBits_root : Ideal.ofBits .f32 0x3F3504F3#32 = (((11863283 : ℝ) / 16777216 : ℝ) : EReal) := by
  simp [Ideal.ofBits, Ideal.ieee, -EReal.coe_mul]; norm_num

/-- The small number added before the inverse square root. -/
theorem ofBits_eps : Ideal.ofBits .f32 0x358637BD#32 = (((8796093 : ℝ) / 8796093022208 : ℝ) : EReal) := by
  simp [Ideal.ofBits, Ideal.ieee, -EReal.coe_mul]; norm_num

/-- The mean of a row of reals. -/
theorem mean_coe (r : Fin 2048 → ℝ) : mean (fun j => (r j : EReal)) = (((∑ j, r j) * (1 / 2048) : ℝ) : EReal) := by
  rw [mean, sum_coe, ofBits_2048, Ideal.div_coe (by norm_num), ← EReal.coe_mul]

/-- The two variances agree on a row of reals. -/
theorem varK_eq_varR {z : Fin 2048 → EReal} (h : ∀ j, IsReal (z j)) : varK z = varR z := by
  choose r hr using h
  obtain rfl : z = fun j => (r j : EReal) := funext hr
  unfold varK varR
  rw [mean_coe r]
  simp only [← EReal.coe_mul, ← EReal.coe_sub]
  rw [mean_coe, mean_coe, ← EReal.coe_sub]
  refine congrArg _ ?_
  have e : ∀ μ : ℝ, ∑ j, (r j - μ) * (r j - μ) = (∑ j, r j * r j) - 2 * μ * (∑ j, r j) + 2048 * (μ * μ) := fun μ => by
    rw [Finset.sum_congr rfl fun j _ => show (r j - μ) * (r j - μ) = r j * r j - 2 * μ * r j + μ * μ by ring, Finset.sum_add_distrib, Finset.sum_sub_distrib, ← Finset.mul_sum]
    simp
  rw [e]
  ring

/-- The activation by the complementary error function. -/
theorem gelu_erfc (z : EReal) : Ideal.ofBits .f32 0x3F000000#32 * z * Ideal.erfc (-z * Ideal.ofBits .f32 0x3F3504F3#32) = gelu z := by
  rw [EReal.neg_mul, Ideal.erfc_neg, mul_comm (Ideal.ofBits .f32 0x3F000000#32) z, gelu, ofBits_one, EReal.coe_one]

/-- A sum of two reals is real. -/
theorem IsReal.add {a b : EReal} : IsReal a → IsReal b → IsReal (a + b) := by
  rintro ⟨x, rfl⟩ ⟨y, rfl⟩; exact ⟨x + y, (EReal.coe_add x y).symm⟩

/-- A product of two reals is real. -/
theorem IsReal.mul {a b : EReal} : IsReal a → IsReal b → IsReal (a * b) := by
  rintro ⟨x, rfl⟩ ⟨y, rfl⟩; exact ⟨x * y, (EReal.coe_mul x y).symm⟩

/-- A finite sum of reals is real. -/
theorem IsReal.sum {n : ℕ} {f : Fin n → EReal} (h : ∀ k, IsReal (f k)) : IsReal (∑ k, f k) := by
  choose r hr using h
  rw [funext hr]
  exact ⟨_, sum_coe r⟩

/-- The activation of a real is a real. -/
theorem IsReal.gelu {z : EReal} : IsReal z → IsReal (gelu z) := by
  rintro ⟨x, rfl⟩
  unfold Cert.Rows.gelu
  rw [ofBits_half, ofBits_one, ofBits_root, ← EReal.coe_mul x, ← EReal.coe_mul x, Ideal.erf_coe]
  exact IsReal.mul ⟨_, rfl⟩ (IsReal.add ⟨_, rfl⟩ ⟨_, rfl⟩)

/-- A square is not negative. -/
theorem sq_nonneg' (x : EReal) : 0 ≤ x * x := by
  induction x with
  | bot => rw [EReal.bot_mul_bot]; exact le_top
  | top => rw [EReal.top_mul_top]; exact le_top
  | coe r => rw [← EReal.coe_mul]; exact_mod_cast mul_self_nonneg r

/-- A normalized row is real whatever the row holds: an infinite lane makes the factor zero. -/
theorem IsReal.rms (x g : Fin 1024 → EReal) (hg : ∀ k, IsReal (g k)) (k : Fin 1024) : IsReal (rms x g k) := by
  refine IsReal.mul ?_ (hg k)
  by_cases h : ∀ l, IsReal (x l)
  · choose r hr using h
    obtain rfl : x = fun l => (r l : EReal) := funext hr
    unfold rmsScale
    simp only [← EReal.coe_mul]
    rw [sum_coe, ofBits_1024, Ideal.div_coe (by norm_num), ← EReal.coe_mul, ofBits_eps, ← EReal.coe_add, Ideal.rsqrt_coe]
    have hp : 0 < (∑ l, r l * r l) * (1 / 1024) + (8796093 : ℝ) / 8796093022208 :=
      add_pos_of_nonneg_of_pos (mul_nonneg (Finset.sum_nonneg fun l _ => mul_self_nonneg _) (by norm_num)) (by norm_num)
    rw [if_neg (not_lt.2 hp.le), if_neg hp.ne']
    exact IsReal.mul ⟨_, rfl⟩ ⟨_, rfl⟩
  · obtain ⟨l, hl⟩ := not_forall.1 h
    have ht : x l * x l = ⊤ := by
      induction hx : x l with
      | bot => exact EReal.bot_mul_bot
      | top => exact EReal.top_mul_top
      | coe r => exact absurd ⟨r, hx⟩ hl
    have hs : ∑ k, x k * x k = ⊤ := top_le_iff.1 (ht ▸ Finset.single_le_sum (f := fun k => x k * x k) (fun k _ => sq_nonneg' (x k)) (Finset.mem_univ l))
    refine ⟨0, ?_⟩
    unfold rmsScale
    rw [hs, ofBits_1024, Ideal.div_coe (by norm_num), EReal.top_mul_coe_of_pos (by norm_num), ofBits_eps, EReal.top_add_coe, Ideal.rsqrt_top, mul_zero]
    rfl

/-- One unit of a normalized row. -/
def unitOf (h : Fin 1024 → EReal) (w : Fin 1024 → Fin 4096 → EReal) (b : Fin 4096 → EReal) (j : Fin 4096) : EReal :=
  gelu ((∑ k, h k * w k j) + b j)

/-- The second half of the units of a row. -/
def half (x g : Fin 1024 → EReal) (w : Fin 1024 → Fin 4096 → EReal) (b : Fin 4096 → EReal) (j : Fin 2048) : EReal :=
  unitOf (rms x g) w b ⟨2048 + j.val, by omega⟩

/-- The second half of the units of a row, layer normalized, for one way `v` of taking the variance. -/
def gate (v : (Fin 2048 → EReal) → EReal) (x g : Fin 1024 → EReal) (w : Fin 1024 → Fin 4096 → EReal) (b : Fin 4096 → EReal) (lg lb : Fin 2048 → EReal) (j : Fin 2048) : EReal :=
  lnorm (v (half x g w b)) (half x g w b) lg lb j

/-- Rows of a block mixed by position within the chunks seen so far, at lane `k`. -/
def mixed (u : Fin 128 → Fin 2048 → EReal) (ws : Fin 16 → Fin 128 → Fin 128 → EReal) (bs : Fin 16 → Fin 128 → EReal) (a : Fin 128) (k : Fin 2048) : EReal :=
  (∑ q : Fin 128, if q.val / 64 ≤ a.val / 64 then ws ⟨k.val / 128, by omega⟩ a q * u q k else 0) + bs ⟨k.val / 128, by omega⟩ a

/-- The gating unit on row `a` of a block `x`, with its residual. -/
def sgu (v : (Fin 2048 → EReal) → EReal) (x : Fin 128 → Fin 1024 → EReal) (g : Fin 1024 → EReal) (w : Fin 1024 → Fin 4096 → EReal) (b : Fin 4096 → EReal)
    (lg lb : Fin 2048 → EReal) (ws : Fin 16 → Fin 128 → Fin 128 → EReal) (bs : Fin 16 → Fin 128 → EReal) (wo : Fin 2048 → Fin 1024 → EReal) (a : Fin 128) (j : Fin 1024) : EReal :=
  x a j + ∑ k : Fin 2048, unitOf (rms (x a) g) w b ⟨k.val, by omega⟩ * mixed (fun q => gate v (x q) g w b lg lb) ws bs a k * wo k j

/-- The gating unit depends on its operands element by element. -/
theorem sgu_congr (v : (Fin 2048 → EReal) → EReal) {x x' : Fin 128 → Fin 1024 → EReal} {g g' : Fin 1024 → EReal} {w w' : Fin 1024 → Fin 4096 → EReal} {b b' : Fin 4096 → EReal}
    {lg lg' lb lb' : Fin 2048 → EReal} {ws ws' : Fin 16 → Fin 128 → Fin 128 → EReal} {bs bs' : Fin 16 → Fin 128 → EReal} {wo wo' : Fin 2048 → Fin 1024 → EReal} {a a' : Fin 128}
    (hx : ∀ q k, x q k = x' q k) (hg : ∀ k, g k = g' k) (hw : ∀ k j, w k j = w' k j) (hb : ∀ j, b j = b' j) (hlg : ∀ j, lg j = lg' j) (hlb : ∀ j, lb j = lb' j)
    (hws : ∀ h p q, ws h p q = ws' h p q) (hbs : ∀ h p, bs h p = bs' h p) (hwo : ∀ k j, wo k j = wo' k j) (ha : a = a') (j : Fin 1024) :
    sgu v x g w b lg lb ws bs wo a j = sgu v x' g' w' b' lg' lb' ws' bs' wo' a' j := by
  rw [funext fun q => funext (hx q), funext hg, funext fun q => funext (hw q), funext hb, funext hlg, funext hlb, funext fun h => funext fun p => funext (hws h p),
    funext fun h => funext (hbs h), funext fun k => funext (hwo k), ha]

/-- With finite weights of the second half, the two variances give the same unit. -/
theorem sgu_var (x : Fin 128 → Fin 1024 → EReal) (g : Fin 1024 → EReal) (w : Fin 1024 → Fin 4096 → EReal) (b : Fin 4096 → EReal)
    (lg lb : Fin 2048 → EReal) (ws : Fin 16 → Fin 128 → Fin 128 → EReal) (bs : Fin 16 → Fin 128 → EReal) (wo : Fin 2048 → Fin 1024 → EReal) (a : Fin 128) (j : Fin 1024)
    (hg : ∀ k, IsReal (g k)) (hw : ∀ k (j : Fin 2048), IsReal (w k ⟨2048 + j.val, by omega⟩)) (hb : ∀ j : Fin 2048, IsReal (b ⟨2048 + j.val, by omega⟩)) :
    sgu varK x g w b lg lb ws bs wo a j = sgu varR x g w b lg lb ws bs wo a j := by
  have e : (fun q => gate varK (x q) g w b lg lb) = fun q => gate varR (x q) g w b lg lb := funext fun q => funext fun j => by
    unfold gate
    rw [varK_eq_varR (z := half (x q) g w b) fun j => IsReal.gelu (IsReal.add (IsReal.sum fun k => IsReal.mul (IsReal.rms _ _ hg k) (hw k j)) (hb j))]
  unfold sgu
  rw [e]

end Cert.Rows

end
-- ==== Proof.SguMask.lean ====
/- Which rows of a block a row of it may read, computed. -/
module

public import proofs.«01_k».proof.Proof.Rows
public import proofs.«01_k».proof.Proof.Gen.SguIdeal.Value

@[expose] public section

set_option maxRecDepth 16384

noncomputable section

namespace Cert.SguIdeal.Layer
open Cert.SguIdeal Cert.SguIdeal.Gen Idealize.ShloMosaic

/-- Which rows of its block a row may read: those of its chunk and of the chunks before. -/
abbrev mask : IVec S128x128 1 := k0_pay11 k0_pay9 k0_pay10 1#32

/-- The mask at an entry. -/
theorem mask_at : ∀ p q : Fin 128, mask (ix2 p q) = if q.val / 64 ≤ p.val / 64 then 1#1 else 0#1 := by decide +kernel

end Cert.SguIdeal.Layer

end
-- ==== Proof.SguCells.lean ====
/- The gating unit on one step: the cells of the gated array, each the product of a tile of the units and a tile of the mixed rows. -/
module

public import proofs.«01_k».proof.Proof.SguRows
public import proofs.«01_k».proof.Proof.SguMask
public import proofs.«01_k».proof.Proof.Gen.SguIdeal.Value
public import Idealize.ShloMosaic.Lib.Pipeline.ReadBack
public import Idealize.ShloMosaic.Lib.Pipeline.ValueKit

@[expose] public section

set_option maxRecDepth 16384

noncomputable section

namespace Cert.SguIdeal.Layer
open Cert.SguIdeal Cert.SguIdeal.Gen Cert.Rows Idealize.ShloMosaic Idealize.ShloMosaic.TcCoe Idealize.SL.Sem

/-- The units of two groups, at an entry. -/
theorem units_at (xn : FVec Ideal S512x1024 .bf16) (w : Vec Ideal S1x1024x256 .bf16) (b : Vec Ideal S1x256 .f32) (r : Fin 512) (c : Fin 256) :
    k0_pay106 xn w b (ix2 r c) = gelu ((∑ k : Fin 1024, xn (ix2 r k) * w (ix3 0 k c)) + b (ix2 0 c)) := by
  pointwise [k0_pay106, gelu]
  rw [mul_comm (Ideal.ofBits .f32 0x3F000000#32)]
  rfl

/-- The rows of one group mixed, at an entry of block 0. -/
theorem mixed0_at (M : IVec S128x128 1) (ws : Vec Ideal S1x128x128 .f32) (v0 v1 v2 v3 : Vec Ideal S128x128 .bf16) (bs : Vec Ideal S1x128x1 .f32) (p c : Fin 128) :
    k0_pay107 M ws v0 v1 v2 v3 bs (ix2 p ⟨0 + c.val, by omega⟩)
      = (∑ q : Fin 128, Scalar.select (M (ix2 p q)) (ws (ix3 0 p q) * v0 (ix2 q c)) 0) + bs (ix3 0 p 0) := by
  pointwise [k0_pay107]

/-- The rows of one group mixed, at an entry of block 1. -/
theorem mixed1_at (M : IVec S128x128 1) (ws : Vec Ideal S1x128x128 .f32) (v0 v1 v2 v3 : Vec Ideal S128x128 .bf16) (bs : Vec Ideal S1x128x1 .f32) (p c : Fin 128) :
    k0_pay107 M ws v0 v1 v2 v3 bs (ix2 p ⟨128 + c.val, by omega⟩)
      = (∑ q : Fin 128, Scalar.select (M (ix2 p q)) (ws (ix3 0 p q) * v1 (ix2 q c)) 0) + bs (ix3 0 p 0) := by
  pointwise [k0_pay107]

/-- The rows of one group mixed, at an entry of block 2. -/
theorem mixed2_at (M : IVec S128x128 1) (ws : Vec Ideal S1x128x128 .f32) (v0 v1 v2 v3 : Vec Ideal S128x128 .bf16) (bs : Vec Ideal S1x128x1 .f32) (p c : Fin 128) :
    k0_pay107 M ws v0 v1 v2 v3 bs (ix2 p ⟨256 + c.val, by omega⟩)
      = (∑ q : Fin 128, Scalar.select (M (ix2 p q)) (ws (ix3 0 p q) * v2 (ix2 q c)) 0) + bs (ix3 0 p 0) := by
  pointwise [k0_pay107]
  have h0 : ¬ (256 + c.val < 128) := by omega
  have h1 : ¬ (256 + c.val - 128 < 128) := by omega
  have e : 256 + c.val - 128 - 128 = c.val := by omega
  simp only [dif_neg h0, dif_neg h1, e, c.isLt, dite_true, Fin.eta]

/-- The rows of one group mixed, at an entry of block 3. -/
theorem mixed3_at (M : IVec S128x128 1) (ws : Vec Ideal S1x128x128 .f32) (v0 v1 v2 v3 : Vec Ideal S128x128 .bf16) (bs : Vec Ideal S1x128x1 .f32) (p c : Fin 128) :
    k0_pay107 M ws v0 v1 v2 v3 bs (ix2 p ⟨384 + c.val, by omega⟩)
      = (∑ q : Fin 128, Scalar.select (M (ix2 p q)) (ws (ix3 0 p q) * v3 (ix2 q c)) 0) + bs (ix3 0 p 0) := by
  pointwise [k0_pay107]
  have h0 : ¬ (384 + c.val < 128) := by omega
  have h1 : ¬ (384 + c.val - 128 < 128) := by omega
  have h2 : ¬ (384 + c.val - 128 - 128 < 128) := by omega
  have e : 384 + c.val - 128 - 128 - 128 = c.val := by omega
  simp only [dif_neg h0, dif_neg h1, dif_neg h2, e, c.isLt, dite_true, Fin.eta]

/-- The cell of block 0, group 0 of two. -/
def cell00 (u : FVec Ideal S512x256 .f32) (s : FVec Ideal S128x512 .f32) : FVec Ideal S128x128 .bf16 :=
  shapeCast S128x128 (truncf .bf16 (mulf (extractStridedSlice S128x128 ![0, 0] u slices_S512x256_o0_0_S128x128)
    (extractStridedSlice S128x128 ![0, 0] s slices_S128x512_o0_0_S128x128)) bitsLt_bf16_f32) shapeCasts_S128x128_S128x128

/-- That cell at an entry. -/
theorem cell00_at (u : FVec Ideal S512x256 .f32) (s : FVec Ideal S128x512 .f32) (a c : Fin 128) :
    cell00 u s (ix2 a c) = u (ix2 ⟨0 + a.val, by omega⟩ ⟨0 + c.val, by omega⟩) * s (ix2 a ⟨0 + c.val, by omega⟩) := by
  pointwise [cell00]

/-- The cell of block 1, group 0 of two. -/
def cell01 (u : FVec Ideal S512x256 .f32) (s : FVec Ideal S128x512 .f32) : FVec Ideal S128x128 .bf16 :=
  shapeCast S128x128 (truncf .bf16 (mulf (extractStridedSlice S128x128 ![128, 0] u slices_S512x256_o128_0_S128x128)
    (extractStridedSlice S128x128 ![0, 128] s slices_S128x512_o0_128_S128x128)) bitsLt_bf16_f32) shapeCasts_S128x128_S128x128

/-- That cell at an entry. -/
theorem cell01_at (u : FVec Ideal S512x256 .f32) (s : FVec Ideal S128x512 .f32) (a c : Fin 128) :
    cell01 u s (ix2 a c) = u (ix2 ⟨128 + a.val, by omega⟩ ⟨0 + c.val, by omega⟩) * s (ix2 a ⟨128 + c.val, by omega⟩) := by
  pointwise [cell01]

/-- The cell of block 2, group 0 of two. -/
def cell02 (u : FVec Ideal S512x256 .f32) (s : FVec Ideal S128x512 .f32) : FVec Ideal S128x128 .bf16 :=
  shapeCast S128x128 (truncf .bf16 (mulf (extractStridedSlice S128x128 ![256, 0] u slices_S512x256_o256_0_S128x128)
    (extractStridedSlice S128x128 ![0, 256] s slices_S128x512_o0_256_S128x128)) bitsLt_bf16_f32) shapeCasts_S128x128_S128x128

/-- That cell at an entry. -/
theorem cell02_at (u : FVec Ideal S512x256 .f32) (s : FVec Ideal S128x512 .f32) (a c : Fin 128) :
    cell02 u s (ix2 a c) = u (ix2 ⟨256 + a.val, by omega⟩ ⟨0 + c.val, by omega⟩) * s (ix2 a ⟨256 + c.val, by omega⟩) := by
  pointwise [cell02]

/-- The cell of block 3, group 0 of two. -/
def cell03 (u : FVec Ideal S512x256 .f32) (s : FVec Ideal S128x512 .f32) : FVec Ideal S128x128 .bf16 :=
  shapeCast S128x128 (truncf .bf16 (mulf (extractStridedSlice S128x128 ![384, 0] u slices_S512x256_o384_0_S128x128)
    (extractStridedSlice S128x128 ![0, 384] s slices_S128x512_o0_384_S128x128)) bitsLt_bf16_f32) shapeCasts_S128x128_S128x128

/-- That cell at an entry. -/
theorem cell03_at (u : FVec Ideal S512x256 .f32) (s : FVec Ideal S128x512 .f32) (a c : Fin 128) :
    cell03 u s (ix2 a c) = u (ix2 ⟨384 + a.val, by omega⟩ ⟨0 + c.val, by omega⟩) * s (ix2 a ⟨384 + c.val, by omega⟩) := by
  pointwise [cell03]

/-- The cell of block 0, group 1 of two. -/
def cell10 (u : FVec Ideal S512x256 .f32) (s : FVec Ideal S128x512 .f32) : FVec Ideal S128x128 .bf16 :=
  shapeCast S128x128 (truncf .bf16 (mulf (extractStridedSlice S128x128 ![0, 128] u slices_S512x256_o0_128_S128x128)
    (extractStridedSlice S128x128 ![0, 0] s slices_S128x512_o0_0_S128x128)) bitsLt_bf16_f32) shapeCasts_S128x128_S128x128

/-- That cell at an entry. -/
theorem cell10_at (u : FVec Ideal S512x256 .f32) (s : FVec Ideal S128x512 .f32) (a c : Fin 128) :
    cell10 u s (ix2 a c) = u (ix2 ⟨0 + a.val, by omega⟩ ⟨128 + c.val, by omega⟩) * s (ix2 a ⟨0 + c.val, by omega⟩) := by
  pointwise [cell10]

/-- The cell of block 1, group 1 of two. -/
def cell11 (u : FVec Ideal S512x256 .f32) (s : FVec Ideal S128x512 .f32) : FVec Ideal S128x128 .bf16 :=
  shapeCast S128x128 (truncf .bf16 (mulf (extractStridedSlice S128x128 ![128, 128] u slices_S512x256_o128_128_S128x128)
    (extractStridedSlice S128x128 ![0, 128] s slices_S128x512_o0_128_S128x128)) bitsLt_bf16_f32) shapeCasts_S128x128_S128x128

/-- That cell at an entry. -/
theorem cell11_at (u : FVec Ideal S512x256 .f32) (s : FVec Ideal S128x512 .f32) (a c : Fin 128) :
    cell11 u s (ix2 a c) = u (ix2 ⟨128 + a.val, by omega⟩ ⟨128 + c.val, by omega⟩) * s (ix2 a ⟨128 + c.val, by omega⟩) := by
  pointwise [cell11]

/-- The cell of block 2, group 1 of two. -/
def cell12 (u : FVec Ideal S512x256 .f32) (s : FVec Ideal S128x512 .f32) : FVec Ideal S128x128 .bf16 :=
  shapeCast S128x128 (truncf .bf16 (mulf (extractStridedSlice S128x128 ![256, 128] u slices_S512x256_o256_128_S128x128)
    (extractStridedSlice S128x128 ![0, 256] s slices_S128x512_o0_256_S128x128)) bitsLt_bf16_f32) shapeCasts_S128x128_S128x128

/-- That cell at an entry. -/
theorem cell12_at (u : FVec Ideal S512x256 .f32) (s : FVec Ideal S128x512 .f32) (a c : Fin 128) :
    cell12 u s (ix2 a c) = u (ix2 ⟨256 + a.val, by omega⟩ ⟨128 + c.val, by omega⟩) * s (ix2 a ⟨256 + c.val, by omega⟩) := by
  pointwise [cell12]

/-- The cell of block 3, group 1 of two. -/
def cell13 (u : FVec Ideal S512x256 .f32) (s : FVec Ideal S128x512 .f32) : FVec Ideal S128x128 .bf16 :=
  shapeCast S128x128 (truncf .bf16 (mulf (extractStridedSlice S128x128 ![384, 128] u slices_S512x256_o384_128_S128x128)
    (extractStridedSlice S128x128 ![0, 384] s slices_S128x512_o0_384_S128x128)) bitsLt_bf16_f32) shapeCasts_S128x128_S128x128

/-- That cell at an entry. -/
theorem cell13_at (u : FVec Ideal S512x256 .f32) (s : FVec Ideal S128x512 .f32) (a c : Fin 128) :
    cell13 u s (ix2 a c) = u (ix2 ⟨384 + a.val, by omega⟩ ⟨128 + c.val, by omega⟩) * s (ix2 a ⟨384 + c.val, by omega⟩) := by
  pointwise [cell13]

end Cert.SguIdeal.Layer

end
-- ==== Proof.SguValue.lean ====
/- The gating unit on one step: the gated array the stores leave, and the output block computed from it. -/
module

public import proofs.«01_k».proof.Proof.SguCells

@[expose] public section

set_option maxRecDepth 16384

noncomputable section

namespace Cert.SguIdeal.Layer
open Cert.SguIdeal Cert.SguIdeal.Gen Cert.Rows Idealize.ShloMosaic Idealize.ShloMosaic.TcCoe Idealize.SL.Sem

/-- Where an entry of a tile lies in the gated array. -/
theorem tile_at (o0 o1 : ℕ) (inb : ∀ a, (![o0, o1] : Fin 2 → ℕ) a + (![128, 128] : Fin 2 → ℕ) a ≤ S512x2048.size a) (a c : Fin 128) (h0 : o0 + 128 ≤ 512) (h1 : o1 + 128 ≤ 2048) :
    (Rect.unit (s := S512x2048) ![o0, o1] ![128, 128] inb).emb (ix2 a c) = (ix2 ⟨o0 + a.val, by omega⟩ ⟨o1 + c.val, by omega⟩ : S512x2048.Idx) := by
  funext d
  refine Fin.ext ?_
  match d with
  | 0 => show o0 + 1 * a.val = o0 + a.val; omega
  | 1 => show o1 + 1 * c.val = o1 + c.val; omega

section
variable (xn : FVec Ideal S512x1024 .bf16) (V : Vec Ideal S512x2048 .bf16) (x2 : Vec Ideal S1x1024x4096 .bf16) (x3 : Vec Ideal S1x4096 .f32)
  (x6 : Vec Ideal S16x128x128 .f32) (x7 : Vec Ideal S16x128x1 .f32)

/-- The gated array of one step. -/
def gatedArr : FVec Ideal S512x2048 .bf16 := fun i =>
  have h0 : (i 0).val < 512 := (i 0).isLt
  have h1 : (i 1).val < 2048 := (i 1).isLt
  gelu ((∑ k : Fin 1024, xn (ix2 (i 0) k) * x2 (ix3 0 k ⟨(i 1).val, by omega⟩)) + x3 (ix2 0 ⟨(i 1).val, by omega⟩))
    * ((∑ q : Fin 128, Scalar.select (mask (ix2 ⟨(i 0).val % 128, by omega⟩ q)) (x6 (ix3 ⟨(i 1).val / 128, by omega⟩ ⟨(i 0).val % 128, by omega⟩ q)
          * V (ix2 ⟨(i 0).val / 128 * 128 + q.val, by omega⟩ (i 1))) 0)
      + x7 (ix3 ⟨(i 1).val / 128, by omega⟩ ⟨(i 0).val % 128, by omega⟩ 0))

/-- The gated array at an entry of a tile. -/
theorem gatedArr_at (n g : ℕ) (hn : n < 4) (hg : g < 16) (a c : Fin 128) (r : Fin 512) (C : Fin 2048) (hr : r.val = 128 * n + a.val) (hC : C.val = 128 * g + c.val) :
    gatedArr xn V x2 x3 x6 x7 (ix2 r C) = gelu ((∑ k : Fin 1024, xn (ix2 r k) * x2 (ix3 0 k ⟨C.val, by omega⟩)) + x3 (ix2 0 ⟨C.val, by omega⟩))
      * ((∑ q : Fin 128, Scalar.select (mask (ix2 a q)) (x6 (ix3 ⟨g, hg⟩ a q) * V (ix2 ⟨128 * n + q.val, by omega⟩ C)) 0) + x7 (ix3 ⟨g, hg⟩ a 0)) := by
  have e1 : (⟨C.val / 128, by omega⟩ : Fin 16) = ⟨g, hg⟩ := Fin.ext (by show C.val / 128 = g; omega)
  have e2 : (⟨r.val % 128, by omega⟩ : Fin 128) = a := Fin.ext (by show r.val % 128 = a.val; omega)
  have e3 : ∀ q : Fin 128, (⟨r.val / 128 * 128 + q.val, by omega⟩ : Fin 512) = ⟨128 * n + q.val, by omega⟩ := fun q => Fin.ext (by show r.val / 128 * 128 + q.val = 128 * n + q.val; omega)
  show gelu _ * ((∑ q : Fin 128, Scalar.select (mask (ix2 (⟨r.val % 128, _⟩ : Fin 128) q)) (x6 (ix3 (⟨C.val / 128, _⟩ : Fin 16) (⟨r.val % 128, _⟩ : Fin 128) q)
          * V (ix2 (⟨r.val / 128 * 128 + q.val, _⟩ : Fin 512) C)) 0)
      + x7 (ix3 (⟨C.val / 128, _⟩ : Fin 16) (⟨r.val % 128, _⟩ : Fin 128) 0)) = _
  simp only [e1, e2, e3, ix2_0, ix2_1]

/-- The store of block 0 for group 0 of the pair `p`. -/
theorem store00 (p : ℕ) (hp : p < 8)
    (i2 : ∀ a, (![0, 0, 256 * p] : Fin 3 → ℕ) a + (![1, 1024, 256] : Fin 3 → ℕ) a ≤ S1x1024x4096.size a)
    (i3 : ∀ a, (![0, 256 * p] : Fin 2 → ℕ) a + (![1, 256] : Fin 2 → ℕ) a ≤ S1x4096.size a)
    (i6 : ∀ a, (![2 * p + 0, 0, 0] : Fin 3 → ℕ) a + (![1, 128, 128] : Fin 3 → ℕ) a ≤ S16x128x128.size a)
    (iv0 : ∀ a, (![0, 256 * p + 0] : Fin 2 → ℕ) a + (![128, 128] : Fin 2 → ℕ) a ≤ S512x2048.size a)
    (iv1 : ∀ a, (![128, 256 * p + 0] : Fin 2 → ℕ) a + (![128, 128] : Fin 2 → ℕ) a ≤ S512x2048.size a)
    (iv2 : ∀ a, (![256, 256 * p + 0] : Fin 2 → ℕ) a + (![128, 128] : Fin 2 → ℕ) a ≤ S512x2048.size a)
    (iv3 : ∀ a, (![384, 256 * p + 0] : Fin 2 → ℕ) a + (![128, 128] : Fin 2 → ℕ) a ≤ S512x2048.size a)
    (i7 : ∀ a, (![2 * p + 0, 0, 0] : Fin 3 → ℕ) a + (![1, 128, 1] : Fin 3 → ℕ) a ≤ S16x128x1.size a)
    (ir : ∀ a, (![0, 256 * p + 0] : Fin 2 → ℕ) a + (![128, 128] : Fin 2 → ℕ) a ≤ S512x2048.size a)
    (x : (Rect.unit (s := S512x2048) ![0, 256 * p + 0] ![128, 128] ir).shape.Idx) :
    cell00 (k0_pay106 xn (View.ld x2 (Rect.unit ![0, 0, 256 * p] ![1, 1024, 256] i2)) (View.ld x3 (Rect.unit ![0, 256 * p] ![1, 256] i3)))
      (k0_pay107 mask (View.ld x6 (Rect.unit ![2 * p + 0, 0, 0] ![1, 128, 128] i6))
        (View.ld V (Rect.unit ![0, 256 * p + 0] ![128, 128] iv0)) (View.ld V (Rect.unit ![128, 256 * p + 0] ![128, 128] iv1)) (View.ld V (Rect.unit ![256, 256 * p + 0] ![128, 128] iv2)) (View.ld V (Rect.unit ![384, 256 * p + 0] ![128, 128] iv3))
        (View.ld x7 (Rect.unit ![2 * p + 0, 0, 0] ![1, 128, 1] i7))) x
      = gatedArr xn V x2 x3 x6 x7 ((Rect.unit (s := S512x2048) ![0, 256 * p + 0] ![128, 128] ir).emb x) := by
  obtain ⟨a, c, rfl⟩ : ∃ a c : Fin 128, x = ix2 a c := ⟨x 0, x 1, eq_ix2 x⟩
  rw [tile_at 0 (256 * p + 0) ir a c (by omega) (by omega)]
  refine Eq.trans ?_ (gatedArr_at xn V x2 x3 x6 x7 0 (2 * p + 0) (by omega) (by omega) a c _ _ (by rfl) (by show 256 * p + 0 + c.val = _; omega)).symm
  rw [cell00_at, units_at, mixed0_at]
  refine congrArg₂ (· * ·) (congrArg gelu (congrArg₂ (· + ·) (Finset.sum_congr rfl fun k _ => congrArg₂ (· * ·) rfl (congrArg x2 ?_)) (congrArg x3 ?_)))
    (congrArg₂ (· + ·) (Finset.sum_congr rfl fun q _ => congrArg (Scalar.select _ · 0) (congrArg₂ (· * ·) (congrArg x6 ?_) (congrArg V ?_))) (congrArg x7 ?_))
  all_goals (funext d; fin_cases d <;> refine Fin.ext ?_)
  · rfl
  · show 0 + 1 * k.val = k.val; omega
  · show 256 * p + 1 * (0 + c.val) = 256 * p + 0 + c.val; omega
  · rfl
  · show 256 * p + 1 * (0 + c.val) = 256 * p + 0 + c.val; omega
  · show 2 * p + 0 + 1 * 0 = 2 * p + 0; omega
  · show 0 + 1 * a.val = a.val; omega
  · show 0 + 1 * q.val = q.val; omega
  · show 0 + 1 * q.val = 128 * 0 + q.val; omega
  · show 256 * p + 0 + 1 * c.val = 256 * p + 0 + c.val; omega
  · show 2 * p + 0 + 1 * 0 = 2 * p + 0; omega
  · show 0 + 1 * a.val = a.val; omega
  · rfl

/-- The store of block 1 for group 0 of the pair `p`. -/
theorem store01 (p : ℕ) (hp : p < 8)
    (i2 : ∀ a, (![0, 0, 256 * p] : Fin 3 → ℕ) a + (![1, 1024, 256] : Fin 3 → ℕ) a ≤ S1x1024x4096.size a)
    (i3 : ∀ a, (![0, 256 * p] : Fin 2 → ℕ) a + (![1, 256] : Fin 2 → ℕ) a ≤ S1x4096.size a)
    (i6 : ∀ a, (![2 * p + 0, 0, 0] : Fin 3 → ℕ) a + (![1, 128, 128] : Fin 3 → ℕ) a ≤ S16x128x128.size a)
    (iv0 : ∀ a, (![0, 256 * p + 0] : Fin 2 → ℕ) a + (![128, 128] : Fin 2 → ℕ) a ≤ S512x2048.size a)
    (iv1 : ∀ a, (![128, 256 * p + 0] : Fin 2 → ℕ) a + (![128, 128] : Fin 2 → ℕ) a ≤ S512x2048.size a)
    (iv2 : ∀ a, (![256, 256 * p + 0] : Fin 2 → ℕ) a + (![128, 128] : Fin 2 → ℕ) a ≤ S512x2048.size a)
    (iv3 : ∀ a, (![384, 256 * p + 0] : Fin 2 → ℕ) a + (![128, 128] : Fin 2 → ℕ) a ≤ S512x2048.size a)
    (i7 : ∀ a, (![2 * p + 0, 0, 0] : Fin 3 → ℕ) a + (![1, 128, 1] : Fin 3 → ℕ) a ≤ S16x128x1.size a)
    (ir : ∀ a, (![128, 256 * p + 0] : Fin 2 → ℕ) a + (![128, 128] : Fin 2 → ℕ) a ≤ S512x2048.size a)
    (x : (Rect.unit (s := S512x2048) ![128, 256 * p + 0] ![128, 128] ir).shape.Idx) :
    cell01 (k0_pay106 xn (View.ld x2 (Rect.unit ![0, 0, 256 * p] ![1, 1024, 256] i2)) (View.ld x3 (Rect.unit ![0, 256 * p] ![1, 256] i3)))
      (k0_pay107 mask (View.ld x6 (Rect.unit ![2 * p + 0, 0, 0] ![1, 128, 128] i6))
        (View.ld V (Rect.unit ![0, 256 * p + 0] ![128, 128] iv0)) (View.ld V (Rect.unit ![128, 256 * p + 0] ![128, 128] iv1)) (View.ld V (Rect.unit ![256, 256 * p + 0] ![128, 128] iv2)) (View.ld V (Rect.unit ![384, 256 * p + 0] ![128, 128] iv3))
        (View.ld x7 (Rect.unit ![2 * p + 0, 0, 0] ![1, 128, 1] i7))) x
      = gatedArr xn V x2 x3 x6 x7 ((Rect.unit (s := S512x2048) ![128, 256 * p + 0] ![128, 128] ir).emb x) := by
  obtain ⟨a, c, rfl⟩ : ∃ a c : Fin 128, x = ix2 a c := ⟨x 0, x 1, eq_ix2 x⟩
  rw [tile_at 128 (256 * p + 0) ir a c (by omega) (by omega)]
  refine Eq.trans ?_ (gatedArr_at xn V x2 x3 x6 x7 1 (2 * p + 0) (by omega) (by omega) a c _ _ (by rfl) (by show 256 * p + 0 + c.val = _; omega)).symm
  rw [cell01_at, units_at, mixed1_at]
  refine congrArg₂ (· * ·) (congrArg gelu (congrArg₂ (· + ·) (Finset.sum_congr rfl fun k _ => congrArg₂ (· * ·) rfl (congrArg x2 ?_)) (congrArg x3 ?_)))
    (congrArg₂ (· + ·) (Finset.sum_congr rfl fun q _ => congrArg (Scalar.select _ · 0) (congrArg₂ (· * ·) (congrArg x6 ?_) (congrArg V ?_))) (congrArg x7 ?_))
  all_goals (funext d; fin_cases d <;> refine Fin.ext ?_)
  · rfl
  · show 0 + 1 * k.val = k.val; omega
  · show 256 * p + 1 * (0 + c.val) = 256 * p + 0 + c.val; omega
  · rfl
  · show 256 * p + 1 * (0 + c.val) = 256 * p + 0 + c.val; omega
  · show 2 * p + 0 + 1 * 0 = 2 * p + 0; omega
  · show 0 + 1 * a.val = a.val; omega
  · show 0 + 1 * q.val = q.val; omega
  · show 128 + 1 * q.val = 128 * 1 + q.val; omega
  · show 256 * p + 0 + 1 * c.val = 256 * p + 0 + c.val; omega
  · show 2 * p + 0 + 1 * 0 = 2 * p + 0; omega
  · show 0 + 1 * a.val = a.val; omega
  · rfl

/-- The store of block 2 for group 0 of the pair `p`. -/
theorem store02 (p : ℕ) (hp : p < 8)
    (i2 : ∀ a, (![0, 0, 256 * p] : Fin 3 → ℕ) a + (![1, 1024, 256] : Fin 3 → ℕ) a ≤ S1x1024x4096.size a)
    (i3 : ∀ a, (![0, 256 * p] : Fin 2 → ℕ) a + (![1, 256] : Fin 2 → ℕ) a ≤ S1x4096.size a)
    (i6 : ∀ a, (![2 * p + 0, 0, 0] : Fin 3 → ℕ) a + (![1, 128, 128] : Fin 3 → ℕ) a ≤ S16x128x128.size a)
    (iv0 : ∀ a, (![0, 256 * p + 0] : Fin 2 → ℕ) a + (![128, 128] : Fin 2 → ℕ) a ≤ S512x2048.size a)
    (iv1 : ∀ a, (![128, 256 * p + 0] : Fin 2 → ℕ) a + (![128, 128] : Fin 2 → ℕ) a ≤ S512x2048.size a)
    (iv2 : ∀ a, (![256, 256 * p + 0] : Fin 2 → ℕ) a + (![128, 128] : Fin 2 → ℕ) a ≤ S512x2048.size a)
    (iv3 : ∀ a, (![384, 256 * p + 0] : Fin 2 → ℕ) a + (![128, 128] : Fin 2 → ℕ) a ≤ S512x2048.size a)
    (i7 : ∀ a, (![2 * p + 0, 0, 0] : Fin 3 → ℕ) a + (![1, 128, 1] : Fin 3 → ℕ) a ≤ S16x128x1.size a)
    (ir : ∀ a, (![256, 256 * p + 0] : Fin 2 → ℕ) a + (![128, 128] : Fin 2 → ℕ) a ≤ S512x2048.size a)
    (x : (Rect.unit (s := S512x2048) ![256, 256 * p + 0] ![128, 128] ir).shape.Idx) :
    cell02 (k0_pay106 xn (View.ld x2 (Rect.unit ![0, 0, 256 * p] ![1, 1024, 256] i2)) (View.ld x3 (Rect.unit ![0, 256 * p] ![1, 256] i3)))
      (k0_pay107 mask (View.ld x6 (Rect.unit ![2 * p + 0, 0, 0] ![1, 128, 128] i6))
        (View.ld V (Rect.unit ![0, 256 * p + 0] ![128, 128] iv0)) (View.ld V (Rect.unit ![128, 256 * p + 0] ![128, 128] iv1)) (View.ld V (Rect.unit ![256, 256 * p + 0] ![128, 128] iv2)) (View.ld V (Rect.unit ![384, 256 * p + 0] ![128, 128] iv3))
        (View.ld x7 (Rect.unit ![2 * p + 0, 0, 0] ![1, 128, 1] i7))) x
      = gatedArr xn V x2 x3 x6 x7 ((Rect.unit (s := S512x2048) ![256, 256 * p + 0] ![128, 128] ir).emb x) := by
  obtain ⟨a, c, rfl⟩ : ∃ a c : Fin 128, x = ix2 a c := ⟨x 0, x 1, eq_ix2 x⟩
  rw [tile_at 256 (256 * p + 0) ir a c (by omega) (by omega)]
  refine Eq.trans ?_ (gatedArr_at xn V x2 x3 x6 x7 2 (2 * p + 0) (by omega) (by omega) a c _ _ (by rfl) (by show 256 * p + 0 + c.val = _; omega)).symm
  rw [cell02_at, units_at, mixed2_at]
  refine congrArg₂ (· * ·) (congrArg gelu (congrArg₂ (· + ·) (Finset.sum_congr rfl fun k _ => congrArg₂ (· * ·) rfl (congrArg x2 ?_)) (congrArg x3 ?_)))
    (congrArg₂ (· + ·) (Finset.sum_congr rfl fun q _ => congrArg (Scalar.select _ · 0) (congrArg₂ (· * ·) (congrArg x6 ?_) (congrArg V ?_))) (congrArg x7 ?_))
  all_goals (funext d; fin_cases d <;> refine Fin.ext ?_)
  · rfl
  · show 0 + 1 * k.val = k.val; omega
  · show 256 * p + 1 * (0 + c.val) = 256 * p + 0 + c.val; omega
  · rfl
  · show 256 * p + 1 * (0 + c.val) = 256 * p + 0 + c.val; omega
  · show 2 * p + 0 + 1 * 0 = 2 * p + 0; omega
  · show 0 + 1 * a.val = a.val; omega
  · show 0 + 1 * q.val = q.val; omega
  · show 256 + 1 * q.val = 128 * 2 + q.val; omega
  · show 256 * p + 0 + 1 * c.val = 256 * p + 0 + c.val; omega
  · show 2 * p + 0 + 1 * 0 = 2 * p + 0; omega
  · show 0 + 1 * a.val = a.val; omega
  · rfl

/-- The store of block 3 for group 0 of the pair `p`. -/
theorem store03 (p : ℕ) (hp : p < 8)
    (i2 : ∀ a, (![0, 0, 256 * p] : Fin 3 → ℕ) a + (![1, 1024, 256] : Fin 3 → ℕ) a ≤ S1x1024x4096.size a)
    (i3 : ∀ a, (![0, 256 * p] : Fin 2 → ℕ) a + (![1, 256] : Fin 2 → ℕ) a ≤ S1x4096.size a)
    (i6 : ∀ a, (![2 * p + 0, 0, 0] : Fin 3 → ℕ) a + (![1, 128, 128] : Fin 3 → ℕ) a ≤ S16x128x128.size a)
    (iv0 : ∀ a, (![0, 256 * p + 0] : Fin 2 → ℕ) a + (![128, 128] : Fin 2 → ℕ) a ≤ S512x2048.size a)
    (iv1 : ∀ a, (![128, 256 * p + 0] : Fin 2 → ℕ) a + (![128, 128] : Fin 2 → ℕ) a ≤ S512x2048.size a)
    (iv2 : ∀ a, (![256, 256 * p + 0] : Fin 2 → ℕ) a + (![128, 128] : Fin 2 → ℕ) a ≤ S512x2048.size a)
    (iv3 : ∀ a, (![384, 256 * p + 0] : Fin 2 → ℕ) a + (![128, 128] : Fin 2 → ℕ) a ≤ S512x2048.size a)
    (i7 : ∀ a, (![2 * p + 0, 0, 0] : Fin 3 → ℕ) a + (![1, 128, 1] : Fin 3 → ℕ) a ≤ S16x128x1.size a)
    (ir : ∀ a, (![384, 256 * p + 0] : Fin 2 → ℕ) a + (![128, 128] : Fin 2 → ℕ) a ≤ S512x2048.size a)
    (x : (Rect.unit (s := S512x2048) ![384, 256 * p + 0] ![128, 128] ir).shape.Idx) :
    cell03 (k0_pay106 xn (View.ld x2 (Rect.unit ![0, 0, 256 * p] ![1, 1024, 256] i2)) (View.ld x3 (Rect.unit ![0, 256 * p] ![1, 256] i3)))
      (k0_pay107 mask (View.ld x6 (Rect.unit ![2 * p + 0, 0, 0] ![1, 128, 128] i6))
        (View.ld V (Rect.unit ![0, 256 * p + 0] ![128, 128] iv0)) (View.ld V (Rect.unit ![128, 256 * p + 0] ![128, 128] iv1)) (View.ld V (Rect.unit ![256, 256 * p + 0] ![128, 128] iv2)) (View.ld V (Rect.unit ![384, 256 * p + 0] ![128, 128] iv3))
        (View.ld x7 (Rect.unit ![2 * p + 0, 0, 0] ![1, 128, 1] i7))) x
      = gatedArr xn V x2 x3 x6 x7 ((Rect.unit (s := S512x2048) ![384, 256 * p + 0] ![128, 128] ir).emb x) := by
  obtain ⟨a, c, rfl⟩ : ∃ a c : Fin 128, x = ix2 a c := ⟨x 0, x 1, eq_ix2 x⟩
  rw [tile_at 384 (256 * p + 0) ir a c (by omega) (by omega)]
  refine Eq.trans ?_ (gatedArr_at xn V x2 x3 x6 x7 3 (2 * p + 0) (by omega) (by omega) a c _ _ (by rfl) (by show 256 * p + 0 + c.val = _; omega)).symm
  rw [cell03_at, units_at, mixed3_at]
  refine congrArg₂ (· * ·) (congrArg gelu (congrArg₂ (· + ·) (Finset.sum_congr rfl fun k _ => congrArg₂ (· * ·) rfl (congrArg x2 ?_)) (congrArg x3 ?_)))
    (congrArg₂ (· + ·) (Finset.sum_congr rfl fun q _ => congrArg (Scalar.select _ · 0) (congrArg₂ (· * ·) (congrArg x6 ?_) (congrArg V ?_))) (congrArg x7 ?_))
  all_goals (funext d; fin_cases d <;> refine Fin.ext ?_)
  · rfl
  · show 0 + 1 * k.val = k.val; omega
  · show 256 * p + 1 * (0 + c.val) = 256 * p + 0 + c.val; omega
  · rfl
  · show 256 * p + 1 * (0 + c.val) = 256 * p + 0 + c.val; omega
  · show 2 * p + 0 + 1 * 0 = 2 * p + 0; omega
  · show 0 + 1 * a.val = a.val; omega
  · show 0 + 1 * q.val = q.val; omega
  · show 384 + 1 * q.val = 128 * 3 + q.val; omega
  · show 256 * p + 0 + 1 * c.val = 256 * p + 0 + c.val; omega
  · show 2 * p + 0 + 1 * 0 = 2 * p + 0; omega
  · show 0 + 1 * a.val = a.val; omega
  · rfl

/-- The store of block 0 for group 1 of the pair `p`. -/
theorem store10 (p : ℕ) (hp : p < 8)
    (i2 : ∀ a, (![0, 0, 256 * p] : Fin 3 → ℕ) a + (![1, 1024, 256] : Fin 3 → ℕ) a ≤ S1x1024x4096.size a)
    (i3 : ∀ a, (![0, 256 * p] : Fin 2 → ℕ) a + (![1, 256] : Fin 2 → ℕ) a ≤ S1x4096.size a)
    (i6 : ∀ a, (![2 * p + 1, 0, 0] : Fin 3 → ℕ) a + (![1, 128, 128] : Fin 3 → ℕ) a ≤ S16x128x128.size a)
    (iv0 : ∀ a, (![0, 256 * p + 128] : Fin 2 → ℕ) a + (![128, 128] : Fin 2 → ℕ) a ≤ S512x2048.size a)
    (iv1 : ∀ a, (![128, 256 * p + 128] : Fin 2 → ℕ) a + (![128, 128] : Fin 2 → ℕ) a ≤ S512x2048.size a)
    (iv2 : ∀ a, (![256, 256 * p + 128] : Fin 2 → ℕ) a + (![128, 128] : Fin 2 → ℕ) a ≤ S512x2048.size a)
    (iv3 : ∀ a, (![384, 256 * p + 128] : Fin 2 → ℕ) a + (![128, 128] : Fin 2 → ℕ) a ≤ S512x2048.size a)
    (i7 : ∀ a, (![2 * p + 1, 0, 0] : Fin 3 → ℕ) a + (![1, 128, 1] : Fin 3 → ℕ) a ≤ S16x128x1.size a)
    (ir : ∀ a, (![0, 256 * p + 128] : Fin 2 → ℕ) a + (![128, 128] : Fin 2 → ℕ) a ≤ S512x2048.size a)
    (x : (Rect.unit (s := S512x2048) ![0, 256 * p + 128] ![128, 128] ir).shape.Idx) :
    cell10 (k0_pay106 xn (View.ld x2 (Rect.unit ![0, 0, 256 * p] ![1, 1024, 256] i2)) (View.ld x3 (Rect.unit ![0, 256 * p] ![1, 256] i3)))
      (k0_pay107 mask (View.ld x6 (Rect.unit ![2 * p + 1, 0, 0] ![1, 128, 128] i6))
        (View.ld V (Rect.unit ![0, 256 * p + 128] ![128, 128] iv0)) (View.ld V (Rect.unit ![128, 256 * p + 128] ![128, 128] iv1)) (View.ld V (Rect.unit ![256, 256 * p + 128] ![128, 128] iv2)) (View.ld V (Rect.unit ![384, 256 * p + 128] ![128, 128] iv3))
        (View.ld x7 (Rect.unit ![2 * p + 1, 0, 0] ![1, 128, 1] i7))) x
      = gatedArr xn V x2 x3 x6 x7 ((Rect.unit (s := S512x2048) ![0, 256 * p + 128] ![128, 128] ir).emb x) := by
  obtain ⟨a, c, rfl⟩ : ∃ a c : Fin 128, x = ix2 a c := ⟨x 0, x 1, eq_ix2 x⟩
  rw [tile_at 0 (256 * p + 128) ir a c (by omega) (by omega)]
  refine Eq.trans ?_ (gatedArr_at xn V x2 x3 x6 x7 0 (2 * p + 1) (by omega) (by omega) a c _ _ (by rfl) (by show 256 * p + 128 + c.val = _; omega)).symm
  rw [cell10_at, units_at, mixed0_at]
  refine congrArg₂ (· * ·) (congrArg gelu (congrArg₂ (· + ·) (Finset.sum_congr rfl fun k _ => congrArg₂ (· * ·) rfl (congrArg x2 ?_)) (congrArg x3 ?_)))
    (congrArg₂ (· + ·) (Finset.sum_congr rfl fun q _ => congrArg (Scalar.select _ · 0) (congrArg₂ (· * ·) (congrArg x6 ?_) (congrArg V ?_))) (congrArg x7 ?_))
  all_goals (funext d; fin_cases d <;> refine Fin.ext ?_)
  · rfl
  · show 0 + 1 * k.val = k.val; omega
  · show 256 * p + 1 * (128 + c.val) = 256 * p + 128 + c.val; omega
  · rfl
  · show 256 * p + 1 * (128 + c.val) = 256 * p + 128 + c.val; omega
  · show 2 * p + 1 + 1 * 0 = 2 * p + 1; omega
  · show 0 + 1 * a.val = a.val; omega
  · show 0 + 1 * q.val = q.val; omega
  · show 0 + 1 * q.val = 128 * 0 + q.val; omega
  · show 256 * p + 128 + 1 * c.val = 256 * p + 128 + c.val; omega
  · show 2 * p + 1 + 1 * 0 = 2 * p + 1; omega
  · show 0 + 1 * a.val = a.val; omega
  · rfl

/-- The store of block 1 for group 1 of the pair `p`. -/
theorem store11 (p : ℕ) (hp : p < 8)
    (i2 : ∀ a, (![0, 0, 256 * p] : Fin 3 → ℕ) a + (![1, 1024, 256] : Fin 3 → ℕ) a ≤ S1x1024x4096.size a)
    (i3 : ∀ a, (![0, 256 * p] : Fin 2 → ℕ) a + (![1, 256] : Fin 2 → ℕ) a ≤ S1x4096.size a)
    (i6 : ∀ a, (![2 * p + 1, 0, 0] : Fin 3 → ℕ) a + (![1, 128, 128] : Fin 3 → ℕ) a ≤ S16x128x128.size a)
    (iv0 : ∀ a, (![0, 256 * p + 128] : Fin 2 → ℕ) a + (![128, 128] : Fin 2 → ℕ) a ≤ S512x2048.size a)
    (iv1 : ∀ a, (![128, 256 * p + 128] : Fin 2 → ℕ) a + (![128, 128] : Fin 2 → ℕ) a ≤ S512x2048.size a)
    (iv2 : ∀ a, (![256, 256 * p + 128] : Fin 2 → ℕ) a + (![128, 128] : Fin 2 → ℕ) a ≤ S512x2048.size a)
    (iv3 : ∀ a, (![384, 256 * p + 128] : Fin 2 → ℕ) a + (![128, 128] : Fin 2 → ℕ) a ≤ S512x2048.size a)
    (i7 : ∀ a, (![2 * p + 1, 0, 0] : Fin 3 → ℕ) a + (![1, 128, 1] : Fin 3 → ℕ) a ≤ S16x128x1.size a)
    (ir : ∀ a, (![128, 256 * p + 128] : Fin 2 → ℕ) a + (![128, 128] : Fin 2 → ℕ) a ≤ S512x2048.size a)
    (x : (Rect.unit (s := S512x2048) ![128, 256 * p + 128] ![128, 128] ir).shape.Idx) :
    cell11 (k0_pay106 xn (View.ld x2 (Rect.unit ![0, 0, 256 * p] ![1, 1024, 256] i2)) (View.ld x3 (Rect.unit ![0, 256 * p] ![1, 256] i3)))
      (k0_pay107 mask (View.ld x6 (Rect.unit ![2 * p + 1, 0, 0] ![1, 128, 128] i6))
        (View.ld V (Rect.unit ![0, 256 * p + 128] ![128, 128] iv0)) (View.ld V (Rect.unit ![128, 256 * p + 128] ![128, 128] iv1)) (View.ld V (Rect.unit ![256, 256 * p + 128] ![128, 128] iv2)) (View.ld V (Rect.unit ![384, 256 * p + 128] ![128, 128] iv3))
        (View.ld x7 (Rect.unit ![2 * p + 1, 0, 0] ![1, 128, 1] i7))) x
      = gatedArr xn V x2 x3 x6 x7 ((Rect.unit (s := S512x2048) ![128, 256 * p + 128] ![128, 128] ir).emb x) := by
  obtain ⟨a, c, rfl⟩ : ∃ a c : Fin 128, x = ix2 a c := ⟨x 0, x 1, eq_ix2 x⟩
  rw [tile_at 128 (256 * p + 128) ir a c (by omega) (by omega)]
  refine Eq.trans ?_ (gatedArr_at xn V x2 x3 x6 x7 1 (2 * p + 1) (by omega) (by omega) a c _ _ (by rfl) (by show 256 * p + 128 + c.val = _; omega)).symm
  rw [cell11_at, units_at, mixed1_at]
  refine congrArg₂ (· * ·) (congrArg gelu (congrArg₂ (· + ·) (Finset.sum_congr rfl fun k _ => congrArg₂ (· * ·) rfl (congrArg x2 ?_)) (congrArg x3 ?_)))
    (congrArg₂ (· + ·) (Finset.sum_congr rfl fun q _ => congrArg (Scalar.select _ · 0) (congrArg₂ (· * ·) (congrArg x6 ?_) (congrArg V ?_))) (congrArg x7 ?_))
  all_goals (funext d; fin_cases d <;> refine Fin.ext ?_)
  · rfl
  · show 0 + 1 * k.val = k.val; omega
  · show 256 * p + 1 * (128 + c.val) = 256 * p + 128 + c.val; omega
  · rfl
  · show 256 * p + 1 * (128 + c.val) = 256 * p + 128 + c.val; omega
  · show 2 * p + 1 + 1 * 0 = 2 * p + 1; omega
  · show 0 + 1 * a.val = a.val; omega
  · show 0 + 1 * q.val = q.val; omega
  · show 128 + 1 * q.val = 128 * 1 + q.val; omega
  · show 256 * p + 128 + 1 * c.val = 256 * p + 128 + c.val; omega
  · show 2 * p + 1 + 1 * 0 = 2 * p + 1; omega
  · show 0 + 1 * a.val = a.val; omega
  · rfl

/-- The store of block 2 for group 1 of the pair `p`. -/
theorem store12 (p : ℕ) (hp : p < 8)
    (i2 : ∀ a, (![0, 0, 256 * p] : Fin 3 → ℕ) a + (![1, 1024, 256] : Fin 3 → ℕ) a ≤ S1x1024x4096.size a)
    (i3 : ∀ a, (![0, 256 * p] : Fin 2 → ℕ) a + (![1, 256] : Fin 2 → ℕ) a ≤ S1x4096.size a)
    (i6 : ∀ a, (![2 * p + 1, 0, 0] : Fin 3 → ℕ) a + (![1, 128, 128] : Fin 3 → ℕ) a ≤ S16x128x128.size a)
    (iv0 : ∀ a, (![0, 256 * p + 128] : Fin 2 → ℕ) a + (![128, 128] : Fin 2 → ℕ) a ≤ S512x2048.size a)
    (iv1 : ∀ a, (![128, 256 * p + 128] : Fin 2 → ℕ) a + (![128, 128] : Fin 2 → ℕ) a ≤ S512x2048.size a)
    (iv2 : ∀ a, (![256, 256 * p + 128] : Fin 2 → ℕ) a + (![128, 128] : Fin 2 → ℕ) a ≤ S512x2048.size a)
    (iv3 : ∀ a, (![384, 256 * p + 128] : Fin 2 → ℕ) a + (![128, 128] : Fin 2 → ℕ) a ≤ S512x2048.size a)
    (i7 : ∀ a, (![2 * p + 1, 0, 0] : Fin 3 → ℕ) a + (![1, 128, 1] : Fin 3 → ℕ) a ≤ S16x128x1.size a)
    (ir : ∀ a, (![256, 256 * p + 128] : Fin 2 → ℕ) a + (![128, 128] : Fin 2 → ℕ) a ≤ S512x2048.size a)
    (x : (Rect.unit (s := S512x2048) ![256, 256 * p + 128] ![128, 128] ir).shape.Idx) :
    cell12 (k0_pay106 xn (View.ld x2 (Rect.unit ![0, 0, 256 * p] ![1, 1024, 256] i2)) (View.ld x3 (Rect.unit ![0, 256 * p] ![1, 256] i3)))
      (k0_pay107 mask (View.ld x6 (Rect.unit ![2 * p + 1, 0, 0] ![1, 128, 128] i6))
        (View.ld V (Rect.unit ![0, 256 * p + 128] ![128, 128] iv0)) (View.ld V (Rect.unit ![128, 256 * p + 128] ![128, 128] iv1)) (View.ld V (Rect.unit ![256, 256 * p + 128] ![128, 128] iv2)) (View.ld V (Rect.unit ![384, 256 * p + 128] ![128, 128] iv3))
        (View.ld x7 (Rect.unit ![2 * p + 1, 0, 0] ![1, 128, 1] i7))) x
      = gatedArr xn V x2 x3 x6 x7 ((Rect.unit (s := S512x2048) ![256, 256 * p + 128] ![128, 128] ir).emb x) := by
  obtain ⟨a, c, rfl⟩ : ∃ a c : Fin 128, x = ix2 a c := ⟨x 0, x 1, eq_ix2 x⟩
  rw [tile_at 256 (256 * p + 128) ir a c (by omega) (by omega)]
  refine Eq.trans ?_ (gatedArr_at xn V x2 x3 x6 x7 2 (2 * p + 1) (by omega) (by omega) a c _ _ (by rfl) (by show 256 * p + 128 + c.val = _; omega)).symm
  rw [cell12_at, units_at, mixed2_at]
  refine congrArg₂ (· * ·) (congrArg gelu (congrArg₂ (· + ·) (Finset.sum_congr rfl fun k _ => congrArg₂ (· * ·) rfl (congrArg x2 ?_)) (congrArg x3 ?_)))
    (congrArg₂ (· + ·) (Finset.sum_congr rfl fun q _ => congrArg (Scalar.select _ · 0) (congrArg₂ (· * ·) (congrArg x6 ?_) (congrArg V ?_))) (congrArg x7 ?_))
  all_goals (funext d; fin_cases d <;> refine Fin.ext ?_)
  · rfl
  · show 0 + 1 * k.val = k.val; omega
  · show 256 * p + 1 * (128 + c.val) = 256 * p + 128 + c.val; omega
  · rfl
  · show 256 * p + 1 * (128 + c.val) = 256 * p + 128 + c.val; omega
  · show 2 * p + 1 + 1 * 0 = 2 * p + 1; omega
  · show 0 + 1 * a.val = a.val; omega
  · show 0 + 1 * q.val = q.val; omega
  · show 256 + 1 * q.val = 128 * 2 + q.val; omega
  · show 256 * p + 128 + 1 * c.val = 256 * p + 128 + c.val; omega
  · show 2 * p + 1 + 1 * 0 = 2 * p + 1; omega
  · show 0 + 1 * a.val = a.val; omega
  · rfl

/-- The store of block 3 for group 1 of the pair `p`. -/
theorem store13 (p : ℕ) (hp : p < 8)
    (i2 : ∀ a, (![0, 0, 256 * p] : Fin 3 → ℕ) a + (![1, 1024, 256] : Fin 3 → ℕ) a ≤ S1x1024x4096.size a)
    (i3 : ∀ a, (![0, 256 * p] : Fin 2 → ℕ) a + (![1, 256] : Fin 2 → ℕ) a ≤ S1x4096.size a)
    (i6 : ∀ a, (![2 * p + 1, 0, 0] : Fin 3 → ℕ) a + (![1, 128, 128] : Fin 3 → ℕ) a ≤ S16x128x128.size a)
    (iv0 : ∀ a, (![0, 256 * p + 128] : Fin 2 → ℕ) a + (![128, 128] : Fin 2 → ℕ) a ≤ S512x2048.size a)
    (iv1 : ∀ a, (![128, 256 * p + 128] : Fin 2 → ℕ) a + (![128, 128] : Fin 2 → ℕ) a ≤ S512x2048.size a)
    (iv2 : ∀ a, (![256, 256 * p + 128] : Fin 2 → ℕ) a + (![128, 128] : Fin 2 → ℕ) a ≤ S512x2048.size a)
    (iv3 : ∀ a, (![384, 256 * p + 128] : Fin 2 → ℕ) a + (![128, 128] : Fin 2 → ℕ) a ≤ S512x2048.size a)
    (i7 : ∀ a, (![2 * p + 1, 0, 0] : Fin 3 → ℕ) a + (![1, 128, 1] : Fin 3 → ℕ) a ≤ S16x128x1.size a)
    (ir : ∀ a, (![384, 256 * p + 128] : Fin 2 → ℕ) a + (![128, 128] : Fin 2 → ℕ) a ≤ S512x2048.size a)
    (x : (Rect.unit (s := S512x2048) ![384, 256 * p + 128] ![128, 128] ir).shape.Idx) :
    cell13 (k0_pay106 xn (View.ld x2 (Rect.unit ![0, 0, 256 * p] ![1, 1024, 256] i2)) (View.ld x3 (Rect.unit ![0, 256 * p] ![1, 256] i3)))
      (k0_pay107 mask (View.ld x6 (Rect.unit ![2 * p + 1, 0, 0] ![1, 128, 128] i6))
        (View.ld V (Rect.unit ![0, 256 * p + 128] ![128, 128] iv0)) (View.ld V (Rect.unit ![128, 256 * p + 128] ![128, 128] iv1)) (View.ld V (Rect.unit ![256, 256 * p + 128] ![128, 128] iv2)) (View.ld V (Rect.unit ![384, 256 * p + 128] ![128, 128] iv3))
        (View.ld x7 (Rect.unit ![2 * p + 1, 0, 0] ![1, 128, 1] i7))) x
      = gatedArr xn V x2 x3 x6 x7 ((Rect.unit (s := S512x2048) ![384, 256 * p + 128] ![128, 128] ir).emb x) := by
  obtain ⟨a, c, rfl⟩ : ∃ a c : Fin 128, x = ix2 a c := ⟨x 0, x 1, eq_ix2 x⟩
  rw [tile_at 384 (256 * p + 128) ir a c (by omega) (by omega)]
  refine Eq.trans ?_ (gatedArr_at xn V x2 x3 x6 x7 3 (2 * p + 1) (by omega) (by omega) a c _ _ (by rfl) (by show 256 * p + 128 + c.val = _; omega)).symm
  rw [cell13_at, units_at, mixed3_at]
  refine congrArg₂ (· * ·) (congrArg gelu (congrArg₂ (· + ·) (Finset.sum_congr rfl fun k _ => congrArg₂ (· * ·) rfl (congrArg x2 ?_)) (congrArg x3 ?_)))
    (congrArg₂ (· + ·) (Finset.sum_congr rfl fun q _ => congrArg (Scalar.select _ · 0) (congrArg₂ (· * ·) (congrArg x6 ?_) (congrArg V ?_))) (congrArg x7 ?_))
  all_goals (funext d; fin_cases d <;> refine Fin.ext ?_)
  · rfl
  · show 0 + 1 * k.val = k.val; omega
  · show 256 * p + 1 * (128 + c.val) = 256 * p + 128 + c.val; omega
  · rfl
  · show 256 * p + 1 * (128 + c.val) = 256 * p + 128 + c.val; omega
  · show 2 * p + 1 + 1 * 0 = 2 * p + 1; omega
  · show 0 + 1 * a.val = a.val; omega
  · show 0 + 1 * q.val = q.val; omega
  · show 384 + 1 * q.val = 128 * 3 + q.val; omega
  · show 256 * p + 128 + 1 * c.val = 256 * p + 128 + c.val; omega
  · show 2 * p + 1 + 1 * 0 = 2 * p + 1; omega
  · show 0 + 1 * a.val = a.val; omega
  · rfl

/-- One element of the output block, over the first part of the kernel. -/
theorem last_at (v1 : FVec Ideal S512x1024 .f32) (Y : FVec Ideal S512x2048 .bf16) (W : Vec Ideal S1x2048x1024 .bf16) (a : Fin 512) (j : Fin 1024) :
    k0_pay2 v1 Y W (ix2 a j) = v1 (ix2 a j) + ∑ k : Fin 2048, Y (ix2 a k) * W (ix3 0 k j) := by
  pointwise [k0_pay2]

end

variable (m : (ℓ : Loc nD τ sig) → Buf (Elt Ideal) ℓ)

/-- The normalized second half of the units on one step, over the input blocks. -/
def sguRow (x0 : Vec Ideal S512x1024 .f32) (x1 : Vec Ideal S1x1024 .f32) (x2 : Vec Ideal S1x1024x4096 .bf16) (x3 : Vec Ideal S1x4096 .f32) (x4 x5 : Vec Ideal S1x2048 .f32) : Vec Ideal S512x2048 .bf16 :=
  have w := View.ld x2 (Rect.unit ![0, 0, 2048] ![1, 1024, 2048] inb_S1x1024x4096_S1x1024x2048_0_0_2048)
  have b := View.ld x3 (Rect.unit ![0, 2048] ![1, 2048] inb_S1x4096_S1x2048_0_2048)
  k0_pay8 (k0_pay5 x0 x1 w b) (k0_pay6 x0 x1 w b) (k0_pay7 x0 x1 w b) (Scalar.ofBits .f32 0x45000000#32) x4 x5

section
variable (x0 : Vec Ideal S512x1024 .f32) (x1 : Vec Ideal S1x1024 .f32) (w : Vec Ideal S1x1024x2048 .bf16) (b : Vec Ideal S1x2048 .f32) (x2 : Vec Ideal S1x1024x4096 .bf16) (x3 : Vec Ideal S1x4096 .f32) (x4 x5 : Vec Ideal S1x2048 .f32)

/-- The kernel's normalized input row. -/
theorem norm_at (a : Fin 512) (k : Fin 1024) : k0_pay4 x0 x1 (ix2 a k) = rms (fun k => x0 (ix2 a k)) (fun k => x1 (ix2 0 k)) k := by
  pointwise [k0_pay4, k0_pay3, rms, rmsScale]

/-- The second half of the units. -/
theorem half_at (a : Fin 512) (j : Fin 2048) : k0_pay5 x0 x1 w b (ix2 a j)
    = gelu ((∑ k : Fin 1024, rms (fun k => x0 (ix2 a k)) (fun k => x1 (ix2 0 k)) k * w (ix3 0 k j)) + b (ix2 0 j)) := by
  pointwise [k0_pay5, norm_at, gelu]
  rw [mul_comm (Ideal.ofBits .f32 0x3F000000#32)]
  rfl

/-- The row mean. -/
theorem mean_at (a : Fin 512) (r : Fin 1) : k0_pay6 x0 x1 w b (ix2 a r) = Ideal.div (∑ j : Fin 2048, k0_pay5 x0 x1 w b (ix2 a j)) (Ideal.ofBits .f32 0x45000000#32) := by
  pointwise [k0_pay6]

/-- The row's sum of squares. -/
theorem sq_at (a : Fin 512) (r : Fin 1) : k0_pay7 x0 x1 w b (ix2 a r) = ∑ j : Fin 2048, k0_pay5 x0 x1 w b (ix2 a j) * k0_pay5 x0 x1 w b (ix2 a j) := by
  pointwise [k0_pay7]

/-- The normalized second half. -/
theorem lnorm_at (a : Fin 512) (j : Fin 2048) : sguRow x0 x1 x2 x3 x4 x5 (ix2 a j)
    = (fun z => lnorm (varK z) z) (fun j : Fin 2048 => gelu ((∑ k : Fin 1024, rms (fun k => x0 (ix2 a k)) (fun k => x1 (ix2 0 k)) k * x2 (ix3 0 k ⟨2048 + j.val, by omega⟩)) + x3 (ix2 0 ⟨2048 + j.val, by omega⟩)))
      (fun j => x4 (ix2 0 j)) (fun j => x5 (ix2 0 j)) j := by
  have ew : ∀ k j, View.ld x2 (Rect.unit ![0, 0, 2048] ![1, 1024, 2048] inb_S1x1024x4096_S1x1024x2048_0_0_2048) (ix3 0 k j) = x2 (ix3 0 k ⟨2048 + j.val, by omega⟩) := fun k j => congrArg x2 (by
    funext d; refine Fin.ext ?_
    match d with
    | 0 => rfl
    | 1 => show 0 + 1 * k.val = k.val; omega
    | 2 => show 2048 + 1 * j.val = 2048 + j.val; omega)
  have eb : ∀ j, View.ld x3 (Rect.unit ![0, 2048] ![1, 2048] inb_S1x4096_S1x2048_0_2048) (ix2 0 j) = x3 (ix2 0 ⟨2048 + j.val, by omega⟩) := fun j => congrArg x3 (by
    funext d; refine Fin.ext ?_
    match d with
    | 0 => rfl
    | 1 => show 2048 + 1 * j.val = 2048 + j.val; omega)
  simp only [← ew, ← eb, ← half_at x0 x1]
  unfold sguRow
  pointwise [k0_pay8, mean_at, sq_at, lnorm, varK, mean]

end

/-- One element of the output block of a step, over the input blocks: the skip entry, plus the gated array times the last matrix. -/
theorem out_at (c : Dev nD) (t : Fin cfg0.N) (a : Fin 512) (j : Fin 1024) :
    (show FVec Ideal S512x1024 .f32 from outsAt0 m c t) (ix2 a j)
      = k0_pay3 (iblk m c 0 t) (ix2 a j) + ∑ k : Fin 2048, gatedArr (k0_pay4 (iblk m c 0 t) (iblk m c 1 t)) (sguRow (iblk m c 0 t) (iblk m c 1 t) (iblk m c 2 t) (iblk m c 3 t) (iblk m c 4 t) (iblk m c 5 t))
          (iblk m c 2 t) (iblk m c 3 t) (iblk m c 6 t) (iblk m c 7 t) (ix2 a k) * (show Vec Ideal S1x2048x1024 .bf16 from iblk m c 8 t) (ix3 0 k j) := by
  unfold outsAt0
  frame_out [View.readCov_fill]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  refine (last_at _ _ _ _ _).trans ?_
  rw [show sguRow x0 x1 x2 x3 x4 x5 = k0_pay8 (k0_pay5 x0 x1 _ _) (k0_pay6 x0 x1 _ _) (k0_pay7 x0 x1 _ _) _ x4 x5 from rfl]
  generalize k0_pay8 (k0_pay5 x0 x1 _ _) (k0_pay6 x0 x1 _ _) (k0_pay7 x0 x1 _ _) _ x4 x5 = V
  rw [View.readCov_eq_canon']
  refine congrArg (k0_pay3 x0 (ix2 a j) + ·) (Finset.sum_congr rfl fun k _ => congrArg (· * _)
    ((View.canon_apply_of_pieces (gatedArr (k0_pay4 x0 x1) V x2 x3 x6 x7) _ (View.PiecesOf.mem ?_) _ (View.cover_of_tiledL _ ![128, 128] (by sl_kernel_rfl) _)).trans (congrArg _ ?_)))
  rotate_left
  · funext d; refine Fin.ext ?_
    match d with
    | 0 => show 0 + 1 * a.val = a.val; omega
    | 1 => show 0 + 1 * k.val = k.val; omega
  refine ⟨fun x => store13 (k0_pay4 x0 x1) V x2 x3 x6 x7 7 (by decide) inb_S1x1024x4096_S1x1024x256_0_0_1792 inb_S1x4096_S1x256_0_1792 inb_S16x128x128_S1x128x128_15_0_0
    inb_S512x2048_S128x128_0_1920 inb_S512x2048_S128x128_128_1920 inb_S512x2048_S128x128_256_1920 inb_S512x2048_S128x128_384_1920 inb_S16x128x1_S1x128x1_15_0_0 inb_S512x2048_S128x128_384_1920 x, ?_⟩
  refine ⟨fun x => store12 (k0_pay4 x0 x1) V x2 x3 x6 x7 7 (by decide) inb_S1x1024x4096_S1x1024x256_0_0_1792 inb_S1x4096_S1x256_0_1792 inb_S16x128x128_S1x128x128_15_0_0
    inb_S512x2048_S128x128_0_1920 inb_S512x2048_S128x128_128_1920 inb_S512x2048_S128x128_256_1920 inb_S512x2048_S128x128_384_1920 inb_S16x128x1_S1x128x1_15_0_0 inb_S512x2048_S128x128_256_1920 x, ?_⟩
  refine ⟨fun x => store11 (k0_pay4 x0 x1) V x2 x3 x6 x7 7 (by decide) inb_S1x1024x4096_S1x1024x256_0_0_1792 inb_S1x4096_S1x256_0_1792 inb_S16x128x128_S1x128x128_15_0_0
    inb_S512x2048_S128x128_0_1920 inb_S512x2048_S128x128_128_1920 inb_S512x2048_S128x128_256_1920 inb_S512x2048_S128x128_384_1920 inb_S16x128x1_S1x128x1_15_0_0 inb_S512x2048_S128x128_128_1920 x, ?_⟩
  refine ⟨fun x => store10 (k0_pay4 x0 x1) V x2 x3 x6 x7 7 (by decide) inb_S1x1024x4096_S1x1024x256_0_0_1792 inb_S1x4096_S1x256_0_1792 inb_S16x128x128_S1x128x128_15_0_0
    inb_S512x2048_S128x128_0_1920 inb_S512x2048_S128x128_128_1920 inb_S512x2048_S128x128_256_1920 inb_S512x2048_S128x128_384_1920 inb_S16x128x1_S1x128x1_15_0_0 inb_S512x2048_S128x128_0_1920 x, ?_⟩
  refine ⟨fun x => store03 (k0_pay4 x0 x1) V x2 x3 x6 x7 7 (by decide) inb_S1x1024x4096_S1x1024x256_0_0_1792 inb_S1x4096_S1x256_0_1792 inb_S16x128x128_S1x128x128_14_0_0
    inb_S512x2048_S128x128_0_1792 inb_S512x2048_S128x128_128_1792 inb_S512x2048_S128x128_256_1792 inb_S512x2048_S128x128_384_1792 inb_S16x128x1_S1x128x1_14_0_0 inb_S512x2048_S128x128_384_1792 x, ?_⟩
  refine ⟨fun x => store02 (k0_pay4 x0 x1) V x2 x3 x6 x7 7 (by decide) inb_S1x1024x4096_S1x1024x256_0_0_1792 inb_S1x4096_S1x256_0_1792 inb_S16x128x128_S1x128x128_14_0_0
    inb_S512x2048_S128x128_0_1792 inb_S512x2048_S128x128_128_1792 inb_S512x2048_S128x128_256_1792 inb_S512x2048_S128x128_384_1792 inb_S16x128x1_S1x128x1_14_0_0 inb_S512x2048_S128x128_256_1792 x, ?_⟩
  refine ⟨fun x => store01 (k0_pay4 x0 x1) V x2 x3 x6 x7 7 (by decide) inb_S1x1024x4096_S1x1024x256_0_0_1792 inb_S1x4096_S1x256_0_1792 inb_S16x128x128_S1x128x128_14_0_0
    inb_S512x2048_S128x128_0_1792 inb_S512x2048_S128x128_128_1792 inb_S512x2048_S128x128_256_1792 inb_S512x2048_S128x128_384_1792 inb_S16x128x1_S1x128x1_14_0_0 inb_S512x2048_S128x128_128_1792 x, ?_⟩
  refine ⟨fun x => store00 (k0_pay4 x0 x1) V x2 x3 x6 x7 7 (by decide) inb_S1x1024x4096_S1x1024x256_0_0_1792 inb_S1x4096_S1x256_0_1792 inb_S16x128x128_S1x128x128_14_0_0
    inb_S512x2048_S128x128_0_1792 inb_S512x2048_S128x128_128_1792 inb_S512x2048_S128x128_256_1792 inb_S512x2048_S128x128_384_1792 inb_S16x128x1_S1x128x1_14_0_0 inb_S512x2048_S128x128_0_1792 x, ?_⟩
  refine ⟨fun x => store13 (k0_pay4 x0 x1) V x2 x3 x6 x7 6 (by decide) inb_S1x1024x4096_S1x1024x256_0_0_1536 inb_S1x4096_S1x256_0_1536 inb_S16x128x128_S1x128x128_13_0_0
    inb_S512x2048_S128x128_0_1664 inb_S512x2048_S128x128_128_1664 inb_S512x2048_S128x128_256_1664 inb_S512x2048_S128x128_384_1664 inb_S16x128x1_S1x128x1_13_0_0 inb_S512x2048_S128x128_384_1664 x, ?_⟩
  refine ⟨fun x => store12 (k0_pay4 x0 x1) V x2 x3 x6 x7 6 (by decide) inb_S1x1024x4096_S1x1024x256_0_0_1536 inb_S1x4096_S1x256_0_1536 inb_S16x128x128_S1x128x128_13_0_0
    inb_S512x2048_S128x128_0_1664 inb_S512x2048_S128x128_128_1664 inb_S512x2048_S128x128_256_1664 inb_S512x2048_S128x128_384_1664 inb_S16x128x1_S1x128x1_13_0_0 inb_S512x2048_S128x128_256_1664 x, ?_⟩
  refine ⟨fun x => store11 (k0_pay4 x0 x1) V x2 x3 x6 x7 6 (by decide) inb_S1x1024x4096_S1x1024x256_0_0_1536 inb_S1x4096_S1x256_0_1536 inb_S16x128x128_S1x128x128_13_0_0
    inb_S512x2048_S128x128_0_1664 inb_S512x2048_S128x128_128_1664 inb_S512x2048_S128x128_256_1664 inb_S512x2048_S128x128_384_1664 inb_S16x128x1_S1x128x1_13_0_0 inb_S512x2048_S128x128_128_1664 x, ?_⟩
  refine ⟨fun x => store10 (k0_pay4 x0 x1) V x2 x3 x6 x7 6 (by decide) inb_S1x1024x4096_S1x1024x256_0_0_1536 inb_S1x4096_S1x256_0_1536 inb_S16x128x128_S1x128x128_13_0_0
    inb_S512x2048_S128x128_0_1664 inb_S512x2048_S128x128_128_1664 inb_S512x2048_S128x128_256_1664 inb_S512x2048_S128x128_384_1664 inb_S16x128x1_S1x128x1_13_0_0 inb_S512x2048_S128x128_0_1664 x, ?_⟩
  refine ⟨fun x => store03 (k0_pay4 x0 x1) V x2 x3 x6 x7 6 (by decide) inb_S1x1024x4096_S1x1024x256_0_0_1536 inb_S1x4096_S1x256_0_1536 inb_S16x128x128_S1x128x128_12_0_0
    inb_S512x2048_S128x128_0_1536 inb_S512x2048_S128x128_128_1536 inb_S512x2048_S128x128_256_1536 inb_S512x2048_S128x128_384_1536 inb_S16x128x1_S1x128x1_12_0_0 inb_S512x2048_S128x128_384_1536 x, ?_⟩
  refine ⟨fun x => store02 (k0_pay4 x0 x1) V x2 x3 x6 x7 6 (by decide) inb_S1x1024x4096_S1x1024x256_0_0_1536 inb_S1x4096_S1x256_0_1536 inb_S16x128x128_S1x128x128_12_0_0
    inb_S512x2048_S128x128_0_1536 inb_S512x2048_S128x128_128_1536 inb_S512x2048_S128x128_256_1536 inb_S512x2048_S128x128_384_1536 inb_S16x128x1_S1x128x1_12_0_0 inb_S512x2048_S128x128_256_1536 x, ?_⟩
  refine ⟨fun x => store01 (k0_pay4 x0 x1) V x2 x3 x6 x7 6 (by decide) inb_S1x1024x4096_S1x1024x256_0_0_1536 inb_S1x4096_S1x256_0_1536 inb_S16x128x128_S1x128x128_12_0_0
    inb_S512x2048_S128x128_0_1536 inb_S512x2048_S128x128_128_1536 inb_S512x2048_S128x128_256_1536 inb_S512x2048_S128x128_384_1536 inb_S16x128x1_S1x128x1_12_0_0 inb_S512x2048_S128x128_128_1536 x, ?_⟩
  refine ⟨fun x => store00 (k0_pay4 x0 x1) V x2 x3 x6 x7 6 (by decide) inb_S1x1024x4096_S1x1024x256_0_0_1536 inb_S1x4096_S1x256_0_1536 inb_S16x128x128_S1x128x128_12_0_0
    inb_S512x2048_S128x128_0_1536 inb_S512x2048_S128x128_128_1536 inb_S512x2048_S128x128_256_1536 inb_S512x2048_S128x128_384_1536 inb_S16x128x1_S1x128x1_12_0_0 inb_S512x2048_S128x128_0_1536 x, ?_⟩
  refine ⟨fun x => store13 (k0_pay4 x0 x1) V x2 x3 x6 x7 5 (by decide) inb_S1x1024x4096_S1x1024x256_0_0_1280 inb_S1x4096_S1x256_0_1280 inb_S16x128x128_S1x128x128_11_0_0
    inb_S512x2048_S128x128_0_1408 inb_S512x2048_S128x128_128_1408 inb_S512x2048_S128x128_256_1408 inb_S512x2048_S128x128_384_1408 inb_S16x128x1_S1x128x1_11_0_0 inb_S512x2048_S128x128_384_1408 x, ?_⟩
  refine ⟨fun x => store12 (k0_pay4 x0 x1) V x2 x3 x6 x7 5 (by decide) inb_S1x1024x4096_S1x1024x256_0_0_1280 inb_S1x4096_S1x256_0_1280 inb_S16x128x128_S1x128x128_11_0_0
    inb_S512x2048_S128x128_0_1408 inb_S512x2048_S128x128_128_1408 inb_S512x2048_S128x128_256_1408 inb_S512x2048_S128x128_384_1408 inb_S16x128x1_S1x128x1_11_0_0 inb_S512x2048_S128x128_256_1408 x, ?_⟩
  refine ⟨fun x => store11 (k0_pay4 x0 x1) V x2 x3 x6 x7 5 (by decide) inb_S1x1024x4096_S1x1024x256_0_0_1280 inb_S1x4096_S1x256_0_1280 inb_S16x128x128_S1x128x128_11_0_0
    inb_S512x2048_S128x128_0_1408 inb_S512x2048_S128x128_128_1408 inb_S512x2048_S128x128_256_1408 inb_S512x2048_S128x128_384_1408 inb_S16x128x1_S1x128x1_11_0_0 inb_S512x2048_S128x128_128_1408 x, ?_⟩
  refine ⟨fun x => store10 (k0_pay4 x0 x1) V x2 x3 x6 x7 5 (by decide) inb_S1x1024x4096_S1x1024x256_0_0_1280 inb_S1x4096_S1x256_0_1280 inb_S16x128x128_S1x128x128_11_0_0
    inb_S512x2048_S128x128_0_1408 inb_S512x2048_S128x128_128_1408 inb_S512x2048_S128x128_256_1408 inb_S512x2048_S128x128_384_1408 inb_S16x128x1_S1x128x1_11_0_0 inb_S512x2048_S128x128_0_1408 x, ?_⟩
  refine ⟨fun x => store03 (k0_pay4 x0 x1) V x2 x3 x6 x7 5 (by decide) inb_S1x1024x4096_S1x1024x256_0_0_1280 inb_S1x4096_S1x256_0_1280 inb_S16x128x128_S1x128x128_10_0_0
    inb_S512x2048_S128x128_0_1280 inb_S512x2048_S128x128_128_1280 inb_S512x2048_S128x128_256_1280 inb_S512x2048_S128x128_384_1280 inb_S16x128x1_S1x128x1_10_0_0 inb_S512x2048_S128x128_384_1280 x, ?_⟩
  refine ⟨fun x => store02 (k0_pay4 x0 x1) V x2 x3 x6 x7 5 (by decide) inb_S1x1024x4096_S1x1024x256_0_0_1280 inb_S1x4096_S1x256_0_1280 inb_S16x128x128_S1x128x128_10_0_0
    inb_S512x2048_S128x128_0_1280 inb_S512x2048_S128x128_128_1280 inb_S512x2048_S128x128_256_1280 inb_S512x2048_S128x128_384_1280 inb_S16x128x1_S1x128x1_10_0_0 inb_S512x2048_S128x128_256_1280 x, ?_⟩
  refine ⟨fun x => store01 (k0_pay4 x0 x1) V x2 x3 x6 x7 5 (by decide) inb_S1x1024x4096_S1x1024x256_0_0_1280 inb_S1x4096_S1x256_0_1280 inb_S16x128x128_S1x128x128_10_0_0
    inb_S512x2048_S128x128_0_1280 inb_S512x2048_S128x128_128_1280 inb_S512x2048_S128x128_256_1280 inb_S512x2048_S128x128_384_1280 inb_S16x128x1_S1x128x1_10_0_0 inb_S512x2048_S128x128_128_1280 x, ?_⟩
  refine ⟨fun x => store00 (k0_pay4 x0 x1) V x2 x3 x6 x7 5 (by decide) inb_S1x1024x4096_S1x1024x256_0_0_1280 inb_S1x4096_S1x256_0_1280 inb_S16x128x128_S1x128x128_10_0_0
    inb_S512x2048_S128x128_0_1280 inb_S512x2048_S128x128_128_1280 inb_S512x2048_S128x128_256_1280 inb_S512x2048_S128x128_384_1280 inb_S16x128x1_S1x128x1_10_0_0 inb_S512x2048_S128x128_0_1280 x, ?_⟩
  refine ⟨fun x => store13 (k0_pay4 x0 x1) V x2 x3 x6 x7 4 (by decide) inb_S1x1024x4096_S1x1024x256_0_0_1024 inb_S1x4096_S1x256_0_1024 inb_S16x128x128_S1x128x128_9_0_0
    inb_S512x2048_S128x128_0_1152 inb_S512x2048_S128x128_128_1152 inb_S512x2048_S128x128_256_1152 inb_S512x2048_S128x128_384_1152 inb_S16x128x1_S1x128x1_9_0_0 inb_S512x2048_S128x128_384_1152 x, ?_⟩
  refine ⟨fun x => store12 (k0_pay4 x0 x1) V x2 x3 x6 x7 4 (by decide) inb_S1x1024x4096_S1x1024x256_0_0_1024 inb_S1x4096_S1x256_0_1024 inb_S16x128x128_S1x128x128_9_0_0
    inb_S512x2048_S128x128_0_1152 inb_S512x2048_S128x128_128_1152 inb_S512x2048_S128x128_256_1152 inb_S512x2048_S128x128_384_1152 inb_S16x128x1_S1x128x1_9_0_0 inb_S512x2048_S128x128_256_1152 x, ?_⟩
  refine ⟨fun x => store11 (k0_pay4 x0 x1) V x2 x3 x6 x7 4 (by decide) inb_S1x1024x4096_S1x1024x256_0_0_1024 inb_S1x4096_S1x256_0_1024 inb_S16x128x128_S1x128x128_9_0_0
    inb_S512x2048_S128x128_0_1152 inb_S512x2048_S128x128_128_1152 inb_S512x2048_S128x128_256_1152 inb_S512x2048_S128x128_384_1152 inb_S16x128x1_S1x128x1_9_0_0 inb_S512x2048_S128x128_128_1152 x, ?_⟩
  refine ⟨fun x => store10 (k0_pay4 x0 x1) V x2 x3 x6 x7 4 (by decide) inb_S1x1024x4096_S1x1024x256_0_0_1024 inb_S1x4096_S1x256_0_1024 inb_S16x128x128_S1x128x128_9_0_0
    inb_S512x2048_S128x128_0_1152 inb_S512x2048_S128x128_128_1152 inb_S512x2048_S128x128_256_1152 inb_S512x2048_S128x128_384_1152 inb_S16x128x1_S1x128x1_9_0_0 inb_S512x2048_S128x128_0_1152 x, ?_⟩
  refine ⟨fun x => store03 (k0_pay4 x0 x1) V x2 x3 x6 x7 4 (by decide) inb_S1x1024x4096_S1x1024x256_0_0_1024 inb_S1x4096_S1x256_0_1024 inb_S16x128x128_S1x128x128_8_0_0
    inb_S512x2048_S128x128_0_1024 inb_S512x2048_S128x128_128_1024 inb_S512x2048_S128x128_256_1024 inb_S512x2048_S128x128_384_1024 inb_S16x128x1_S1x128x1_8_0_0 inb_S512x2048_S128x128_384_1024 x, ?_⟩
  refine ⟨fun x => store02 (k0_pay4 x0 x1) V x2 x3 x6 x7 4 (by decide) inb_S1x1024x4096_S1x1024x256_0_0_1024 inb_S1x4096_S1x256_0_1024 inb_S16x128x128_S1x128x128_8_0_0
    inb_S512x2048_S128x128_0_1024 inb_S512x2048_S128x128_128_1024 inb_S512x2048_S128x128_256_1024 inb_S512x2048_S128x128_384_1024 inb_S16x128x1_S1x128x1_8_0_0 inb_S512x2048_S128x128_256_1024 x, ?_⟩
  refine ⟨fun x => store01 (k0_pay4 x0 x1) V x2 x3 x6 x7 4 (by decide) inb_S1x1024x4096_S1x1024x256_0_0_1024 inb_S1x4096_S1x256_0_1024 inb_S16x128x128_S1x128x128_8_0_0
    inb_S512x2048_S128x128_0_1024 inb_S512x2048_S128x128_128_1024 inb_S512x2048_S128x128_256_1024 inb_S512x2048_S128x128_384_1024 inb_S16x128x1_S1x128x1_8_0_0 inb_S512x2048_S128x128_128_1024 x, ?_⟩
  refine ⟨fun x => store00 (k0_pay4 x0 x1) V x2 x3 x6 x7 4 (by decide) inb_S1x1024x4096_S1x1024x256_0_0_1024 inb_S1x4096_S1x256_0_1024 inb_S16x128x128_S1x128x128_8_0_0
    inb_S512x2048_S128x128_0_1024 inb_S512x2048_S128x128_128_1024 inb_S512x2048_S128x128_256_1024 inb_S512x2048_S128x128_384_1024 inb_S16x128x1_S1x128x1_8_0_0 inb_S512x2048_S128x128_0_1024 x, ?_⟩
  refine ⟨fun x => store13 (k0_pay4 x0 x1) V x2 x3 x6 x7 3 (by decide) inb_S1x1024x4096_S1x1024x256_0_0_768 inb_S1x4096_S1x256_0_768 inb_S16x128x128_S1x128x128_7_0_0
    inb_S512x2048_S128x128_0_896 inb_S512x2048_S128x128_128_896 inb_S512x2048_S128x128_256_896 inb_S512x2048_S128x128_384_896 inb_S16x128x1_S1x128x1_7_0_0 inb_S512x2048_S128x128_384_896 x, ?_⟩
  refine ⟨fun x => store12 (k0_pay4 x0 x1) V x2 x3 x6 x7 3 (by decide) inb_S1x1024x4096_S1x1024x256_0_0_768 inb_S1x4096_S1x256_0_768 inb_S16x128x128_S1x128x128_7_0_0
    inb_S512x2048_S128x128_0_896 inb_S512x2048_S128x128_128_896 inb_S512x2048_S128x128_256_896 inb_S512x2048_S128x128_384_896 inb_S16x128x1_S1x128x1_7_0_0 inb_S512x2048_S128x128_256_896 x, ?_⟩
  refine ⟨fun x => store11 (k0_pay4 x0 x1) V x2 x3 x6 x7 3 (by decide) inb_S1x1024x4096_S1x1024x256_0_0_768 inb_S1x4096_S1x256_0_768 inb_S16x128x128_S1x128x128_7_0_0
    inb_S512x2048_S128x128_0_896 inb_S512x2048_S128x128_128_896 inb_S512x2048_S128x128_256_896 inb_S512x2048_S128x128_384_896 inb_S16x128x1_S1x128x1_7_0_0 inb_S512x2048_S128x128_128_896 x, ?_⟩
  refine ⟨fun x => store10 (k0_pay4 x0 x1) V x2 x3 x6 x7 3 (by decide) inb_S1x1024x4096_S1x1024x256_0_0_768 inb_S1x4096_S1x256_0_768 inb_S16x128x128_S1x128x128_7_0_0
    inb_S512x2048_S128x128_0_896 inb_S512x2048_S128x128_128_896 inb_S512x2048_S128x128_256_896 inb_S512x2048_S128x128_384_896 inb_S16x128x1_S1x128x1_7_0_0 inb_S512x2048_S128x128_0_896 x, ?_⟩
  refine ⟨fun x => store03 (k0_pay4 x0 x1) V x2 x3 x6 x7 3 (by decide) inb_S1x1024x4096_S1x1024x256_0_0_768 inb_S1x4096_S1x256_0_768 inb_S16x128x128_S1x128x128_6_0_0
    inb_S512x2048_S128x128_0_768 inb_S512x2048_S128x128_128_768 inb_S512x2048_S128x128_256_768 inb_S512x2048_S128x128_384_768 inb_S16x128x1_S1x128x1_6_0_0 inb_S512x2048_S128x128_384_768 x, ?_⟩
  refine ⟨fun x => store02 (k0_pay4 x0 x1) V x2 x3 x6 x7 3 (by decide) inb_S1x1024x4096_S1x1024x256_0_0_768 inb_S1x4096_S1x256_0_768 inb_S16x128x128_S1x128x128_6_0_0
    inb_S512x2048_S128x128_0_768 inb_S512x2048_S128x128_128_768 inb_S512x2048_S128x128_256_768 inb_S512x2048_S128x128_384_768 inb_S16x128x1_S1x128x1_6_0_0 inb_S512x2048_S128x128_256_768 x, ?_⟩
  refine ⟨fun x => store01 (k0_pay4 x0 x1) V x2 x3 x6 x7 3 (by decide) inb_S1x1024x4096_S1x1024x256_0_0_768 inb_S1x4096_S1x256_0_768 inb_S16x128x128_S1x128x128_6_0_0
    inb_S512x2048_S128x128_0_768 inb_S512x2048_S128x128_128_768 inb_S512x2048_S128x128_256_768 inb_S512x2048_S128x128_384_768 inb_S16x128x1_S1x128x1_6_0_0 inb_S512x2048_S128x128_128_768 x, ?_⟩
  refine ⟨fun x => store00 (k0_pay4 x0 x1) V x2 x3 x6 x7 3 (by decide) inb_S1x1024x4096_S1x1024x256_0_0_768 inb_S1x4096_S1x256_0_768 inb_S16x128x128_S1x128x128_6_0_0
    inb_S512x2048_S128x128_0_768 inb_S512x2048_S128x128_128_768 inb_S512x2048_S128x128_256_768 inb_S512x2048_S128x128_384_768 inb_S16x128x1_S1x128x1_6_0_0 inb_S512x2048_S128x128_0_768 x, ?_⟩
  refine ⟨fun x => store13 (k0_pay4 x0 x1) V x2 x3 x6 x7 2 (by decide) inb_S1x1024x4096_S1x1024x256_0_0_512 inb_S1x4096_S1x256_0_512 inb_S16x128x128_S1x128x128_5_0_0
    inb_S512x2048_S128x128_0_640 inb_S512x2048_S128x128_128_640 inb_S512x2048_S128x128_256_640 inb_S512x2048_S128x128_384_640 inb_S16x128x1_S1x128x1_5_0_0 inb_S512x2048_S128x128_384_640 x, ?_⟩
  refine ⟨fun x => store12 (k0_pay4 x0 x1) V x2 x3 x6 x7 2 (by decide) inb_S1x1024x4096_S1x1024x256_0_0_512 inb_S1x4096_S1x256_0_512 inb_S16x128x128_S1x128x128_5_0_0
    inb_S512x2048_S128x128_0_640 inb_S512x2048_S128x128_128_640 inb_S512x2048_S128x128_256_640 inb_S512x2048_S128x128_384_640 inb_S16x128x1_S1x128x1_5_0_0 inb_S512x2048_S128x128_256_640 x, ?_⟩
  refine ⟨fun x => store11 (k0_pay4 x0 x1) V x2 x3 x6 x7 2 (by decide) inb_S1x1024x4096_S1x1024x256_0_0_512 inb_S1x4096_S1x256_0_512 inb_S16x128x128_S1x128x128_5_0_0
    inb_S512x2048_S128x128_0_640 inb_S512x2048_S128x128_128_640 inb_S512x2048_S128x128_256_640 inb_S512x2048_S128x128_384_640 inb_S16x128x1_S1x128x1_5_0_0 inb_S512x2048_S128x128_128_640 x, ?_⟩
  refine ⟨fun x => store10 (k0_pay4 x0 x1) V x2 x3 x6 x7 2 (by decide) inb_S1x1024x4096_S1x1024x256_0_0_512 inb_S1x4096_S1x256_0_512 inb_S16x128x128_S1x128x128_5_0_0
    inb_S512x2048_S128x128_0_640 inb_S512x2048_S128x128_128_640 inb_S512x2048_S128x128_256_640 inb_S512x2048_S128x128_384_640 inb_S16x128x1_S1x128x1_5_0_0 inb_S512x2048_S128x128_0_640 x, ?_⟩
  refine ⟨fun x => store03 (k0_pay4 x0 x1) V x2 x3 x6 x7 2 (by decide) inb_S1x1024x4096_S1x1024x256_0_0_512 inb_S1x4096_S1x256_0_512 inb_S16x128x128_S1x128x128_4_0_0
    inb_S512x2048_S128x128_0_512 inb_S512x2048_S128x128_128_512 inb_S512x2048_S128x128_256_512 inb_S512x2048_S128x128_384_512 inb_S16x128x1_S1x128x1_4_0_0 inb_S512x2048_S128x128_384_512 x, ?_⟩
  refine ⟨fun x => store02 (k0_pay4 x0 x1) V x2 x3 x6 x7 2 (by decide) inb_S1x1024x4096_S1x1024x256_0_0_512 inb_S1x4096_S1x256_0_512 inb_S16x128x128_S1x128x128_4_0_0
    inb_S512x2048_S128x128_0_512 inb_S512x2048_S128x128_128_512 inb_S512x2048_S128x128_256_512 inb_S512x2048_S128x128_384_512 inb_S16x128x1_S1x128x1_4_0_0 inb_S512x2048_S128x128_256_512 x, ?_⟩
  refine ⟨fun x => store01 (k0_pay4 x0 x1) V x2 x3 x6 x7 2 (by decide) inb_S1x1024x4096_S1x1024x256_0_0_512 inb_S1x4096_S1x256_0_512 inb_S16x128x128_S1x128x128_4_0_0
    inb_S512x2048_S128x128_0_512 inb_S512x2048_S128x128_128_512 inb_S512x2048_S128x128_256_512 inb_S512x2048_S128x128_384_512 inb_S16x128x1_S1x128x1_4_0_0 inb_S512x2048_S128x128_128_512 x, ?_⟩
  refine ⟨fun x => store00 (k0_pay4 x0 x1) V x2 x3 x6 x7 2 (by decide) inb_S1x1024x4096_S1x1024x256_0_0_512 inb_S1x4096_S1x256_0_512 inb_S16x128x128_S1x128x128_4_0_0
    inb_S512x2048_S128x128_0_512 inb_S512x2048_S128x128_128_512 inb_S512x2048_S128x128_256_512 inb_S512x2048_S128x128_384_512 inb_S16x128x1_S1x128x1_4_0_0 inb_S512x2048_S128x128_0_512 x, ?_⟩
  refine ⟨fun x => store13 (k0_pay4 x0 x1) V x2 x3 x6 x7 1 (by decide) inb_S1x1024x4096_S1x1024x256_0_0_256 inb_S1x4096_S1x256_0_256 inb_S16x128x128_S1x128x128_3_0_0
    inb_S512x2048_S128x128_0_384 inb_S512x2048_S128x128_128_384 inb_S512x2048_S128x128_256_384 inb_S512x2048_S128x128_384_384 inb_S16x128x1_S1x128x1_3_0_0 inb_S512x2048_S128x128_384_384 x, ?_⟩
  refine ⟨fun x => store12 (k0_pay4 x0 x1) V x2 x3 x6 x7 1 (by decide) inb_S1x1024x4096_S1x1024x256_0_0_256 inb_S1x4096_S1x256_0_256 inb_S16x128x128_S1x128x128_3_0_0
    inb_S512x2048_S128x128_0_384 inb_S512x2048_S128x128_128_384 inb_S512x2048_S128x128_256_384 inb_S512x2048_S128x128_384_384 inb_S16x128x1_S1x128x1_3_0_0 inb_S512x2048_S128x128_256_384 x, ?_⟩
  refine ⟨fun x => store11 (k0_pay4 x0 x1) V x2 x3 x6 x7 1 (by decide) inb_S1x1024x4096_S1x1024x256_0_0_256 inb_S1x4096_S1x256_0_256 inb_S16x128x128_S1x128x128_3_0_0
    inb_S512x2048_S128x128_0_384 inb_S512x2048_S128x128_128_384 inb_S512x2048_S128x128_256_384 inb_S512x2048_S128x128_384_384 inb_S16x128x1_S1x128x1_3_0_0 inb_S512x2048_S128x128_128_384 x, ?_⟩
  refine ⟨fun x => store10 (k0_pay4 x0 x1) V x2 x3 x6 x7 1 (by decide) inb_S1x1024x4096_S1x1024x256_0_0_256 inb_S1x4096_S1x256_0_256 inb_S16x128x128_S1x128x128_3_0_0
    inb_S512x2048_S128x128_0_384 inb_S512x2048_S128x128_128_384 inb_S512x2048_S128x128_256_384 inb_S512x2048_S128x128_384_384 inb_S16x128x1_S1x128x1_3_0_0 inb_S512x2048_S128x128_0_384 x, ?_⟩
  refine ⟨fun x => store03 (k0_pay4 x0 x1) V x2 x3 x6 x7 1 (by decide) inb_S1x1024x4096_S1x1024x256_0_0_256 inb_S1x4096_S1x256_0_256 inb_S16x128x128_S1x128x128_2_0_0
    inb_S512x2048_S128x128_0_256 inb_S512x2048_S128x128_128_256 inb_S512x2048_S128x128_256_256 inb_S512x2048_S128x128_384_256 inb_S16x128x1_S1x128x1_2_0_0 inb_S512x2048_S128x128_384_256 x, ?_⟩
  refine ⟨fun x => store02 (k0_pay4 x0 x1) V x2 x3 x6 x7 1 (by decide) inb_S1x1024x4096_S1x1024x256_0_0_256 inb_S1x4096_S1x256_0_256 inb_S16x128x128_S1x128x128_2_0_0
    inb_S512x2048_S128x128_0_256 inb_S512x2048_S128x128_128_256 inb_S512x2048_S128x128_256_256 inb_S512x2048_S128x128_384_256 inb_S16x128x1_S1x128x1_2_0_0 inb_S512x2048_S128x128_256_256 x, ?_⟩
  refine ⟨fun x => store01 (k0_pay4 x0 x1) V x2 x3 x6 x7 1 (by decide) inb_S1x1024x4096_S1x1024x256_0_0_256 inb_S1x4096_S1x256_0_256 inb_S16x128x128_S1x128x128_2_0_0
    inb_S512x2048_S128x128_0_256 inb_S512x2048_S128x128_128_256 inb_S512x2048_S128x128_256_256 inb_S512x2048_S128x128_384_256 inb_S16x128x1_S1x128x1_2_0_0 inb_S512x2048_S128x128_128_256 x, ?_⟩
  refine ⟨fun x => store00 (k0_pay4 x0 x1) V x2 x3 x6 x7 1 (by decide) inb_S1x1024x4096_S1x1024x256_0_0_256 inb_S1x4096_S1x256_0_256 inb_S16x128x128_S1x128x128_2_0_0
    inb_S512x2048_S128x128_0_256 inb_S512x2048_S128x128_128_256 inb_S512x2048_S128x128_256_256 inb_S512x2048_S128x128_384_256 inb_S16x128x1_S1x128x1_2_0_0 inb_S512x2048_S128x128_0_256 x, ?_⟩
  refine ⟨fun x => store13 (k0_pay4 x0 x1) V x2 x3 x6 x7 0 (by decide) inb_S1x1024x4096_S1x1024x256_0_0_0 inb_S1x4096_S1x256_0_0 inb_S16x128x128_S1x128x128_1_0_0
    inb_S512x2048_S128x128_0_128 inb_S512x2048_S128x128_128_128 inb_S512x2048_S128x128_256_128 inb_S512x2048_S128x128_384_128 inb_S16x128x1_S1x128x1_1_0_0 inb_S512x2048_S128x128_384_128 x, ?_⟩
  refine ⟨fun x => store12 (k0_pay4 x0 x1) V x2 x3 x6 x7 0 (by decide) inb_S1x1024x4096_S1x1024x256_0_0_0 inb_S1x4096_S1x256_0_0 inb_S16x128x128_S1x128x128_1_0_0
    inb_S512x2048_S128x128_0_128 inb_S512x2048_S128x128_128_128 inb_S512x2048_S128x128_256_128 inb_S512x2048_S128x128_384_128 inb_S16x128x1_S1x128x1_1_0_0 inb_S512x2048_S128x128_256_128 x, ?_⟩
  refine ⟨fun x => store11 (k0_pay4 x0 x1) V x2 x3 x6 x7 0 (by decide) inb_S1x1024x4096_S1x1024x256_0_0_0 inb_S1x4096_S1x256_0_0 inb_S16x128x128_S1x128x128_1_0_0
    inb_S512x2048_S128x128_0_128 inb_S512x2048_S128x128_128_128 inb_S512x2048_S128x128_256_128 inb_S512x2048_S128x128_384_128 inb_S16x128x1_S1x128x1_1_0_0 inb_S512x2048_S128x128_128_128 x, ?_⟩
  refine ⟨fun x => store10 (k0_pay4 x0 x1) V x2 x3 x6 x7 0 (by decide) inb_S1x1024x4096_S1x1024x256_0_0_0 inb_S1x4096_S1x256_0_0 inb_S16x128x128_S1x128x128_1_0_0
    inb_S512x2048_S128x128_0_128 inb_S512x2048_S128x128_128_128 inb_S512x2048_S128x128_256_128 inb_S512x2048_S128x128_384_128 inb_S16x128x1_S1x128x1_1_0_0 inb_S512x2048_S128x128_0_128 x, ?_⟩
  refine ⟨fun x => store03 (k0_pay4 x0 x1) V x2 x3 x6 x7 0 (by decide) inb_S1x1024x4096_S1x1024x256_0_0_0 inb_S1x4096_S1x256_0_0 inb_S16x128x128_S1x128x128_0_0_0
    inb_S512x2048_S128x128_0_0 inb_S512x2048_S128x128_128_0 inb_S512x2048_S128x128_256_0 inb_S512x2048_S128x128_384_0 inb_S16x128x1_S1x128x1_0_0_0 inb_S512x2048_S128x128_384_0 x, ?_⟩
  refine ⟨fun x => store02 (k0_pay4 x0 x1) V x2 x3 x6 x7 0 (by decide) inb_S1x1024x4096_S1x1024x256_0_0_0 inb_S1x4096_S1x256_0_0 inb_S16x128x128_S1x128x128_0_0_0
    inb_S512x2048_S128x128_0_0 inb_S512x2048_S128x128_128_0 inb_S512x2048_S128x128_256_0 inb_S512x2048_S128x128_384_0 inb_S16x128x1_S1x128x1_0_0_0 inb_S512x2048_S128x128_256_0 x, ?_⟩
  refine ⟨fun x => store01 (k0_pay4 x0 x1) V x2 x3 x6 x7 0 (by decide) inb_S1x1024x4096_S1x1024x256_0_0_0 inb_S1x4096_S1x256_0_0 inb_S16x128x128_S1x128x128_0_0_0
    inb_S512x2048_S128x128_0_0 inb_S512x2048_S128x128_128_0 inb_S512x2048_S128x128_256_0 inb_S512x2048_S128x128_384_0 inb_S16x128x1_S1x128x1_0_0_0 inb_S512x2048_S128x128_128_0 x, ?_⟩
  refine ⟨fun x => store00 (k0_pay4 x0 x1) V x2 x3 x6 x7 0 (by decide) inb_S1x1024x4096_S1x1024x256_0_0_0 inb_S1x4096_S1x256_0_0 inb_S16x128x128_S1x128x128_0_0_0
    inb_S512x2048_S128x128_0_0 inb_S512x2048_S128x128_128_0 inb_S512x2048_S128x128_256_0 inb_S512x2048_S128x128_384_0 inb_S16x128x1_S1x128x1_0_0_0 inb_S512x2048_S128x128_0_0 x, ?_⟩
  exact trivial

end Cert.SguIdeal.Layer

end
-- ==== Proof.SguFinal.lean ====
/- What the gating unit's call leaves in its output array: each row, over the argument arrays. -/
module

public import proofs.«01_k».proof.Proof.SguValue

@[expose] public section

set_option maxRecDepth 16384

noncomputable section

namespace Cert.SguIdeal.Layer

open Cert.SguIdeal Cert.SguIdeal.Gen Idealize.ShloMosaic Idealize.ShloMosaic.TcCoe Idealize.SL.Sem
open Idealize.ShloMosaic.Pipeline (Dat)
open Cert.Rows

section
variable (x0 : Vec Ideal S512x1024 .f32) (x1 : Vec Ideal S1x1024 .f32) (x2 : Vec Ideal S1x1024x4096 .bf16) (x3 : Vec Ideal S1x4096 .f32) (x4 x5 : Vec Ideal S1x2048 .f32)
  (x6 : Vec Ideal S16x128x128 .f32) (x7 : Vec Ideal S16x128x1 .f32) (x8 : Vec Ideal S1x2048x1024 .bf16)

/-- A masked product: the product where the mask holds, zero elsewhere. -/
theorem masked_at (p q : Fin 128) (z : EReal) : Scalar.select (mask (ix2 p q)) z 0 = if q.val / 64 ≤ p.val / 64 then z else 0 := by
  rw [mask_at]
  by_cases h : q.val / 64 ≤ p.val / 64
  · rw [if_pos h, if_pos h]; rfl
  · rw [if_neg h, if_neg h]; rfl

/-- The output block of one step, row by row. -/
theorem block_at (a : Fin 512) (j : Fin 1024) :
    k0_pay3 x0 (ix2 a j) + ∑ k : Fin 2048, gatedArr (k0_pay4 x0 x1) (sguRow x0 x1 x2 x3 x4 x5) x2 x3 x6 x7 (ix2 a k) * x8 (ix3 0 k j)
      = sgu varK (fun q k => x0 (ix2 ⟨a.val / 128 * 128 + q.val, by omega⟩ k)) (fun k => x1 (ix2 0 k)) (fun k j => x2 (ix3 0 k j)) (fun j => x3 (ix2 0 j))
        (fun j => x4 (ix2 0 j)) (fun j => x5 (ix2 0 j)) (fun h p q => x6 (ix3 h p q)) (fun h p => x7 (ix3 h p 0)) (fun k j => x8 (ix3 0 k j)) ⟨a.val % 128, Nat.mod_lt _ (by decide)⟩ j := by
  have e : (⟨a.val / 128 * 128 + a.val % 128, by omega⟩ : Fin 512) = a := Fin.ext (by show a.val / 128 * 128 + a.val % 128 = a.val; omega)
  unfold sgu
  refine congrArg₂ (· + ·) ?_ (Finset.sum_congr rfl fun k _ => congrArg (· * _) ?_)
  · show _ = x0 (ix2 (⟨a.val / 128 * 128 + a.val % 128, _⟩ : Fin 512) j)
    rw [e]
    pointwise [k0_pay3]
  · rw [gatedArr_at (k0_pay4 x0 x1) (sguRow x0 x1 x2 x3 x4 x5) x2 x3 x6 x7 (a.val / 128) (k.val / 128) (by omega) (by omega) ⟨a.val % 128, Nat.mod_lt _ (by decide)⟩ ⟨k.val % 128, Nat.mod_lt _ (by decide)⟩ a k
      (by show a.val = 128 * (a.val / 128) + a.val % 128; omega) (by show k.val = 128 * (k.val / 128) + k.val % 128; omega)]
    simp only [norm_at, lnorm_at, masked_at, unitOf, mixed, gate, half, e, mul_comm 128 (a.val / 128)]
    rfl

end

/-- The block each window holds at each step. -/
theorem idx : ∀ t : Fin cfg0.N, win0_0.index t = ![t.val, 0] ∧ win0_1.index t = ![0, 0] ∧ win0_2.index t = ![0, 0, 0] ∧ win0_3.index t = ![0, 0]
    ∧ win0_4.index t = ![0, 0] ∧ win0_5.index t = ![0, 0] ∧ win0_6.index t = ![0, 0, 0] ∧ win0_7.index t = ![0, 0, 0] ∧ win0_8.index t = ![0, 0, 0]
    ∧ win0_9.index t = ![t.val, 0] :=
  (by decide +kernel : ∀ t : Fin grid0.N, _)

/-- The grid has 64 steps. -/
theorem lt_N (t : Fin cfg0.N) : t.val < 64 := (by decide +kernel : ∀ t : Fin grid0.N, t.val < 64) t

variable (m : (ℓ : Loc nD τ sig) → Buf (Elt Ideal) ℓ)

/-! Where each window's block lies in its array. -/

/-- Where an entry of the block of window 0 lies in its array. -/
theorem emb0 (t : Fin cfg0.N) (a : Fin 512) (k : Fin 1024) : ((cfg0.win 0).blk t).view.emb (ix2 a k) = (ix2 ⟨t.val * 512 + a.val, by have := lt_N t; omega⟩ k : S32768x1024.Idx) := by
  blk_ext [idx t]

/-- Where an entry of the block of window 1 lies in its array. -/
theorem emb1 (t : Fin cfg0.N) (k : Fin 1024) : ((cfg0.win 1).blk t).view.emb (ix2 0 k) = (ix2 0 k : S1x1024.Idx) := by
  blk_ext [idx t]

/-- Where an entry of the block of window 2 lies in its array. -/
theorem emb2 (t : Fin cfg0.N) (k : Fin 1024) (j : Fin 4096) : ((cfg0.win 2).blk t).view.emb (ix3 0 k j) = (ix3 0 k j : S2x1024x4096.Idx) := by
  blk_ext [idx t]

/-- Where an entry of the block of window 3 lies in its array. -/
theorem emb3 (t : Fin cfg0.N) (j : Fin 4096) : ((cfg0.win 3).blk t).view.emb (ix2 0 j) = (ix2 0 j : S1x4096.Idx) := by
  blk_ext [idx t]

/-- Where an entry of the block of window 4 lies in its array. -/
theorem emb4 (t : Fin cfg0.N) (j : Fin 2048) : ((cfg0.win 4).blk t).view.emb (ix2 0 j) = (ix2 0 j : S1x2048.Idx) := by
  blk_ext [idx t]

/-- Where an entry of the block of window 5 lies in its array. -/
theorem emb5 (t : Fin cfg0.N) (j : Fin 2048) : ((cfg0.win 5).blk t).view.emb (ix2 0 j) = (ix2 0 j : S1x2048.Idx) := by
  blk_ext [idx t]

/-- Where an entry of the block of window 6 lies in its array. -/
theorem emb6 (t : Fin cfg0.N) (h : Fin 16) (p q : Fin 128) : ((cfg0.win 6).blk t).view.emb (ix3 h p q) = (ix3 h p q : S16x128x128.Idx) := by
  blk_ext [idx t]

/-- Where an entry of the block of window 7 lies in its array. -/
theorem emb7 (t : Fin cfg0.N) (h : Fin 16) (p : Fin 128) : ((cfg0.win 7).blk t).view.emb (ix3 h p 0) = (ix3 h p 0 : S16x128x1.Idx) := by
  blk_ext [idx t]

/-- Where an entry of the block of window 8 lies in its array. -/
theorem emb8 (t : Fin cfg0.N) (k : Fin 2048) (j : Fin 1024) : ((cfg0.win 8).blk t).view.emb (ix3 0 k j) = (ix3 0 k j : S2x2048x1024.Idx) := by
  blk_ext [idx t]

/-- Where an entry of the block of window 9 lies in its array. -/
theorem emb9 (t : Fin cfg0.N) (a : Fin 512) (k : Fin 1024) : ((cfg0.win 9).blk t).view.emb (ix2 a k) = (ix2 ⟨t.val * 512 + a.val, by have := lt_N t; omega⟩ k : S32768x1024.Idx) := by
  blk_ext [idx t]

/-! What each input block holds, over the argument arrays. -/

/-- The rows of a step, at an entry. -/
theorem x_at (c : Dev nD) (t : Fin cfg0.N) (a : Fin 512) (k : Fin 1024) :
    (show FVec Ideal S512x1024 .f32 from iblk m c 0 t) (ix2 a k) = (show FVec Ideal S2x16384x1024 .f32 from m ((c : Thread nD τ).loc main_arg0)) (ix3 ⟨(t.val * 512 + a.val) / 16384, by have := lt_N t; omega⟩ ⟨(t.val * 512 + a.val) % 16384, Nat.mod_lt _ (by decide)⟩ k) := by
  show V m c main_v0 (((cfg0.win 0).blk t).view.emb (ix2 a k)) = _
  rw [emb0]
  entry_read
  pointwise

/-- The normalization scale, at an entry. -/
theorem g_at (c : Dev nD) (t : Fin cfg0.N) (k : Fin 1024) :
    (show FVec Ideal S1x1024 .f32 from iblk m c 1 t) (ix2 0 k) = (show FVec Ideal S4x1024 .f32 from m ((c : Thread nD τ).loc main_arg1)) (ix2 0 k) := by
  show V m c main_v3 (((cfg0.win 1).blk t).view.emb (ix2 0 k)) = _
  rw [emb1]
  entry_read
  pointwise

/-- The first matrix, at an entry. -/
theorem w_at (c : Dev nD) (t : Fin cfg0.N) (k : Fin 1024) (j : Fin 4096) :
    (show FVec Ideal S1x1024x4096 .bf16 from iblk m c 2 t) (ix3 0 k j) = (show FVec Ideal S2x1024x4096 .f32 from m ((c : Thread nD τ).loc main_arg2)) (ix3 0 k j) := by
  show V m c main_v4 (((cfg0.win 2).blk t).view.emb (ix3 0 k j)) = _
  rw [emb2]
  entry_read
  pointwise

/-- The bias of the units, at an entry. -/
theorem b_at (c : Dev nD) (t : Fin cfg0.N) (j : Fin 4096) :
    (show FVec Ideal S1x4096 .f32 from iblk m c 3 t) (ix2 0 j) = (show FVec Ideal S2x4096 .f32 from m ((c : Thread nD τ).loc main_arg3)) (ix2 0 j) := by
  show V m c main_v7 (((cfg0.win 3).blk t).view.emb (ix2 0 j)) = _
  rw [emb3]
  entry_read
  pointwise

/-- The layer normalization's scale, at an entry. -/
theorem lg_at (c : Dev nD) (t : Fin cfg0.N) (j : Fin 2048) :
    (show FVec Ideal S1x2048 .f32 from iblk m c 4 t) (ix2 0 j) = (show FVec Ideal S2x2048 .f32 from m ((c : Thread nD τ).loc main_arg4)) (ix2 0 j) := by
  show V m c main_v10 (((cfg0.win 4).blk t).view.emb (ix2 0 j)) = _
  rw [emb4]
  entry_read
  pointwise

/-- The layer normalization's shift, at an entry. -/
theorem lb_at (c : Dev nD) (t : Fin cfg0.N) (j : Fin 2048) :
    (show FVec Ideal S1x2048 .f32 from iblk m c 5 t) (ix2 0 j) = (show FVec Ideal S2x2048 .f32 from m ((c : Thread nD τ).loc main_arg5)) (ix2 0 j) := by
  show V m c main_v13 (((cfg0.win 5).blk t).view.emb (ix2 0 j)) = _
  rw [emb5]
  entry_read
  pointwise

/-- The position matrices, at an entry. -/
theorem ws_at (c : Dev nD) (t : Fin cfg0.N) (h : Fin 16) (p q : Fin 128) :
    (show FVec Ideal S16x128x128 .f32 from iblk m c 6 t) (ix3 h p q) = (show FVec Ideal S2x16x128x128 .f32 from m ((c : Thread nD τ).loc main_arg6)) (ix4 0 h p q) := by
  show V m c main_v15 (((cfg0.win 6).blk t).view.emb (ix3 h p q)) = _
  rw [emb6]
  entry_read
  pointwise

/-- The bias of the positions, at an entry. -/
theorem bs_at (c : Dev nD) (t : Fin cfg0.N) (h : Fin 16) (p : Fin 128) :
    (show FVec Ideal S16x128x1 .f32 from iblk m c 7 t) (ix3 h p 0) = (show FVec Ideal S2x16x128 .f32 from m ((c : Thread nD τ).loc main_arg7)) (ix3 0 h p) := by
  show V m c main_v18 (((cfg0.win 7).blk t).view.emb (ix3 h p 0)) = _
  rw [emb7]
  entry_read
  pointwise

/-- The last matrix, at an entry. -/
theorem wo_at (c : Dev nD) (t : Fin cfg0.N) (k : Fin 2048) (j : Fin 1024) :
    (show FVec Ideal S1x2048x1024 .bf16 from iblk m c 8 t) (ix3 0 k j) = (show FVec Ideal S2x2048x1024 .f32 from m ((c : Thread nD τ).loc main_arg8)) (ix3 0 k j) := by
  show V m c main_v19 (((cfg0.win 8).blk t).view.emb (ix3 0 k j)) = _
  rw [emb8]
  entry_read
  pointwise

/-- The whole result, row by row, over the argument arrays. -/
def G (v : (Fin 2048 → EReal) → EReal) (X : FVec Ideal S2x16384x1024 .f32) (g : FVec Ideal S4x1024 .f32) (w : FVec Ideal S2x1024x4096 .f32) (b : FVec Ideal S2x4096 .f32) (lg lb : FVec Ideal S2x2048 .f32)
    (ws : FVec Ideal S2x16x128x128 .f32) (bs : FVec Ideal S2x16x128 .f32) (wo : FVec Ideal S2x2048x1024 .f32) : FVec Ideal S32768x1024 .f32 := fun i =>
  sgu v (fun q k => X (ix3 ⟨(i 0).val / 16384, by have : (i 0).val < 32768 := (i 0).isLt; omega⟩ ⟨(i 0).val % 16384 / 128 * 128 + q.val, by omega⟩ k))
    (fun k => g (ix2 0 k)) (fun k j => w (ix3 0 k j)) (fun j => b (ix2 0 j)) (fun j => lg (ix2 0 j)) (fun j => lb (ix2 0 j))
    (fun h p q => ws (ix4 0 h p q)) (fun h p => bs (ix3 0 h p)) (fun k j => wo (ix3 0 k j)) ⟨(i 0).val % 128, Nat.mod_lt _ (by decide)⟩ (i 1)

/-- The output array after the last step. -/
theorem final (c : Dev nD) : (dats m 0 c).arrAt 9 (cfgs 0).N
    = G varK (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) := by
  refine (dats m 0 c).arrAt_eq_of_covers 9 _ (by decide +kernel) fun t _ y => ?_
  blk_simp
  rw [after0_9]
  idx_vars y
  refine ((out_at m c t y0 y1).trans (block_at _ _ _ _ _ _ _ _ _ y0 y1)).trans ?_
  refine Eq.trans ?_ (congrArg (G varK _ _ _ _ _ _ _ _ _) (emb9 t y0 y1)).symm
  have := lt_N t
  refine sgu_congr varK (fun q k => (x_at m c t _ k).trans (congrArg (m ((c : Thread nD τ).loc main_arg0)) ?_)) (g_at m c t) (w_at m c t) (b_at m c t) (lg_at m c t) (lb_at m c t)
    (ws_at m c t) (bs_at m c t) (wo_at m c t) (Fin.ext ?_) y1
  · refine congrArg₂ (fun r s => (ix3 r s k : S2x16384x1024.Idx)) (Fin.ext ?_) (Fin.ext ?_)
    · show (t.val * 512 + (y0.val / 128 * 128 + q.val)) / 16384 = (t.val * 512 + y0.val) / 16384; omega
    · show (t.val * 512 + (y0.val / 128 * 128 + q.val)) % 16384 = (t.val * 512 + y0.val) % 16384 / 128 * 128 + q.val; omega
  · show y0.val % 128 = (t.val * 512 + y0.val) % 128; omega

end Cert.SguIdeal.Layer

end
-- ==== Proof.SguPre.lean ====
/- What the precondition of the gating unit's claim says: the weights the variance is computed from are real. -/
module

public import proofs.«01_k».proof.Proof.SguRows
public import proofs.«01_k».proof.Pre_sgu_weights_finite

@[expose] public section

set_option maxRecDepth 16384

noncomputable section

namespace Cert.Pre_sgu_weights_finite.Layer

open Cert.Pre_sgu_weights_finite Cert.Rows Idealize.ShloMosaic

/-- The shape conditions the precondition's operations take. -/
instance facts : Cert.Pre_sgu_weights_finite.Facts where
  slices_S2x1024x4096_S1x1024x2048_0_0_2048 := by decide
  shapeCasts_S1x1024x2048_S1024x2048 := by decide
  slices_S2x4096_S1x2048_0_2048 := by decide
  shapeCasts_S1x2048_S2048 := by decide
  slices_S4x1024_S1x1024_0_0 := by decide
  shapeCasts_S1x1024_S1024 := by decide
  bcast_S_S1024x2048 := by decide
  bcast_S2048_S1x2048_1 := by decide
  bcast_S_S1x2048 := by decide
  bcast_S1x2048_S1024x2048_0_1 := by decide
  bcast_S1024_S1024x1_0 := by decide
  bcast_S_S1024x1 := by decide
  bcast_S1024x1_S1024x2048_0_1 := by decide

/-- The bit pattern of infinity reads as infinity. -/
theorem ofBits_inf : Ideal.ofBits .f32 0x7F800000#32 = (⊤ : EReal) := by
  simp [Ideal.ofBits, Ideal.ieee]

/-- A value whose magnitude lies under infinity is real. -/
theorem isReal_of_abs {z : EReal} (h : max z (-z) < Ideal.ofBits .f32 0x7F800000#32) : IsReal z := by
  rw [ofBits_inf, max_lt_iff] at h
  induction z with
  | bot => exact absurd h.2 (by simp)
  | coe r => exact ⟨r, rfl⟩
  | top => exact absurd h.1 (by simp)

/-- Three tests at once: the conjunction is one exactly if every test holds. -/
theorem and3 {p q r : Prop} [Decidable p] [Decidable q] [Decidable r]
    (h : IntOp.andi (IntOp.andi (BitVec.ofBool (decide p)) (BitVec.ofBool (decide q))) (BitVec.ofBool (decide r)) = 1#1) : p ∧ q ∧ r := by
  by_cases hp : p <;> by_cases hq : q <;> by_cases hr : r <;> simp [hp, hq, hr, IntOp.andi] at h ⊢

variable (x0 : FVec Ideal S2x16384x1024 .f32) (x1 : FVec Ideal S4x1024 .f32) (x2 : FVec Ideal S2x1024x4096 .f32) (x3 : FVec Ideal S2x4096 .f32) (x4 x5 : FVec Ideal S2x2048 .f32)
  (x6 : FVec Ideal S2x16x128x128 .f32) (x7 : FVec Ideal S2x16x128 .f32) (x8 : FVec Ideal S2x2048x1024 .f32)

/-- The precondition, at an entry: the three numbers it tests there are real. -/
theorem fn_at (k : Fin 1024) (j : Fin 2048) (h : fn (F := Ideal) x0 x1 x2 x3 x4 x5 x6 x7 x8 (ix2 k j) = 1#1) :
    IsReal (x2 (ix3 0 k ⟨2048 + j.val, by omega⟩)) ∧ IsReal (x3 (ix2 0 ⟨2048 + j.val, by omega⟩)) ∧ IsReal (x1 (ix2 0 k)) := by
  have e : fn (F := Ideal) x0 x1 x2 x3 x4 x5 x6 x7 x8 (ix2 k j) = IntOp.andi (IntOp.andi
      (BitVec.ofBool (decide (max (x2 (ix3 0 k ⟨2048 + j.val, by omega⟩)) (-(x2 (ix3 0 k ⟨2048 + j.val, by omega⟩))) < Ideal.ofBits .f32 0x7F800000#32)))
      (BitVec.ofBool (decide (max (x3 (ix2 0 ⟨2048 + j.val, by omega⟩)) (-(x3 (ix2 0 ⟨2048 + j.val, by omega⟩))) < Ideal.ofBits .f32 0x7F800000#32))))
      (BitVec.ofBool (decide (max (x1 (ix2 0 k)) (-(x1 (ix2 0 k))) < Ideal.ofBits .f32 0x7F800000#32))) := by
    pointwise [fn]
    rfl
  obtain ⟨h1, h2, h3⟩ := and3 (e.symm.trans h)
  exact ⟨isReal_of_abs h1, isReal_of_abs h2, isReal_of_abs h3⟩

end Cert.Pre_sgu_weights_finite.Layer

end
-- ==== Proof.SguRef.lean ====
/- The reference of the gating unit computes the same rows, with the variance taken the other way. -/
module

public import proofs.«01_k».proof.Proof.SguFinal
public import proofs.«01_k».proof.Proof.SguPre
public import proofs.«01_k».proof.Proof.Gen.SguRefIdeal.Read
public import proofs.«01_k».proof.Defs

@[expose] public section

set_option maxRecDepth 16384

noncomputable section

namespace Cert.SguRefIdeal.Layer

open Cert.SguRefIdeal Cert.SguRefIdeal.Gen Cert.SguRefIdeal.Read Idealize.ShloMosaic Idealize.ShloMosaic.TcCoe Idealize.SL.Sem
open Cert.Rows

variable (X : FVec Ideal S2x16384x1024 .f32) (g : FVec Ideal S4x1024 .f32) (w : FVec Ideal S2x1024x4096 .f32) (b : FVec Ideal S2x4096 .f32) (lg lb : FVec Ideal S2x2048 .f32)
    (ws : FVec Ideal S2x16x128x128 .f32) (bs : FVec Ideal S2x16x128 .f32) (wo : FVec Ideal S2x2048x1024 .f32)

/-- The reference's normalized row. -/
theorem norm_at (n : Fin 2) (s : Fin 16384) (k : Fin 1024) : val_main_v14 (F := Ideal) X g (ix3 n s k) = rms (fun k => X (ix3 n s k)) (fun k => g (ix2 0 k)) k := by
  pointwise [val_main_v14, val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, rms, rmsScale]

/-- The reference's units. -/
theorem unit_at (n : Fin 2) (s : Fin 16384) (j : Fin 4096) : val_main_v39 (F := Ideal) X g w b (ix3 n s j)
    = unitOf (rms (fun k => X (ix3 n s k)) (fun k => g (ix2 0 k))) (fun k j => w (ix3 0 k j)) (fun j => b (ix2 0 j)) j := by
  pointwise [val_main_v39, val_main_v38, val_main_v37, val_main_v36, val_main_v35, val_main_v34, val_main_v33, val_main_v32, val_main_v31, val_main_v30, val_main_v29,
    val_main_v18, val_main_v17, val_main_v16, val_main_v15, val_main_cst_2, val_main_cst_3, norm_at]
  exact gelu_erfc _

/-- The second half of the reference's units. -/
theorem half_at (n : Fin 2) (s : Fin 16384) (j : Fin 2048) : val_main_v41 (F := Ideal) X g w b (ix3 n s j)
    = half (fun k => X (ix3 n s k)) (fun k => g (ix2 0 k)) (fun k j => w (ix3 0 k j)) (fun j => b (ix2 0 j)) j := by
  pointwise [val_main_v41, unit_at, half]

/-- The reference's mean. -/
theorem mean_at (n : Fin 2) (s : Fin 16384) : val_main_v45 (F := Ideal) X g w b (ix3 n s 0)
    = mean (half (fun k => X (ix3 n s k)) (fun k => g (ix2 0 k)) (fun k j => w (ix3 0 k j)) (fun j => b (ix2 0 j))) := by
  pointwise [val_main_v45, val_main_v44, val_main_v43, val_main_v42, val_main_cst_4, val_main_cst_5, half_at, mean]

/-- The reference's variance. -/
theorem var_at (n : Fin 2) (s : Fin 16384) : val_main_v52 (F := Ideal) X g w b (ix3 n s 0)
    = varR (half (fun k => X (ix3 n s k)) (fun k => g (ix2 0 k)) (fun k j => w (ix3 0 k j)) (fun j => b (ix2 0 j))) := by
  pointwise [val_main_v52, val_main_v51, val_main_v50, val_main_v49, val_main_v48, val_main_v47, val_main_v46, val_main_cst_6, val_main_cst_7, half_at, mean_at, varR]
  rfl

/-- The reference's normalized second half. -/
theorem gate_at (n : Fin 2) (s : Fin 16384) (j : Fin 2048) : val_main_v65 (F := Ideal) X g w b lg lb (ix3 n s j)
    = gate varR (fun k => X (ix3 n s k)) (fun k => g (ix2 0 k)) (fun k j => w (ix3 0 k j)) (fun j => b (ix2 0 j)) (fun j => lg (ix2 0 j)) (fun j => lb (ix2 0 j)) j := by
  pointwise [val_main_v65, val_main_v64, val_main_v63, val_main_v62, val_main_v61, val_main_v60, val_main_v59, val_main_v58, val_main_v57, val_main_v56, val_main_v55, val_main_v54, val_main_v53,
    val_main_v22, val_main_v21, val_main_v20, val_main_v19, val_main_cst_8, half_at, mean_at, var_at, gate, lnorm]

/-- The chunk of a position, computed. -/
theorem chunk_at : ∀ k : Fin 128, val_main_v68 (F := Ideal) (ix1 k) = BitVec.ofNat 32 (k.val / 64) := by decide +kernel

/-- The reference's mask. -/
theorem mask_at (p q : Fin 128) : val_main_v73 (F := Ideal) (ix2 p q) = if q.val / 64 ≤ p.val / 64 then 1#1 else 0#1 := by
  pointwise [val_main_v73, val_main_v72, val_main_v71, val_main_v70, val_main_v69, chunk_at]
  have hp : p.val / 64 = 0 ∨ p.val / 64 = 1 := by omega
  have hq : q.val / 64 = 0 ∨ q.val / 64 = 1 := by omega
  rcases hp with h | h <;> rcases hq with h' | h' <;> rw [h, h'] <;> rfl

/-- The reference's masked position matrices. -/
theorem ws_at (h : Fin 16) (p q : Fin 128) : val_main_v77 (F := Ideal) ws (ix3 h p q) = if q.val / 64 ≤ p.val / 64 then ws (ix4 0 h p q) else 0 := by
  pointwise [val_main_v77, val_main_v76, val_main_v75, val_main_v74, val_main_v24, val_main_v23, mask_at]
  by_cases e : q.val / 64 ≤ p.val / 64
  · rw [if_pos e, if_pos e]
    simp [FloatOps.uitofp]
  · rw [if_neg e, if_neg e]
    simp [FloatOps.uitofp]

/-- The reference's rows, cut into blocks and groups. -/
theorem cut_at (n : Fin 2) (k p : Fin 128) (h : Fin 16) (l : Fin 128) : val_main_v66 (F := Ideal) X g w b lg lb (ix5 n k p h l)
    = val_main_v65 (F := Ideal) X g w b lg lb (ix3 n ⟨k.val * 128 + p.val, by omega⟩ ⟨h.val * 128 + l.val, by omega⟩) := by
  pointwise [val_main_v66]

/-- The reference's mixed rows, block by block and group by group. -/
theorem mix_at (n : Fin 2) (k p : Fin 128) (h : Fin 16) (l : Fin 128) : val_main_v83 (F := Ideal) X g w b lg lb ws bs (ix5 n k p h l)
    = mixed (fun q => gate varR (fun r => X (ix3 n ⟨k.val * 128 + q.val, by omega⟩ r)) (fun k => g (ix2 0 k)) (fun k j => w (ix3 0 k j)) (fun j => b (ix2 0 j)) (fun j => lg (ix2 0 j)) (fun j => lb (ix2 0 j)))
      (fun h p q => ws (ix4 0 h p q)) (fun h p => bs (ix3 0 h p)) p ⟨h.val * 128 + l.val, by omega⟩ := by
  pointwise [val_main_v83, val_main_v82, val_main_v81, val_main_v80, val_main_v79, val_main_v78, val_main_v26, val_main_v25, cut_at, gate_at, ws_at, mixed]
  have eh : (⟨(h.val * 128 + l.val) / 128, by omega⟩ : Fin 16) = h := Fin.ext (by show (h.val * 128 + l.val) / 128 = h.val; omega)
  refine congrArg₂ (· + ·) (Finset.sum_congr rfl fun q _ => ?_) ?_
  · rw [eh]
    by_cases e : q.val / 64 ≤ p.val / 64
    · rw [if_pos e, if_pos e, mul_comm]
    · rw [if_neg e, if_neg e, mul_zero]
  · rw [eh]

/-- The reference's mixed rows, uncut. -/
theorem uncut_at (n : Fin 2) (s : Fin 16384) (k : Fin 2048) : val_main_v84 (F := Ideal) X g w b lg lb ws bs (ix3 n s k)
    = mixed (fun q => gate varR (fun r => X (ix3 n ⟨s.val / 128 * 128 + q.val, by omega⟩ r)) (fun k => g (ix2 0 k)) (fun k j => w (ix3 0 k j)) (fun j => b (ix2 0 j)) (fun j => lg (ix2 0 j)) (fun j => lb (ix2 0 j)))
      (fun h p q => ws (ix4 0 h p q)) (fun h p => bs (ix3 0 h p)) ⟨s.val % 128, Nat.mod_lt _ (by decide)⟩ k := by
  have ek : (⟨k.val / 128 * 128 + k.val % 128, by omega⟩ : Fin 2048) = k := Fin.ext (by show k.val / 128 * 128 + k.val % 128 = k.val; omega)
  refine Eq.trans ?_ ((mix_at X g w b lg lb ws bs n ⟨s.val / 128, by omega⟩ ⟨s.val % 128, Nat.mod_lt _ (by decide)⟩ ⟨k.val / 128, by omega⟩ ⟨k.val % 128, Nat.mod_lt _ (by decide)⟩).trans (congrArg _ ek))
  pointwise [val_main_v84]

/-- The reference's result, element by element. -/
theorem ref_at (r : Fin 32768) (j : Fin 1024) : val_main_v88 (F := Ideal) X g w b lg lb ws bs wo (ix2 r j)
    = Cert.SguIdeal.Layer.G varR X g w b lg lb ws bs wo (ix2 r j) := by
  have e : (⟨r.val % 16384 / 128 * 128 + r.val % 128, by omega⟩ : Fin 16384) = ⟨r.val % 16384, Nat.mod_lt _ (by decide)⟩ := Fin.ext (by show r.val % 16384 / 128 * 128 + r.val % 128 = r.val % 16384; omega)
  have em : (⟨r.val % 16384 % 128, Nat.mod_lt _ (by decide)⟩ : Fin 128) = ⟨r.val % 128, Nat.mod_lt _ (by decide)⟩ := Fin.ext (by show r.val % 16384 % 128 = r.val % 128; omega)
  show _ = sgu varR (fun q k => X (ix3 ⟨r.val / 16384, by omega⟩ ⟨r.val % 16384 / 128 * 128 + q.val, by omega⟩ k))
    (fun k => g (ix2 0 k)) (fun k j => w (ix3 0 k j)) (fun j => b (ix2 0 j)) (fun j => lg (ix2 0 j)) (fun j => lb (ix2 0 j))
    (fun h p q => ws (ix4 0 h p q)) (fun h p => bs (ix3 0 h p)) (fun k j => wo (ix3 0 k j)) ⟨r.val % 128, Nat.mod_lt _ (by decide)⟩ j
  pointwise [val_main_v88, val_main_v87, val_main_v86, val_main_v85, val_main_v40, val_main_v28, val_main_v27, unit_at, uncut_at, sgu, e, em]

/-- The reference's result. -/
theorem ref_eq : val_main_v88 (F := Ideal) X g w b lg lb ws bs wo = Cert.SguIdeal.Layer.G varR X g w b lg lb ws bs wo :=
  funext fun i => (congrArg _ (eq_ix2 i)).trans ((ref_at X g w b lg lb ws bs wo (i 0) (i 1)).trans (congrArg _ (eq_ix2 i).symm))

end Cert.SguRefIdeal.Layer

namespace Cert.Sgu.Claims
open Cert.Rows Idealize.ShloMosaic Idealize.ShloMosaic.TcCoe Idealize.SL.Sem

/-- Equal arrays give equal results. -/
theorem g_congr {X X' : FVec Ideal Cert.SguIdeal.S2x16384x1024 .f32} {g g' : FVec Ideal Cert.SguIdeal.S4x1024 .f32} {w w' : FVec Ideal Cert.SguIdeal.S2x1024x4096 .f32}
    {b b' : FVec Ideal Cert.SguIdeal.S2x4096 .f32} {lg lg' lb lb' : FVec Ideal Cert.SguIdeal.S2x2048 .f32} {ws ws' : FVec Ideal Cert.SguIdeal.S2x16x128x128 .f32}
    {bs bs' : FVec Ideal Cert.SguIdeal.S2x16x128 .f32} {wo wo' : FVec Ideal Cert.SguIdeal.S2x2048x1024 .f32}
    (h0 : X' = X) (h1 : g' = g) (h2 : w' = w) (h3 : b' = b) (h4 : lg' = lg) (h5 : lb' = lb) (h6 : ws' = ws) (h7 : bs' = bs) (h8 : wo' = wo) :
    Cert.SguIdeal.Layer.G varR X' g' w' b' lg' lb' ws' bs' wo' = Cert.SguIdeal.Layer.G varR X g w b lg lb ws bs wo := by
  subst h0 h1 h2 h3 h4 h5 h6 h7 h8; rfl

/-- With real weights the two ways of taking the variance leave the same result. -/
theorem g_var (X : FVec Ideal Cert.SguIdeal.S2x16384x1024 .f32) (g : FVec Ideal Cert.SguIdeal.S4x1024 .f32) (w : FVec Ideal Cert.SguIdeal.S2x1024x4096 .f32)
    (b : FVec Ideal Cert.SguIdeal.S2x4096 .f32) (lg lb : FVec Ideal Cert.SguIdeal.S2x2048 .f32) (ws : FVec Ideal Cert.SguIdeal.S2x16x128x128 .f32)
    (bs : FVec Ideal Cert.SguIdeal.S2x16x128 .f32) (wo : FVec Ideal Cert.SguIdeal.S2x2048x1024 .f32)
    (h : Cert.Pre_sgu_weights_finite.fn (F := Ideal) X g w b lg lb ws bs wo = fun _ => 1#1) :
    Cert.SguIdeal.Layer.G varK X g w b lg lb ws bs wo = Cert.SguIdeal.Layer.G varR X g w b lg lb ws bs wo := by
  have f := fun k j => Cert.Pre_sgu_weights_finite.Layer.fn_at X g w b lg lb ws bs wo k j (congrFun h (ix2 k j))
  exact funext fun i => sgu_var _ _ _ _ _ _ _ _ _ _ _ (fun k => (f k 0).2.2) (fun k j => (f k j).1) (fun j => (f 0 j).2.1)

set_option maxHeartbeats 2000000 in
/-- The kernel and its reference leave the same array. -/
theorem algebraic : Cert.algebraic_SguIdeal_SguRefIdeal_pre_sgu_weights_finite := by
  pair_intro
  · run_from Cert.SguIdeal.Gen.run_main m g
  · run_from Cert.SguRefIdeal.Value.run m' g'
    rw [Cert.SguIdeal.Layer.final m c, Cert.SguRefIdeal.Read.val_main_v88_eq]
    obtain ⟨h0, h1, h2, h3, h4, h5, h6, h7, h8⟩ := hagree c
    exact ((Cert.SguRefIdeal.Layer.ref_eq _ _ _ _ _ _ _ _ _).trans (g_congr h0 h1 h2 h3 h4 h5 h6 h7 h8)).trans (g_var _ _ _ _ _ _ _ _ _ (hpre c)).symm

/-- The reference's frame. -/
theorem frame_ref : Cert.quiescent_SguRefIdeal := fun m ρ _ =>
  (θ_run Cert.SguRefIdeal.defs _ _).mono (fun r h => ⟨fun c => (h c).2, sem_eq_zero_of_no_sems (by decide) r.2⟩)
    (Cert.SguRefIdeal.Value.run (F := Ideal) m ρ)

end Cert.Sgu.Claims

end
-- ==== Proof.FfnValue.lean ====
/- What the perceptron kernel leaves in its output array: each row of the layer, over the argument arrays. -/
module

public import proofs.«01_k».proof.Proof.Rows
public import proofs.«01_k».proof.Proof.Gen.FfnIdeal.Value
public import Idealize.ShloMosaic.Lib.Pipeline.ValueKit
public import Idealize.ShloMosaic.Lib.Claim

@[expose] public section

set_option maxRecDepth 16384

noncomputable section

namespace Cert.FfnIdeal.Layer

open Cert.FfnIdeal Cert.FfnIdeal.Gen Idealize.ShloMosaic Idealize.ShloMosaic.TcCoe Idealize.SL.Sem
open Idealize.ShloMosaic.Pipeline (Dat)
open Cert.Rows

variable (x0 : Vec Ideal S1024x1024 .f32) (x1 : Vec Ideal S1x1024 .f32) (x2 : Vec Ideal S1x1024x4096 .bf16) (x3 : Vec Ideal S1x4096x1024 .bf16)

/-- The kernel's normalized row. -/
theorem norm_at (a : Fin 1024) (k : Fin 1024) :
    k0_pay3 x0 x1 (ix2 a k) = rms (fun k => x0 (ix2 a k)) (fun k => x1 (ix2 0 k)) k := by
  pointwise [k0_pay3, k0_pay2, rms, rmsScale]

/-- One element of the output block, over the input blocks. -/
theorem out_at (a b : Fin 1024) : out0_4 x0 x1 x2 x3 (ix2 a b)
    = ffn (fun k => x0 (ix2 a k)) (fun k => x1 (ix2 0 k)) (fun l k => x2 (ix3 0 l k)) (fun k j => x3 (ix3 0 k j)) b := by
  rw [ffn, sum_quarters]
  unfold out0_4
  frame_out
  pointwise [k0_pay1, k0_pay4, k0_pay5, k0_pay2, norm_at, unit, r0_2, r0_3, r0_4, r0_5, r0_6, r0_7, r0_8, r0_9]

/-- The block each window holds at each step. -/
theorem idx : ∀ t : Fin cfg0.N, win0_0.index t = ![t.val, 0] ∧ win0_1.index t = ![0, 0] ∧ win0_2.index t = ![0, 0, 0] ∧ win0_3.index t = ![0, 0, 0]
    ∧ win0_4.index t = ![t.val, 0] :=
  (by decide +kernel : ∀ t : Fin grid0.N, _)

variable (m : (ℓ : Loc nD τ sig) → Buf (Elt Ideal) ℓ)

/-- The layer of the whole array, row by row, over the argument arrays. -/
def G (X : FVec Ideal S2x16384x1024 .f32) (g : FVec Ideal S4x1024 .f32) (w1 : FVec Ideal S4x1024x4096 .f32) (w2 : FVec Ideal S4x4096x1024 .f32) :
    FVec Ideal S32768x1024 .f32 := fun i =>
  ffn (fun k => X (ix3 ⟨(i 0).val / 16384, by have := (i 0).isLt; show _ < 2; have : (i 0).val < 32768 := (i 0).isLt; omega⟩ ⟨(i 0).val % 16384, Nat.mod_lt _ (by decide)⟩ k))
    (fun k => g (ix2 0 k)) (fun l k => w1 (ix3 0 l k)) (fun k j => w2 (ix3 0 k j)) (i 1)

/-- The grid has 32 steps. -/
theorem lt_N (t : Fin cfg0.N) : t.val < 32 := (by decide +kernel : ∀ t : Fin grid0.N, t.val < 32) t

/-! Where each window's block lies in its array. -/

theorem emb0 (t : Fin cfg0.N) (a k : Fin 1024) :
    ((cfg0.win 0).blk t).view.emb (ix2 a k) = (ix2 ⟨t.val * 1024 + a.val, by have := lt_N t; omega⟩ k : S32768x1024.Idx) := by
  blk_ext [idx t]

theorem emb1 (t : Fin cfg0.N) (k : Fin 1024) :
    ((cfg0.win 1).blk t).view.emb (ix2 0 k) = (ix2 0 k : S1x1024.Idx) := by
  blk_ext [idx t]

theorem emb2 (t : Fin cfg0.N) (l : Fin 1024) (k : Fin 4096) :
    ((cfg0.win 2).blk t).view.emb (ix3 0 l k) = (ix3 0 l k : S4x1024x4096.Idx) := by
  blk_ext [idx t]

theorem emb3 (t : Fin cfg0.N) (k : Fin 4096) (j : Fin 1024) :
    ((cfg0.win 3).blk t).view.emb (ix3 0 k j) = (ix3 0 k j : S4x4096x1024.Idx) := by
  blk_ext [idx t]

theorem emb4 (t : Fin cfg0.N) (a k : Fin 1024) :
    ((cfg0.win 4).blk t).view.emb (ix2 a k) = (ix2 ⟨t.val * 1024 + a.val, by have := lt_N t; omega⟩ k : S32768x1024.Idx) := by
  blk_ext [idx t]

/-! What each input block holds, over the argument arrays. -/

theorem x_at (c : Dev nD) (t : Fin cfg0.N) (a k : Fin 1024) :
    (show FVec Ideal S1024x1024 .f32 from iblk m c 0 t) (ix2 a k) = (show FVec Ideal S2x16384x1024 .f32 from m ((c : Thread nD τ).loc main_arg0)) (ix3
      ⟨(t.val * 1024 + a.val) / 16384, by have := lt_N t; omega⟩ ⟨(t.val * 1024 + a.val) % 16384, Nat.mod_lt _ (by decide)⟩ k) := by
  show V m c main_v0 (((cfg0.win 0).blk t).view.emb (ix2 a k)) = _
  rw [emb0]
  entry_read
  pointwise

theorem g_at (c : Dev nD) (t : Fin cfg0.N) (k : Fin 1024) :
    (show FVec Ideal S1x1024 .f32 from iblk m c 1 t) (ix2 0 k) = (show FVec Ideal S4x1024 .f32 from m ((c : Thread nD τ).loc main_arg1)) (ix2 0 k) := by
  show V m c main_v3 (((cfg0.win 1).blk t).view.emb (ix2 0 k)) = _
  rw [emb1]
  entry_read
  pointwise

theorem w1_at (c : Dev nD) (t : Fin cfg0.N) (l : Fin 1024) (k : Fin 4096) :
    (show FVec Ideal S1x1024x4096 .bf16 from iblk m c 2 t) (ix3 0 l k) = (show FVec Ideal S4x1024x4096 .f32 from m ((c : Thread nD τ).loc main_arg2)) (ix3 0 l k) := by
  show V m c main_v4 (((cfg0.win 2).blk t).view.emb (ix3 0 l k)) = _
  rw [emb2]
  entry_read
  pointwise

theorem w2_at (c : Dev nD) (t : Fin cfg0.N) (k : Fin 4096) (j : Fin 1024) :
    (show FVec Ideal S1x4096x1024 .bf16 from iblk m c 3 t) (ix3 0 k j) = (show FVec Ideal S4x4096x1024 .f32 from m ((c : Thread nD τ).loc main_arg3)) (ix3 0 k j) := by
  show V m c main_v5 (((cfg0.win 3).blk t).view.emb (ix3 0 k j)) = _
  rw [emb3]
  entry_read
  pointwise

/-- The output array after the last step. -/
theorem final (c : Dev nD) : (dats m 0 c).arrAt 4 (cfgs 0).N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  idx_vars y
  refine (out_at _ _ _ _ _ _).trans ?_
  refine Eq.trans ?_ (congrArg (G _ _ _ _) (emb4 t y0 y1)).symm
  refine Eq.trans (ffn_congr (fun k => x_at m c t y0 k) (g_at m c t) (w1_at m c t) (w2_at m c t) y1) ?_
  rfl

end Cert.FfnIdeal.Layer

end
-- ==== Proof.FfnRef.lean ====
/- The reference of the perceptron layer computes the same rows, and the claims about the pair. -/
module

public import proofs.«01_k».proof.Proof.FfnValue
public import proofs.«01_k».proof.Proof.Gen.FfnRefIdeal.Read
public import proofs.«01_k».proof.Defs

@[expose] public section

set_option maxRecDepth 16384

noncomputable section

namespace Cert.FfnRefIdeal.Layer

open Cert.FfnRefIdeal Cert.FfnRefIdeal.Gen Cert.FfnRefIdeal.Read Idealize.ShloMosaic Idealize.ShloMosaic.TcCoe Idealize.SL.Sem
open Cert.Rows

variable (X : FVec Ideal S2x16384x1024 .f32) (g : FVec Ideal S4x1024 .f32) (w1 : FVec Ideal S4x1024x4096 .f32) (w2 : FVec Ideal S4x4096x1024 .f32)

/-- The reference's result, element by element. -/
theorem ref_at (r : Fin 32768) (j : Fin 1024) : val_main_v24 (F := Ideal) X g w1 w2 (ix2 r j) = Cert.FfnIdeal.Layer.G X g w1 w2 (ix2 r j) := by
  pointwise [val_main_v24, val_main_v23, val_main_v22, val_main_v21, val_main_v20, val_main_v19, val_main_v18, val_main_v17, val_main_v16, val_main_v15, val_main_v14,
   val_main_v13, val_main_v12, val_main_v11, val_main_v10, val_main_v9, val_main_v8, val_main_v7, val_main_v6, val_main_v5, val_main_v4, val_main_v3, val_main_v2,
   val_main_v1, val_main_v0, val_main_cst, val_main_cst_0, val_main_cst_1, val_main_call0_cst, val_main_call0_v0, Cert.FfnIdeal.Layer.G, ffn, unit, rms, rmsScale]

end Cert.FfnRefIdeal.Layer

namespace Cert.Ffn.Claims
open Idealize.ShloMosaic Idealize.ShloMosaic.TcCoe Idealize.SL.Sem

/-- The kernel and its reference leave the same array. -/
theorem algebraic : Cert.algebraic_FfnIdeal_FfnRefIdeal := by
  pair_intro
  · run_from Cert.FfnIdeal.Gen.run_main m g
  · run_from Cert.FfnRefIdeal.Value.run m' g'
    rw [Cert.FfnIdeal.Layer.final m c]
    exact funext fun i => (congrArg _ (eq_ix2 i)).trans ((Cert.FfnRefIdeal.Layer.ref_at _ _ _ _ (i 0) (i 1)).trans (congrArg _ (eq_ix2 i).symm))

/-- The reference's frame. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

end Cert.Ffn.Claims

end
-- ==== Proof.OutHeads.lean ====
/- The sums over the lanes of one head: the kernel lays the eight 128-lane tiles of a block under one another, multiplies
   by a 128×128 matrix and lays the results side by side again. -/
module

public import proofs.«01_k».proof.Proof.Rows
public import proofs.«01_k».proof.Proof.Gen.OutIdeal.Value

@[expose] public section

set_option maxRecDepth 16384

noncomputable section

namespace Cert.OutIdeal.Layer

open Cert.OutIdeal Cert.OutIdeal.Gen Idealize.ShloMosaic Idealize.ShloMosaic.TcCoe Idealize.SL.Sem
open Cert.Rows

/-- The eight tiles of a block, one under the other. -/
def stack (x : FVec Ideal S256x1024 .f32) : FVec Ideal S2048x128 .f32 :=
  concatenate S2048x128 0 [⟨S256x128, extractStridedSlice S256x128 ![0, 0] x slices_S256x1024_o0_0_S256x128⟩, ⟨S256x128, extractStridedSlice S256x128 ![0, 128] x slices_S256x1024_o0_128_S256x128⟩, ⟨S256x128, extractStridedSlice S256x128 ![0, 256] x slices_S256x1024_o0_256_S256x128⟩, ⟨S256x128, extractStridedSlice S256x128 ![0, 384] x slices_S256x1024_o0_384_S256x128⟩, ⟨S256x128, extractStridedSlice S256x128 ![0, 512] x slices_S256x1024_o0_512_S256x128⟩, ⟨S256x128, extractStridedSlice S256x128 ![0, 640] x slices_S256x1024_o0_640_S256x128⟩, ⟨S256x128, extractStridedSlice S256x128 ![0, 768] x slices_S256x1024_o0_768_S256x128⟩, ⟨S256x128, extractStridedSlice S256x128 ![0, 896] x slices_S256x1024_o0_896_S256x128⟩] concatenates_S256x128_S256x128_S256x128_S256x128_S256x128_S256x128_S256x128_S256x128_S2048x128_d0

/-- Eight row groups, side by side. -/
def unstack (x : FVec Ideal S2048x128 .f32) : FVec Ideal S256x1024 .f32 :=
  concatenate S256x1024 1 [⟨S256x128, extractStridedSlice S256x128 ![0, 0] x slices_S2048x128_o0_0_S256x128⟩, ⟨S256x128, extractStridedSlice S256x128 ![256, 0] x slices_S2048x128_o256_0_S256x128⟩, ⟨S256x128, extractStridedSlice S256x128 ![512, 0] x slices_S2048x128_o512_0_S256x128⟩, ⟨S256x128, extractStridedSlice S256x128 ![768, 0] x slices_S2048x128_o768_0_S256x128⟩, ⟨S256x128, extractStridedSlice S256x128 ![1024, 0] x slices_S2048x128_o1024_0_S256x128⟩, ⟨S256x128, extractStridedSlice S256x128 ![1280, 0] x slices_S2048x128_o1280_0_S256x128⟩, ⟨S256x128, extractStridedSlice S256x128 ![1536, 0] x slices_S2048x128_o1536_0_S256x128⟩, ⟨S256x128, extractStridedSlice S256x128 ![1792, 0] x slices_S2048x128_o1792_0_S256x128⟩] concatenates_S256x128_S256x128_S256x128_S256x128_S256x128_S256x128_S256x128_S256x128_S256x1024_d1

/-- An entry of the stacked tiles. -/
theorem stack_at (x : FVec Ideal S256x1024 .f32) (j : Fin 8) (a : Fin 256) (c : Fin 128) :
    stack x (ix2 ⟨256 * j.val + a.val, by omega⟩ c) = x (ix2 a ⟨128 * j.val + c.val, by omega⟩) := by
  refine (concatenate_ofFn_apply (t := S2048x128) (s₁ := S256x128) 0 ![extractStridedSlice S256x128 ![0, 0] x slices_S256x1024_o0_0_S256x128, extractStridedSlice S256x128 ![0, 128] x slices_S256x1024_o0_128_S256x128, extractStridedSlice S256x128 ![0, 256] x slices_S256x1024_o0_256_S256x128, extractStridedSlice S256x128 ![0, 384] x slices_S256x1024_o0_384_S256x128, extractStridedSlice S256x128 ![0, 512] x slices_S256x1024_o0_512_S256x128, extractStridedSlice S256x128 ![0, 640] x slices_S256x1024_o0_640_S256x128, extractStridedSlice S256x128 ![0, 768] x slices_S256x1024_o0_768_S256x128, extractStridedSlice S256x128 ![0, 896] x slices_S256x1024_o0_896_S256x128] _ rfl 256 rfl _ j ?_ (ix2 a c) ?_ ?_).trans ?_
  · show (256 * j.val + a.val) / 256 = j.val
    omega
  · show a.val = (256 * j.val + a.val) % 256
    omega
  · intro b hb
    match b with
    | ⟨0, _⟩ => exact absurd rfl hb
    | ⟨1, _⟩ => rfl
  · fin_vals j with hj
    all_goals
      obtain rfl : j = ⟨_, by decide⟩ := Fin.ext hj
      simp only [Matrix.cons_val]
      pointwise

/-- An entry of the rows laid side by side. -/
theorem unstack_at (x : FVec Ideal S2048x128 .f32) (j : Fin 8) (a : Fin 256) (c : Fin 128) :
    unstack x (ix2 a ⟨128 * j.val + c.val, by omega⟩) = x (ix2 ⟨256 * j.val + a.val, by omega⟩ c) := by
  refine (concatenate_ofFn_apply (t := S256x1024) (s₁ := S256x128) 1 ![extractStridedSlice S256x128 ![0, 0] x slices_S2048x128_o0_0_S256x128, extractStridedSlice S256x128 ![256, 0] x slices_S2048x128_o256_0_S256x128, extractStridedSlice S256x128 ![512, 0] x slices_S2048x128_o512_0_S256x128, extractStridedSlice S256x128 ![768, 0] x slices_S2048x128_o768_0_S256x128, extractStridedSlice S256x128 ![1024, 0] x slices_S2048x128_o1024_0_S256x128, extractStridedSlice S256x128 ![1280, 0] x slices_S2048x128_o1280_0_S256x128, extractStridedSlice S256x128 ![1536, 0] x slices_S2048x128_o1536_0_S256x128, extractStridedSlice S256x128 ![1792, 0] x slices_S2048x128_o1792_0_S256x128] _ rfl 128 rfl _ j ?_ (ix2 a c) ?_ ?_).trans ?_
  · show (128 * j.val + c.val) / 128 = j.val
    omega
  · show c.val = (128 * j.val + c.val) % 128
    omega
  · intro b hb
    match b with
    | ⟨0, _⟩ => rfl
    | ⟨1, _⟩ => exact absurd rfl hb
  · fin_vals j with hj
    all_goals
      obtain rfl : j = ⟨_, by decide⟩ := Fin.ext hj
      simp only [Matrix.cons_val]
      pointwise

/-- The sums within the heads of 256 rows, as the kernel takes them. -/
def hsum (x : FVec Ideal S256x1024 .f32) (o : FVec Ideal S128x128 .bf16) : FVec Ideal S256x1024 .f32 :=
  unstack (matmul dot_S2048x128_S128x128_S2048x128_1_0_0_1_n_n none (truncf .bf16 (stack x) bitsLt_bf16_f32 : FVec Ideal S2048x128 .bf16)
    (shapeCast S128x128 o shapeCasts_S128x128_S128x128) (constant S2048x128 .f32 0x00000000#32))

/-- A sum within a head, in one tile of the block. -/
theorem hsum_group (x : FVec Ideal S256x1024 .f32) (o : FVec Ideal S128x128 .bf16) (j : Fin 8) (a : Fin 256) (c : Fin 128) :
    hsum x o (ix2 a ⟨128 * j.val + c.val, by omega⟩) = ∑ k : Fin 128, x (ix2 a ⟨128 * j.val + k.val, by omega⟩) * o (ix2 k c) := by
  rw [hsum, unstack_at]
  pointwise [stack_at]

/-- A sum within a head, at any lane of the block. -/
theorem hsum_at (x : FVec Ideal S256x1024 .f32) (o : FVec Ideal S128x128 .bf16) (a : Fin 256) (j : Fin 1024) :
    hsum x o (ix2 a j) = laneSum (fun k c => o (ix2 k c)) (fun k => x (ix2 a k)) j := by
  refine Eq.trans ?_ (hsum_group x o ⟨j.val / 128, by omega⟩ a ⟨j.val % 128, Nat.mod_lt _ (by decide)⟩)
  exact congrArg (fun j => hsum x o (ix2 a j)) (Fin.ext (by show j.val = 128 * (j.val / 128) + j.val % 128; omega))

end Cert.OutIdeal.Layer

end
-- ==== Proof.OutValue.lean ====
/- The last call on one step: what it leaves in the output block, over the blocks it is given. -/
module

public import proofs.«01_k».proof.Proof.OutHeads
public import proofs.«01_k».proof.Proof.Gen.OutIdeal.Value
public import Idealize.ShloMosaic.Lib.Pipeline.ValueKit
public import Idealize.ShloMosaic.Lib.Claim

@[expose] public section

set_option maxRecDepth 16384

noncomputable section

namespace Cert.OutIdeal.Layer

open Cert.OutIdeal Cert.OutIdeal.Gen Idealize.ShloMosaic Idealize.ShloMosaic.TcCoe Idealize.SL.Sem
open Idealize.ShloMosaic.Pipeline (Dat)
open Cert.Rows

/-- The kernel's mean of a row over each head. -/
def kmean (o : Fin 128 → Fin 128 → EReal) (y : Fin 1024 → EReal) (k : Fin 1024) : EReal :=
  laneSum o y k * Ideal.ofBits .f32 0x3C800000#32

/-- The means within the heads of 256 rows. -/
def vmean (y : FVec Ideal S256x1024 .f32) (o : FVec Ideal S128x128 .bf16) : FVec Ideal S256x1024 .f32 :=
  mulf (hsum y o) (broadcast S256x1024 (Scalar.ofBits .f32 0x3C800000#32))

/-- A mean of the block is the row's mean. -/
theorem vmean_at (y : FVec Ideal S256x1024 .f32) (o : FVec Ideal S128x128 .bf16) (a : Fin 256) (k : Fin 1024) :
    vmean y o (ix2 a k) = kmean (fun k c => o (ix2 k c)) (fun k => y (ix2 a k)) k := by
  pointwise [vmean, hsum_at, kmean]

/-- 256 rows without the means within their heads. -/
def vdev (y : FVec Ideal S256x1024 .f32) (o : FVec Ideal S128x128 .bf16) : FVec Ideal S256x1024 .f32 := subf y (vmean y o)

/-- An entry of the block without the means. -/
theorem vdev_at (y : FVec Ideal S256x1024 .f32) (o : FVec Ideal S128x128 .bf16) (a : Fin 256) (k : Fin 1024) :
    vdev y o (ix2 a k) = dev (kmean (fun k c => o (ix2 k c))) (fun k => y (ix2 a k)) k := by
  pointwise [vdev, vmean_at, dev]

/-- The gated normalization of 256 rows. -/
def vgated (y : FVec Ideal S256x1024 .f32) (o : FVec Ideal S128x128 .bf16) (lg lb : FVec Ideal S1x1024 .f32) (bon gt : FVec Ideal S256x1024 .bf16) :
    FVec Ideal S256x1024 .bf16 :=
  k0_pay24 (vdev y o) (vmean (mulf (vdev y o) (vdev y o)) o) lg lb bon gt

/-- An entry of the gated normalization. -/
theorem vgated_at (y : FVec Ideal S256x1024 .f32) (o : FVec Ideal S128x128 .bf16) (lg lb : FVec Ideal S1x1024 .f32) (bon gt : FVec Ideal S256x1024 .bf16)
    (a : Fin 256) (k : Fin 1024) : vgated y o lg lb bon gt (ix2 a k)
      = gated (kmean (fun k c => o (ix2 k c))) (fun k => y (ix2 a k)) (fun k => lg (ix2 0 k)) (fun k => lb (ix2 0 k)) (fun k => bon (ix2 a k)) (fun k => gt (ix2 a k)) k := by
  pointwise [vgated, k0_pay24, vdev_at, vmean_at, gated]

variable (x0 : Vec Ideal S512x1024 .f32) (x1 x2 : Vec Ideal S512x1024 .bf16) (x3 : Vec Ideal S512x1024 .f32) (x4 x5 : Vec Ideal S1x1024 .f32)
  (x6 : Vec Ideal S1x1024x1024 .bf16) (x7 : Vec Ideal S128x128 .bf16) (x8 : Vec Ideal S1x1024 .f32) (x9 : Vec Ideal S1x1024x4096 .bf16)
  (x10 : Vec Ideal S1x4096x1024 .bf16) (x11 : Vec Ideal S1x1024 .f32)

/-- The payload of the upper half of the rows is the gated normalization of them. -/
theorem upper : k0_pay42 x0 x1 x2 x3 x4 x5 x6 x7 x8 x9 x10 x11
    = vgated (k0_pay2 (View.ld x0 r0_0)) (View.ld x7 r0_2) (View.ld x4 r0_3) (View.ld x5 r0_3) (View.ld x1 r0_0) (View.ld x2 r0_0) := rfl

/-- The payload of the lower half of the rows is the gated normalization of them. -/
theorem lower : k0_pay43 x0 x1 x2 x3 x4 x5 x6 x7 x8 x9 x10 x11
    = vgated (k0_pay3 (View.ld x0 r0_1)) (View.ld x7 r0_2) (View.ld x4 r0_3) (View.ld x5 r0_3) (View.ld x1 r0_1) (View.ld x2 r0_1) := rfl

/-- The projection and the skip connection, at an entry. -/
theorem proj_at (a : Fin 512) (r : Fin 1024) :
    k0_pay26 (k0_pay42 x0 x1 x2 x3 x4 x5 x6 x7 x8 x9 x10 x11) (k0_pay43 x0 x1 x2 x3 x4 x5 x6 x7 x8 x9 x10 x11) (View.ld x3 r0_0) x6 (View.ld x3 r0_1) x6 (ix2 a r)
      = proj (kmean fun k c => x7 (ix2 k c)) (fun k => x0 (ix2 a k)) (fun k => x4 (ix2 0 k)) (fun k => x5 (ix2 0 k)) (fun k => x1 (ix2 a k)) (fun k => x2 (ix2 a k))
          (fun k => x3 (ix2 a k)) (fun k r => x6 (ix3 0 k r)) r := by
  rw [upper, lower]
  rcases Nat.lt_or_ge a.val 256 with h | h
  · obtain ⟨b, rfl⟩ : ∃ b : Fin 256, a = ⟨b.val, b.isLt.trans (by decide)⟩ := ⟨⟨a.val, h⟩, rfl⟩
    pointwise [k0_pay26, vgated_at, proj, k0_pay2, r0_0, r0_1, r0_2, r0_3, r0_4]
  · obtain ⟨b, rfl⟩ : ∃ b : Fin 256, a = ⟨256 + b.val, Nat.add_lt_add_left b.isLt 256⟩ := ⟨⟨a.val - 256, by omega⟩, Fin.ext (by show a.val = 256 + (a.val - 256); omega)⟩
    pointwise [k0_pay26, vgated_at, proj, k0_pay3, r0_0, r0_1, r0_2, r0_3, r0_4]

/-- The normalization before the perceptron layer, at an entry. -/
theorem norm_at (a : Fin 512) (k : Fin 1024) :
    k0_pay27 (k0_pay42 x0 x1 x2 x3 x4 x5 x6 x7 x8 x9 x10 x11) (k0_pay43 x0 x1 x2 x3 x4 x5 x6 x7 x8 x9 x10 x11) (View.ld x3 r0_0) x6 (View.ld x3 r0_1) x6
      x8 (ix2 a k)
      = rms (proj (kmean fun k c => x7 (ix2 k c)) (fun k => x0 (ix2 a k)) (fun k => x4 (ix2 0 k)) (fun k => x5 (ix2 0 k)) (fun k => x1 (ix2 a k)) (fun k => x2 (ix2 a k))
          (fun k => x3 (ix2 a k)) (fun k r => x6 (ix3 0 k r))) (fun k => x8 (ix2 0 k)) k := by
  pointwise [k0_pay27, proj_at, rms, rmsScale, r0_3]

/-- The last normalization, at an entry. -/
theorem last_at (v200 : FVec Ideal S512x1024 .f32) (v207 : FVec Ideal S512x1024 .bf16) (v208 : Vec Ideal S1x1024x1024 .bf16) (v212 : Vec Ideal S1x1024 .f32)
    (a : Fin 512) (j : Fin 1024) : k0_pay1 v200 v207 v208 v212 (ix2 a j)
      = rms (fun r => v200 (ix2 a r) + ∑ k : Fin 1024, v207 (ix2 a k) * v208 (ix3 0 k r)) (fun k => v212 (ix2 0 k)) j := by
  pointwise [k0_pay1, rms, rmsScale]

/-- The hidden units of one quarter, at an entry. -/
theorem unit_at (a : Fin 512) (k : Fin 1024) (v : Vec Ideal S1x1024x1024 .bf16) :
    k0_pay28 (k0_pay42 x0 x1 x2 x3 x4 x5 x6 x7 x8 x9 x10 x11) (k0_pay43 x0 x1 x2 x3 x4 x5 x6 x7 x8 x9 x10 x11) (View.ld x3 r0_0) x6 (View.ld x3 r0_1) x6
      x8 v (ix2 a k)
      = unit (rms (proj (kmean fun k c => x7 (ix2 k c)) (fun k => x0 (ix2 a k)) (fun k => x4 (ix2 0 k)) (fun k => x5 (ix2 0 k)) (fun k => x1 (ix2 a k)) (fun k => x2 (ix2 a k))
          (fun k => x3 (ix2 a k)) (fun k r => x6 (ix3 0 k r))) (fun k => x8 (ix2 0 k))) (fun l => v (ix3 0 l k)) := by
  pointwise [k0_pay28, norm_at, unit]

/-- The perceptron layer on a row whose projection and normalization are known. -/
theorem ffn_at (P : FVec Ideal S512x1024 .f32) (N U : FVec Ideal S512x1024 .bf16) (p : Fin 1024 → EReal) (n : Fin 1024 → EReal) (a : Fin 512) (hp : ∀ r, P (ix2 a r) = p r)
    (hn : ∀ k, N (ix2 a k) = n k) (hu : ∀ k, U (ix2 a k) = unit n (fun l => x9 (ix3 0 l ⟨k.val, by omega⟩))) (r : Fin 1024) :
    k0_pay29 P N U (View.ld x10 r0_6) (View.ld x9 r0_7) (View.ld x10 r0_8) (View.ld x9 r0_9) (View.ld x10 r0_10) (ix2 a r)
      + ∑ k : Fin 1024, k0_pay30 N (View.ld x9 r0_11) (ix2 a k) * View.ld x10 r0_12 (ix3 0 k r : S1x1024x1024.Idx)
    = p r + ∑ k, unit n (fun l => x9 (ix3 0 l k)) * x10 (ix3 0 k r) := by
  rw [sum_quarters, ← hp]
  pointwise [k0_pay29, k0_pay30, unit, hn, hu, r0_6, r0_7, r0_8, r0_9, r0_10, r0_11, r0_12]

/-- What one step leaves in the output block, at an entry. -/
theorem out_at (a : Fin 512) (j : Fin 1024) : out0_12 x0 x1 x2 x3 x4 x5 x6 x7 x8 x9 x10 x11 (ix2 a j)
    = Cert.Rows.tail (kmean fun k c => x7 (ix2 k c)) (fun k => x0 (ix2 a k)) (fun k => x4 (ix2 0 k)) (fun k => x5 (ix2 0 k)) (fun k => x1 (ix2 a k)) (fun k => x2 (ix2 a k))
          (fun k => x3 (ix2 a k)) (fun k r => x6 (ix3 0 k r)) (fun k => x8 (ix2 0 k)) (fun l k => x9 (ix3 0 l k)) (fun k j => x10 (ix3 0 k j)) (fun k => x11 (ix2 0 k)) j := by
  unfold out0_12 k0_pay44
  frame_out
  refine (last_at _ _ _ _ a j).trans ?_
  rw [Cert.Rows.tail]
  refine congrArg₂ (fun f g => rms f g j) (funext fun r => ?_) (funext fun k => ?_)
  · have h := ffn_at x9 x10 _ _ _ _ _ a (proj_at x0 x1 x2 x3 x4 x5 x6 x7 x8 x9 x10 x11 a) (fun k => norm_at x0 x1 x2 x3 x4 x5 x6 x7 x8 x9 x10 x11 a k)
      (fun k => (unit_at x0 x1 x2 x3 x4 x5 x6 x7 x8 x9 x10 x11 a k (View.ld x9 r0_5)).trans (congrArg (unit _) (funext fun l => by pointwise [r0_5]))) r
    exact h
  · pointwise [r0_3]

end Cert.OutIdeal.Layer

end
-- ==== Proof.OutFinal.lean ====
/- What the last call leaves in its output array: each row of the result, over the argument arrays. -/
module

public import proofs.«01_k».proof.Proof.OutValue

@[expose] public section

set_option maxRecDepth 16384

noncomputable section

namespace Cert.OutIdeal.Layer

open Cert.OutIdeal Cert.OutIdeal.Gen Idealize.ShloMosaic Idealize.ShloMosaic.TcCoe Idealize.SL.Sem
open Idealize.ShloMosaic.Pipeline (Dat)
open Cert.Rows

/-- The block each window holds at each step. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![1, 0, 0] ∧ win0_7.index t = ![0, 0] ∧ win0_8.index t = ![0, 0]
    ∧ win0_9.index t = ![3, 0, 0] ∧ win0_10.index t = ![3, 0, 0] ∧ win0_11.index t = ![0, 0] ∧ win0_12.index t = ![t.val, 0] :=
  (by decide +kernel : ∀ t : Fin grid0.N, _)

/-- The grid has 64 steps. -/
theorem lt_N (t : Fin cfg0.N) : t.val < 64 := (by decide +kernel : ∀ t : Fin grid0.N, t.val < 64) t

variable (m : (ℓ : Loc nD τ sig) → Buf (Elt Ideal) ℓ)

/-! Where each window's block lies in its array. -/

/-- Where an entry of the block of window 0 lies in its array. -/
theorem emb0 (t : Fin cfg0.N) (a : Fin 512) (k : Fin 1024) : ((cfg0.win 0).blk t).view.emb (ix2 a k) = (ix2 ⟨t.val * 512 + a.val, by have := lt_N t; omega⟩ k : S32768x1024.Idx) := by
  blk_ext [idx t]

/-- Where an entry of the block of window 1 lies in its array. -/
theorem emb1 (t : Fin cfg0.N) (a : Fin 512) (k : Fin 1024) : ((cfg0.win 1).blk t).view.emb (ix2 a k) = (ix2 ⟨t.val * 512 + a.val, by have := lt_N t; omega⟩ k : S32768x1024.Idx) := by
  blk_ext [idx t]

/-- Where an entry of the block of window 2 lies in its array. -/
theorem emb2 (t : Fin cfg0.N) (a : Fin 512) (k : Fin 1024) : ((cfg0.win 2).blk t).view.emb (ix2 a k) = (ix2 ⟨t.val * 512 + a.val, by have := lt_N t; omega⟩ k : S32768x1024.Idx) := by
  blk_ext [idx t]

/-- Where an entry of the block of window 3 lies in its array. -/
theorem emb3 (t : Fin cfg0.N) (a : Fin 512) (k : Fin 1024) : ((cfg0.win 3).blk t).view.emb (ix2 a k) = (ix2 ⟨t.val * 512 + a.val, by have := lt_N t; omega⟩ k : S32768x1024.Idx) := by
  blk_ext [idx t]

/-- Where an entry of the block of window 12 lies in its array. -/
theorem emb12 (t : Fin cfg0.N) (a : Fin 512) (k : Fin 1024) : ((cfg0.win 12).blk t).view.emb (ix2 a k) = (ix2 ⟨t.val * 512 + a.val, by have := lt_N t; omega⟩ k : S32768x1024.Idx) := by
  blk_ext [idx t]

/-- Where an entry of the block of window 4 lies in its array. -/
theorem emb4 (t : Fin cfg0.N) (k : Fin 1024) : ((cfg0.win 4).blk t).view.emb (ix2 0 k) = (ix2 0 k : S1x1024.Idx) := by
  blk_ext [idx t]

/-- Where an entry of the block of window 5 lies in its array. -/
theorem emb5 (t : Fin cfg0.N) (k : Fin 1024) : ((cfg0.win 5).blk t).view.emb (ix2 0 k) = (ix2 0 k : S1x1024.Idx) := by
  blk_ext [idx t]

/-- Where an entry of the block of window 8 lies in its array. -/
theorem emb8 (t : Fin cfg0.N) (k : Fin 1024) : ((cfg0.win 8).blk t).view.emb (ix2 0 k) = (ix2 0 k : S1x1024.Idx) := by
  blk_ext [idx t]

/-- Where an entry of the block of window 11 lies in its array. -/
theorem emb11 (t : Fin cfg0.N) (k : Fin 1024) : ((cfg0.win 11).blk t).view.emb (ix2 0 k) = (ix2 0 k : S1x1024.Idx) := by
  blk_ext [idx t]

/-- Where an entry of the block of window 7 lies in its array. -/
theorem emb7 (t : Fin cfg0.N) (k c : Fin 128) : ((cfg0.win 7).blk t).view.emb (ix2 k c) = (ix2 k c : S128x128.Idx) := by
  blk_ext [idx t]

/-- Where an entry of the block of window 6 lies in its array. -/
theorem emb6 (t : Fin cfg0.N) (k : Fin 1024) (j : Fin 1024) : ((cfg0.win 6).blk t).view.emb (ix3 0 k j) = (ix3 1 k j : S2x1024x1024.Idx) := by
  blk_ext [idx t]

/-- Where an entry of the block of window 9 lies in its array. -/
theorem emb9 (t : Fin cfg0.N) (k : Fin 1024) (j : Fin 4096) : ((cfg0.win 9).blk t).view.emb (ix3 0 k j) = (ix3 3 k j : S4x1024x4096.Idx) := by
  blk_ext [idx t]

/-- Where an entry of the block of window 10 lies in its array. -/
theorem emb10 (t : Fin cfg0.N) (k : Fin 4096) (j : Fin 1024) : ((cfg0.win 10).blk t).view.emb (ix3 0 k j) = (ix3 3 k j : S4x4096x1024.Idx) := by
  blk_ext [idx t]

/-! What each input block holds, over the argument arrays. -/

/-- The wkv block of a step, at an entry, over the argument arrays. -/
theorem y_at (c : Dev nD) (t : Fin cfg0.N) (a : Fin 512) (k : Fin 1024) :
    (show FVec Ideal S512x1024 .f32 from iblk m c 0 t) (ix2 a k) = (show FVec Ideal S2x16384x1024 .f32 from m ((c : Thread nD τ).loc main_arg0)) (ix3 ⟨(t.val * 512 + a.val) / 16384, by have := lt_N t; omega⟩ ⟨(t.val * 512 + a.val) % 16384, Nat.mod_lt _ (by decide)⟩ k) := by
  show V m c main_v15 (((cfg0.win 0).blk t).view.emb (ix2 a k)) = _
  rw [emb0]
  simp only [V, hostOps0, hostOps0_1, hostOps0_2, List.flatten_cons, List.flatten_nil, List.append_nil, List.cons_append, List.nil_append]
  entry_read
  pointwise

/-- The bonus block of a step, at an entry, over the argument arrays. -/
theorem bonus_at (c : Dev nD) (t : Fin cfg0.N) (a : Fin 512) (k : Fin 1024) :
    (show FVec Ideal S512x1024 .bf16 from iblk m c 1 t) (ix2 a k) = (show FVec Ideal S32768x1024 .bf16 from m ((c : Thread nD τ).loc main_arg1)) (ix2 ⟨t.val * 512 + a.val, by have := lt_N t; omega⟩ k) := by
  show V m c main_arg1 (((cfg0.win 1).blk t).view.emb (ix2 a k)) = _
  rw [emb1]
  simp only [V, hostOps0, hostOps0_1, hostOps0_2, List.flatten_cons, List.flatten_nil, List.append_nil, List.cons_append, List.nil_append]
  entry_read
  pointwise

/-- The gate block of a step, at an entry, over the argument arrays. -/
theorem gate_at (c : Dev nD) (t : Fin cfg0.N) (a : Fin 512) (k : Fin 1024) :
    (show FVec Ideal S512x1024 .bf16 from iblk m c 2 t) (ix2 a k) = (show FVec Ideal S32768x1024 .bf16 from m ((c : Thread nD τ).loc main_arg2)) (ix2 ⟨t.val * 512 + a.val, by have := lt_N t; omega⟩ k) := by
  show V m c main_arg2 (((cfg0.win 2).blk t).view.emb (ix2 a k)) = _
  rw [emb2]
  simp only [V, hostOps0, hostOps0_1, hostOps0_2, List.flatten_cons, List.flatten_nil, List.append_nil, List.cons_append, List.nil_append]
  entry_read
  pointwise

/-- The skip block of a step, at an entry, over the argument arrays. -/
theorem x_at (c : Dev nD) (t : Fin cfg0.N) (a : Fin 512) (k : Fin 1024) :
    (show FVec Ideal S512x1024 .f32 from iblk m c 3 t) (ix2 a k) = (show FVec Ideal S32768x1024 .f32 from m ((c : Thread nD τ).loc main_arg3)) (ix2 ⟨t.val * 512 + a.val, by have := lt_N t; omega⟩ k) := by
  show V m c main_arg3 (((cfg0.win 3).blk t).view.emb (ix2 a k)) = _
  rw [emb3]
  simp only [V, hostOps0, hostOps0_1, hostOps0_2, List.flatten_cons, List.flatten_nil, List.append_nil, List.cons_append, List.nil_append]
  entry_read
  pointwise

/-- The normalization scale block of a step, at an entry, over the argument arrays. -/
theorem lg_at (c : Dev nD) (t : Fin cfg0.N) (k : Fin 1024) :
    (show FVec Ideal S1x1024 .f32 from iblk m c 4 t) (ix2 0 k) = (show FVec Ideal S2x1024 .f32 from m ((c : Thread nD τ).loc main_arg4)) (ix2 1 k) := by
  show V m c main_v10 (((cfg0.win 4).blk t).view.emb (ix2 0 k)) = _
  rw [emb4]
  simp only [V, hostOps0, hostOps0_1, hostOps0_2, List.flatten_cons, List.flatten_nil, List.append_nil, List.cons_append, List.nil_append]
  entry_read
  pointwise

/-- The normalization shift block of a step, at an entry, over the argument arrays. -/
theorem lb_at (c : Dev nD) (t : Fin cfg0.N) (k : Fin 1024) :
    (show FVec Ideal S1x1024 .f32 from iblk m c 5 t) (ix2 0 k) = (show FVec Ideal S2x1024 .f32 from m ((c : Thread nD τ).loc main_arg5)) (ix2 1 k) := by
  show V m c main_v13 (((cfg0.win 5).blk t).view.emb (ix2 0 k)) = _
  rw [emb5]
  simp only [V, hostOps0, hostOps0_1, hostOps0_2, List.flatten_cons, List.flatten_nil, List.append_nil, List.cons_append, List.nil_append]
  entry_read
  pointwise

/-- The projection block of a step, at an entry, over the argument arrays. -/
theorem wo_at (c : Dev nD) (t : Fin cfg0.N) (k : Fin 1024) (j : Fin 1024) :
    (show FVec Ideal S1x1024x1024 .bf16 from iblk m c 6 t) (ix3 0 k j) = (show FVec Ideal S2x1024x1024 .f32 from m ((c : Thread nD τ).loc main_arg6)) (ix3 1 k j) := by
  show V m c main_v14 (((cfg0.win 6).blk t).view.emb (ix3 0 k j)) = _
  rw [emb6]
  simp only [V, hostOps0, hostOps0_1, hostOps0_2, List.flatten_cons, List.flatten_nil, List.append_nil, List.cons_append, List.nil_append]
  entry_read
  pointwise

/-- The second normalization scale block of a step, at an entry, over the argument arrays. -/
theorem ng_at (c : Dev nD) (t : Fin cfg0.N) (k : Fin 1024) :
    (show FVec Ideal S1x1024 .f32 from iblk m c 8 t) (ix2 0 k) = (show FVec Ideal S4x1024 .f32 from m ((c : Thread nD τ).loc main_arg7)) (ix2 3 k) := by
  show V m c main_v18 (((cfg0.win 8).blk t).view.emb (ix2 0 k)) = _
  rw [emb8]
  simp only [V, hostOps0, hostOps0_1, hostOps0_2, List.flatten_cons, List.flatten_nil, List.append_nil, List.cons_append, List.nil_append]
  entry_read
  pointwise

/-- The first perceptron weight block of a step, at an entry, over the argument arrays. -/
theorem w1_at (c : Dev nD) (t : Fin cfg0.N) (k : Fin 1024) (j : Fin 4096) :
    (show FVec Ideal S1x1024x4096 .bf16 from iblk m c 9 t) (ix3 0 k j) = (show FVec Ideal S4x1024x4096 .f32 from m ((c : Thread nD τ).loc main_arg8)) (ix3 3 k j) := by
  show V m c main_v19 (((cfg0.win 9).blk t).view.emb (ix3 0 k j)) = _
  rw [emb9]
  simp only [V, hostOps0, hostOps0_1, hostOps0_2, List.flatten_cons, List.flatten_nil, List.append_nil, List.cons_append, List.nil_append]
  entry_read
  pointwise

/-- The second perceptron weight block of a step, at an entry, over the argument arrays. -/
theorem w2_at (c : Dev nD) (t : Fin cfg0.N) (k : Fin 4096) (j : Fin 1024) :
    (show FVec Ideal S1x4096x1024 .bf16 from iblk m c 10 t) (ix3 0 k j) = (show FVec Ideal S4x4096x1024 .f32 from m ((c : Thread nD τ).loc main_arg9)) (ix3 3 k j) := by
  show V m c main_v20 (((cfg0.win 10).blk t).view.emb (ix3 0 k j)) = _
  rw [emb10]
  simp only [V, hostOps0, hostOps0_1, hostOps0_2, List.flatten_cons, List.flatten_nil, List.append_nil, List.cons_append, List.nil_append]
  entry_read
  pointwise

/-- The final normalization scale block of a step, at an entry, over the argument arrays. -/
theorem fg_at (c : Dev nD) (t : Fin cfg0.N) (k : Fin 1024) :
    (show FVec Ideal S1x1024 .f32 from iblk m c 11 t) (ix2 0 k) = (show FVec Ideal S1024 .f32 from m ((c : Thread nD τ).loc main_arg10)) (ix1 k) := by
  show V m c main_v21 (((cfg0.win 11).blk t).view.emb (ix2 0 k)) = _
  rw [emb11]
  simp only [V, hostOps0, hostOps0_1, hostOps0_2, List.flatten_cons, List.flatten_nil, List.append_nil, List.cons_append, List.nil_append]
  entry_read
  pointwise

/-- The head of each lane of a group, as the host computes it. -/
def headOf : S128.Idx → BitVec 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

/-- The head of a lane, computed. -/
theorem headOf_at : ∀ k : Fin 128, headOf (ix1 k) = BitVec.ofNat 32 (k.val / 64) := by decide +kernel

/-- Two lanes have the same head word exactly when they lie in the same head. -/
theorem headOf_eq (k j : Fin 128) : (headOf (ix1 k) = headOf (ix1 j)) ↔ k.val / 64 = j.val / 64 := by
  rw [headOf_at, headOf_at]
  constructor
  · intro h
    have := congrArg BitVec.toNat h
    simp at this
    omega
  · intro h
    rw [h]

/-- The matrix of ones the kernel is given, at an entry. -/
theorem ones_at (c : Dev nD) (t : Fin cfg0.N) (k j : Fin 128) :
    (show FVec Ideal S128x128 .bf16 from iblk m c 7 t) (ix2 k j) = blockOnes k j := by
  show V m c main_v7 (((cfg0.win 7).blk t).view.emb (ix2 k j)) = _
  rw [emb7]
  simp only [V, hostOps0, hostOps0_1, hostOps0_2, List.flatten_cons, List.flatten_nil, List.append_nil, List.cons_append, List.nil_append]
  entry_read
  show (uitofp .bf16 (cmpi .eq (broadcastInDim S128x128 ![0, 1] bcast_S128x1_S128x128_0_1 (broadcastInDim S128x1 ![0] bcast_S128_S128x1_0 headOf))
    (broadcastInDim S128x128 ![0, 1] bcast_S1x128_S128x128_0_1 (broadcastInDim S1x128 ![1] bcast_S128_S1x128_1 headOf))) : FVec Ideal S128x128 .bf16) (ix2 k j) = _
  pointwise
  rw [blockOnes]
  have e := headOf_eq k j
  by_cases h : headOf (ix1 k) = headOf (ix1 j)
  · rw [if_pos (e.1 h), h]
    simp [IntOp.cmpi, FloatOps.uitofp]
  · rw [if_neg (fun q => h (e.2 q))]
    simp [IntOp.cmpi, FloatOps.uitofp, h]

/-- The whole result, row by row, over the argument arrays. -/
def G (Y : FVec Ideal S2x16384x1024 .f32) (B T : FVec Ideal S32768x1024 .bf16) (X : FVec Ideal S32768x1024 .f32) (lg lb : FVec Ideal S2x1024 .f32)
    (wo : FVec Ideal S2x1024x1024 .f32) (ng : FVec Ideal S4x1024 .f32) (w1 : FVec Ideal S4x1024x4096 .f32) (w2 : FVec Ideal S4x4096x1024 .f32)
    (fg : FVec Ideal S1024 .f32) : FVec Ideal S32768x1024 .f32 := fun i =>
  Cert.Rows.tail headMean (fun k => Y (ix3 ⟨(i 0).val / 16384, by have : (i 0).val < 32768 := (i 0).isLt; omega⟩ ⟨(i 0).val % 16384, Nat.mod_lt _ (by decide)⟩ k))
    (fun k => lg (ix2 1 k)) (fun k => lb (ix2 1 k)) (fun k => B (ix2 (i 0) k)) (fun k => T (ix2 (i 0) k)) (fun k => X (ix2 (i 0) k)) (fun k r => wo (ix3 1 k r))
    (fun k => ng (ix2 3 k)) (fun l k => w1 (ix3 3 l k)) (fun k j => w2 (ix3 3 k j)) (fun k => fg (ix1 k)) (i 1)

/-- The kernel's means are the means within the heads. -/
theorem kmean_blockOnes : kmean blockOnes = headMean := by
  funext y k
  rw [kmean, laneSum_blockOnes, mul_64th, headMean]

/-- The output array after the last step. -/
theorem final (c : Dev nD) : (dats m 0 c).arrAt 12 (cfgs 0).N
    = G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (dats m 0 c).arrAt_eq_of_covers 12 _ (by decide +kernel) fun t _ y => ?_
  blk_simp
  rw [after0_12]
  idx_vars y
  refine (out_at _ _ _ _ _ _ _ _ _ _ _ _ y0 y1).trans ?_
  refine Eq.trans ?_ (congrArg (G _ _ _ _ _ _ _ _ _ _ _) (emb12 t y0 y1)).symm
  rw [show (fun k j => (show FVec Ideal S128x128 .bf16 from iblk m c 7 t) (ix2 k j)) = blockOnes from funext fun k => funext fun j => ones_at m c t k j, kmean_blockOnes]
  refine Eq.trans (tail_congr headMean (fun k => y_at m c t y0 k) (lg_at m c t) (lb_at m c t) (fun k => bonus_at m c t y0 k) (fun k => gate_at m c t y0 k)
    (fun k => x_at m c t y0 k) (wo_at m c t) (ng_at m c t) (w1_at m c t) (w2_at m c t) (fg_at m c t) y1) ?_
  rfl

end Cert.OutIdeal.Layer

end
-- ==== Proof.OutRef.lean ====
/- The reference of the last call computes the same rows, and the claims about the pair. -/
module

public import proofs.«01_k».proof.Proof.OutFinal
public import proofs.«01_k».proof.Proof.Gen.OutRefIdeal.Read
public import proofs.«01_k».proof.Defs

@[expose] public section

set_option maxRecDepth 16384

noncomputable section

namespace Cert.OutRefIdeal.Layer

open Cert.OutRefIdeal Cert.OutRefIdeal.Gen Cert.OutRefIdeal.Read Idealize.ShloMosaic Idealize.ShloMosaic.TcCoe Idealize.SL.Sem
open Cert.Rows

variable (Y : FVec Ideal S2x16384x1024 .f32) (B T : FVec Ideal S32768x1024 .bf16) (X : FVec Ideal S32768x1024 .f32) (lg lb : FVec Ideal S2x1024 .f32)
    (wo : FVec Ideal S2x1024x1024 .f32) (ng : FVec Ideal S4x1024 .f32) (w1 : FVec Ideal S4x1024x4096 .f32) (w2 : FVec Ideal S4x4096x1024 .f32)
    (fg : FVec Ideal S1024 .f32)

/-- The reference's mean within a head. -/
theorem mean_at (b : Fin 2) (q : Fin 16384) (h : Fin 16) : val_main_v4 (F := Ideal) Y (ix4 b q h 0)
    = Ideal.div (∑ l : Fin 64, Y (ix3 b q ⟨h.val * 64 + l.val, by omega⟩)) (Ideal.ofBits .f32 0x42800000#32) := by
  pointwise [val_main_v4, val_main_v3, val_main_v2, val_main_v1, val_main_v0, val_main_cst, val_main_cst_0]

/-- The reference's row without the means. -/
theorem dev_at (b : Fin 2) (q : Fin 16384) (h : Fin 16) (l : Fin 64) : val_main_v13 (F := Ideal) Y (ix4 b q h l)
    = dev headMean (fun k => Y (ix3 b q k)) ⟨h.val * 64 + l.val, by omega⟩ := by
  pointwise [val_main_v13, val_main_v12, val_main_v0, mean_at, dev, headMean_head]

/-- The same row, as the variance reads it. -/
theorem dev_at' (b : Fin 2) (q : Fin 16384) (h : Fin 16) (l : Fin 64) : val_main_v6 (F := Ideal) Y (ix4 b q h l)
    = dev headMean (fun k => Y (ix3 b q k)) ⟨h.val * 64 + l.val, by omega⟩ := by
  pointwise [val_main_v6, val_main_v5, val_main_v0, mean_at, dev, headMean_head]

/-- The reference's variance within a head, with its small constant. -/
theorem var_at (b : Fin 2) (q : Fin 16384) (h : Fin 16) (l : Fin 64) : val_main_v17 (F := Ideal) Y (ix4 b q h l)
    = Ideal.rsqrt (headMean (fun k => dev headMean (fun k => Y (ix3 b q k)) k * dev headMean (fun k => Y (ix3 b q k)) k) ⟨h.val * 64 + l.val, by omega⟩
        + Ideal.ofBits .f32 0x3A27C5AC#32) := by
  rw [headMean_head]
  pointwise [val_main_v17, val_main_v16, val_main_v15, val_main_v14, val_main_v11, val_main_v10, val_main_v9, val_main_v8, val_main_v7, val_main_cst_1, val_main_cst_2, val_main_cst_3, dev_at']

/-- The reference's normalized row. -/
theorem norm_at (r : Fin 32768) (k : Fin 1024) : val_main_v19 (F := Ideal) Y (ix2 r k)
    = dev headMean (fun k => Y (ix3 ⟨r.val / 16384, by omega⟩ ⟨r.val % 16384, Nat.mod_lt _ (by decide)⟩ k)) k * Ideal.rsqrt (headMean (fun k => dev headMean (fun k => Y (ix3 ⟨r.val / 16384, by omega⟩ ⟨r.val % 16384, Nat.mod_lt _ (by decide)⟩ k)) k * dev headMean (fun k => Y (ix3 ⟨r.val / 16384, by omega⟩ ⟨r.val % 16384, Nat.mod_lt _ (by decide)⟩ k)) k) k
        + Ideal.ofBits .f32 0x3A27C5AC#32) := by
  have e : k = ⟨k.val / 64 * 64 + k.val % 64, by omega⟩ := Fin.ext (by show k.val = k.val / 64 * 64 + k.val % 64; omega)
  refine Eq.trans ?_ ((congrArg₂ (fun (d : Fin 1024 → EReal) k => d k * Ideal.rsqrt (headMean (fun k => d k * d k) k + Ideal.ofBits .f32 0x3A27C5AC#32)) rfl e).symm)
  pointwise [val_main_v19, val_main_v18, dev_at, var_at]

/-- The reference's gated row. -/
theorem gated_at (r : Fin 32768) (k : Fin 1024) : val_main_v33 (F := Ideal) Y B T lg lb (ix2 r k) = gated headMean (fun k => Y (ix3 ⟨r.val / 16384, by omega⟩ ⟨r.val % 16384, Nat.mod_lt _ (by decide)⟩ k)) (fun k => lg (ix2 1 k)) (fun k => lb (ix2 1 k)) (fun k => B (ix2 r k)) (fun k => T (ix2 r k)) k := by
  pointwise [val_main_v33, val_main_v32, val_main_v31, val_main_v30, val_main_v29, val_main_v28, val_main_v27, val_main_v26, val_main_v25, val_main_v24, val_main_v23, val_main_v22, val_main_v21, val_main_v20, norm_at, gated]

/-- The reference's projection. -/
theorem proj_at (r : Fin 32768) (j : Fin 1024) : val_main_v37 (F := Ideal) Y B T X lg lb wo (ix2 r j) = (proj headMean (fun k => Y (ix3 ⟨r.val / 16384, by omega⟩ ⟨r.val % 16384, Nat.mod_lt _ (by decide)⟩ k)) (fun k => lg (ix2 1 k)) (fun k => lb (ix2 1 k)) (fun k => B (ix2 r k)) (fun k => T (ix2 r k)) (fun k => X (ix2 r k)) (fun k r => wo (ix3 1 k r))) j := by
  pointwise [val_main_v37, val_main_v36, val_main_v35, val_main_v34, gated_at, proj]

/-- The reference's normalization before the perceptron layer. -/
theorem rms_at (r : Fin 32768) (k : Fin 1024) : val_main_v52 (F := Ideal) Y B T X lg lb wo ng (ix2 r k) = rms (proj headMean (fun k => Y (ix3 ⟨r.val / 16384, by omega⟩ ⟨r.val % 16384, Nat.mod_lt _ (by decide)⟩ k)) (fun k => lg (ix2 1 k)) (fun k => lb (ix2 1 k)) (fun k => B (ix2 r k)) (fun k => T (ix2 r k)) (fun k => X (ix2 r k)) (fun k r => wo (ix3 1 k r))) (fun k => ng (ix2 3 k)) k := by
  pointwise [val_main_v52, val_main_v51, val_main_v50, val_main_v49, val_main_v48, val_main_v47, val_main_v46, val_main_v45, val_main_v44, val_main_v43, val_main_v42, val_main_v41, val_main_v40, val_main_v39, val_main_v38, val_main_cst_4, val_main_cst_5, val_main_cst_6, proj_at, rms, rmsScale]

/-- The reference's perceptron layer. -/
theorem ffn_at (r : Fin 32768) (j : Fin 1024) : val_main_v61 (F := Ideal) Y B T X lg lb wo ng w1 w2 (ix2 r j) = (ffn (proj headMean (fun k => Y (ix3 ⟨r.val / 16384, by omega⟩ ⟨r.val % 16384, Nat.mod_lt _ (by decide)⟩ k)) (fun k => lg (ix2 1 k)) (fun k => lb (ix2 1 k)) (fun k => B (ix2 r k)) (fun k => T (ix2 r k)) (fun k => X (ix2 r k)) (fun k r => wo (ix3 1 k r))) (fun k => ng (ix2 3 k)) (fun l k => w1 (ix3 3 l k)) (fun k j => w2 (ix3 3 k j))) j := by
  pointwise [val_main_v61, val_main_v60, val_main_v59, val_main_v58, val_main_v57, val_main_v56, val_main_v55, val_main_v54, val_main_v53, val_main_call0_cst, val_main_call0_v0, rms_at, proj_at, ffn, unit]

/-- The reference's result, element by element. -/
theorem ref_at (r : Fin 32768) (j : Fin 1024) : val_main_v74 (F := Ideal) Y B T X lg lb wo ng w1 w2 fg (ix2 r j)
    = Cert.OutIdeal.Layer.G Y B T X lg lb wo ng w1 w2 fg (ix2 r j) := by
  show _ = rms (ffn (proj headMean (fun k => Y (ix3 ⟨r.val / 16384, by omega⟩ ⟨r.val % 16384, Nat.mod_lt _ (by decide)⟩ k)) (fun k => lg (ix2 1 k)) (fun k => lb (ix2 1 k)) (fun k => B (ix2 r k)) (fun k => T (ix2 r k)) (fun k => X (ix2 r k)) (fun k r => wo (ix3 1 k r))) (fun k => ng (ix2 3 k)) (fun l k => w1 (ix3 3 l k)) (fun k j => w2 (ix3 3 k j))) (fun k => fg (ix1 k)) j
  pointwise [val_main_v74, val_main_v73, val_main_v72, val_main_v71, val_main_v70, val_main_v69, val_main_v68, val_main_v67, val_main_v66, val_main_v65, val_main_v64, val_main_v63, val_main_v62, val_main_cst_7, val_main_cst_8, val_main_cst_9, ffn_at, rms, rmsScale]

/-- The reference's result. -/
theorem ref_eq : val_main_v74 (F := Ideal) Y B T X lg lb wo ng w1 w2 fg = Cert.OutIdeal.Layer.G Y B T X lg lb wo ng w1 w2 fg :=
  funext fun i => (congrArg _ (eq_ix2 i)).trans ((ref_at Y B T X lg lb wo ng w1 w2 fg (i 0) (i 1)).trans (congrArg _ (eq_ix2 i).symm))

end Cert.OutRefIdeal.Layer

namespace Cert.Out.Claims
open Idealize.ShloMosaic Idealize.ShloMosaic.TcCoe Idealize.SL.Sem

/-- Equal arrays give equal results. -/
theorem g_congr {Y Y' : FVec Ideal S2x16384x1024 .f32} {B B' T T' : FVec Ideal S32768x1024 .bf16} {X X' : FVec Ideal S32768x1024 .f32} {lg lg' lb lb' : FVec Ideal S2x1024 .f32}
    {wo wo' : FVec Ideal S2x1024x1024 .f32} {ng ng' : FVec Ideal S4x1024 .f32} {w1 w1' : FVec Ideal S4x1024x4096 .f32} {w2 w2' : FVec Ideal S4x4096x1024 .f32}
    {fg fg' : FVec Ideal S1024 .f32} (h0 : Y' = Y) (h1 : B' = B) (h2 : T' = T) (h3 : X' = X) (h4 : lg' = lg) (h5 : lb' = lb) (h6 : wo' = wo) (h7 : ng' = ng)
    (h8 : w1' = w1) (h9 : w2' = w2) (h10 : fg' = fg) :
    Cert.OutIdeal.Layer.G Y' B' T' X' lg' lb' wo' ng' w1' w2' fg' = Cert.OutIdeal.Layer.G Y B T X lg lb wo ng w1 w2 fg := by
  subst h0 h1 h2 h3 h4 h5 h6 h7 h8 h9 h10; rfl

set_option maxHeartbeats 2000000 in
/-- The kernel and its reference leave the same array. -/
theorem algebraic : Cert.algebraic_OutIdeal_OutRefIdeal := by
  pair_intro
  · run_from Cert.OutIdeal.Gen.run_main m g
    exacts [Cert.OutIdeal.Gen.V_main_arg0 m c,
      Cert.OutIdeal.Gen.V_main_arg4 m c,
      Cert.OutIdeal.Gen.V_main_arg5 m c,
      Cert.OutIdeal.Gen.V_main_arg6 m c,
      Cert.OutIdeal.Gen.V_main_arg7 m c,
      Cert.OutIdeal.Gen.V_main_arg8 m c,
      Cert.OutIdeal.Gen.V_main_arg9 m c,
      Cert.OutIdeal.Gen.V_main_arg10 m c]
  · run_from Cert.OutRefIdeal.Value.run m' g'
    rw [Cert.OutIdeal.Layer.final m c, Cert.OutRefIdeal.Read.val_main_v74_eq]
    obtain ⟨h0, h1, h2, h3, h4, h5, h6, h7, h8, h9, h10⟩ := hagree c
    exact (Cert.OutRefIdeal.Layer.ref_eq _ _ _ _ _ _ _ _ _ _ _).trans (g_congr h0 h1 h2 h3 h4 h5 h6 h7 h8 h9 h10)

/-- The reference's frame. -/
theorem frame_ref : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

end Cert.Out.Claims

end
-- ==== Proof.InRows.lean ====
/- One row of the recurrent layers' projections, as plain functions over the extended reals of a record of everything
   the row is computed from. Both programs of the claim are read down to these. -/
module

public import proofs.«01_k».proof.Proof.Rows

@[expose] public section

set_option maxRecDepth 16384

noncomputable section

namespace Cert.Rows

open Idealize.ShloMosaic

/-- A row times a matrix. -/
def dot {m n : ℕ} (u : Fin m → EReal) (w : Fin m → Fin n → EReal) (j : Fin n) : EReal := ∑ k, u k * w k j

/-- The sum of a row over the 64 lanes of a lane's head. -/
def headSum (y : Fin 1024 → EReal) (j : Fin 1024) : EReal := ∑ k : Fin 64, y ⟨j.val / 64 * 64 + k.val, by omega⟩

/-- Everything one row of the projections is computed from. -/
structure Proj where
  /-- How a row is summed within its heads. -/
  sum : (Fin 1024 → EReal) → Fin 1024 → EReal
  /-- The normalized row. -/
  h : Fin 1024 → EReal
  /-- The normalized row before it, zero before the first. -/
  p : Fin 1024 → EReal
  /-- The first recurrent layer's value row. -/
  vf : Fin 1024 → EReal
  /-- The six mixing weights. -/
  mu : Fin 6 → Fin 1024 → EReal
  /-- The three square matrices. -/
  w : Fin 3 → Fin 1024 → Fin 1024 → EReal
  /-- The learning rate's bias. -/
  a0 : Fin 1024 → EReal
  /-- The learning rate's first factor. -/
  aa : Fin 1024 → Fin 64 → EReal
  /-- The learning rate's second factor. -/
  ab : Fin 64 → Fin 1024 → EReal
  /-- The value mix's bias. -/
  v0 : Fin 1024 → EReal
  /-- The value mix's first factor. -/
  va : Fin 1024 → Fin 32 → EReal
  /-- The value mix's second factor. -/
  vb : Fin 32 → Fin 1024 → EReal
  /-- The gate's first factor. -/
  ga : Fin 1024 → Fin 128 → EReal
  /-- The gate's second factor. -/
  gb : Fin 128 → Fin 1024 → EReal
  /-- The scale of the removal key. -/
  kk : Fin 1024 → EReal
  /-- The learning rate's weight in the key. -/
  ka : Fin 1024 → EReal
  /-- The bonus weights. -/
  rk : Fin 1024 → EReal

namespace Proj
variable (d : Proj)

/-- The row mixed with the one before it. -/
def mix (n : Fin 6) (k : Fin 1024) : EReal := d.h k + (d.p k - d.h k) * d.mu n k

/-- The receptance row. -/
def r (j : Fin 1024) : EReal := dot (d.mix 0) (d.w 0) j

/-- The key row as projected. -/
def key (j : Fin 1024) : EReal := dot (d.mix 1) (d.w 1) j

/-- The value row as projected. -/
def val (j : Fin 1024) : EReal := dot (d.mix 2) (d.w 2) j

/-- The learning rate. -/
def rate (j : Fin 1024) : EReal := Ideal.logistic (d.a0 j + dot (dot (d.mix 4) d.aa) d.ab j)

/-- The share of the first layer's value row. -/
def share (j : Fin 1024) : EReal := Ideal.logistic (d.v0 j + dot (dot (d.mix 2) d.va) d.vb j)

/-- The gate row. -/
def gate (j : Fin 1024) : EReal := dot (fun l => Ideal.logistic (dot (d.mix 5) d.ga l)) d.gb j

/-- The removal key before its normalization. -/
def raw (j : Fin 1024) : EReal := d.key j * d.kk j

/-- The removal key, normalized within its head. -/
def unit (j : Fin 1024) : EReal :=
  Ideal.div (d.raw j) (max (Ideal.sqrt (d.sum (fun k => d.raw k * d.raw k) j)) (Ideal.ofBits .f32 0x2B8CBCCC#32))

/-- The removal key times the learning rate. -/
def add (j : Fin 1024) : EReal := d.unit j * d.rate j

/-- The key row. -/
def k (j : Fin 1024) : EReal :=
  d.key j * (Ideal.ofBits .f32 0x3F800000#32 + (d.rate j - Ideal.ofBits .f32 0x3F800000#32) * d.ka j)

/-- The value row. -/
def v (j : Fin 1024) : EReal := d.val j + (d.vf j - d.val j) * d.share j

/-- The bonus row. -/
def bonus (j : Fin 1024) : EReal := d.sum (fun k => d.r k * d.k k * d.rk k) j * d.v j

end Proj

/-- Two rows of projections are computed from the same when every part of them agrees, element by element. -/
theorem Proj.congr {d e : Proj} (hs : d.sum = e.sum) (h0 : ∀ k, d.h k = e.h k) (h1 : ∀ k, d.p k = e.p k) (h2 : ∀ k, d.vf k = e.vf k)
    (h3 : ∀ n k, d.mu n k = e.mu n k) (h4 : ∀ n k j, d.w n k j = e.w n k j) (h5 : ∀ k, d.a0 k = e.a0 k) (h6 : ∀ k j, d.aa k j = e.aa k j)
    (h7 : ∀ k j, d.ab k j = e.ab k j) (h8 : ∀ k, d.v0 k = e.v0 k) (h9 : ∀ k j, d.va k j = e.va k j) (h10 : ∀ k j, d.vb k j = e.vb k j)
    (h11 : ∀ k j, d.ga k j = e.ga k j) (h12 : ∀ k j, d.gb k j = e.gb k j) (h13 : ∀ k, d.kk k = e.kk k) (h14 : ∀ k, d.ka k = e.ka k)
    (h15 : ∀ k, d.rk k = e.rk k) : d = e := by
  cases d
  cases e
  simp only [Proj.mk.injEq]
  exact ⟨hs, funext h0, funext h1, funext h2, funext fun n => funext (h3 n), funext fun n => funext fun k => funext (h4 n k), funext h5,
    funext fun k => funext (h6 k), funext fun k => funext (h7 k), funext h8, funext fun k => funext (h9 k), funext fun k => funext (h10 k),
    funext fun k => funext (h11 k), funext fun k => funext (h12 k), funext h13, funext h14, funext h15⟩

/-- The kernel's sums within the heads are the sums within the heads. -/
theorem laneSum_ones : laneSum blockOnes = headSum := funext fun y => funext fun j => laneSum_blockOnes y j

/-- The sum within a head, at a lane of it. -/
theorem headSum_head (y : Fin 1024 → EReal) (h : Fin 16) (l : Fin 64) (hl : h.val * 64 + l.val < 1024) :
    headSum y ⟨h.val * 64 + l.val, hl⟩ = ∑ k : Fin 64, y ⟨h.val * 64 + k.val, by omega⟩ := by
  have e : (h.val * 64 + l.val) / 64 = h.val := by omega
  simp only [headSum, e]

end Cert.Rows

end
-- ==== Proof.InIdealFrame.lean ====
/- The frame of the projection call at any floats: `@main` up to its region, the block each window holds at a
   point, what the body leaves in each output's buffer, the body's triple and the run. -/
module

public import proofs.«01_k».proof.Proof.Gen.InIdeal.Launch
public import proofs.«01_k».proof.Proof.Gen.InIdeal.Skeleton
public import proofs.«01_k».proof.Proof.Gen.InIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.InIdeal.Layer

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1740000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_InIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses -/

abbrev r0_0 : Rect S1x1024 := Rect.unit (s := S1x1024) ![0, 0] S1x1024.size inb_S1x1024_S1x1024_0_0
abbrev r0_1 : Rect S512x1024 := Rect.unit (s := S512x1024) ![0, 0] S512x1024.size inb_S512x1024_S512x1024_0_0
abbrev r0_2 : Rect S8x1024 := Rect.unit (s := S8x1024) ![7, 0] S1x1024.size inb_S8x1024_S1x1024_7_0
abbrev r0_3 : Rect S6x1024 := Rect.unit (s := S6x1024) ![2, 0] S1x1024.size inb_S6x1024_S1x1024_2_0
abbrev r0_4 : Rect S6x1024 := Rect.unit (s := S6x1024) ![3, 0] S1x1024.size inb_S6x1024_S1x1024_3_0
abbrev r0_5 : Rect S1024x64 := Rect.unit (s := S1024x64) ![0, 0] S1024x64.size inb_S1024x64_S1024x64_0_0
abbrev r0_6 : Rect S6x1024 := Rect.unit (s := S6x1024) ![4, 0] S1x1024.size inb_S6x1024_S1x1024_4_0
abbrev r0_7 : Rect S6x1024 := Rect.unit (s := S6x1024) ![5, 0] S1x1024.size inb_S6x1024_S1x1024_5_0
abbrev r0_8 : Rect S1024x128 := Rect.unit (s := S1024x128) ![0, 0] S1024x128.size inb_S1024x128_S1024x128_0_0
abbrev r0_9 : Rect S1024x32 := Rect.unit (s := S1024x32) ![0, 0] S1024x32.size inb_S1024x32_S1024x32_0_0
abbrev r0_10 : Rect S6x1024 := Rect.unit (s := S6x1024) ![1, 0] S1x1024.size inb_S6x1024_S1x1024_1_0
abbrev r0_11 : Rect S1x3x1024x1024 := Rect.unit (s := S1x3x1024x1024) ![0, 1, 0, 0] S1x1x1024x1024.size inb_S1x3x1024x1024_S1x1x1024x1024_0_1_0_0
abbrev r0_12 : Rect S6x1024 := Rect.unit (s := S6x1024) ![0, 0] S1x1024.size inb_S6x1024_S1x1024_0_0
abbrev r0_13 : Rect S1x3x1024x1024 := Rect.unit (s := S1x3x1024x1024) ![0, 0, 0, 0] S1x1x1024x1024.size inb_S1x3x1024x1024_S1x1x1024x1024_0_0_0_0
abbrev r0_14 : Rect S128x128 := Rect.unit (s := S128x128) ![0, 0] S128x128.size inb_S128x128_S128x128_0_0
abbrev r0_15 : Rect S64x1024 := Rect.unit (s := S64x1024) ![0, 0] S64x1024.size inb_S64x1024_S64x1024_0_0
abbrev r0_16 : Rect S1x3x1024x1024 := Rect.unit (s := S1x3x1024x1024) ![0, 2, 0, 0] S1x1x1024x1024.size inb_S1x3x1024x1024_S1x1x1024x1024_0_2_0_0
abbrev r0_17 : Rect S128x1024 := Rect.unit (s := S128x1024) ![0, 0] S128x1024.size inb_S128x1024_S128x1024_0_0
abbrev r0_18 : Rect S32x1024 := Rect.unit (s := S32x1024) ![0, 0] S32x1024.size inb_S32x1024_S32x1024_0_0

/-! ## What the body leaves in each output window's buffer -/

/-! ### Values of the body that the stores' payloads share

    Each is a vector the body binds, over the blocks of the input windows; the values after it name it. -/

def k0_pay30 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : FVec F S512x1024 .f32 :=
  k0_pay7 (View.ld x3 r0_0) (View.ld x0 r0_1) -- `v15`
def k0_pay31 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : FVec F S1x1024 .f32 :=
  k0_pay8 (View.ld x3 r0_0) (View.ld x1 r0_2) -- `v28`
def k0_pay32 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : FVec F S512x1024 .f32 :=
  k0_pay9 (k0_pay30 i x0 x1 x2 x3 x4 x5 x6 x7 x8 x9 x10 x11 x12 x13 x14 x15 x16 x17 x18 x19 x20) (k0_pay31 i x0 x1 x2 x3 x4 x5 x6 x7 x8 x9 x10 x11 x12 x13 x14 x15 x16 x17 x18 x19 x20) (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 0#32) -- `v49`
def k0_pay33 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : FVec F S512x1024 .bf16 :=
  k0_pay10 (k0_pay30 i x0 x1 x2 x3 x4 x5 x6 x7 x8 x9 x10 x11 x12 x13 x14 x15 x16 x17 x18 x19 x20) (k0_pay31 i x0 x1 x2 x3 x4 x5 x6 x7 x8 x9 x10 x11 x12 x13 x14 x15 x16 x17 x18 x19 x20) (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 0#32) (View.ld x4 r0_3) -- `v55`
def k0_pay34 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : FVec F S512x64 .f32 :=
  k0_pay12 (k0_pay30 i x0 x1 x2 x3 x4 x5 x6 x7 x8 x9 x10 x11 x12 x13 x14 x15 x16 x17 x18 x19 x20) (k0_pay31 i x0 x1 x2 x3 x4 x5 x6 x7 x8 x9 x10 x11 x12 x13 x14 x15 x16 x17 x18 x19 x20) (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 0#32) (View.ld x4 r0_6) (View.ld x10 r0_5) -- `v73`
def k0_pay35 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : FVec F S512x1024 .f32 :=
  k0_pay16 (k0_pay30 i x0 x1 x2 x3 x4 x5 x6 x7 x8 x9 x10 x11 x12 x13 x14 x15 x16 x17 x18 x19 x20) (k0_pay32 i x0 x1 x2 x3 x4 x5 x6 x7 x8 x9 x10 x11 x12 x13 x14 x15 x16 x17 x18 x19 x20) (View.ld x4 r0_10) (View.ld x5 r0_11) -- `v94`
def k0_pay36 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : FVec F S512x1024 .f32 :=
  k0_pay17 (k0_pay30 i x0 x1 x2 x3 x4 x5 x6 x7 x8 x9 x10 x11 x12 x13 x14 x15 x16 x17 x18 x19 x20) (k0_pay32 i x0 x1 x2 x3 x4 x5 x6 x7 x8 x9 x10 x11 x12 x13 x14 x15 x16 x17 x18 x19 x20) (View.ld x4 r0_12) (View.ld x5 r0_13) -- `v103`
def k0_pay37 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : FVec F S512x1024 .f32 :=
  k0_pay18 (k0_pay30 i x0 x1 x2 x3 x4 x5 x6 x7 x8 x9 x10 x11 x12 x13 x14 x15 x16 x17 x18 x19 x20) (k0_pay32 i x0 x1 x2 x3 x4 x5 x6 x7 x8 x9 x10 x11 x12 x13 x14 x15 x16 x17 x18 x19 x20) (View.ld x4 r0_10) (View.ld x5 r0_11) (View.ld x17 r0_0) -- `v107`
def k0_pay38 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : FVec F S512x1024 .f32 :=
  k0_pay22 (k0_pay19 (k0_pay30 i x0 x1 x2 x3 x4 x5 x6 x7 x8 x9 x10 x11 x12 x13 x14 x15 x16 x17 x18 x19 x20) (k0_pay32 i x0 x1 x2 x3 x4 x5 x6 x7 x8 x9 x10 x11 x12 x13 x14 x15 x16 x17 x18 x19 x20) (View.ld x4 r0_10) (View.ld x5 r0_11) (View.ld x17 r0_0)) (View.ld x20 r0_14) -- `v149`
def k0_pay39 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : FVec F S512x1024 .f32 :=
  k0_pay23 (k0_pay33 i x0 x1 x2 x3 x4 x5 x6 x7 x8 x9 x10 x11 x12 x13 x14 x15 x16 x17 x18 x19 x20) (View.ld x5 r0_16) -- `v152`
def k0_pay40 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : FVec F S512x1024 .f32 :=
  k0_pay24 (k0_pay34 i x0 x1 x2 x3 x4 x5 x6 x7 x8 x9 x10 x11 x12 x13 x14 x15 x16 x17 x18 x19 x20) (View.ld x9 r0_0) (View.ld x11 r0_15) -- `v155`
def k0_pay41 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : FVec F S1x1024 .f32 :=
  k0_pay28 (View.ld x12 r0_0) -- `v198`
def k0_pay42 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : FVec F S512x32 .bf16 :=
  k0_pay29 (k0_pay15 (k0_pay33 i x0 x1 x2 x3 x4 x5 x6 x7 x8 x9 x10 x11 x12 x13 x14 x15 x16 x17 x18 x19 x20) (View.ld x13 r0_9)) -- `v199`

/-- Window 21's staging buffer after the body, from the input windows' blocks: its 1 store as pieces, LAST
    FIRST (Lib/Pipeline/FrameBody.lean `View.canon`; the payloads are the skeleton's and the values stated above). -/
def out0_21 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : Vec F S512x1024 .f32 :=
  View.canon [⟨r0_1, k0_pay36 i x0 x1 x2 x3 x4 x5 x6 x7 x8 x9 x10 x11 x12 x13 x14 x15 x16 x17 x18 x19 x20⟩]

/-- Its stores tile the buffer (checked by evaluation), so they cover it. -/
theorem cover0_21 (p0 : Vec F S512x1024 .f32) (y : S512x1024.Idx) :
    ∃ pc ∈ ([⟨r0_1, p0⟩] : List (View.Piece (Elt F) S512x1024 .f32)), y ∈ pc.1.set :=
  View.cover_of_tiled [⟨r0_1, p0⟩] S512x1024.size (by rfl) y

/-- Window 22's staging buffer after the body, from the input windows' blocks: its 1 store as pieces, LAST
    FIRST (Lib/Pipeline/FrameBody.lean `View.canon`; the payloads are the skeleton's and the values stated above). -/
def out0_22 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : Vec F S512x1024 .f32 :=
  View.canon [⟨r0_1, k0_pay2 (k0_pay20 (k0_pay11 (k0_pay30 i x0 x1 x2 x3 x4 x5 x6 x7 x8 x9 x10 x11 x12 x13 x14 x15 x16 x17 x18 x19 x20) (k0_pay31 i x0 x1 x2 x3 x4 x5 x6 x7 x8 x9 x10 x11 x12 x13 x14 x15 x16 x17 x18 x19 x20) (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 0#32) (View.ld x4 r0_4) (View.ld x7 r0_5)) (View.ld x6 r0_0) (View.ld x8 r0_15))⟩]

/-- Its stores tile the buffer (checked by evaluation), so they cover it. -/
theorem cover0_22 (p0 : Vec F S512x1024 .f32) (y : S512x1024.Idx) :
    ∃ pc ∈ ([⟨r0_1, p0⟩] : List (View.Piece (Elt F) S512x1024 .f32)), y ∈ pc.1.set :=
  View.cover_of_tiled [⟨r0_1, p0⟩] S512x1024.size (by rfl) y

/-- Window 23's staging buffer after the body, from the input windows' blocks: its 1 store as pieces, LAST
    FIRST (Lib/Pipeline/FrameBody.lean `View.canon`; the payloads are the skeleton's and the values stated above). -/
def out0_23 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : Vec F S512x1024 .f32 :=
  View.canon [⟨r0_1, k0_pay25 (k0_pay35 i x0 x1 x2 x3 x4 x5 x6 x7 x8 x9 x10 x11 x12 x13 x14 x15 x16 x17 x18 x19 x20) (k0_pay40 i x0 x1 x2 x3 x4 x5 x6 x7 x8 x9 x10 x11 x12 x13 x14 x15 x16 x17 x18 x19 x20) (View.ld x18 r0_0)⟩]

/-- Its stores tile the buffer (checked by evaluation), so they cover it. -/
theorem cover0_23 (p0 : Vec F S512x1024 .f32) (y : S512x1024.Idx) :
    ∃ pc ∈ ([⟨r0_1, p0⟩] : List (View.Piece (Elt F) S512x1024 .f32)), y ∈ pc.1.set :=
  View.cover_of_tiled [⟨r0_1, p0⟩] S512x1024.size (by rfl) y

/-- Window 24's staging buffer after the body, from the input windows' blocks: its 1 store as pieces, LAST
    FIRST (Lib/Pipeline/FrameBody.lean `View.canon`; the payloads are the skeleton's and the values stated above). -/
def out0_24 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : Vec F S512x1024 .f32 :=
  View.canon [⟨r0_1, k0_pay1 (k0_pay39 i x0 x1 x2 x3 x4 x5 x6 x7 x8 x9 x10 x11 x12 x13 x14 x15 x16 x17 x18 x19 x20) (k0_pay41 i x0 x1 x2 x3 x4 x5 x6 x7 x8 x9 x10 x11 x12 x13 x14 x15 x16 x17 x18 x19 x20) (k0_pay42 i x0 x1 x2 x3 x4 x5 x6 x7 x8 x9 x10 x11 x12 x13 x14 x15 x16 x17 x18 x19 x20) (View.ld x14 r0_18) (View.ld x2 r0_1)⟩]

/-- Its stores tile the buffer (checked by evaluation), so they cover it. -/
theorem cover0_24 (p0 : Vec F S512x1024 .f32) (y : S512x1024.Idx) :
    ∃ pc ∈ ([⟨r0_1, p0⟩] : List (View.Piece (Elt F) S512x1024 .f32)), y ∈ pc.1.set :=
  View.cover_of_tiled [⟨r0_1, p0⟩] S512x1024.size (by rfl) y

/-- Window 25's staging buffer after the body, from the input windows' blocks: its 1 store as pieces, LAST
    FIRST (Lib/Pipeline/FrameBody.lean `View.canon`; the payloads are the skeleton's and the values stated above). -/
def out0_25 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : Vec F S512x1024 .f32 :=
  View.canon [⟨r0_1, k0_pay3 (k0_pay37 i x0 x1 x2 x3 x4 x5 x6 x7 x8 x9 x10 x11 x12 x13 x14 x15 x16 x17 x18 x19 x20) (k0_pay38 i x0 x1 x2 x3 x4 x5 x6 x7 x8 x9 x10 x11 x12 x13 x14 x15 x16 x17 x18 x19 x20)⟩]

/-- Its stores tile the buffer (checked by evaluation), so they cover it. -/
theorem cover0_25 (p0 : Vec F S512x1024 .f32) (y : S512x1024.Idx) :
    ∃ pc ∈ ([⟨r0_1, p0⟩] : List (View.Piece (Elt F) S512x1024 .f32)), y ∈ pc.1.set :=
  View.cover_of_tiled [⟨r0_1, p0⟩] S512x1024.size (by rfl) y

/-- Window 26's staging buffer after the body, from the input windows' blocks: its 1 store as pieces, LAST
    FIRST (Lib/Pipeline/FrameBody.lean `View.canon`; the payloads are the skeleton's and the values stated above). -/
def out0_26 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : Vec F S512x1024 .f32 :=
  View.canon [⟨r0_1, k0_pay4 (k0_pay37 i x0 x1 x2 x3 x4 x5 x6 x7 x8 x9 x10 x11 x12 x13 x14 x15 x16 x17 x18 x19 x20) (k0_pay21 (k0_pay34 i x0 x1 x2 x3 x4 x5 x6 x7 x8 x9 x10 x11 x12 x13 x14 x15 x16 x17 x18 x19 x20) (View.ld x9 r0_0) (View.ld x11 r0_15)) (k0_pay38 i x0 x1 x2 x3 x4 x5 x6 x7 x8 x9 x10 x11 x12 x13 x14 x15 x16 x17 x18 x19 x20)⟩]

/-- Its stores tile the buffer (checked by evaluation), so they cover it. -/
theorem cover0_26 (p0 : Vec F S512x1024 .f32) (y : S512x1024.Idx) :
    ∃ pc ∈ ([⟨r0_1, p0⟩] : List (View.Piece (Elt F) S512x1024 .f32)), y ∈ pc.1.set :=
  View.cover_of_tiled [⟨r0_1, p0⟩] S512x1024.size (by rfl) y

/-- Window 27's staging buffer after the body, from the input windows' blocks: its 1 store as pieces, LAST
    FIRST (Lib/Pipeline/FrameBody.lean `View.canon`; the payloads are the skeleton's and the values stated above). -/
def out0_27 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : Vec F S512x1024 .bf16 :=
  View.canon [⟨r0_1, k0_pay27 (k0_pay14 (k0_pay13 (k0_pay30 i x0 x1 x2 x3 x4 x5 x6 x7 x8 x9 x10 x11 x12 x13 x14 x15 x16 x17 x18 x19 x20) (k0_pay31 i x0 x1 x2 x3 x4 x5 x6 x7 x8 x9 x10 x11 x12 x13 x14 x15 x16 x17 x18 x19 x20) (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 0#32) (View.ld x4 r0_7)) (View.ld x15 r0_8)) (View.ld x16 r0_17)⟩]

/-- Its stores tile the buffer (checked by evaluation), so they cover it. -/
theorem cover0_27 (p0 : Vec F S512x1024 .bf16) (y : S512x1024.Idx) :
    ∃ pc ∈ ([⟨r0_1, p0⟩] : List (View.Piece (Elt F) S512x1024 .bf16)), y ∈ pc.1.set :=
  View.cover_of_tiled [⟨r0_1, p0⟩] S512x1024.size (by rfl) y

/-- Window 28's staging buffer after the body, from the input windows' blocks: its 1 store as pieces, LAST
    FIRST (Lib/Pipeline/FrameBody.lean `View.canon`; the payloads are the skeleton's and the values stated above). -/
def out0_28 (i : grid0.Coords) (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) : Vec F S512x1024 .bf16 :=
  View.canon [⟨r0_1, k0_pay5 (k0_pay39 i x0 x1 x2 x3 x4 x5 x6 x7 x8 x9 x10 x11 x12 x13 x14 x15 x16 x17 x18 x19 x20) (k0_pay26 (k0_pay35 i x0 x1 x2 x3 x4 x5 x6 x7 x8 x9 x10 x11 x12 x13 x14 x15 x16 x17 x18 x19 x20) (k0_pay36 i x0 x1 x2 x3 x4 x5 x6 x7 x8 x9 x10 x11 x12 x13 x14 x15 x16 x17 x18 x19 x20) (k0_pay40 i x0 x1 x2 x3 x4 x5 x6 x7 x8 x9 x10 x11 x12 x13 x14 x15 x16 x17 x18 x19 x20) (View.ld x18 r0_0) (View.ld x19 r0_0) (View.ld x20 r0_14)) (k0_pay41 i x0 x1 x2 x3 x4 x5 x6 x7 x8 x9 x10 x11 x12 x13 x14 x15 x16 x17 x18 x19 x20) (k0_pay42 i x0 x1 x2 x3 x4 x5 x6 x7 x8 x9 x10 x11 x12 x13 x14 x15 x16 x17 x18 x19 x20) (View.ld x14 r0_18) (View.ld x2 r0_1)⟩]

/-- Its stores tile the buffer (checked by evaluation), so they cover it. -/
theorem cover0_28 (p0 : Vec F S512x1024 .bf16) (y : S512x1024.Idx) :
    ∃ pc ∈ ([⟨r0_1, p0⟩] : List (View.Piece (Elt F) S512x1024 .bf16)), y ∈ pc.1.set :=
  View.cover_of_tiled [⟨r0_1, p0⟩] S512x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S8x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S6x1024 .f32) (harg5 : arg5.IsWhole) (arg6 : Memref sig .tc .vmem S1x3x1024x1024 .bf16) (harg6 : arg6.IsWhole) (arg7 : Memref sig .tc .vmem S1x1024 .f32) (harg7 : arg7.IsWhole) (arg8 : Memref sig .tc .vmem S1024x64 .bf16) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x64 .bf16) (harg11 : arg11.IsWhole) (arg12 : Memref sig .tc .vmem S64x1024 .bf16) (harg12 : arg12.IsWhole) (arg13 : Memref sig .tc .vmem S1x1024 .f32) (harg13 : arg13.IsWhole) (arg14 : Memref sig .tc .vmem S1024x32 .bf16) (harg14 : arg14.IsWhole) (arg15 : Memref sig .tc .vmem S32x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S128x128 .bf16) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S512x1024 .f32) (harg27 : arg27.IsWhole) (arg28 : Memref sig .tc .vmem S512x1024 .bf16) (harg28 : arg28.IsWhole) (arg29 : Memref sig .tc .vmem S512x1024 .bf16) (harg29 : arg29.IsWhole)
    (x0 : Vec F S512x1024 .f32) (x1 : Vec F S8x1024 .f32) (x2 : Vec F S512x1024 .f32) (x3 : Vec F S1x1024 .f32) (x4 : Vec F S6x1024 .f32) (x5 : Vec F S1x3x1024x1024 .bf16) (x6 : Vec F S1x1024 .f32) (x7 : Vec F S1024x64 .bf16) (x8 : Vec F S64x1024 .bf16) (x9 : Vec F S1x1024 .f32) (x10 : Vec F S1024x64 .bf16) (x11 : Vec F S64x1024 .bf16) (x12 : Vec F S1x1024 .f32) (x13 : Vec F S1024x32 .bf16) (x14 : Vec F S32x1024 .bf16) (x15 : Vec F S1024x128 .bf16) (x16 : Vec F S128x1024 .bf16) (x17 : Vec F S1x1024 .f32) (x18 : Vec F S1x1024 .f32) (x19 : Vec F S1x1024 .f32) (x20 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out0_21 i x0 x1 x2 x3 x4 x5 x6 x7 x8 x9 x10 x11 x12 x13 x14 x15 x16 x17 x18 x19 x20) ∗ owns (c : Thread nD τ) arg23 fullShare (out0_22 i x0 x1 x2 x3 x4 x5 x6 x7 x8 x9 x10 x11 x12 x13 x14 x15 x16 x17 x18 x19 x20) ∗ owns (c : Thread nD τ) arg24 fullShare (out0_23 i x0 x1 x2 x3 x4 x5 x6 x7 x8 x9 x10 x11 x12 x13 x14 x15 x16 x17 x18 x19 x20) ∗ owns (c : Thread nD τ) arg25 fullShare (out0_24 i x0 x1 x2 x3 x4 x5 x6 x7 x8 x9 x10 x11 x12 x13 x14 x15 x16 x17 x18 x19 x20) ∗ owns (c : Thread nD τ) arg26 fullShare (out0_25 i x0 x1 x2 x3 x4 x5 x6 x7 x8 x9 x10 x11 x12 x13 x14 x15 x16 x17 x18 x19 x20) ∗ owns (c : Thread nD τ) arg27 fullShare (out0_26 i x0 x1 x2 x3 x4 x5 x6 x7 x8 x9 x10 x11 x12 x13 x14 x15 x16 x17 x18 x19 x20) ∗ owns (c : Thread nD τ) arg28 fullShare (out0_27 i x0 x1 x2 x3 x4 x5 x6 x7 x8 x9 x10 x11 x12 x13 x14 x15 x16 x17 x18 x19 x20) ∗ owns (c : Thread nD τ) arg29 fullShare (out0_28 i x0 x1 x2 x3 x4 x5 x6 x7 x8 x9 x10 x11 x12 x13 x14 x15 x16 x17 x18 x19 x20)) -∗ K ⟨⟩))
      ⊢ wp frame (wpE (defs₀ (F := F)) Variants.none c none) E (cc0_rwkv_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_rwkv_in_eq_skeleton]; unfold cc0_rwkv_in_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  iexists _; isplitr
  swap; · iexact H28
  ipureintro
  refine (View.read_writes_eq_canon _ _ _ (cover0_28 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨27, _⟩ => out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨28, _⟩ => out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 29, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_27 (c : Dev nD) (t : Fin cfg0.N) : (dats m 0 c).after 27 t = out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_28 (c : Dev nD) (t : Fin cfg0.N) : (dats m 0 c).after 28 t = out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

set_option maxHeartbeats 2000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- The frame: `Cert.quiescent_InIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.InIdeal.Layer

end
-- ==== Proof.InHeads.lean ====
/- The sums over the lanes of one head: the kernel lays the eight 128-lane tiles of a block under one another, multiplies
   by a 128×128 matrix and lays the results side by side again. -/
module

public import proofs.«01_k».proof.Proof.Rows
public import proofs.«01_k».proof.Proof.InIdealFrame

@[expose] public section

set_option maxRecDepth 16384

noncomputable section

namespace Cert.InIdeal.Layer

open Cert.InIdeal Cert.InIdeal.Gen Idealize.ShloMosaic Idealize.ShloMosaic.TcCoe Idealize.SL.Sem
open Cert.Rows

/-- The eight tiles of a block, one under the other. -/
def stack (x : FVec Ideal S512x1024 .f32) : FVec Ideal S4096x128 .f32 :=
  concatenate S4096x128 0 [⟨S512x128, extractStridedSlice S512x128 ![0, 0] x slices_S512x1024_o0_0_S512x128⟩, ⟨S512x128, extractStridedSlice S512x128 ![0, 128] x slices_S512x1024_o0_128_S512x128⟩, ⟨S512x128, extractStridedSlice S512x128 ![0, 256] x slices_S512x1024_o0_256_S512x128⟩, ⟨S512x128, extractStridedSlice S512x128 ![0, 384] x slices_S512x1024_o0_384_S512x128⟩, ⟨S512x128, extractStridedSlice S512x128 ![0, 512] x slices_S512x1024_o0_512_S512x128⟩, ⟨S512x128, extractStridedSlice S512x128 ![0, 640] x slices_S512x1024_o0_640_S512x128⟩, ⟨S512x128, extractStridedSlice S512x128 ![0, 768] x slices_S512x1024_o0_768_S512x128⟩, ⟨S512x128, extractStridedSlice S512x128 ![0, 896] x slices_S512x1024_o0_896_S512x128⟩] concatenates_S512x128_S512x128_S512x128_S512x128_S512x128_S512x128_S512x128_S512x128_S4096x128_d0

/-- Eight row groups, side by side. -/
def unstack (x : FVec Ideal S4096x128 .f32) : FVec Ideal S512x1024 .f32 :=
  concatenate S512x1024 1 [⟨S512x128, extractStridedSlice S512x128 ![0, 0] x slices_S4096x128_o0_0_S512x128⟩, ⟨S512x128, extractStridedSlice S512x128 ![512, 0] x slices_S4096x128_o512_0_S512x128⟩, ⟨S512x128, extractStridedSlice S512x128 ![1024, 0] x slices_S4096x128_o1024_0_S512x128⟩, ⟨S512x128, extractStridedSlice S512x128 ![1536, 0] x slices_S4096x128_o1536_0_S512x128⟩, ⟨S512x128, extractStridedSlice S512x128 ![2048, 0] x slices_S4096x128_o2048_0_S512x128⟩, ⟨S512x128, extractStridedSlice S512x128 ![2560, 0] x slices_S4096x128_o2560_0_S512x128⟩, ⟨S512x128, extractStridedSlice S512x128 ![3072, 0] x slices_S4096x128_o3072_0_S512x128⟩, ⟨S512x128, extractStridedSlice S512x128 ![3584, 0] x slices_S4096x128_o3584_0_S512x128⟩] concatenates_S512x128_S512x128_S512x128_S512x128_S512x128_S512x128_S512x128_S512x128_S512x1024_d1

/-- An entry of the stacked tiles. -/
theorem stack_at (x : FVec Ideal S512x1024 .f32) (j : Fin 8) (a : Fin 512) (c : Fin 128) :
    stack x (ix2 ⟨512 * j.val + a.val, by omega⟩ c) = x (ix2 a ⟨128 * j.val + c.val, by omega⟩) := by
  refine (concatenate_ofFn_apply (t := S4096x128) (s₁ := S512x128) 0 ![extractStridedSlice S512x128 ![0, 0] x slices_S512x1024_o0_0_S512x128, extractStridedSlice S512x128 ![0, 128] x slices_S512x1024_o0_128_S512x128, extractStridedSlice S512x128 ![0, 256] x slices_S512x1024_o0_256_S512x128, extractStridedSlice S512x128 ![0, 384] x slices_S512x1024_o0_384_S512x128, extractStridedSlice S512x128 ![0, 512] x slices_S512x1024_o0_512_S512x128, extractStridedSlice S512x128 ![0, 640] x slices_S512x1024_o0_640_S512x128, extractStridedSlice S512x128 ![0, 768] x slices_S512x1024_o0_768_S512x128, extractStridedSlice S512x128 ![0, 896] x slices_S512x1024_o0_896_S512x128] _ rfl 512 rfl _ j ?_ (ix2 a c) ?_ ?_).trans ?_
  · show (512 * j.val + a.val) / 512 = j.val
    omega
  · show a.val = (512 * j.val + a.val) % 512
    omega
  · intro b hb
    match b with
    | ⟨0, _⟩ => exact absurd rfl hb
    | ⟨1, _⟩ => rfl
  · fin_vals j with hj
    all_goals
      obtain rfl : j = ⟨_, by decide⟩ := Fin.ext hj
      simp only [Matrix.cons_val]
      pointwise

/-- An entry of the rows laid side by side. -/
theorem unstack_at (x : FVec Ideal S4096x128 .f32) (j : Fin 8) (a : Fin 512) (c : Fin 128) :
    unstack x (ix2 a ⟨128 * j.val + c.val, by omega⟩) = x (ix2 ⟨512 * j.val + a.val, by omega⟩ c) := by
  refine (concatenate_ofFn_apply (t := S512x1024) (s₁ := S512x128) 1 ![extractStridedSlice S512x128 ![0, 0] x slices_S4096x128_o0_0_S512x128, extractStridedSlice S512x128 ![512, 0] x slices_S4096x128_o512_0_S512x128, extractStridedSlice S512x128 ![1024, 0] x slices_S4096x128_o1024_0_S512x128, extractStridedSlice S512x128 ![1536, 0] x slices_S4096x128_o1536_0_S512x128, extractStridedSlice S512x128 ![2048, 0] x slices_S4096x128_o2048_0_S512x128, extractStridedSlice S512x128 ![2560, 0] x slices_S4096x128_o2560_0_S512x128, extractStridedSlice S512x128 ![3072, 0] x slices_S4096x128_o3072_0_S512x128, extractStridedSlice S512x128 ![3584, 0] x slices_S4096x128_o3584_0_S512x128] _ rfl 128 rfl _ j ?_ (ix2 a c) ?_ ?_).trans ?_
  · show (128 * j.val + c.val) / 128 = j.val
    omega
  · show c.val = (128 * j.val + c.val) % 128
    omega
  · intro b hb
    match b with
    | ⟨0, _⟩ => rfl
    | ⟨1, _⟩ => exact absurd rfl hb
  · fin_vals j with hj
    all_goals
      obtain rfl : j = ⟨_, by decide⟩ := Fin.ext hj
      simp only [Matrix.cons_val]
      pointwise

/-- The sums within the heads of 512 rows, as the kernel takes them. -/
def hsum (x : FVec Ideal S512x1024 .f32) (o : FVec Ideal S128x128 .bf16) : FVec Ideal S512x1024 .f32 :=
  unstack (matmul dot_S4096x128_S128x128_S4096x128_1_0_0_1_n_n none (truncf .bf16 (stack x) bitsLt_bf16_f32 : FVec Ideal S4096x128 .bf16)
    (shapeCast S128x128 o shapeCasts_S128x128_S128x128) (constant S4096x128 .f32 0x00000000#32))

/-- A sum within a head, in one tile of the block. -/
theorem hsum_group (x : FVec Ideal S512x1024 .f32) (o : FVec Ideal S128x128 .bf16) (j : Fin 8) (a : Fin 512) (c : Fin 128) :
    hsum x o (ix2 a ⟨128 * j.val + c.val, by omega⟩) = ∑ k : Fin 128, x (ix2 a ⟨128 * j.val + k.val, by omega⟩) * o (ix2 k c) := by
  rw [hsum, unstack_at]
  pointwise [stack_at]

/-- A sum within a head, at any lane of the block. -/
theorem hsum_at (x : FVec Ideal S512x1024 .f32) (o : FVec Ideal S128x128 .bf16) (a : Fin 512) (j : Fin 1024) :
    hsum x o (ix2 a j) = laneSum (fun k c => o (ix2 k c)) (fun k => x (ix2 a k)) j := by
  refine Eq.trans ?_ (hsum_group x o ⟨j.val / 128, by omega⟩ a ⟨j.val % 128, Nat.mod_lt _ (by decide)⟩)
  exact congrArg (fun j => hsum x o (ix2 a j)) (Fin.ext (by show j.val = 128 * (j.val / 128) + j.val % 128; omega))

end Cert.InIdeal.Layer

end
-- ==== Proof.InValue.lean ====
/- The projection call on one step, payload by payload: what each value of the body holds at an entry. -/
module

public import proofs.«01_k».proof.Proof.InRows
public import proofs.«01_k».proof.Proof.InHeads
public import Idealize.ShloMosaic.Lib.Pipeline.Value
public import Idealize.ShloMosaic.Lib.Pipeline.ValueKit
public import Idealize.ShloMosaic.Lib.Claim

@[expose] public section

set_option maxRecDepth 16384

noncomputable section

namespace Cert.InIdeal.Layer

open Cert.InIdeal Cert.InIdeal.Gen Idealize.ShloMosaic Idealize.ShloMosaic.TcCoe Idealize.SL.Sem
open Idealize.ShloMosaic.Pipeline (Dat)
open Cert.Rows

variable (N X K R A V Q : FVec Ideal S512x1024 .f32) (P u g : FVec Ideal S1x1024 .f32) (c : BitVec 1) (a : Fin 512) (k j : Fin 1024)

/-- A normalized row of the block. -/
theorem norm_at (x : FVec Ideal S512x1024 .f32) : k0_pay7 (F := Ideal) g x (ix2 a k) = rms (fun k => x (ix2 a k)) (fun k => g (ix2 0 k)) k := by
  pointwise [k0_pay7, k0_pay6, rms, rmsScale]

/-- The normalized row before the block. -/
theorem edge_at (x : FVec Ideal S1x1024 .f32) : k0_pay8 (F := Ideal) g x (ix2 0 k) = rms (fun k => x (ix2 0 k)) (fun k => g (ix2 0 k)) k := by
  pointwise [k0_pay8, k0_pay6, rms, rmsScale]

/-- A choice by whether a row is the first of its block. -/
theorem select_zero (b : Fin 512) (x y : EReal) :
    Scalar.select (IntOp.cmpi .eq (BitVec.ofNat 32 b.val) 0#32) x y = if b.val = 0 then x else y := by
  by_cases h : b.val = 0
  · simp [IntOp.cmpi, Scalar.select, h]
  · have hn : (BitVec.ofNat 32 b.val == 0#32) = false := by
      rw [beq_eq_false_iff_ne]
      intro q
      have := congrArg BitVec.toNat q
      simp at this
      omega
    simp [IntOp.cmpi, Scalar.select, h, hn]

/-- The step from a row to the one before it. -/
theorem step_at : k0_pay9 N P c (ix2 a k)
    = (if a.val = 0 then (if c = 1#1 then 0 else P (ix2 0 k)) else N (ix2 ⟨a.val - 1, by omega⟩ k)) - N (ix2 a k) := by
  pointwise [k0_pay9]
  rw [select_zero a]
  refine congrArg (· - _) ?_
  split
  · by_cases hc : c = 1#1 <;> simp [Scalar.select, hc]
  · exact congrArg (fun b => N (ix2 b k)) (Fin.ext (by show (a.val + 512 - 1) % 512 = a.val - 1; omega))

/-- A mixed row, for the value. -/
theorem mix2_at : k0_pay10 N P c u (ix2 a k) = N (ix2 a k) + k0_pay9 N P c (ix2 a k) * u (ix2 0 k) := by
  pointwise [k0_pay10]

/-- A mixed row, for the gate. -/
theorem mix5_at : k0_pay13 N P c u (ix2 a k) = N (ix2 a k) + k0_pay9 N P c (ix2 a k) * u (ix2 0 k) := by
  pointwise [k0_pay13]

/-- The first factor of the learning rate. -/
theorem ratea_at (w : Vec Ideal S1024x64 .bf16) (l : Fin 64) : k0_pay12 N P c u w (ix2 a l)
    = dot (fun k => N (ix2 a k) + k0_pay9 N P c (ix2 a k) * u (ix2 0 k)) (fun k l => w (ix2 k l)) l := by
  pointwise [k0_pay12, dot]

/-- The first factor of the gate. -/
theorem gatea_at (m : FVec Ideal S512x1024 .bf16) (w : Vec Ideal S1024x128 .bf16) (l : Fin 128) : k0_pay14 m w (ix2 a l)
    = dot (fun k => m (ix2 a k)) (fun k l => w (ix2 k l)) l := by
  pointwise [k0_pay14, dot]

/-- The first factor of the value's mix. -/
theorem sharea_at (m : FVec Ideal S512x1024 .bf16) (w : Vec Ideal S1024x32 .bf16) (l : Fin 32) : k0_pay29 (k0_pay15 m w) (ix2 a l)
    = dot (fun k => m (ix2 a k)) (fun k l => w (ix2 k l)) l := by
  pointwise [k0_pay29, k0_pay15, dot]

/-- The key. -/
theorem key_at (w : Vec Ideal S1x1x1024x1024 .bf16) : k0_pay16 N X u w (ix2 a j)
    = dot (fun k => N (ix2 a k) + X (ix2 a k) * u (ix2 0 k)) (fun k j => w (ix4 0 0 k j)) j := by
  pointwise [k0_pay16, dot]

/-- The receptance. -/
theorem recept_at (w : Vec Ideal S1x1x1024x1024 .bf16) : k0_pay17 N X u w (ix2 a j)
    = dot (fun k => N (ix2 a k) + X (ix2 a k) * u (ix2 0 k)) (fun k j => w (ix4 0 0 k j)) j := by
  pointwise [k0_pay17, dot]

/-- The value. -/
theorem value_at (m : FVec Ideal S512x1024 .bf16) (w : Vec Ideal S1x1x1024x1024 .bf16) : k0_pay23 m w (ix2 a j)
    = dot (fun k => m (ix2 a k)) (fun k j => w (ix4 0 0 k j)) j := by
  pointwise [k0_pay23, dot]

/-- The removal key before its normalization. -/
theorem raw_at (w : Vec Ideal S1x1x1024x1024 .bf16) : k0_pay18 N X u w g (ix2 a j) = k0_pay16 N X u w (ix2 a j) * g (ix2 0 j) := by
  pointwise [k0_pay18]

/-- Its length within each head. -/
theorem length_at (w : Vec Ideal S1x1x1024x1024 .bf16) (o : Vec Ideal S128x128 .bf16) : k0_pay22 (k0_pay19 N X u w g) o (ix2 a j)
    = Ideal.sqrt (laneSum (fun k c => o (ix2 k c)) (fun k => k0_pay18 N X u w g (ix2 a k) * k0_pay18 N X u w g (ix2 a k)) j) := by
  refine Eq.trans (show _ = Ideal.sqrt (hsum (mulf (k0_pay18 N X u w g) (k0_pay18 N X u w g)) o (ix2 a j)) from rfl) ?_
  rw [hsum_at]
  rfl

/-- The learning rate. -/
theorem rate_at (f : FVec Ideal S512x64 .f32) (w : Vec Ideal S64x1024 .bf16) : k0_pay21 f u w (ix2 a j)
    = Ideal.logistic (u (ix2 0 j) + dot (fun l => f (ix2 a l)) (fun l j => w (ix2 l j)) j) := by
  pointwise [k0_pay21, dot]

/-- The learning rate minus one. -/
theorem rate1_at (f : FVec Ideal S512x64 .f32) (w : Vec Ideal S64x1024 .bf16) : k0_pay24 f u w (ix2 a j)
    = k0_pay21 f u w (ix2 a j) - Ideal.ofBits .f32 0x3F800000#32 := by
  pointwise [k0_pay24]

/-- The key with the learning rate in it. -/
theorem k_at : k0_pay25 K A u (ix2 a j) = K (ix2 a j) * (Ideal.ofBits .f32 0x3F800000#32 + A (ix2 a j) * u (ix2 0 j)) := by
  pointwise [k0_pay25]

/-- The bonus's sums within the heads. -/
theorem dots_at (o : Vec Ideal S128x128 .bf16) : k0_pay26 K R A u g o (ix2 a j)
    = laneSum (fun k c => o (ix2 k c)) (fun k => R (ix2 a k) * k0_pay25 K A u (ix2 a k) * g (ix2 0 k)) j := by
  refine Eq.trans (show _ = hsum (mulf (mulf R (k0_pay25 K A u)) (broadcastTo S512x1024 (shapeCast S1x1024 g shapeCasts_S1x1024_S1x1024) broadcasts_S1x1024_S512x1024)) o (ix2 a j) from rfl) ?_
  rw [hsum_at]
  refine congrArg (fun f => laneSum _ f j) (funext fun k => ?_)
  pointwise

/-- The gate. -/
theorem gate_at (f : FVec Ideal S512x128 .f32) (w : Vec Ideal S128x1024 .bf16) : k0_pay27 f w (ix2 a j)
    = dot (fun l => Ideal.logistic (f (ix2 a l))) (fun l j => w (ix2 l j)) j := by
  pointwise [k0_pay27, dot]

/-- The value, mixed with the first layer's. -/
theorem v_at (f : FVec Ideal S512x32 .bf16) (w : Vec Ideal S32x1024 .bf16) : k0_pay1 V (k0_pay28 u) f w Q (ix2 a j)
    = V (ix2 a j) + (Q (ix2 a j) - V (ix2 a j)) * Ideal.logistic (u (ix2 0 j) + dot (fun l => f (ix2 a l)) (fun l j => w (ix2 l j)) j) := by
  pointwise [k0_pay1, k0_pay28, dot]

/-- The removal key. -/
theorem unit_at : k0_pay3 K A (ix2 a j) = Ideal.div (K (ix2 a j)) (max (A (ix2 a j)) (Ideal.ofBits .f32 0x2B8CBCCC#32)) := by
  pointwise [k0_pay3]

/-- The removal key times the learning rate. -/
theorem add_at : k0_pay4 K R A (ix2 a j) = k0_pay3 K A (ix2 a j) * R (ix2 a j) := by
  pointwise [k0_pay4]

/-- The bonus. -/
theorem bonus_at (f : FVec Ideal S512x32 .bf16) (w : Vec Ideal S32x1024 .bf16) : k0_pay5 V R u f w Q (ix2 a j)
    = R (ix2 a j) * k0_pay1 V u f w Q (ix2 a j) := by
  pointwise [k0_pay5]

/-- The word the kernel tests to see whether a step is the first of its sequence. -/
def first (n : ℕ) : BitVec 1 := Scalar.cmpi .eq (Scalar.select (Scalar.andi (Scalar.xori (Scalar.cmpi .slt (Scalar.remsi (BitVec.ofNat 32 n) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 n) (Scalar.select (Scalar.cmpi .eq 32#32 0#32) 1#32 32#32)) 0#32)) (Scalar.addi (Scalar.remsi (BitVec.ofNat 32 n) (Scalar.select (Scalar.cmpi .eq 32#32 0#32) 1#32 32#32)) (Scalar.select (Scalar.cmpi .eq 32#32 0#32) 1#32 32#32)) (Scalar.remsi (BitVec.ofNat 32 n) (Scalar.select (Scalar.cmpi .eq 32#32 0#32) 1#32 32#32))) 0#32

/-- The first step of each sequence, among the 64. -/
theorem first_eq : ∀ n : Fin 64, first n.val = if n.val % 32 = 0 then 1#1 else 0#1 := by decide +kernel

end Cert.InIdeal.Layer

end
-- ==== Proof.InStep.lean ====
/- The projection call on one step: what it leaves in each output block, over the blocks it is given. -/
module

public import proofs.«01_k».proof.Proof.InValue

@[expose] public section

set_option maxRecDepth 16384

noncomputable section

namespace Cert.InIdeal.Layer

open Cert.InIdeal Cert.InIdeal.Gen Idealize.ShloMosaic Idealize.ShloMosaic.TcCoe Idealize.SL.Sem
open Cert.Rows

/-- What one row of a step is computed from: row `a` of the blocks of step `n`. -/
def row (n : ℕ) (x0 : Vec Ideal S512x1024 .f32) (x1 : Vec Ideal S8x1024 .f32) (x2 : Vec Ideal S512x1024 .f32) (x3 : Vec Ideal S1x1024 .f32) (x4 : Vec Ideal S6x1024 .f32) (x5 : Vec Ideal S1x3x1024x1024 .bf16) (x6 : Vec Ideal S1x1024 .f32) (x7 : Vec Ideal S1024x64 .bf16) (x8 : Vec Ideal S64x1024 .bf16) (x9 : Vec Ideal S1x1024 .f32) (x10 : Vec Ideal S1024x64 .bf16) (x11 : Vec Ideal S64x1024 .bf16) (x12 : Vec Ideal S1x1024 .f32) (x13 : Vec Ideal S1024x32 .bf16) (x14 : Vec Ideal S32x1024 .bf16) (x15 : Vec Ideal S1024x128 .bf16) (x16 : Vec Ideal S128x1024 .bf16) (x17 : Vec Ideal S1x1024 .f32) (x18 : Vec Ideal S1x1024 .f32) (x19 : Vec Ideal S1x1024 .f32) (x20 : Vec Ideal S128x128 .bf16) (a : Fin 512) : Proj where
  sum := laneSum fun k c => x20 (ix2 k c)
  h := rms (fun k => x0 (ix2 a k)) (fun k => x3 (ix2 0 k))
  p := fun k => if a.val = 0 then (if n % 32 = 0 then 0 else rms (fun k => x1 (ix2 7 k)) (fun k => x3 (ix2 0 k)) k)
    else rms (fun k => x0 (ix2 ⟨a.val - 1, by omega⟩ k)) (fun k => x3 (ix2 0 k)) k
  vf := fun k => x2 (ix2 a k)
  mu := fun q k => x4 (ix2 q k)
  w := fun q k j => x5 (ix4 0 q k j)
  a0 := fun j => x9 (ix2 0 j)
  aa := fun k l => x10 (ix2 k l)
  ab := fun l j => x11 (ix2 l j)
  v0 := fun j => x12 (ix2 0 j)
  va := fun k l => x13 (ix2 k l)
  vb := fun l j => x14 (ix2 l j)
  ga := fun k l => x15 (ix2 k l)
  gb := fun l j => x16 (ix2 l j)
  kk := fun j => x17 (ix2 0 j)
  ka := fun j => x18 (ix2 0 j)
  rk := fun j => x19 (ix2 0 j)

/-- A product of a row and a matrix depends on them element by element. -/
theorem dot_congr {m n : ℕ} {u u' : Fin m → EReal} {w w' : Fin m → Fin n → EReal} (hu : ∀ k, u k = u' k) (hw : ∀ k j, w k j = w' k j) (j : Fin n) :
    dot u w j = dot u' w' j := by
  rw [funext hu, funext fun k => funext (hw k)]

/-- A sum within the heads depends on its operands element by element. -/
theorem laneSum_congr {o o' : Fin 128 → Fin 128 → EReal} {y y' : Fin 1024 → EReal} (ho : ∀ k c, o k c = o' k c) (hy : ∀ k, y k = y' k) (j : Fin 1024) :
    laneSum o y j = laneSum o' y' j := by
  rw [funext hy, funext fun k => funext (ho k)]

variable (i : grid0.Coords) (x0 : Vec Ideal S512x1024 .f32) (x1 : Vec Ideal S8x1024 .f32) (x2 : Vec Ideal S512x1024 .f32) (x3 : Vec Ideal S1x1024 .f32) (x4 : Vec Ideal S6x1024 .f32) (x5 : Vec Ideal S1x3x1024x1024 .bf16) (x6 : Vec Ideal S1x1024 .f32) (x7 : Vec Ideal S1024x64 .bf16) (x8 : Vec Ideal S64x1024 .bf16) (x9 : Vec Ideal S1x1024 .f32) (x10 : Vec Ideal S1024x64 .bf16) (x11 : Vec Ideal S64x1024 .bf16) (x12 : Vec Ideal S1x1024 .f32) (x13 : Vec Ideal S1024x32 .bf16) (x14 : Vec Ideal S32x1024 .bf16) (x15 : Vec Ideal S1024x128 .bf16) (x16 : Vec Ideal S128x1024 .bf16) (x17 : Vec Ideal S1x1024 .f32) (x18 : Vec Ideal S1x1024 .f32) (x19 : Vec Ideal S1x1024 .f32) (x20 : Vec Ideal S128x128 .bf16) (a : Fin 512) (k j : Fin 1024)

/-- The normalized row. -/
theorem row_h : k0_pay30 i x0 x1 x2 x3 x4 x5 x6 x7 x8 x9 x10 x11 x12 x13 x14 x15 x16 x17 x18 x19 x20 (ix2 a k)
    = (row (i 0).val x0 x1 x2 x3 x4 x5 x6 x7 x8 x9 x10 x11 x12 x13 x14 x15 x16 x17 x18 x19 x20 a).h k := by
  pointwise [k0_pay30, norm_at, row, r0_0, r0_1]

/-- The normalized row before it. -/
theorem row_edge : k0_pay31 i x0 x1 x2 x3 x4 x5 x6 x7 x8 x9 x10 x11 x12 x13 x14 x15 x16 x17 x18 x19 x20 (ix2 0 k)
    = rms (fun k => x1 (ix2 7 k)) (fun k => x3 (ix2 0 k)) k := by
  pointwise [k0_pay31, edge_at, r0_0, r0_2]

/-- The step to the row before it. -/
theorem row_step : k0_pay32 i x0 x1 x2 x3 x4 x5 x6 x7 x8 x9 x10 x11 x12 x13 x14 x15 x16 x17 x18 x19 x20 (ix2 a k)
    = (row (i 0).val x0 x1 x2 x3 x4 x5 x6 x7 x8 x9 x10 x11 x12 x13 x14 x15 x16 x17 x18 x19 x20 a).p k - (row (i 0).val x0 x1 x2 x3 x4 x5 x6 x7 x8 x9 x10 x11 x12 x13 x14 x15 x16 x17 x18 x19 x20 a).h k := by
  refine Eq.trans (show _ = k0_pay9 (k0_pay30 i x0 x1 x2 x3 x4 x5 x6 x7 x8 x9 x10 x11 x12 x13 x14 x15 x16 x17 x18 x19 x20) (k0_pay31 i x0 x1 x2 x3 x4 x5 x6 x7 x8 x9 x10 x11 x12 x13 x14 x15 x16 x17 x18 x19 x20) (first (i 0).val) (ix2 a k) from rfl) ?_
  rw [step_at, row_h, row_h, row_edge, first_eq (i 0)]
  refine congrArg₂ (fun v w : EReal => v - w) ?_ rfl
  refine if_congr Iff.rfl (if_congr ?_ rfl rfl) rfl
  split <;> simp_all

/-- A row mixed with the one before it. -/
theorem row_mix (q : Fin 6) (u : Vec Ideal S1x1024 .f32) (hu : ∀ k, u (ix2 0 k) = x4 (ix2 q k)) : k0_pay30 i x0 x1 x2 x3 x4 x5 x6 x7 x8 x9 x10 x11 x12 x13 x14 x15 x16 x17 x18 x19 x20 (ix2 a k) + k0_pay32 i x0 x1 x2 x3 x4 x5 x6 x7 x8 x9 x10 x11 x12 x13 x14 x15 x16 x17 x18 x19 x20 (ix2 a k) * u (ix2 0 k)
    = (row (i 0).val x0 x1 x2 x3 x4 x5 x6 x7 x8 x9 x10 x11 x12 x13 x14 x15 x16 x17 x18 x19 x20 a).mix q k := by
  rw [row_h, row_step, hu]
  rfl

/-- The row mixed for the value. -/
theorem row_mix2 : k0_pay33 i x0 x1 x2 x3 x4 x5 x6 x7 x8 x9 x10 x11 x12 x13 x14 x15 x16 x17 x18 x19 x20 (ix2 a k)
    = (row (i 0).val x0 x1 x2 x3 x4 x5 x6 x7 x8 x9 x10 x11 x12 x13 x14 x15 x16 x17 x18 x19 x20 a).mix 2 k := by
  refine Eq.trans (show _ = k0_pay10 (k0_pay30 i x0 x1 x2 x3 x4 x5 x6 x7 x8 x9 x10 x11 x12 x13 x14 x15 x16 x17 x18 x19 x20) (k0_pay31 i x0 x1 x2 x3 x4 x5 x6 x7 x8 x9 x10 x11 x12 x13 x14 x15 x16 x17 x18 x19 x20) (first (i 0).val) (View.ld x4 r0_3) (ix2 a k) from rfl) ?_
  rw [mix2_at]
  exact row_mix i x0 x1 x2 x3 x4 x5 x6 x7 x8 x9 x10 x11 x12 x13 x14 x15 x16 x17 x18 x19 x20 a k 2 _ fun k => by pointwise [r0_3]

/-- The row mixed for the gate. -/
theorem row_mix5 : k0_pay13 (k0_pay30 i x0 x1 x2 x3 x4 x5 x6 x7 x8 x9 x10 x11 x12 x13 x14 x15 x16 x17 x18 x19 x20) (k0_pay31 i x0 x1 x2 x3 x4 x5 x6 x7 x8 x9 x10 x11 x12 x13 x14 x15 x16 x17 x18 x19 x20) (first (i 0).val) (View.ld x4 r0_7) (ix2 a k)
    = (row (i 0).val x0 x1 x2 x3 x4 x5 x6 x7 x8 x9 x10 x11 x12 x13 x14 x15 x16 x17 x18 x19 x20 a).mix 5 k := by
  rw [mix5_at]
  exact row_mix i x0 x1 x2 x3 x4 x5 x6 x7 x8 x9 x10 x11 x12 x13 x14 x15 x16 x17 x18 x19 x20 a k 5 _ fun k => by pointwise [r0_7]

/-- The first factor of the learning rate. -/
theorem row_ratea (l : Fin 64) : k0_pay34 i x0 x1 x2 x3 x4 x5 x6 x7 x8 x9 x10 x11 x12 x13 x14 x15 x16 x17 x18 x19 x20 (ix2 a l)
    = dot ((row (i 0).val x0 x1 x2 x3 x4 x5 x6 x7 x8 x9 x10 x11 x12 x13 x14 x15 x16 x17 x18 x19 x20 a).mix 4) (row (i 0).val x0 x1 x2 x3 x4 x5 x6 x7 x8 x9 x10 x11 x12 x13 x14 x15 x16 x17 x18 x19 x20 a).aa l := by
  refine Eq.trans (show _ = k0_pay12 (k0_pay30 i x0 x1 x2 x3 x4 x5 x6 x7 x8 x9 x10 x11 x12 x13 x14 x15 x16 x17 x18 x19 x20) (k0_pay31 i x0 x1 x2 x3 x4 x5 x6 x7 x8 x9 x10 x11 x12 x13 x14 x15 x16 x17 x18 x19 x20) (first (i 0).val) (View.ld x4 r0_6) (View.ld x10 r0_5) (ix2 a l) from rfl) ?_
  rw [ratea_at]
  exact dot_congr (fun k => row_mix i x0 x1 x2 x3 x4 x5 x6 x7 x8 x9 x10 x11 x12 x13 x14 x15 x16 x17 x18 x19 x20 a k 4 _ fun k => by pointwise [r0_6]) (fun k l => by pointwise [row, r0_5]) l

/-- The key as projected. -/
theorem row_key : k0_pay35 i x0 x1 x2 x3 x4 x5 x6 x7 x8 x9 x10 x11 x12 x13 x14 x15 x16 x17 x18 x19 x20 (ix2 a j)
    = (row (i 0).val x0 x1 x2 x3 x4 x5 x6 x7 x8 x9 x10 x11 x12 x13 x14 x15 x16 x17 x18 x19 x20 a).key j := by
  refine Eq.trans (show _ = k0_pay16 (k0_pay30 i x0 x1 x2 x3 x4 x5 x6 x7 x8 x9 x10 x11 x12 x13 x14 x15 x16 x17 x18 x19 x20) (k0_pay32 i x0 x1 x2 x3 x4 x5 x6 x7 x8 x9 x10 x11 x12 x13 x14 x15 x16 x17 x18 x19 x20) (View.ld x4 r0_10) (View.ld x5 r0_11) (ix2 a j) from rfl) ?_
  rw [key_at]
  exact dot_congr (fun k => row_mix i x0 x1 x2 x3 x4 x5 x6 x7 x8 x9 x10 x11 x12 x13 x14 x15 x16 x17 x18 x19 x20 a k 1 _ fun k => by pointwise [r0_10]) (fun k l => by pointwise [row, r0_11]) j

/-- The receptance. -/
theorem row_r : k0_pay36 i x0 x1 x2 x3 x4 x5 x6 x7 x8 x9 x10 x11 x12 x13 x14 x15 x16 x17 x18 x19 x20 (ix2 a j)
    = (row (i 0).val x0 x1 x2 x3 x4 x5 x6 x7 x8 x9 x10 x11 x12 x13 x14 x15 x16 x17 x18 x19 x20 a).r j := by
  refine Eq.trans (show _ = k0_pay17 (k0_pay30 i x0 x1 x2 x3 x4 x5 x6 x7 x8 x9 x10 x11 x12 x13 x14 x15 x16 x17 x18 x19 x20) (k0_pay32 i x0 x1 x2 x3 x4 x5 x6 x7 x8 x9 x10 x11 x12 x13 x14 x15 x16 x17 x18 x19 x20) (View.ld x4 r0_12) (View.ld x5 r0_13) (ix2 a j) from rfl) ?_
  rw [recept_at]
  exact dot_congr (fun k => row_mix i x0 x1 x2 x3 x4 x5 x6 x7 x8 x9 x10 x11 x12 x13 x14 x15 x16 x17 x18 x19 x20 a k 0 _ fun k => by pointwise [r0_12]) (fun k l => by pointwise [row, r0_13]) j

/-- The value as projected. -/
theorem row_val : k0_pay39 i x0 x1 x2 x3 x4 x5 x6 x7 x8 x9 x10 x11 x12 x13 x14 x15 x16 x17 x18 x19 x20 (ix2 a j)
    = (row (i 0).val x0 x1 x2 x3 x4 x5 x6 x7 x8 x9 x10 x11 x12 x13 x14 x15 x16 x17 x18 x19 x20 a).val j := by
  refine Eq.trans (show _ = k0_pay23 (k0_pay33 i x0 x1 x2 x3 x4 x5 x6 x7 x8 x9 x10 x11 x12 x13 x14 x15 x16 x17 x18 x19 x20) (View.ld x5 r0_16) (ix2 a j) from rfl) ?_
  rw [value_at]
  exact dot_congr (fun k => row_mix2 i x0 x1 x2 x3 x4 x5 x6 x7 x8 x9 x10 x11 x12 x13 x14 x15 x16 x17 x18 x19 x20 a k) (fun k l => by pointwise [row, r0_16]) j

/-- The removal key before its normalization. -/
theorem row_raw : k0_pay37 i x0 x1 x2 x3 x4 x5 x6 x7 x8 x9 x10 x11 x12 x13 x14 x15 x16 x17 x18 x19 x20 (ix2 a j)
    = (row (i 0).val x0 x1 x2 x3 x4 x5 x6 x7 x8 x9 x10 x11 x12 x13 x14 x15 x16 x17 x18 x19 x20 a).raw j := by
  refine Eq.trans (show _ = k0_pay18 (k0_pay30 i x0 x1 x2 x3 x4 x5 x6 x7 x8 x9 x10 x11 x12 x13 x14 x15 x16 x17 x18 x19 x20) (k0_pay32 i x0 x1 x2 x3 x4 x5 x6 x7 x8 x9 x10 x11 x12 x13 x14 x15 x16 x17 x18 x19 x20) (View.ld x4 r0_10) (View.ld x5 r0_11) (View.ld x17 r0_0) (ix2 a j) from rfl) ?_
  rw [raw_at]
  exact congrArg₂ (· * ·) (row_key i x0 x1 x2 x3 x4 x5 x6 x7 x8 x9 x10 x11 x12 x13 x14 x15 x16 x17 x18 x19 x20 a j) (by pointwise [row, r0_0])

/-- Its length within each head. -/
theorem row_length : k0_pay38 i x0 x1 x2 x3 x4 x5 x6 x7 x8 x9 x10 x11 x12 x13 x14 x15 x16 x17 x18 x19 x20 (ix2 a j)
    = Ideal.sqrt ((row (i 0).val x0 x1 x2 x3 x4 x5 x6 x7 x8 x9 x10 x11 x12 x13 x14 x15 x16 x17 x18 x19 x20 a).sum (fun k => (row (i 0).val x0 x1 x2 x3 x4 x5 x6 x7 x8 x9 x10 x11 x12 x13 x14 x15 x16 x17 x18 x19 x20 a).raw k * (row (i 0).val x0 x1 x2 x3 x4 x5 x6 x7 x8 x9 x10 x11 x12 x13 x14 x15 x16 x17 x18 x19 x20 a).raw k) j) := by
  refine Eq.trans (show _ = k0_pay22 (k0_pay19 (k0_pay30 i x0 x1 x2 x3 x4 x5 x6 x7 x8 x9 x10 x11 x12 x13 x14 x15 x16 x17 x18 x19 x20) (k0_pay32 i x0 x1 x2 x3 x4 x5 x6 x7 x8 x9 x10 x11 x12 x13 x14 x15 x16 x17 x18 x19 x20) (View.ld x4 r0_10) (View.ld x5 r0_11) (View.ld x17 r0_0)) (View.ld x20 r0_14) (ix2 a j) from rfl) ?_
  rw [length_at]
  refine congrArg Ideal.sqrt (show _ = laneSum (fun k c => x20 (ix2 k c)) (fun k => (row (i 0).val x0 x1 x2 x3 x4 x5 x6 x7 x8 x9 x10 x11 x12 x13 x14 x15 x16 x17 x18 x19 x20 a).raw k * (row (i 0).val x0 x1 x2 x3 x4 x5 x6 x7 x8 x9 x10 x11 x12 x13 x14 x15 x16 x17 x18 x19 x20 a).raw k) j from laneSum_congr (fun k c => by pointwise [r0_14]) (fun k => ?_) j)
  exact congrArg₂ (· * ·) (row_raw i x0 x1 x2 x3 x4 x5 x6 x7 x8 x9 x10 x11 x12 x13 x14 x15 x16 x17 x18 x19 x20 a k) (row_raw i x0 x1 x2 x3 x4 x5 x6 x7 x8 x9 x10 x11 x12 x13 x14 x15 x16 x17 x18 x19 x20 a k)

/-- The learning rate. -/
theorem row_rate : k0_pay21 (k0_pay34 i x0 x1 x2 x3 x4 x5 x6 x7 x8 x9 x10 x11 x12 x13 x14 x15 x16 x17 x18 x19 x20) (View.ld x9 r0_0) (View.ld x11 r0_15) (ix2 a j)
    = (row (i 0).val x0 x1 x2 x3 x4 x5 x6 x7 x8 x9 x10 x11 x12 x13 x14 x15 x16 x17 x18 x19 x20 a).rate j := by
  rw [rate_at]
  exact congrArg Ideal.logistic (congrArg₂ (· + ·) (by pointwise [row, r0_0]) (dot_congr (fun l => row_ratea i x0 x1 x2 x3 x4 x5 x6 x7 x8 x9 x10 x11 x12 x13 x14 x15 x16 x17 x18 x19 x20 a l) (fun k l => by pointwise [row, r0_15]) j))

/-- The learning rate minus one. -/
theorem row_rate1 : k0_pay40 i x0 x1 x2 x3 x4 x5 x6 x7 x8 x9 x10 x11 x12 x13 x14 x15 x16 x17 x18 x19 x20 (ix2 a j)
    = (row (i 0).val x0 x1 x2 x3 x4 x5 x6 x7 x8 x9 x10 x11 x12 x13 x14 x15 x16 x17 x18 x19 x20 a).rate j - Ideal.ofBits .f32 0x3F800000#32 := by
  refine Eq.trans (show _ = k0_pay24 (k0_pay34 i x0 x1 x2 x3 x4 x5 x6 x7 x8 x9 x10 x11 x12 x13 x14 x15 x16 x17 x18 x19 x20) (View.ld x9 r0_0) (View.ld x11 r0_15) (ix2 a j) from rfl) ?_
  rw [rate1_at, row_rate]

/-- The key. -/
theorem row_k : k0_pay25 (k0_pay35 i x0 x1 x2 x3 x4 x5 x6 x7 x8 x9 x10 x11 x12 x13 x14 x15 x16 x17 x18 x19 x20) (k0_pay40 i x0 x1 x2 x3 x4 x5 x6 x7 x8 x9 x10 x11 x12 x13 x14 x15 x16 x17 x18 x19 x20) (View.ld x18 r0_0) (ix2 a j)
    = (row (i 0).val x0 x1 x2 x3 x4 x5 x6 x7 x8 x9 x10 x11 x12 x13 x14 x15 x16 x17 x18 x19 x20 a).k j := by
  rw [k_at, row_key, row_rate1]
  exact congrArg₂ (· * ·) rfl (congrArg₂ (· + ·) rfl (congrArg₂ (· * ·) rfl (by pointwise [row, r0_0])))

/-- The first factor of the share. -/
theorem row_sharea (l : Fin 32) : k0_pay42 i x0 x1 x2 x3 x4 x5 x6 x7 x8 x9 x10 x11 x12 x13 x14 x15 x16 x17 x18 x19 x20 (ix2 a l)
    = dot ((row (i 0).val x0 x1 x2 x3 x4 x5 x6 x7 x8 x9 x10 x11 x12 x13 x14 x15 x16 x17 x18 x19 x20 a).mix 2) (row (i 0).val x0 x1 x2 x3 x4 x5 x6 x7 x8 x9 x10 x11 x12 x13 x14 x15 x16 x17 x18 x19 x20 a).va l := by
  refine Eq.trans (show _ = k0_pay29 (k0_pay15 (k0_pay33 i x0 x1 x2 x3 x4 x5 x6 x7 x8 x9 x10 x11 x12 x13 x14 x15 x16 x17 x18 x19 x20) (View.ld x13 r0_9)) (ix2 a l) from rfl) ?_
  rw [sharea_at]
  exact dot_congr (fun k => row_mix2 i x0 x1 x2 x3 x4 x5 x6 x7 x8 x9 x10 x11 x12 x13 x14 x15 x16 x17 x18 x19 x20 a k) (fun k l => by pointwise [row, r0_9]) l

/-- The value. -/
theorem row_v : k0_pay1 (k0_pay39 i x0 x1 x2 x3 x4 x5 x6 x7 x8 x9 x10 x11 x12 x13 x14 x15 x16 x17 x18 x19 x20) (k0_pay41 i x0 x1 x2 x3 x4 x5 x6 x7 x8 x9 x10 x11 x12 x13 x14 x15 x16 x17 x18 x19 x20) (k0_pay42 i x0 x1 x2 x3 x4 x5 x6 x7 x8 x9 x10 x11 x12 x13 x14 x15 x16 x17 x18 x19 x20) (View.ld x14 r0_18) (View.ld x2 r0_1) (ix2 a j)
    = (row (i 0).val x0 x1 x2 x3 x4 x5 x6 x7 x8 x9 x10 x11 x12 x13 x14 x15 x16 x17 x18 x19 x20 a).v j := by
  refine Eq.trans (show _ = k0_pay1 (k0_pay39 i x0 x1 x2 x3 x4 x5 x6 x7 x8 x9 x10 x11 x12 x13 x14 x15 x16 x17 x18 x19 x20) (k0_pay28 (View.ld x12 r0_0)) (k0_pay42 i x0 x1 x2 x3 x4 x5 x6 x7 x8 x9 x10 x11 x12 x13 x14 x15 x16 x17 x18 x19 x20) (View.ld x14 r0_18) (View.ld x2 r0_1) (ix2 a j) from rfl) ?_
  rw [v_at, row_val]
  refine congrArg₂ (· + ·) rfl (congrArg₂ (· * ·) (congrArg₂ (fun v w : EReal => v - w) (by pointwise [row, r0_1]) rfl) (congrArg Ideal.logistic (congrArg₂ (· + ·) (by pointwise [row, r0_0]) ?_)))
  exact dot_congr (fun l => row_sharea i x0 x1 x2 x3 x4 x5 x6 x7 x8 x9 x10 x11 x12 x13 x14 x15 x16 x17 x18 x19 x20 a l) (fun k l => by pointwise [row, r0_18]) j

/-- The receptance block. -/
theorem out21_at : out0_21 i x0 x1 x2 x3 x4 x5 x6 x7 x8 x9 x10 x11 x12 x13 x14 x15 x16 x17 x18 x19 x20 (ix2 a j)
    = (row (i 0).val x0 x1 x2 x3 x4 x5 x6 x7 x8 x9 x10 x11 x12 x13 x14 x15 x16 x17 x18 x19 x20 a).r j := by
  unfold out0_21
  frame_out
  exact row_r i x0 x1 x2 x3 x4 x5 x6 x7 x8 x9 x10 x11 x12 x13 x14 x15 x16 x17 x18 x19 x20 a j

/-- The key block. -/
theorem out23_at : out0_23 i x0 x1 x2 x3 x4 x5 x6 x7 x8 x9 x10 x11 x12 x13 x14 x15 x16 x17 x18 x19 x20 (ix2 a j)
    = (row (i 0).val x0 x1 x2 x3 x4 x5 x6 x7 x8 x9 x10 x11 x12 x13 x14 x15 x16 x17 x18 x19 x20 a).k j := by
  unfold out0_23
  frame_out
  have h := row_k i x0 x1 x2 x3 x4 x5 x6 x7 x8 x9 x10 x11 x12 x13 x14 x15 x16 x17 x18 x19 x20 a j
  frame_out at h
  exact h

/-- The value block. -/
theorem out24_at : out0_24 i x0 x1 x2 x3 x4 x5 x6 x7 x8 x9 x10 x11 x12 x13 x14 x15 x16 x17 x18 x19 x20 (ix2 a j)
    = (row (i 0).val x0 x1 x2 x3 x4 x5 x6 x7 x8 x9 x10 x11 x12 x13 x14 x15 x16 x17 x18 x19 x20 a).v j := by
  unfold out0_24
  frame_out
  have h := row_v i x0 x1 x2 x3 x4 x5 x6 x7 x8 x9 x10 x11 x12 x13 x14 x15 x16 x17 x18 x19 x20 a j
  frame_out at h
  exact h

/-- The removal key block. -/
theorem out25_at : out0_25 i x0 x1 x2 x3 x4 x5 x6 x7 x8 x9 x10 x11 x12 x13 x14 x15 x16 x17 x18 x19 x20 (ix2 a j)
    = (row (i 0).val x0 x1 x2 x3 x4 x5 x6 x7 x8 x9 x10 x11 x12 x13 x14 x15 x16 x17 x18 x19 x20 a).unit j := by
  unfold out0_25
  frame_out
  rw [unit_at, row_raw, row_length]
  rfl

/-- The block of the removal key times the learning rate. -/
theorem out26_at : out0_26 i x0 x1 x2 x3 x4 x5 x6 x7 x8 x9 x10 x11 x12 x13 x14 x15 x16 x17 x18 x19 x20 (ix2 a j)
    = (row (i 0).val x0 x1 x2 x3 x4 x5 x6 x7 x8 x9 x10 x11 x12 x13 x14 x15 x16 x17 x18 x19 x20 a).add j := by
  unfold out0_26
  frame_out
  rw [add_at, unit_at, row_raw, row_length]
  have h := row_rate i x0 x1 x2 x3 x4 x5 x6 x7 x8 x9 x10 x11 x12 x13 x14 x15 x16 x17 x18 x19 x20 a j
  frame_out at h
  exact congrArg₂ (· * ·) rfl h

/-- The gate block. -/
theorem out27_at : out0_27 i x0 x1 x2 x3 x4 x5 x6 x7 x8 x9 x10 x11 x12 x13 x14 x15 x16 x17 x18 x19 x20 (ix2 a j)
    = (row (i 0).val x0 x1 x2 x3 x4 x5 x6 x7 x8 x9 x10 x11 x12 x13 x14 x15 x16 x17 x18 x19 x20 a).gate j := by
  unfold out0_27
  frame_out
  refine Eq.trans (show _ = k0_pay27 (k0_pay14 (k0_pay13 (k0_pay30 i x0 x1 x2 x3 x4 x5 x6 x7 x8 x9 x10 x11 x12 x13 x14 x15 x16 x17 x18 x19 x20) (k0_pay31 i x0 x1 x2 x3 x4 x5 x6 x7 x8 x9 x10 x11 x12 x13 x14 x15 x16 x17 x18 x19 x20) (first (i 0).val) (View.ld x4 r0_7)) x15) x16 (ix2 a j) from rfl) ?_
  rw [gate_at]
  refine dot_congr (fun l => congrArg Ideal.logistic ?_) (fun k l => rfl) j
  rw [gatea_at]
  exact dot_congr (fun k => row_mix5 i x0 x1 x2 x3 x4 x5 x6 x7 x8 x9 x10 x11 x12 x13 x14 x15 x16 x17 x18 x19 x20 a k) (fun k l => rfl) l

/-- The bonus block. -/
theorem out28_at : out0_28 i x0 x1 x2 x3 x4 x5 x6 x7 x8 x9 x10 x11 x12 x13 x14 x15 x16 x17 x18 x19 x20 (ix2 a j)
    = (row (i 0).val x0 x1 x2 x3 x4 x5 x6 x7 x8 x9 x10 x11 x12 x13 x14 x15 x16 x17 x18 x19 x20 a).bonus j := by
  unfold out0_28
  frame_out
  have h := row_v i x0 x1 x2 x3 x4 x5 x6 x7 x8 x9 x10 x11 x12 x13 x14 x15 x16 x17 x18 x19 x20 a j
  have q := fun k => row_k i x0 x1 x2 x3 x4 x5 x6 x7 x8 x9 x10 x11 x12 x13 x14 x15 x16 x17 x18 x19 x20 a k
  frame_out at h q
  rw [bonus_at, dots_at]
  refine congrArg₂ (· * ·) (show _ = laneSum (fun k c => x20 (ix2 k c)) (fun k => (row (i 0).val x0 x1 x2 x3 x4 x5 x6 x7 x8 x9 x10 x11 x12 x13 x14 x15 x16 x17 x18 x19 x20 a).r k * (row (i 0).val x0 x1 x2 x3 x4 x5 x6 x7 x8 x9 x10 x11 x12 x13 x14 x15 x16 x17 x18 x19 x20 a).k k * (row (i 0).val x0 x1 x2 x3 x4 x5 x6 x7 x8 x9 x10 x11 x12 x13 x14 x15 x16 x17 x18 x19 x20 a).rk k) j from laneSum_congr (fun k c => rfl) (fun k => ?_) j) h
  rw [row_r, q]
  rfl

end Cert.InIdeal.Layer

end
-- ==== Proof.InFinal.lean ====
/- What the projection call leaves in its output arrays: each row of each result, over the argument arrays. -/
module

public import proofs.«01_k».proof.Proof.InStep

@[expose] public section

set_option maxRecDepth 16384

noncomputable section

namespace Cert.InIdeal.Layer

open Cert.InIdeal Cert.InIdeal.Gen Idealize.ShloMosaic Idealize.ShloMosaic.TcCoe Idealize.SL.Sem
open Idealize.ShloMosaic.Pipeline (Dat)
open Cert.Rows

/-- The block window 0 holds at each step. -/
theorem idx0 : ∀ t : Fin cfg0.N, win0_0.index t = ![t.val, 0] := (by decide +kernel : ∀ t : Fin grid0.N, _)

/-- The block window 1 holds at each step. -/
theorem idx1 : ∀ t : Fin cfg0.N, win0_1.index t = ![t.val * 64 - 1, 0] := (by decide +kernel : ∀ t : Fin grid0.N, _)

/-- The block window 2 holds at each step. -/
theorem idx2 : ∀ t : Fin cfg0.N, win0_2.index t = ![t.val, 0] := (by decide +kernel : ∀ t : Fin grid0.N, _)

/-- The block window 3 holds at each step. -/
theorem idx3 : ∀ t : Fin cfg0.N, win0_3.index t = ![0, 0] := (by decide +kernel : ∀ t : Fin grid0.N, _)

/-- The block window 4 holds at each step. -/
theorem idx4 : ∀ t : Fin cfg0.N, win0_4.index t = ![0, 0] := (by decide +kernel : ∀ t : Fin grid0.N, _)

/-- The block window 5 holds at each step. -/
theorem idx5 : ∀ t : Fin cfg0.N, win0_5.index t = ![1, 0, 0, 0] := (by decide +kernel : ∀ t : Fin grid0.N, _)

/-- The block window 9 holds at each step. -/
theorem idx9 : ∀ t : Fin cfg0.N, win0_9.index t = ![0, 0] := (by decide +kernel : ∀ t : Fin grid0.N, _)

/-- The block window 10 holds at each step. -/
theorem idx10 : ∀ t : Fin cfg0.N, win0_10.index t = ![0, 0] := (by decide +kernel : ∀ t : Fin grid0.N, _)

/-- The block window 11 holds at each step. -/
theorem idx11 : ∀ t : Fin cfg0.N, win0_11.index t = ![0, 0] := (by decide +kernel : ∀ t : Fin grid0.N, _)

/-- The block window 12 holds at each step. -/
theorem idx12 : ∀ t : Fin cfg0.N, win0_12.index t = ![0, 0] := (by decide +kernel : ∀ t : Fin grid0.N, _)

/-- The block window 13 holds at each step. -/
theorem idx13 : ∀ t : Fin cfg0.N, win0_13.index t = ![0, 0] := (by decide +kernel : ∀ t : Fin grid0.N, _)

/-- The block window 14 holds at each step. -/
theorem idx14 : ∀ t : Fin cfg0.N, win0_14.index t = ![0, 0] := (by decide +kernel : ∀ t : Fin grid0.N, _)

/-- The block window 15 holds at each step. -/
theorem idx15 : ∀ t : Fin cfg0.N, win0_15.index t = ![0, 0] := (by decide +kernel : ∀ t : Fin grid0.N, _)

/-- The block window 16 holds at each step. -/
theorem idx16 : ∀ t : Fin cfg0.N, win0_16.index t = ![0, 0] := (by decide +kernel : ∀ t : Fin grid0.N, _)

/-- The block window 17 holds at each step. -/
theorem idx17 : ∀ t : Fin cfg0.N, win0_17.index t = ![0, 0] := (by decide +kernel : ∀ t : Fin grid0.N, _)

/-- The block window 18 holds at each step. -/
theorem idx18 : ∀ t : Fin cfg0.N, win0_18.index t = ![0, 0] := (by decide +kernel : ∀ t : Fin grid0.N, _)

/-- The block window 19 holds at each step. -/
theorem idx19 : ∀ t : Fin cfg0.N, win0_19.index t = ![0, 0] := (by decide +kernel : ∀ t : Fin grid0.N, _)

/-- The block window 20 holds at each step. -/
theorem idx20 : ∀ t : Fin cfg0.N, win0_20.index t = ![0, 0] := (by decide +kernel : ∀ t : Fin grid0.N, _)

/-- The block window 21 holds at each step. -/
theorem idx21 : ∀ t : Fin cfg0.N, win0_21.index t = ![t.val, 0] := (by decide +kernel : ∀ t : Fin grid0.N, _)

/-- The block window 23 holds at each step. -/
theorem idx23 : ∀ t : Fin cfg0.N, win0_23.index t = ![t.val, 0] := (by decide +kernel : ∀ t : Fin grid0.N, _)

/-- The block window 24 holds at each step. -/
theorem idx24 : ∀ t : Fin cfg0.N, win0_24.index t = ![t.val, 0] := (by decide +kernel : ∀ t : Fin grid0.N, _)

/-- The block window 25 holds at each step. -/
theorem idx25 : ∀ t : Fin cfg0.N, win0_25.index t = ![t.val, 0] := (by decide +kernel : ∀ t : Fin grid0.N, _)

/-- The block window 26 holds at each step. -/
theorem idx26 : ∀ t : Fin cfg0.N, win0_26.index t = ![t.val, 0] := (by decide +kernel : ∀ t : Fin grid0.N, _)

/-- The block window 27 holds at each step. -/
theorem idx27 : ∀ t : Fin cfg0.N, win0_27.index t = ![t.val, 0] := (by decide +kernel : ∀ t : Fin grid0.N, _)

/-- The block window 28 holds at each step. -/
theorem idx28 : ∀ t : Fin cfg0.N, win0_28.index t = ![t.val, 0] := (by decide +kernel : ∀ t : Fin grid0.N, _)

/-- The grid has 64 steps. -/
theorem lt_N (t : Fin cfg0.N) : t.val < 64 := (by decide +kernel : ∀ t : Fin grid0.N, t.val < 64) t

/-- The grid's one coordinate is the step. -/
theorem coords_val (t : Fin cfg0.N) : ((grid0.coords t) 0).val = t.val := (by decide +kernel : ∀ t : Fin grid0.N, ((grid0.coords t) 0).val = t.val) t

variable (m : (ℓ : Loc nD τ sig) → Buf (Elt Ideal) ℓ)

/-! Where each window's block lies in its array. -/

/-- Where an entry of the block of window 0 lies in its array. -/
theorem emb0 (t : Fin cfg0.N) (a : Fin 512) (k : Fin 1024) : ((cfg0.win 0).blk t).view.emb (ix2 a k) = (ix2 ⟨t.val * 512 + a.val, by have := lt_N t; omega⟩ k : S32768x1024.Idx) := by
  blk_ext [idx0 t]

/-- Where an entry of the block of window 2 lies in its array. -/
theorem emb2 (t : Fin cfg0.N) (a : Fin 512) (k : Fin 1024) : ((cfg0.win 2).blk t).view.emb (ix2 a k) = (ix2 ⟨t.val * 512 + a.val, by have := lt_N t; omega⟩ k : S32768x1024.Idx) := by
  blk_ext [idx2 t]

/-- Where an entry of the block of window 21 lies in its array. -/
theorem emb21 (t : Fin cfg0.N) (a : Fin 512) (k : Fin 1024) : ((cfg0.win 21).blk t).view.emb (ix2 a k) = (ix2 ⟨t.val * 512 + a.val, by have := lt_N t; omega⟩ k : S32768x1024.Idx) := by
  blk_ext [idx21 t]

/-- Where an entry of the block of window 23 lies in its array. -/
theorem emb23 (t : Fin cfg0.N) (a : Fin 512) (k : Fin 1024) : ((cfg0.win 23).blk t).view.emb (ix2 a k) = (ix2 ⟨t.val * 512 + a.val, by have := lt_N t; omega⟩ k : S32768x1024.Idx) := by
  blk_ext [idx23 t]

/-- Where an entry of the block of window 24 lies in its array. -/
theorem emb24 (t : Fin cfg0.N) (a : Fin 512) (k : Fin 1024) : ((cfg0.win 24).blk t).view.emb (ix2 a k) = (ix2 ⟨t.val * 512 + a.val, by have := lt_N t; omega⟩ k : S32768x1024.Idx) := by
  blk_ext [idx24 t]

/-- Where an entry of the block of window 25 lies in its array. -/
theorem emb25 (t : Fin cfg0.N) (a : Fin 512) (k : Fin 1024) : ((cfg0.win 25).blk t).view.emb (ix2 a k) = (ix2 ⟨t.val * 512 + a.val, by have := lt_N t; omega⟩ k : S32768x1024.Idx) := by
  blk_ext [idx25 t]

/-- Where an entry of the block of window 26 lies in its array. -/
theorem emb26 (t : Fin cfg0.N) (a : Fin 512) (k : Fin 1024) : ((cfg0.win 26).blk t).view.emb (ix2 a k) = (ix2 ⟨t.val * 512 + a.val, by have := lt_N t; omega⟩ k : S32768x1024.Idx) := by
  blk_ext [idx26 t]

/-- Where an entry of the block of window 27 lies in its array. -/
theorem emb27 (t : Fin cfg0.N) (a : Fin 512) (k : Fin 1024) : ((cfg0.win 27).blk t).view.emb (ix2 a k) = (ix2 ⟨t.val * 512 + a.val, by have := lt_N t; omega⟩ k : S32768x1024.Idx) := by
  blk_ext [idx27 t]

/-- Where an entry of the block of window 28 lies in its array. -/
theorem emb28 (t : Fin cfg0.N) (a : Fin 512) (k : Fin 1024) : ((cfg0.win 28).blk t).view.emb (ix2 a k) = (ix2 ⟨t.val * 512 + a.val, by have := lt_N t; omega⟩ k : S32768x1024.Idx) := by
  blk_ext [idx28 t]

/-- Where an entry of the block of window 1 lies in its array. -/
theorem emb1 (t : Fin cfg0.N) (k : Fin 1024) : ((cfg0.win 1).blk t).view.emb (ix2 7 k) = (ix2 ⟨(t.val * 64 - 1) * 8 + 7, by have := lt_N t; omega⟩ k : S32768x1024.Idx) := by
  blk_ext [idx1 t]

/-- Where an entry of the block of window 3 lies in its array. -/
theorem emb3 (t : Fin cfg0.N) (k : Fin 1024) : ((cfg0.win 3).blk t).view.emb (ix2 0 k) = (ix2 0 k : S1x1024.Idx) := by
  blk_ext [idx3 t]

/-- Where an entry of the block of window 9 lies in its array. -/
theorem emb9 (t : Fin cfg0.N) (k : Fin 1024) : ((cfg0.win 9).blk t).view.emb (ix2 0 k) = (ix2 0 k : S1x1024.Idx) := by
  blk_ext [idx9 t]

/-- Where an entry of the block of window 12 lies in its array. -/
theorem emb12 (t : Fin cfg0.N) (k : Fin 1024) : ((cfg0.win 12).blk t).view.emb (ix2 0 k) = (ix2 0 k : S1x1024.Idx) := by
  blk_ext [idx12 t]

/-- Where an entry of the block of window 17 lies in its array. -/
theorem emb17 (t : Fin cfg0.N) (k : Fin 1024) : ((cfg0.win 17).blk t).view.emb (ix2 0 k) = (ix2 0 k : S1x1024.Idx) := by
  blk_ext [idx17 t]

/-- Where an entry of the block of window 18 lies in its array. -/
theorem emb18 (t : Fin cfg0.N) (k : Fin 1024) : ((cfg0.win 18).blk t).view.emb (ix2 0 k) = (ix2 0 k : S1x1024.Idx) := by
  blk_ext [idx18 t]

/-- Where an entry of the block of window 19 lies in its array. -/
theorem emb19 (t : Fin cfg0.N) (k : Fin 1024) : ((cfg0.win 19).blk t).view.emb (ix2 0 k) = (ix2 0 k : S1x1024.Idx) := by
  blk_ext [idx19 t]

/-- Where an entry of the block of window 4 lies in its array. -/
theorem emb4 (t : Fin cfg0.N) (k : Fin 6) (l : Fin 1024) : ((cfg0.win 4).blk t).view.emb (ix2 k l) = (ix2 k l : S6x1024.Idx) := by
  blk_ext [idx4 t]

/-- Where an entry of the block of window 10 lies in its array. -/
theorem emb10 (t : Fin cfg0.N) (k : Fin 1024) (l : Fin 64) : ((cfg0.win 10).blk t).view.emb (ix2 k l) = (ix2 k l : S1024x64.Idx) := by
  blk_ext [idx10 t]

/-- Where an entry of the block of window 11 lies in its array. -/
theorem emb11 (t : Fin cfg0.N) (k : Fin 64) (l : Fin 1024) : ((cfg0.win 11).blk t).view.emb (ix2 k l) = (ix2 k l : S64x1024.Idx) := by
  blk_ext [idx11 t]

/-- Where an entry of the block of window 13 lies in its array. -/
theorem emb13 (t : Fin cfg0.N) (k : Fin 1024) (l : Fin 32) : ((cfg0.win 13).blk t).view.emb (ix2 k l) = (ix2 k l : S1024x32.Idx) := by
  blk_ext [idx13 t]

/-- Where an entry of the block of window 14 lies in its array. -/
theorem emb14 (t : Fin cfg0.N) (k : Fin 32) (l : Fin 1024) : ((cfg0.win 14).blk t).view.emb (ix2 k l) = (ix2 k l : S32x1024.Idx) := by
  blk_ext [idx14 t]

/-- Where an entry of the block of window 15 lies in its array. -/
theorem emb15 (t : Fin cfg0.N) (k : Fin 1024) (l : Fin 128) : ((cfg0.win 15).blk t).view.emb (ix2 k l) = (ix2 k l : S1024x128.Idx) := by
  blk_ext [idx15 t]

/-- Where an entry of the block of window 16 lies in its array. -/
theorem emb16 (t : Fin cfg0.N) (k : Fin 128) (l : Fin 1024) : ((cfg0.win 16).blk t).view.emb (ix2 k l) = (ix2 k l : S128x1024.Idx) := by
  blk_ext [idx16 t]

/-- Where an entry of the block of window 20 lies in its array. -/
theorem emb20 (t : Fin cfg0.N) (k : Fin 128) (l : Fin 128) : ((cfg0.win 20).blk t).view.emb (ix2 k l) = (ix2 k l : S128x128.Idx) := by
  blk_ext [idx20 t]

/-- Where an entry of the block of window 5 lies in its array. -/
theorem emb5 (t : Fin cfg0.N) (q : Fin 3) (k l : Fin 1024) : ((cfg0.win 5).blk t).view.emb (ix4 0 q k l) = (ix4 1 q k l : S2x3x1024x1024.Idx) := by
  blk_ext [idx5 t]

/-! What each input block holds, over the argument arrays. -/

/-- The rows of a step, at an entry, over the argument arrays. -/
theorem rx_at (c : Dev nD) (t : Fin cfg0.N) (a : Fin 512) (k : Fin 1024) :
    (show FVec Ideal S512x1024 .f32 from iblk m c 0 t) (ix2 a k) = (show FVec Ideal S2x16384x1024 .f32 from m ((c : Thread nD τ).loc main_arg0)) (ix3 ⟨(t.val * 512 + a.val) / 16384, by have := lt_N t; omega⟩ ⟨(t.val * 512 + a.val) % 16384, Nat.mod_lt _ (by decide)⟩ k) := by
  show V m c main_v53 (((cfg0.win 0).blk t).view.emb (ix2 a k)) = _
  rw [emb0]
  simp only [V, hostOps0, hostOps0_1, hostOps0_2, List.flatten_cons, List.flatten_nil, List.append_nil, List.cons_append, List.nil_append]
  entry_read
  pointwise

/-- The row before the rows of a step, at an entry, over the argument arrays. -/
theorem rp_at (c : Dev nD) (t : Fin cfg0.N) (k : Fin 1024) :
    (show FVec Ideal S8x1024 .f32 from iblk m c 1 t) (ix2 7 k) = (show FVec Ideal S2x16384x1024 .f32 from m ((c : Thread nD τ).loc main_arg0)) (ix3 ⟨((t.val * 64 - 1) * 8 + 7) / 16384, by have := lt_N t; omega⟩ ⟨((t.val * 64 - 1) * 8 + 7) % 16384, Nat.mod_lt _ (by decide)⟩ k) := by
  show V m c main_v53 (((cfg0.win 1).blk t).view.emb (ix2 7 k)) = _
  rw [emb1]
  simp only [V, hostOps0, hostOps0_1, hostOps0_2, List.flatten_cons, List.flatten_nil, List.append_nil, List.cons_append, List.nil_append]
  entry_read
  pointwise

/-- The first layer's value rows of a step, at an entry, over the argument arrays. -/
theorem rvf_at (c : Dev nD) (t : Fin cfg0.N) (a : Fin 512) (k : Fin 1024) :
    (show FVec Ideal S512x1024 .f32 from iblk m c 2 t) (ix2 a k) = (show FVec Ideal S2x16384x1024 .f32 from m ((c : Thread nD τ).loc main_arg1)) (ix3 ⟨(t.val * 512 + a.val) / 16384, by have := lt_N t; omega⟩ ⟨(t.val * 512 + a.val) % 16384, Nat.mod_lt _ (by decide)⟩ k) := by
  show V m c main_v54 (((cfg0.win 2).blk t).view.emb (ix2 a k)) = _
  rw [emb2]
  simp only [V, hostOps0, hostOps0_1, hostOps0_2, List.flatten_cons, List.flatten_nil, List.append_nil, List.cons_append, List.nil_append]
  entry_read
  pointwise

/-- The normalization scale of a step, at an entry, over the argument arrays. -/
theorem rg_at (c : Dev nD) (t : Fin cfg0.N) (k : Fin 1024) :
    (show FVec Ideal S1x1024 .f32 from iblk m c 3 t) (ix2 0 k) = (show FVec Ideal S4x1024 .f32 from m ((c : Thread nD τ).loc main_arg2)) (ix2 3 k) := by
  show V m c main_v10 (((cfg0.win 3).blk t).view.emb (ix2 0 k)) = _
  rw [emb3]
  simp only [V, hostOps0, hostOps0_1, hostOps0_2, List.flatten_cons, List.flatten_nil, List.append_nil, List.cons_append, List.nil_append]
  entry_read
  pointwise

/-- The mixing weights of a step, at an entry, over the argument arrays. -/
theorem rmu_at (c : Dev nD) (t : Fin cfg0.N) (q : Fin 6) (k : Fin 1024) :
    (show FVec Ideal S6x1024 .f32 from iblk m c 4 t) (ix2 q k) = (show FVec Ideal S2x6x1024 .f32 from m ((c : Thread nD τ).loc main_arg3)) (ix3 1 q k) := by
  show V m c main_v12 (((cfg0.win 4).blk t).view.emb (ix2 q k)) = _
  rw [emb4]
  simp only [V, hostOps0, hostOps0_1, hostOps0_2, List.flatten_cons, List.flatten_nil, List.append_nil, List.cons_append, List.nil_append]
  entry_read
  pointwise

/-- The square matrices of a step, at an entry, over the argument arrays. -/
theorem rw_at (c : Dev nD) (t : Fin cfg0.N) (q : Fin 3) (k l : Fin 1024) :
    (show FVec Ideal S1x3x1024x1024 .bf16 from iblk m c 5 t) (ix4 0 q k l) = (show FVec Ideal S2x3x1024x1024 .f32 from m ((c : Thread nD τ).loc main_arg4)) (ix4 1 q k l) := by
  show V m c main_v13 (((cfg0.win 5).blk t).view.emb (ix4 0 q k l)) = _
  rw [emb5]
  simp only [V, hostOps0, hostOps0_1, hostOps0_2, List.flatten_cons, List.flatten_nil, List.append_nil, List.cons_append, List.nil_append]
  entry_read
  pointwise

/-- The learning rate's bias of a step, at an entry, over the argument arrays. -/
theorem ra0_at (c : Dev nD) (t : Fin cfg0.N) (k : Fin 1024) :
    (show FVec Ideal S1x1024 .f32 from iblk m c 9 t) (ix2 0 k) = (show FVec Ideal S2x1024 .f32 from m ((c : Thread nD τ).loc main_arg8)) (ix2 1 k) := by
  show V m c main_v25 (((cfg0.win 9).blk t).view.emb (ix2 0 k)) = _
  rw [emb9]
  simp only [V, hostOps0, hostOps0_1, hostOps0_2, List.flatten_cons, List.flatten_nil, List.append_nil, List.cons_append, List.nil_append]
  entry_read
  pointwise

/-- The learning rate's first factor of a step, at an entry, over the argument arrays. -/
theorem raa_at (c : Dev nD) (t : Fin cfg0.N) (k : Fin 1024) (l : Fin 64) :
    (show FVec Ideal S1024x64 .bf16 from iblk m c 10 t) (ix2 k l) = (show FVec Ideal S2x1024x64 .f32 from m ((c : Thread nD τ).loc main_arg9)) (ix3 1 k l) := by
  show V m c main_v28 (((cfg0.win 10).blk t).view.emb (ix2 k l)) = _
  rw [emb10]
  simp only [V, hostOps0, hostOps0_1, hostOps0_2, List.flatten_cons, List.flatten_nil, List.append_nil, List.cons_append, List.nil_append]
  entry_read
  pointwise

/-- The learning rate's second factor of a step, at an entry, over the argument arrays. -/
theorem rab_at (c : Dev nD) (t : Fin cfg0.N) (k : Fin 64) (l : Fin 1024) :
    (show FVec Ideal S64x1024 .bf16 from iblk m c 11 t) (ix2 k l) = (show FVec Ideal S2x64x1024 .f32 from m ((c : Thread nD τ).loc main_arg10)) (ix3 1 k l) := by
  show V m c main_v31 (((cfg0.win 11).blk t).view.emb (ix2 k l)) = _
  rw [emb11]
  simp only [V, hostOps0, hostOps0_1, hostOps0_2, List.flatten_cons, List.flatten_nil, List.append_nil, List.cons_append, List.nil_append]
  entry_read
  pointwise

/-- The share's bias of a step, at an entry, over the argument arrays. -/
theorem rv0_at (c : Dev nD) (t : Fin cfg0.N) (k : Fin 1024) :
    (show FVec Ideal S1x1024 .f32 from iblk m c 12 t) (ix2 0 k) = (show FVec Ideal S1x1024 .f32 from m ((c : Thread nD τ).loc main_arg11)) (ix2 0 k) := by
  show V m c main_v48 (((cfg0.win 12).blk t).view.emb (ix2 0 k)) = _
  rw [emb12]
  simp only [V, hostOps0, hostOps0_1, hostOps0_2, List.flatten_cons, List.flatten_nil, List.append_nil, List.cons_append, List.nil_append]
  entry_read
  pointwise

/-- The share's first factor of a step, at an entry, over the argument arrays. -/
theorem rva_at (c : Dev nD) (t : Fin cfg0.N) (k : Fin 1024) (l : Fin 32) :
    (show FVec Ideal S1024x32 .bf16 from iblk m c 13 t) (ix2 k l) = (show FVec Ideal S1x1024x32 .f32 from m ((c : Thread nD τ).loc main_arg12)) (ix3 0 k l) := by
  show V m c main_v50 (((cfg0.win 13).blk t).view.emb (ix2 k l)) = _
  rw [emb13]
  simp only [V, hostOps0, hostOps0_1, hostOps0_2, List.flatten_cons, List.flatten_nil, List.append_nil, List.cons_append, List.nil_append]
  entry_read
  pointwise

/-- The share's second factor of a step, at an entry, over the argument arrays. -/
theorem rvb_at (c : Dev nD) (t : Fin cfg0.N) (k : Fin 32) (l : Fin 1024) :
    (show FVec Ideal S32x1024 .bf16 from iblk m c 14 t) (ix2 k l) = (show FVec Ideal S1x32x1024 .f32 from m ((c : Thread nD τ).loc main_arg13)) (ix3 0 k l) := by
  show V m c main_v52 (((cfg0.win 14).blk t).view.emb (ix2 k l)) = _
  rw [emb14]
  simp only [V, hostOps0, hostOps0_1, hostOps0_2, List.flatten_cons, List.flatten_nil, List.append_nil, List.cons_append, List.nil_append]
  entry_read
  pointwise

/-- The gate's first factor of a step, at an entry, over the argument arrays. -/
theorem rga_at (c : Dev nD) (t : Fin cfg0.N) (k : Fin 1024) (l : Fin 128) :
    (show FVec Ideal S1024x128 .bf16 from iblk m c 15 t) (ix2 k l) = (show FVec Ideal S2x1024x128 .f32 from m ((c : Thread nD τ).loc main_arg14)) (ix3 1 k l) := by
  show V m c main_v34 (((cfg0.win 15).blk t).view.emb (ix2 k l)) = _
  rw [emb15]
  simp only [V, hostOps0, hostOps0_1, hostOps0_2, List.flatten_cons, List.flatten_nil, List.append_nil, List.cons_append, List.nil_append]
  entry_read
  pointwise

/-- The gate's second factor of a step, at an entry, over the argument arrays. -/
theorem rgb_at (c : Dev nD) (t : Fin cfg0.N) (k : Fin 128) (l : Fin 1024) :
    (show FVec Ideal S128x1024 .bf16 from iblk m c 16 t) (ix2 k l) = (show FVec Ideal S2x128x1024 .f32 from m ((c : Thread nD τ).loc main_arg15)) (ix3 1 k l) := by
  show V m c main_v37 (((cfg0.win 16).blk t).view.emb (ix2 k l)) = _
  rw [emb16]
  simp only [V, hostOps0, hostOps0_1, hostOps0_2, List.flatten_cons, List.flatten_nil, List.append_nil, List.cons_append, List.nil_append]
  entry_read
  pointwise

/-- The removal key's scale of a step, at an entry, over the argument arrays. -/
theorem rkk_at (c : Dev nD) (t : Fin cfg0.N) (k : Fin 1024) :
    (show FVec Ideal S1x1024 .f32 from iblk m c 17 t) (ix2 0 k) = (show FVec Ideal S2x1024 .f32 from m ((c : Thread nD τ).loc main_arg16)) (ix2 1 k) := by
  show V m c main_v40 (((cfg0.win 17).blk t).view.emb (ix2 0 k)) = _
  rw [emb17]
  simp only [V, hostOps0, hostOps0_1, hostOps0_2, List.flatten_cons, List.flatten_nil, List.append_nil, List.cons_append, List.nil_append]
  entry_read
  pointwise

/-- The key's weight of the learning rate of a step, at an entry, over the argument arrays. -/
theorem rka_at (c : Dev nD) (t : Fin cfg0.N) (k : Fin 1024) :
    (show FVec Ideal S1x1024 .f32 from iblk m c 18 t) (ix2 0 k) = (show FVec Ideal S2x1024 .f32 from m ((c : Thread nD τ).loc main_arg17)) (ix2 1 k) := by
  show V m c main_v43 (((cfg0.win 18).blk t).view.emb (ix2 0 k)) = _
  rw [emb18]
  simp only [V, hostOps0, hostOps0_1, hostOps0_2, List.flatten_cons, List.flatten_nil, List.append_nil, List.cons_append, List.nil_append]
  entry_read
  pointwise

/-- The bonus weights of a step, at an entry, over the argument arrays. -/
theorem rrk_at (c : Dev nD) (t : Fin cfg0.N) (k : Fin 1024) :
    (show FVec Ideal S1x1024 .f32 from iblk m c 19 t) (ix2 0 k) = (show FVec Ideal S2x16x64 .f32 from m ((c : Thread nD τ).loc main_arg18)) (ix3 1 ⟨k.val / 64, by omega⟩ ⟨k.val % 64, Nat.mod_lt _ (by decide)⟩) := by
  show V m c main_v46 (((cfg0.win 19).blk t).view.emb (ix2 0 k)) = _
  rw [emb19]
  simp only [V, hostOps0, hostOps0_1, hostOps0_2, List.flatten_cons, List.flatten_nil, List.append_nil, List.cons_append, List.nil_append]
  entry_read
  pointwise

/-- The head of each lane of a group, as the host computes it. -/
def headOf : S128.Idx → BitVec 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

/-- The head of a lane, computed. -/
theorem headOf_at : ∀ k : Fin 128, headOf (ix1 k) = BitVec.ofNat 32 (k.val / 64) := by decide +kernel

/-- Two lanes have the same head word exactly when they lie in the same head. -/
theorem headOf_eq (k j : Fin 128) : (headOf (ix1 k) = headOf (ix1 j)) ↔ k.val / 64 = j.val / 64 := by
  rw [headOf_at, headOf_at]
  constructor
  · intro h
    have := congrArg BitVec.toNat h
    simp at this
    omega
  · intro h
    rw [h]

/-- The matrix of ones the kernel is given, at an entry. -/
theorem ones_at (c : Dev nD) (t : Fin cfg0.N) (k j : Fin 128) :
    (show FVec Ideal S128x128 .bf16 from iblk m c 20 t) (ix2 k j) = blockOnes k j := by
  show V m c main_v7 (((cfg0.win 20).blk t).view.emb (ix2 k j)) = _
  rw [emb20]
  simp only [V, hostOps0, hostOps0_1, hostOps0_2, List.flatten_cons, List.flatten_nil, List.append_nil, List.cons_append, List.nil_append]
  entry_read
  show (uitofp .bf16 (cmpi .eq (broadcastInDim S128x128 ![0, 1] bcast_S128x1_S128x128_0_1 (broadcastInDim S128x1 ![0] bcast_S128_S128x1_0 headOf))
    (broadcastInDim S128x128 ![0, 1] bcast_S1x128_S128x128_0_1 (broadcastInDim S1x128 ![1] bcast_S128_S1x128_1 headOf))) : FVec Ideal S128x128 .bf16) (ix2 k j) = _
  pointwise
  rw [blockOnes]
  have e := headOf_eq k j
  by_cases h : headOf (ix1 k) = headOf (ix1 j)
  · rw [if_pos (e.1 h), h]
    simp [IntOp.cmpi, FloatOps.uitofp]
  · rw [if_neg (fun q => h (e.2 q))]
    simp [IntOp.cmpi, FloatOps.uitofp, h]

/-- What row `t` of sequence `b` is computed from, over the argument arrays. -/
def argRow (x : FVec Ideal S2x16384x1024 .f32) (vf : FVec Ideal S2x16384x1024 .f32) (g : FVec Ideal S4x1024 .f32) (mu : FVec Ideal S2x6x1024 .f32) (w : FVec Ideal S2x3x1024x1024 .f32) (a0 : FVec Ideal S2x1024 .f32) (aa : FVec Ideal S2x1024x64 .f32) (ab : FVec Ideal S2x64x1024 .f32) (v0 : FVec Ideal S1x1024 .f32) (va : FVec Ideal S1x1024x32 .f32) (vb : FVec Ideal S1x32x1024 .f32) (ga : FVec Ideal S2x1024x128 .f32) (gb : FVec Ideal S2x128x1024 .f32) (kk : FVec Ideal S2x1024 .f32) (ka : FVec Ideal S2x1024 .f32) (rk : FVec Ideal S2x16x64 .f32) (b : Fin 2) (t : Fin 16384) : Proj where
  sum := headSum
  h := rms (fun k => x (ix3 b t k)) (fun k => g (ix2 3 k))
  p := fun k => if t.val = 0 then 0 else rms (fun k => x (ix3 b ⟨t.val - 1, by omega⟩ k)) (fun k => g (ix2 3 k)) k
  vf := fun k => vf (ix3 b t k)
  mu := fun q k => mu (ix3 1 q k)
  w := fun q k j => w (ix4 1 q k j)
  a0 := fun j => a0 (ix2 1 j)
  aa := fun k l => aa (ix3 1 k l)
  ab := fun l j => ab (ix3 1 l j)
  v0 := fun j => v0 (ix2 0 j)
  va := fun k l => va (ix3 0 k l)
  vb := fun l j => vb (ix3 0 l j)
  ga := fun k l => ga (ix3 1 k l)
  gb := fun l j => gb (ix3 1 l j)
  kk := fun j => kk (ix2 1 j)
  ka := fun j => ka (ix2 1 j)
  rk := fun j => rk (ix3 1 ⟨j.val / 64, by omega⟩ ⟨j.val % 64, Nat.mod_lt _ (by decide)⟩)

/-- The same row, over the argument arrays of the run, by its place in the flattened sequences. -/
def memRow (c : Dev nD) (n : Fin 32768) : Proj :=
  argRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    ⟨n.val / 16384, by omega⟩ ⟨n.val % 16384, Nat.mod_lt _ (by decide)⟩

/-- One result over the argument arrays: an entry of each row's record. -/
def result {e : FTy} (f : Proj → Fin 1024 → EReal) (c : Dev nD) : FVec Ideal S32768x1024 e := fun i => f (memRow m c (i 0)) (i 1)

end Cert.InIdeal.Layer

end
-- ==== Proof.InResult.lean ====
/- The whole of what the projection call leaves in its output arrays: each row of each result, over the argument arrays. -/
module

public import proofs.«01_k».proof.Proof.InFinal

@[expose] public section

set_option maxRecDepth 16384

noncomputable section

namespace Cert.InIdeal.Layer

open Cert.InIdeal Cert.InIdeal.Gen Idealize.ShloMosaic Idealize.ShloMosaic.TcCoe Idealize.SL.Sem
open Idealize.ShloMosaic.Pipeline (Dat)
open Cert.Rows

/-- A row of a step's blocks and a row of the argument arrays are the same when every entry they hold is. -/
theorem row_argRow (x0 : Vec Ideal S512x1024 .f32) (x1 : Vec Ideal S8x1024 .f32) (x2 : Vec Ideal S512x1024 .f32) (x3 : Vec Ideal S1x1024 .f32) (x4 : Vec Ideal S6x1024 .f32) (x5 : Vec Ideal S1x3x1024x1024 .bf16) (x6 : Vec Ideal S1x1024 .f32) (x7 : Vec Ideal S1024x64 .bf16) (x8 : Vec Ideal S64x1024 .bf16) (x9 : Vec Ideal S1x1024 .f32) (x10 : Vec Ideal S1024x64 .bf16) (x11 : Vec Ideal S64x1024 .bf16) (x12 : Vec Ideal S1x1024 .f32) (x13 : Vec Ideal S1024x32 .bf16) (x14 : Vec Ideal S32x1024 .bf16) (x15 : Vec Ideal S1024x128 .bf16) (x16 : Vec Ideal S128x1024 .bf16) (x17 : Vec Ideal S1x1024 .f32) (x18 : Vec Ideal S1x1024 .f32) (x19 : Vec Ideal S1x1024 .f32) (x20 : Vec Ideal S128x128 .bf16)
    (x : FVec Ideal S2x16384x1024 .f32) (vf : FVec Ideal S2x16384x1024 .f32) (g : FVec Ideal S4x1024 .f32) (mu : FVec Ideal S2x6x1024 .f32) (w : FVec Ideal S2x3x1024x1024 .f32) (a0 : FVec Ideal S2x1024 .f32) (aa : FVec Ideal S2x1024x64 .f32) (ab : FVec Ideal S2x64x1024 .f32) (v0 : FVec Ideal S1x1024 .f32) (va : FVec Ideal S1x1024x32 .f32) (vb : FVec Ideal S1x32x1024 .f32) (ga : FVec Ideal S2x1024x128 .f32) (gb : FVec Ideal S2x128x1024 .f32) (kk : FVec Ideal S2x1024 .f32) (ka : FVec Ideal S2x1024 .f32) (rk : FVec Ideal S2x16x64 .f32) (n : ℕ) (a : Fin 512) (b : Fin 2) (t : Fin 16384)
    (hz : t.val = 0 ↔ a.val = 0 ∧ n % 32 = 0) (h0 : ∀ k, x0 (ix2 a k) = x (ix3 b t k))
    (h1 : ¬ a.val = 0 → ∀ k, x0 (ix2 ⟨a.val - 1, by omega⟩ k) = x (ix3 b ⟨t.val - 1, by omega⟩ k))
    (h2 : a.val = 0 → ¬ n % 32 = 0 → ∀ k, x1 (ix2 7 k) = x (ix3 b ⟨t.val - 1, by omega⟩ k))
    (h3 : ∀ k, x2 (ix2 a k) = vf (ix3 b t k)) (h4 : ∀ k, x3 (ix2 0 k) = g (ix2 3 k)) (h5 : ∀ q k, x4 (ix2 q k) = mu (ix3 1 q k))
    (h6 : ∀ q k l, x5 (ix4 0 q k l) = w (ix4 1 q k l)) (h7 : ∀ k, x9 (ix2 0 k) = a0 (ix2 1 k)) (h8 : ∀ k l, x10 (ix2 k l) = aa (ix3 1 k l))
    (h9 : ∀ k l, x11 (ix2 k l) = ab (ix3 1 k l)) (h10 : ∀ k, x12 (ix2 0 k) = v0 (ix2 0 k)) (h11 : ∀ k l, x13 (ix2 k l) = va (ix3 0 k l))
    (h12 : ∀ k l, x14 (ix2 k l) = vb (ix3 0 k l)) (h13 : ∀ k l, x15 (ix2 k l) = ga (ix3 1 k l)) (h14 : ∀ k l, x16 (ix2 k l) = gb (ix3 1 k l))
    (h15 : ∀ k, x17 (ix2 0 k) = kk (ix2 1 k)) (h16 : ∀ k, x18 (ix2 0 k) = ka (ix2 1 k))
    (h17 : ∀ k : Fin 1024, x19 (ix2 0 k) = rk (ix3 1 ⟨k.val / 64, by omega⟩ ⟨k.val % 64, Nat.mod_lt _ (by decide)⟩))
    (h18 : ∀ k l, x20 (ix2 k l) = blockOnes k l) :
    row n x0 x1 x2 x3 x4 x5 x6 x7 x8 x9 x10 x11 x12 x13 x14 x15 x16 x17 x18 x19 x20 a = argRow x vf g mu w a0 aa ab v0 va vb ga gb kk ka rk b t := by
  refine Proj.congr ?_ (fun k => ?_) (fun k => ?_) h3 h5 h6 h7 h8 h9 h10 h11 h12 h13 h14 h15 h16 h17
  · dsimp only [row, argRow]
    rw [← laneSum_ones]
    exact congrArg laneSum (funext fun k => funext fun j => h18 k j)
  · dsimp only [row, argRow]
    rw [funext h0, funext h4]
  · dsimp only [row, argRow]
    rw [funext h4]
    by_cases ha : a.val = 0
    · rw [if_pos ha]
      by_cases hn : n % 32 = 0
      · rw [if_pos hn, if_pos (hz.2 ⟨ha, hn⟩)]
      · rw [if_neg hn, if_neg (fun q => hn (hz.1 q).2), funext (h2 ha hn)]
    · rw [if_neg ha, if_neg (fun q => ha (hz.1 q).1), funext (h1 ha)]

variable (m : (ℓ : Loc nD τ sig) → Buf (Elt Ideal) ℓ)

/-- Equal places in the flattened sequences are one row of the input. -/
theorem place (c : Dev nD) (b b' : Fin 2) (s s' : Fin 16384) (hb : b.val = b'.val) (hs : s.val = s'.val) (k : Fin 1024) :
    (show FVec Ideal S2x16384x1024 .f32 from m ((c : Thread nD τ).loc main_arg0)) (ix3 b s k)
      = (show FVec Ideal S2x16384x1024 .f32 from m ((c : Thread nD τ).loc main_arg0)) (ix3 b' s' k) := by
  obtain rfl := Fin.ext hb
  obtain rfl := Fin.ext hs
  rfl

set_option maxHeartbeats 2000000 in
/-- What a row of a step is computed from is what the row of the flattened sequences is. -/
theorem row_eq (c : Dev nD) (t : Fin cfg0.N) (a : Fin 512) :
    row ((grid0.coords t) 0).val (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) a
      = memRow m c ⟨t.val * 512 + a.val, by have := lt_N t; omega⟩ := by
  have ht := lt_N t
  rw [coords_val]
  exact row_argRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    t.val a ⟨(t.val * 512 + a.val) / 16384, by omega⟩ ⟨(t.val * 512 + a.val) % 16384, Nat.mod_lt _ (by decide)⟩
    (by show (t.val * 512 + a.val) % 16384 = 0 ↔ _; omega) (fun k => rx_at m c t a k)
    (fun h k => (rx_at m c t ⟨a.val - 1, by omega⟩ k).trans (place m c _ _ _ _ (by show (t.val * 512 + (a.val - 1)) / 16384 = (t.val * 512 + a.val) / 16384; omega)
      (by show (t.val * 512 + (a.val - 1)) % 16384 = (t.val * 512 + a.val) % 16384 - 1; omega) k))
    (fun h h' k => (rp_at m c t k).trans (place m c _ _ _ _ (by show ((t.val * 64 - 1) * 8 + 7) / 16384 = (t.val * 512 + a.val) / 16384; omega)
      (by show ((t.val * 64 - 1) * 8 + 7) % 16384 = (t.val * 512 + a.val) % 16384 - 1; omega) k))
    (fun k => rvf_at m c t a k) (rg_at m c t) (rmu_at m c t) (rw_at m c t) (ra0_at m c t) (raa_at m c t) (rab_at m c t)
    (rv0_at m c t) (rva_at m c t) (rvb_at m c t) (rga_at m c t) (rgb_at m c t) (rkk_at m c t) (rka_at m c t) (rrk_at m c t) (ones_at m c t)

/-- The array of the receptance after the last step. -/
theorem final21 (c : Dev nD) : (dats m 0 c).arrAt 21 (cfgs 0).N = result m (e := .f32) Proj.r c := by
  refine (dats m 0 c).arrAt_eq_of_covers 21 _ (by decide +kernel) fun t _ y => ?_
  blk_simp
  rw [after0_21]
  idx_vars y
  refine (out21_at _ _ _ _ _ _ _ _ _ _ _ _ _ _ _ _ _ _ _ _ _ _ y0 y1).trans ?_
  refine Eq.trans ?_ (congrArg (result m (e := .f32) Proj.r c) (emb21 t y0 y1)).symm
  rw [row_eq]
  rfl

/-- The array of the key after the last step. -/
theorem final23 (c : Dev nD) : (dats m 0 c).arrAt 23 (cfgs 0).N = result m (e := .f32) Proj.k c := by
  refine (dats m 0 c).arrAt_eq_of_covers 23 _ (by decide +kernel) fun t _ y => ?_
  blk_simp
  rw [after0_23]
  idx_vars y
  refine (out23_at _ _ _ _ _ _ _ _ _ _ _ _ _ _ _ _ _ _ _ _ _ _ y0 y1).trans ?_
  refine Eq.trans ?_ (congrArg (result m (e := .f32) Proj.k c) (emb23 t y0 y1)).symm
  rw [row_eq]
  rfl

/-- The array of the value after the last step. -/
theorem final24 (c : Dev nD) : (dats m 0 c).arrAt 24 (cfgs 0).N = result m (e := .f32) Proj.v c := by
  refine (dats m 0 c).arrAt_eq_of_covers 24 _ (by decide +kernel) fun t _ y => ?_
  blk_simp
  rw [after0_24]
  idx_vars y
  refine (out24_at _ _ _ _ _ _ _ _ _ _ _ _ _ _ _ _ _ _ _ _ _ _ y0 y1).trans ?_
  refine Eq.trans ?_ (congrArg (result m (e := .f32) Proj.v c) (emb24 t y0 y1)).symm
  rw [row_eq]
  rfl

/-- The array of the removal key after the last step. -/
theorem final25 (c : Dev nD) : (dats m 0 c).arrAt 25 (cfgs 0).N = result m (e := .f32) Proj.unit c := by
  refine (dats m 0 c).arrAt_eq_of_covers 25 _ (by decide +kernel) fun t _ y => ?_
  blk_simp
  rw [after0_25]
  idx_vars y
  refine (out25_at _ _ _ _ _ _ _ _ _ _ _ _ _ _ _ _ _ _ _ _ _ _ y0 y1).trans ?_
  refine Eq.trans ?_ (congrArg (result m (e := .f32) Proj.unit c) (emb25 t y0 y1)).symm
  rw [row_eq]
  rfl

/-- The array of the removal key times the learning rate after the last step. -/
theorem final26 (c : Dev nD) : (dats m 0 c).arrAt 26 (cfgs 0).N = result m (e := .f32) Proj.add c := by
  refine (dats m 0 c).arrAt_eq_of_covers 26 _ (by decide +kernel) fun t _ y => ?_
  blk_simp
  rw [after0_26]
  idx_vars y
  refine (out26_at _ _ _ _ _ _ _ _ _ _ _ _ _ _ _ _ _ _ _ _ _ _ y0 y1).trans ?_
  refine Eq.trans ?_ (congrArg (result m (e := .f32) Proj.add c) (emb26 t y0 y1)).symm
  rw [row_eq]
  rfl

/-- The array of the gate after the last step. -/
theorem final27 (c : Dev nD) : (dats m 0 c).arrAt 27 (cfgs 0).N = result m (e := .bf16) Proj.gate c := by
  refine (dats m 0 c).arrAt_eq_of_covers 27 _ (by decide +kernel) fun t _ y => ?_
  blk_simp
  rw [after0_27]
  idx_vars y
  refine (out27_at _ _ _ _ _ _ _ _ _ _ _ _ _ _ _ _ _ _ _ _ _ _ y0 y1).trans ?_
  refine Eq.trans ?_ (congrArg (result m (e := .bf16) Proj.gate c) (emb27 t y0 y1)).symm
  rw [row_eq]
  rfl

/-- The array of the bonus after the last step. -/
theorem final28 (c : Dev nD) : (dats m 0 c).arrAt 28 (cfgs 0).N = result m (e := .bf16) Proj.bonus c := by
  refine (dats m 0 c).arrAt_eq_of_covers 28 _ (by decide +kernel) fun t _ y => ?_
  blk_simp
  rw [after0_28]
  idx_vars y
  refine (out28_at _ _ _ _ _ _ _ _ _ _ _ _ _ _ _ _ _ _ _ _ _ _ y0 y1).trans ?_
  refine Eq.trans ?_ (congrArg (result m (e := .bf16) Proj.bonus c) (emb28 t y0 y1)).symm
  rw [row_eq]
  rfl

end Cert.InIdeal.Layer

end
-- ==== Proof.InRefRows.lean ====
/- The reference of the projection call computes the same rows. -/
module

public import proofs.«01_k».proof.Proof.InFinal
public import proofs.«01_k».proof.Proof.Gen.InRefIdeal.Read

@[expose] public section

set_option maxRecDepth 16384

noncomputable section

namespace Cert.InRefIdeal.Layer

open Cert.InRefIdeal Cert.InRefIdeal.Gen Cert.InRefIdeal.Read Idealize.ShloMosaic Idealize.ShloMosaic.TcCoe Idealize.SL.Sem
open Cert.Rows

variable (x0 : FVec Ideal S2x16384x1024 .f32) (x1 : FVec Ideal S2x16384x1024 .f32) (x2 : FVec Ideal S4x1024 .f32) (x3 : FVec Ideal S2x6x1024 .f32) (x4 : FVec Ideal S2x3x1024x1024 .f32) (x8 : FVec Ideal S2x1024 .f32) (x9 : FVec Ideal S2x1024x64 .f32) (x10 : FVec Ideal S2x64x1024 .f32) (x11 : FVec Ideal S1x1024 .f32) (x12 : FVec Ideal S1x1024x32 .f32) (x13 : FVec Ideal S1x32x1024 .f32) (x14 : FVec Ideal S2x1024x128 .f32) (x15 : FVec Ideal S2x128x1024 .f32) (x16 : FVec Ideal S2x1024 .f32) (x17 : FVec Ideal S2x1024 .f32) (x18 : FVec Ideal S2x16x64 .f32)

/-! The entries of a row's record, over the arrays. -/

theorem f_sum (b : Fin 2) (t : Fin 16384) (y : Fin 1024 → EReal) : (Cert.InIdeal.Layer.argRow x0 x1 x2 x3 x4 x8 x9 x10 x11 x12 x13 x14 x15 x16 x17 x18 b t).sum y = headSum y := rfl

theorem f_h (b : Fin 2) (t : Fin 16384) (k : Fin 1024) : (Cert.InIdeal.Layer.argRow x0 x1 x2 x3 x4 x8 x9 x10 x11 x12 x13 x14 x15 x16 x17 x18 b t).h k = rms (fun k => x0 (ix3 b t k)) (fun k => x2 (ix2 3 k)) k := rfl

theorem f_p (b : Fin 2) (t : Fin 16384) (k : Fin 1024) : (Cert.InIdeal.Layer.argRow x0 x1 x2 x3 x4 x8 x9 x10 x11 x12 x13 x14 x15 x16 x17 x18 b t).p k = if t.val = 0 then 0 else rms (fun k => x0 (ix3 b ⟨t.val - 1, by omega⟩ k)) (fun k => x2 (ix2 3 k)) k := rfl

theorem f_vf (b : Fin 2) (t : Fin 16384) (k : Fin 1024) : (Cert.InIdeal.Layer.argRow x0 x1 x2 x3 x4 x8 x9 x10 x11 x12 x13 x14 x15 x16 x17 x18 b t).vf k = x1 (ix3 b t k) := rfl

theorem f_mu (b : Fin 2) (t : Fin 16384) (q : Fin 6) (k : Fin 1024) : (Cert.InIdeal.Layer.argRow x0 x1 x2 x3 x4 x8 x9 x10 x11 x12 x13 x14 x15 x16 x17 x18 b t).mu q k = x3 (ix3 1 q k) := rfl

theorem f_w (b : Fin 2) (t : Fin 16384) (q : Fin 3) (k j : Fin 1024) : (Cert.InIdeal.Layer.argRow x0 x1 x2 x3 x4 x8 x9 x10 x11 x12 x13 x14 x15 x16 x17 x18 b t).w q k j = x4 (ix4 1 q k j) := rfl

theorem f_a0 (b : Fin 2) (t : Fin 16384) (j : Fin 1024) : (Cert.InIdeal.Layer.argRow x0 x1 x2 x3 x4 x8 x9 x10 x11 x12 x13 x14 x15 x16 x17 x18 b t).a0 j = x8 (ix2 1 j) := rfl

theorem f_aa (b : Fin 2) (t : Fin 16384) (k : Fin 1024) (l : Fin 64) : (Cert.InIdeal.Layer.argRow x0 x1 x2 x3 x4 x8 x9 x10 x11 x12 x13 x14 x15 x16 x17 x18 b t).aa k l = x9 (ix3 1 k l) := rfl

theorem f_ab (b : Fin 2) (t : Fin 16384) (l : Fin 64) (j : Fin 1024) : (Cert.InIdeal.Layer.argRow x0 x1 x2 x3 x4 x8 x9 x10 x11 x12 x13 x14 x15 x16 x17 x18 b t).ab l j = x10 (ix3 1 l j) := rfl

theorem f_v0 (b : Fin 2) (t : Fin 16384) (j : Fin 1024) : (Cert.InIdeal.Layer.argRow x0 x1 x2 x3 x4 x8 x9 x10 x11 x12 x13 x14 x15 x16 x17 x18 b t).v0 j = x11 (ix2 0 j) := rfl

theorem f_va (b : Fin 2) (t : Fin 16384) (k : Fin 1024) (l : Fin 32) : (Cert.InIdeal.Layer.argRow x0 x1 x2 x3 x4 x8 x9 x10 x11 x12 x13 x14 x15 x16 x17 x18 b t).va k l = x12 (ix3 0 k l) := rfl

theorem f_vb (b : Fin 2) (t : Fin 16384) (l : Fin 32) (j : Fin 1024) : (Cert.InIdeal.Layer.argRow x0 x1 x2 x3 x4 x8 x9 x10 x11 x12 x13 x14 x15 x16 x17 x18 b t).vb l j = x13 (ix3 0 l j) := rfl

theorem f_ga (b : Fin 2) (t : Fin 16384) (k : Fin 1024) (l : Fin 128) : (Cert.InIdeal.Layer.argRow x0 x1 x2 x3 x4 x8 x9 x10 x11 x12 x13 x14 x15 x16 x17 x18 b t).ga k l = x14 (ix3 1 k l) := rfl

theorem f_gb (b : Fin 2) (t : Fin 16384) (l : Fin 128) (j : Fin 1024) : (Cert.InIdeal.Layer.argRow x0 x1 x2 x3 x4 x8 x9 x10 x11 x12 x13 x14 x15 x16 x17 x18 b t).gb l j = x15 (ix3 1 l j) := rfl

theorem f_kk (b : Fin 2) (t : Fin 16384) (j : Fin 1024) : (Cert.InIdeal.Layer.argRow x0 x1 x2 x3 x4 x8 x9 x10 x11 x12 x13 x14 x15 x16 x17 x18 b t).kk j = x16 (ix2 1 j) := rfl

theorem f_ka (b : Fin 2) (t : Fin 16384) (j : Fin 1024) : (Cert.InIdeal.Layer.argRow x0 x1 x2 x3 x4 x8 x9 x10 x11 x12 x13 x14 x15 x16 x17 x18 b t).ka j = x17 (ix2 1 j) := rfl

theorem f_rk (b : Fin 2) (t : Fin 16384) (h : Fin 16) (l : Fin 64) (hl : h.val * 64 + l.val < 1024) : (Cert.InIdeal.Layer.argRow x0 x1 x2 x3 x4 x8 x9 x10 x11 x12 x13 x14 x15 x16 x17 x18 b t).rk ⟨h.val * 64 + l.val, hl⟩ = x18 (ix3 1 h l) := by
  show x18 (ix3 1 ⟨(h.val * 64 + l.val) / 64, _⟩ ⟨(h.val * 64 + l.val) % 64, _⟩) = _
  congr 2
  · exact Fin.ext (by show (h.val * 64 + l.val) / 64 = h.val; omega)
  · exact Fin.ext (by show (h.val * 64 + l.val) % 64 = l.val; omega)

/-- The reference's normalized row. -/
theorem norm_at (b : Fin 2) (t : Fin 16384) (k : Fin 1024) : val_main_v14 (F := Ideal) x0 x2 (ix3 b t k) = rms (fun k => x0 (ix3 b t k)) (fun k => x2 (ix2 3 k)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms, rmsScale]

/-- The reference's normalized row before it. -/
theorem shift_at (b : Fin 2) (t : Fin 16384) (k : Fin 1024) : val_main_v16 (F := Ideal) x0 x2 (ix3 b t k) = if t.val = 0 then 0 else rms (fun k => x0 (ix3 b ⟨t.val - 1, by omega⟩ k)) (fun k => x2 (ix2 3 k)) k := by
  by_cases h : t.val = 0
  · rw [if_pos h]
    pointwise [val_main_v16, val_main_v15, val_main_call0_v0, val_main_c, h]
    show (((0#32 : BitVec 32).toInt : ℝ) : EReal) = 0
    simp
  · rw [if_neg h, ← norm_at]
    pointwise [val_main_v16, val_main_v15]
    exact dif_pos ⟨by omega, by omega⟩

/-- The reference's mixed rows. -/
theorem mix_at (b : Fin 2) (t : Fin 16384) (q : Fin 6) (k : Fin 1024) : val_main_v27 (F := Ideal) x0 x2 x3 (ix4 q b t k) = (Cert.InIdeal.Layer.argRow x0 x1 x2 x3 x4 x8 x9 x10 x11 x12 x13 x14 x15 x16 x17 x18 b t).mix q k := by
  pointwise [val_main_v27, val_main_v26, val_main_v25, val_main_v24, val_main_v23, val_main_v22, val_main_v21, val_main_v20, val_main_v19, val_main_v18, val_main_v17, norm_at, shift_at, Proj.mix, f_h x0 x1 x2 x3 x4 x8 x9 x10 x11 x12 x13 x14 x15 x16 x17 x18, f_p x0 x1 x2 x3 x4 x8 x9 x10 x11 x12 x13 x14 x15 x16 x17 x18, f_mu x0 x1 x2 x3 x4 x8 x9 x10 x11 x12 x13 x14 x15 x16 x17 x18]

/-- The reference's projection 0. -/
theorem r_at (b : Fin 2) (t : Fin 16384) (j : Fin 1024) : val_main_v33 (F := Ideal) x0 x2 x3 x4 (ix3 b t j) = (Cert.InIdeal.Layer.argRow x0 x1 x2 x3 x4 x8 x9 x10 x11 x12 x13 x14 x15 x16 x17 x18 b t).r j := by
  pointwise [val_main_v33, val_main_v32, val_main_v28, val_main_v29, val_main_v30, val_main_v31, mix_at x0 x1 x2 x3 x4 x8 x9 x10 x11 x12 x13 x14 x15 x16 x17 x18, Proj.r, dot, f_w x0 x1 x2 x3 x4 x8 x9 x10 x11 x12 x13 x14 x15 x16 x17 x18]

/-- The reference's projection 1. -/
theorem key_at (b : Fin 2) (t : Fin 16384) (j : Fin 1024) : val_main_v35 (F := Ideal) x0 x2 x3 x4 (ix3 b t j) = (Cert.InIdeal.Layer.argRow x0 x1 x2 x3 x4 x8 x9 x10 x11 x12 x13 x14 x15 x16 x17 x18 b t).key j := by
  pointwise [val_main_v35, val_main_v34, val_main_v28, val_main_v29, val_main_v30, val_main_v31, mix_at x0 x1 x2 x3 x4 x8 x9 x10 x11 x12 x13 x14 x15 x16 x17 x18, Proj.key, dot, f_w x0 x1 x2 x3 x4 x8 x9 x10 x11 x12 x13 x14 x15 x16 x17 x18]

/-- The reference's projection 2. -/
theorem val_at (b : Fin 2) (t : Fin 16384) (j : Fin 1024) : val_main_v37 (F := Ideal) x0 x2 x3 x4 (ix3 b t j) = (Cert.InIdeal.Layer.argRow x0 x1 x2 x3 x4 x8 x9 x10 x11 x12 x13 x14 x15 x16 x17 x18 b t).val j := by
  pointwise [val_main_v37, val_main_v36, val_main_v28, val_main_v29, val_main_v30, val_main_v31, mix_at x0 x1 x2 x3 x4 x8 x9 x10 x11 x12 x13 x14 x15 x16 x17 x18, Proj.val, dot, f_w x0 x1 x2 x3 x4 x8 x9 x10 x11 x12 x13 x14 x15 x16 x17 x18]

/-- The reference's share of the first layer's value row. -/
theorem share_at (b : Fin 2) (t : Fin 16384) (j : Fin 1024) : val_main_v58 (F := Ideal) x0 x2 x3 x11 x12 x13 (ix3 b t j) = (Cert.InIdeal.Layer.argRow x0 x1 x2 x3 x4 x8 x9 x10 x11 x12 x13 x14 x15 x16 x17 x18 b t).share j := by
  pointwise [val_main_v58, val_main_v57, val_main_v56, val_main_v55, val_main_v54, val_main_v53, val_main_v52, val_main_v51, val_main_v50, val_main_v49, val_main_v48, val_main_v47, val_main_v46, val_main_v45, val_main_v39, val_main_v38, val_main_cst_2, val_main_cst_3, mix_at x0 x1 x2 x3 x4 x8 x9 x10 x11 x12 x13 x14 x15 x16 x17 x18, Proj.share, dot, Ideal.logistic, f_v0 x0 x1 x2 x3 x4 x8 x9 x10 x11 x12 x13 x14 x15 x16 x17 x18, f_va x0 x1 x2 x3 x4 x8 x9 x10 x11 x12 x13 x14 x15 x16 x17 x18, f_vb x0 x1 x2 x3 x4 x8 x9 x10 x11 x12 x13 x14 x15 x16 x17 x18]

/-- The reference's value row. -/
theorem v_at (b : Fin 2) (t : Fin 16384) (j : Fin 1024) : val_main_v60 (F := Ideal) x0 x1 x2 x3 x4 x11 x12 x13 (ix3 b t j) = (Cert.InIdeal.Layer.argRow x0 x1 x2 x3 x4 x8 x9 x10 x11 x12 x13 x14 x15 x16 x17 x18 b t).v j := by
  pointwise [val_main_v60, val_main_v59, val_main_v44, val_at x0 x1 x2 x3 x4 x8 x9 x10 x11 x12 x13 x14 x15 x16 x17 x18, share_at x0 x1 x2 x3 x4 x8 x9 x10 x11 x12 x13 x14 x15 x16 x17 x18, Proj.v, f_vf x0 x1 x2 x3 x4 x8 x9 x10 x11 x12 x13 x14 x15 x16 x17 x18]

/-- The reference's learning rate. -/
theorem rate_at (b : Fin 2) (t : Fin 16384) (j : Fin 1024) : val_main_v77 (F := Ideal) x0 x2 x3 x8 x9 x10 (ix3 b t j) = (Cert.InIdeal.Layer.argRow x0 x1 x2 x3 x4 x8 x9 x10 x11 x12 x13 x14 x15 x16 x17 x18 b t).rate j := by
  pointwise [val_main_v77, val_main_v76, val_main_v75, val_main_v74, val_main_v73, val_main_v72, val_main_v71, val_main_v70, val_main_v69, val_main_v68, val_main_v67, val_main_v66, val_main_v65, val_main_v64, val_main_v63, val_main_v62, val_main_v61, val_main_v41, val_main_v40, val_main_cst_4, val_main_cst_5, mix_at x0 x1 x2 x3 x4 x8 x9 x10 x11 x12 x13 x14 x15 x16 x17 x18, Proj.rate, dot, Ideal.logistic, f_a0 x0 x1 x2 x3 x4 x8 x9 x10 x11 x12 x13 x14 x15 x16 x17 x18, f_aa x0 x1 x2 x3 x4 x8 x9 x10 x11 x12 x13 x14 x15 x16 x17 x18, f_ab x0 x1 x2 x3 x4 x8 x9 x10 x11 x12 x13 x14 x15 x16 x17 x18]

/-- The reference's gate row. -/
theorem gate_at (b : Fin 2) (t : Fin 16384) (j : Fin 1024) : val_main_v89 (F := Ideal) x0 x2 x3 x14 x15 (ix3 b t j) = (Cert.InIdeal.Layer.argRow x0 x1 x2 x3 x4 x8 x9 x10 x11 x12 x13 x14 x15 x16 x17 x18 b t).gate j := by
  pointwise [val_main_v89, val_main_v88, val_main_v87, val_main_v86, val_main_v85, val_main_v84, val_main_v83, val_main_v82, val_main_v81, val_main_v80, val_main_v79, val_main_v78, val_main_v43, val_main_v42, val_main_cst_6, val_main_cst_7, mix_at x0 x1 x2 x3 x4 x8 x9 x10 x11 x12 x13 x14 x15 x16 x17 x18, Proj.gate, dot, Ideal.logistic, f_ga x0 x1 x2 x3 x4 x8 x9 x10 x11 x12 x13 x14 x15 x16 x17 x18, f_gb x0 x1 x2 x3 x4 x8 x9 x10 x11 x12 x13 x14 x15 x16 x17 x18]

/-- The reference's removal key before its normalization. -/
theorem raw_at (b : Fin 2) (t : Fin 16384) (h : Fin 16) (l : Fin 64) : val_main_v95 (F := Ideal) x0 x2 x3 x4 x16 (ix4 b t h l) = (Cert.InIdeal.Layer.argRow x0 x1 x2 x3 x4 x8 x9 x10 x11 x12 x13 x14 x15 x16 x17 x18 b t).raw ⟨h.val * 64 + l.val, by omega⟩ := by
  pointwise [val_main_v95, val_main_v94, val_main_v93, val_main_v92, val_main_v91, val_main_v90, key_at x0 x1 x2 x3 x4 x8 x9 x10 x11 x12 x13 x14 x15 x16 x17 x18, Proj.raw, f_kk x0 x1 x2 x3 x4 x8 x9 x10 x11 x12 x13 x14 x15 x16 x17 x18]

/-- The reference's removal key. -/
theorem unit_at (b : Fin 2) (t : Fin 16384) (h : Fin 16) (l : Fin 64) : val_main_v103 (F := Ideal) x0 x2 x3 x4 x16 (ix4 b t h l) = (Cert.InIdeal.Layer.argRow x0 x1 x2 x3 x4 x8 x9 x10 x11 x12 x13 x14 x15 x16 x17 x18 b t).unit ⟨h.val * 64 + l.val, by omega⟩ := by
  pointwise [val_main_v103, val_main_v102, val_main_v101, val_main_v100, val_main_v99, val_main_v98, val_main_v97, val_main_v96, val_main_cst_8, val_main_cst_9, raw_at x0 x1 x2 x3 x4 x8 x9 x10 x11 x12 x13 x14 x15 x16 x17 x18, Proj.unit, f_sum x0 x1 x2 x3 x4 x8 x9 x10 x11 x12 x13 x14 x15 x16 x17 x18, headSum_head]

/-- The reference's key row. -/
theorem k_at (b : Fin 2) (t : Fin 16384) (j : Fin 1024) : val_main_v113 (F := Ideal) x0 x2 x3 x4 x8 x9 x10 x17 (ix3 b t j) = (Cert.InIdeal.Layer.argRow x0 x1 x2 x3 x4 x8 x9 x10 x11 x12 x13 x14 x15 x16 x17 x18 b t).k j := by
  pointwise [val_main_v113, val_main_v112, val_main_v111, val_main_v110, val_main_v109, val_main_v108, val_main_v107, val_main_v106, val_main_v105, val_main_v104, val_main_cst_10, val_main_cst_11, key_at x0 x1 x2 x3 x4 x8 x9 x10 x11 x12 x13 x14 x15 x16 x17 x18, rate_at x0 x1 x2 x3 x4 x8 x9 x10 x11 x12 x13 x14 x15 x16 x17 x18, Proj.k, f_ka x0 x1 x2 x3 x4 x8 x9 x10 x11 x12 x13 x14 x15 x16 x17 x18]

/-- The reference's bonus row. -/
theorem bonus_at (b : Fin 2) (t : Fin 16384) (h : Fin 16) (l : Fin 64) : val_main_v126 (F := Ideal) x0 x1 x2 x3 x4 x8 x9 x10 x11 x12 x13 x17 x18 (ix4 b t h l) = (Cert.InIdeal.Layer.argRow x0 x1 x2 x3 x4 x8 x9 x10 x11 x12 x13 x14 x15 x16 x17 x18 b t).bonus ⟨h.val * 64 + l.val, by omega⟩ := by
  pointwise [val_main_v126, val_main_v125, val_main_v124, val_main_v123, val_main_v122, val_main_v121, val_main_v120, val_main_v119, val_main_v118, val_main_v117, val_main_v116, val_main_v115, val_main_v114, val_main_cst_12, r_at x0 x1 x2 x3 x4 x8 x9 x10 x11 x12 x13 x14 x15 x16 x17 x18, k_at x0 x1 x2 x3 x4 x8 x9 x10 x11 x12 x13 x14 x15 x16 x17 x18, v_at x0 x1 x2 x3 x4 x8 x9 x10 x11 x12 x13 x14 x15 x16 x17 x18, Proj.bonus, f_sum x0 x1 x2 x3 x4 x8 x9 x10 x11 x12 x13 x14 x15 x16 x17 x18, f_rk x0 x1 x2 x3 x4 x8 x9 x10 x11 x12 x13 x14 x15 x16 x17 x18, headSum_head]

/-- The reference's removal key times the learning rate. -/
theorem add_at (b : Fin 2) (t : Fin 16384) (h : Fin 16) (l : Fin 64) : val_main_v128 (F := Ideal) x0 x2 x3 x4 x8 x9 x10 x16 (ix4 b t h l) = (Cert.InIdeal.Layer.argRow x0 x1 x2 x3 x4 x8 x9 x10 x11 x12 x13 x14 x15 x16 x17 x18 b t).add ⟨h.val * 64 + l.val, by omega⟩ := by
  pointwise [val_main_v127, val_main_v128, unit_at x0 x1 x2 x3 x4 x8 x9 x10 x11 x12 x13 x14 x15 x16 x17 x18, rate_at x0 x1 x2 x3 x4 x8 x9 x10 x11 x12 x13 x14 x15 x16 x17 x18, Proj.add]

/-- The reference's result r, element by element. -/
theorem out_r (n : Fin 32768) (j : Fin 1024) : val_main_v129 (F := Ideal) x0 x2 x3 x4 (ix2 n j) = (Cert.InIdeal.Layer.argRow x0 x1 x2 x3 x4 x8 x9 x10 x11 x12 x13 x14 x15 x16 x17 x18 ⟨n.val / 16384, by omega⟩ ⟨n.val % 16384, Nat.mod_lt _ (by decide)⟩).r j := by
  pointwise [val_main_v129, r_at x0 x1 x2 x3 x4 x8 x9 x10 x11 x12 x13 x14 x15 x16 x17 x18]

/-- The reference's result k, element by element. -/
theorem out_k (n : Fin 32768) (j : Fin 1024) : val_main_v130 (F := Ideal) x0 x2 x3 x4 x8 x9 x10 x17 (ix2 n j) = (Cert.InIdeal.Layer.argRow x0 x1 x2 x3 x4 x8 x9 x10 x11 x12 x13 x14 x15 x16 x17 x18 ⟨n.val / 16384, by omega⟩ ⟨n.val % 16384, Nat.mod_lt _ (by decide)⟩).k j := by
  pointwise [val_main_v130, k_at x0 x1 x2 x3 x4 x8 x9 x10 x11 x12 x13 x14 x15 x16 x17 x18]

/-- The reference's result v, element by element. -/
theorem out_v (n : Fin 32768) (j : Fin 1024) : val_main_v131 (F := Ideal) x0 x1 x2 x3 x4 x11 x12 x13 (ix2 n j) = (Cert.InIdeal.Layer.argRow x0 x1 x2 x3 x4 x8 x9 x10 x11 x12 x13 x14 x15 x16 x17 x18 ⟨n.val / 16384, by omega⟩ ⟨n.val % 16384, Nat.mod_lt _ (by decide)⟩).v j := by
  pointwise [val_main_v131, v_at x0 x1 x2 x3 x4 x8 x9 x10 x11 x12 x13 x14 x15 x16 x17 x18]

/-- The reference's result unit, element by element. -/
theorem out_unit (n : Fin 32768) (j : Fin 1024) : val_main_v132 (F := Ideal) x0 x2 x3 x4 x16 (ix2 n j) = (Cert.InIdeal.Layer.argRow x0 x1 x2 x3 x4 x8 x9 x10 x11 x12 x13 x14 x15 x16 x17 x18 ⟨n.val / 16384, by omega⟩ ⟨n.val % 16384, Nat.mod_lt _ (by decide)⟩).unit j := by
  have e : j = ⟨j.val / 64 * 64 + j.val % 64, by omega⟩ := Fin.ext (by show j.val = j.val / 64 * 64 + j.val % 64; omega)
  refine Eq.trans ?_ (congrArg (Cert.InIdeal.Layer.argRow x0 x1 x2 x3 x4 x8 x9 x10 x11 x12 x13 x14 x15 x16 x17 x18 ⟨n.val / 16384, by omega⟩ ⟨n.val % 16384, Nat.mod_lt _ (by decide)⟩).unit e).symm
  pointwise [val_main_v132, unit_at x0 x1 x2 x3 x4 x8 x9 x10 x11 x12 x13 x14 x15 x16 x17 x18]

/-- The reference's result add, element by element. -/
theorem out_add (n : Fin 32768) (j : Fin 1024) : val_main_v133 (F := Ideal) x0 x2 x3 x4 x8 x9 x10 x16 (ix2 n j) = (Cert.InIdeal.Layer.argRow x0 x1 x2 x3 x4 x8 x9 x10 x11 x12 x13 x14 x15 x16 x17 x18 ⟨n.val / 16384, by omega⟩ ⟨n.val % 16384, Nat.mod_lt _ (by decide)⟩).add j := by
  have e : j = ⟨j.val / 64 * 64 + j.val % 64, by omega⟩ := Fin.ext (by show j.val = j.val / 64 * 64 + j.val % 64; omega)
  refine Eq.trans ?_ (congrArg (Cert.InIdeal.Layer.argRow x0 x1 x2 x3 x4 x8 x9 x10 x11 x12 x13 x14 x15 x16 x17 x18 ⟨n.val / 16384, by omega⟩ ⟨n.val % 16384, Nat.mod_lt _ (by decide)⟩).add e).symm
  pointwise [val_main_v133, add_at x0 x1 x2 x3 x4 x8 x9 x10 x11 x12 x13 x14 x15 x16 x17 x18]

/-- The reference's result gate, element by element. -/
theorem out_gate (n : Fin 32768) (j : Fin 1024) : val_main_v135 (F := Ideal) x0 x2 x3 x14 x15 (ix2 n j) = (Cert.InIdeal.Layer.argRow x0 x1 x2 x3 x4 x8 x9 x10 x11 x12 x13 x14 x15 x16 x17 x18 ⟨n.val / 16384, by omega⟩ ⟨n.val % 16384, Nat.mod_lt _ (by decide)⟩).gate j := by
  pointwise [val_main_v135, val_main_v134, gate_at x0 x1 x2 x3 x4 x8 x9 x10 x11 x12 x13 x14 x15 x16 x17 x18]

/-- The reference's result bonus, element by element. -/
theorem out_bonus (n : Fin 32768) (j : Fin 1024) : val_main_v137 (F := Ideal) x0 x1 x2 x3 x4 x8 x9 x10 x11 x12 x13 x17 x18 (ix2 n j) = (Cert.InIdeal.Layer.argRow x0 x1 x2 x3 x4 x8 x9 x10 x11 x12 x13 x14 x15 x16 x17 x18 ⟨n.val / 16384, by omega⟩ ⟨n.val % 16384, Nat.mod_lt _ (by decide)⟩).bonus j := by
  have e : j = ⟨j.val / 64 * 64 + j.val % 64, by omega⟩ := Fin.ext (by show j.val = j.val / 64 * 64 + j.val % 64; omega)
  refine Eq.trans ?_ (congrArg (Cert.InIdeal.Layer.argRow x0 x1 x2 x3 x4 x8 x9 x10 x11 x12 x13 x14 x15 x16 x17 x18 ⟨n.val / 16384, by omega⟩ ⟨n.val % 16384, Nat.mod_lt _ (by decide)⟩).bonus e).symm
  pointwise [val_main_v137, val_main_v136, bonus_at x0 x1 x2 x3 x4 x8 x9 x10 x11 x12 x13 x14 x15 x16 x17 x18]

end Cert.InRefIdeal.Layer

end
-- ==== Proof.InRef.lean ====
/- The claims about the projection call and its reference. -/
module

public import proofs.«01_k».proof.Proof.InResult
public import proofs.«01_k».proof.Proof.InRefRows
public import proofs.«01_k».proof.Defs

@[expose] public section

set_option maxRecDepth 16384

noncomputable section

namespace Cert.In.Claims

open Idealize.ShloMosaic Idealize.ShloMosaic.TcCoe Idealize.SL.Sem
open Cert.Rows

variable (m : (ℓ : Loc Cert.InIdeal.nD Cert.InIdeal.τ Cert.InIdeal.sig) → Buf (Elt Ideal) ℓ)

/-- The array of the result r, after a run of the pipeline. -/
theorem read_r (r : PUnit × MemSt Cert.InIdeal.nD Cert.InIdeal.τ Cert.InIdeal.sig (Elt Ideal)) (c : Dev Cert.InIdeal.nD)
    (h : Pipeline.FramePost Cert.InIdeal.cfgs (Cert.InIdeal.Layer.dats m) 0 (Cert.InIdeal.Layer.V m) r) :
    r.2.mem ((c.tc : Thread Cert.InIdeal.nD Cert.InIdeal.τ).loc Cert.InIdeal.main_v55_0) = Cert.InIdeal.Layer.result m (e := .f32) Proj.r c :=
  ((h c).1 21).trans (Cert.InIdeal.Layer.final21 m c)

/-- The array of the result k, after a run of the pipeline. -/
theorem read_k (r : PUnit × MemSt Cert.InIdeal.nD Cert.InIdeal.τ Cert.InIdeal.sig (Elt Ideal)) (c : Dev Cert.InIdeal.nD)
    (h : Pipeline.FramePost Cert.InIdeal.cfgs (Cert.InIdeal.Layer.dats m) 0 (Cert.InIdeal.Layer.V m) r) :
    r.2.mem ((c.tc : Thread Cert.InIdeal.nD Cert.InIdeal.τ).loc Cert.InIdeal.main_v55_2) = Cert.InIdeal.Layer.result m (e := .f32) Proj.k c :=
  ((h c).1 23).trans (Cert.InIdeal.Layer.final23 m c)

/-- The array of the result v, after a run of the pipeline. -/
theorem read_v (r : PUnit × MemSt Cert.InIdeal.nD Cert.InIdeal.τ Cert.InIdeal.sig (Elt Ideal)) (c : Dev Cert.InIdeal.nD)
    (h : Pipeline.FramePost Cert.InIdeal.cfgs (Cert.InIdeal.Layer.dats m) 0 (Cert.InIdeal.Layer.V m) r) :
    r.2.mem ((c.tc : Thread Cert.InIdeal.nD Cert.InIdeal.τ).loc Cert.InIdeal.main_v55_3) = Cert.InIdeal.Layer.result m (e := .f32) Proj.v c :=
  ((h c).1 24).trans (Cert.InIdeal.Layer.final24 m c)

/-- The array of the result unit, after a run of the pipeline. -/
theorem read_unit (r : PUnit × MemSt Cert.InIdeal.nD Cert.InIdeal.τ Cert.InIdeal.sig (Elt Ideal)) (c : Dev Cert.InIdeal.nD)
    (h : Pipeline.FramePost Cert.InIdeal.cfgs (Cert.InIdeal.Layer.dats m) 0 (Cert.InIdeal.Layer.V m) r) :
    r.2.mem ((c.tc : Thread Cert.InIdeal.nD Cert.InIdeal.τ).loc Cert.InIdeal.main_v55_4) = Cert.InIdeal.Layer.result m (e := .f32) Proj.unit c :=
  ((h c).1 25).trans (Cert.InIdeal.Layer.final25 m c)

/-- The array of the result add, after a run of the pipeline. -/
theorem read_add (r : PUnit × MemSt Cert.InIdeal.nD Cert.InIdeal.τ Cert.InIdeal.sig (Elt Ideal)) (c : Dev Cert.InIdeal.nD)
    (h : Pipeline.FramePost Cert.InIdeal.cfgs (Cert.InIdeal.Layer.dats m) 0 (Cert.InIdeal.Layer.V m) r) :
    r.2.mem ((c.tc : Thread Cert.InIdeal.nD Cert.InIdeal.τ).loc Cert.InIdeal.main_v55_5) = Cert.InIdeal.Layer.result m (e := .f32) Proj.add c :=
  ((h c).1 26).trans (Cert.InIdeal.Layer.final26 m c)

/-- The array of the result gate, after a run of the pipeline. -/
theorem read_gate (r : PUnit × MemSt Cert.InIdeal.nD Cert.InIdeal.τ Cert.InIdeal.sig (Elt Ideal)) (c : Dev Cert.InIdeal.nD)
    (h : Pipeline.FramePost Cert.InIdeal.cfgs (Cert.InIdeal.Layer.dats m) 0 (Cert.InIdeal.Layer.V m) r) :
    r.2.mem ((c.tc : Thread Cert.InIdeal.nD Cert.InIdeal.τ).loc Cert.InIdeal.main_v55_6) = Cert.InIdeal.Layer.result m (e := .bf16) Proj.gate c :=
  ((h c).1 27).trans (Cert.InIdeal.Layer.final27 m c)

/-- The array of the result bonus, after a run of the pipeline. -/
theorem read_bonus (r : PUnit × MemSt Cert.InIdeal.nD Cert.InIdeal.τ Cert.InIdeal.sig (Elt Ideal)) (c : Dev Cert.InIdeal.nD)
    (h : Pipeline.FramePost Cert.InIdeal.cfgs (Cert.InIdeal.Layer.dats m) 0 (Cert.InIdeal.Layer.V m) r) :
    r.2.mem ((c.tc : Thread Cert.InIdeal.nD Cert.InIdeal.τ).loc Cert.InIdeal.main_v55_7) = Cert.InIdeal.Layer.result m (e := .bf16) Proj.bonus c :=
  ((h c).1 28).trans (Cert.InIdeal.Layer.final28 m c)

set_option maxHeartbeats 1000000 in
/-- What a run of the kernel leaves in its result arrays. -/
theorem kernel_run (g : Dev Cert.InIdeal.nD → PrngReg) :
    θ_run (Cert.InIdeal.defs (F := Ideal)) (onTc (τ := Cert.InIdeal.τ) (Cert.InIdeal.main (F := Ideal))) ⟨m, fun _ => 0, g⟩ (fun r => ∀ c : Dev Cert.InIdeal.nD,
      r.2.mem ((c.tc : Thread Cert.InIdeal.nD Cert.InIdeal.τ).loc Cert.InIdeal.main_v55_0) = Cert.InIdeal.Layer.result m (e := .f32) Proj.r c
      ∧ r.2.mem ((c.tc : Thread Cert.InIdeal.nD Cert.InIdeal.τ).loc Cert.InIdeal.main_v55_2) = Cert.InIdeal.Layer.result m (e := .f32) Proj.k c
      ∧ r.2.mem ((c.tc : Thread Cert.InIdeal.nD Cert.InIdeal.τ).loc Cert.InIdeal.main_v55_3) = Cert.InIdeal.Layer.result m (e := .f32) Proj.v c
      ∧ r.2.mem ((c.tc : Thread Cert.InIdeal.nD Cert.InIdeal.τ).loc Cert.InIdeal.main_v55_4) = Cert.InIdeal.Layer.result m (e := .f32) Proj.unit c
      ∧ r.2.mem ((c.tc : Thread Cert.InIdeal.nD Cert.InIdeal.τ).loc Cert.InIdeal.main_v55_5) = Cert.InIdeal.Layer.result m (e := .f32) Proj.add c
      ∧ r.2.mem ((c.tc : Thread Cert.InIdeal.nD Cert.InIdeal.τ).loc Cert.InIdeal.main_v55_6) = Cert.InIdeal.Layer.result m (e := .bf16) Proj.gate c
      ∧ r.2.mem ((c.tc : Thread Cert.InIdeal.nD Cert.InIdeal.τ).loc Cert.InIdeal.main_v55_7) = Cert.InIdeal.Layer.result m (e := .bf16) Proj.bonus c) :=
  θ_run_mono (Cert.InIdeal.Layer.run_main m g) (fun r h c => ⟨read_r m r c h, read_k m r c h, read_v m r c h, read_unit m r c h, read_add m r c h, read_gate m r c h, read_bonus m r c h⟩)

/-- The reference's result r on the same arrays is the kernel's. -/
theorem same_r (c : Dev Cert.InIdeal.nD) {x0 : FVec Ideal Cert.InIdeal.S2x16384x1024 .f32} (h0 : x0 = (m ((c.tc : Thread Cert.InIdeal.nD Cert.InIdeal.τ).loc Cert.InIdeal.main_arg0))) {x1 : FVec Ideal Cert.InIdeal.S2x16384x1024 .f32} (h1 : x1 = (m ((c.tc : Thread Cert.InIdeal.nD Cert.InIdeal.τ).loc Cert.InIdeal.main_arg1))) {x2 : FVec Ideal Cert.InIdeal.S4x1024 .f32} (h2 : x2 = (m ((c.tc : Thread Cert.InIdeal.nD Cert.InIdeal.τ).loc Cert.InIdeal.main_arg2))) {x3 : FVec Ideal Cert.InIdeal.S2x6x1024 .f32} (h3 : x3 = (m ((c.tc : Thread Cert.InIdeal.nD Cert.InIdeal.τ).loc Cert.InIdeal.main_arg3))) {x4 : FVec Ideal Cert.InIdeal.S2x3x1024x1024 .f32} (h4 : x4 = (m ((c.tc : Thread Cert.InIdeal.nD Cert.InIdeal.τ).loc Cert.InIdeal.main_arg4))) {x8 : FVec Ideal Cert.InIdeal.S2x1024 .f32} (h8 : x8 = (m ((c.tc : Thread Cert.InIdeal.nD Cert.InIdeal.τ).loc Cert.InIdeal.main_arg8))) {x9 : FVec Ideal Cert.InIdeal.S2x1024x64 .f32} (h9 : x9 = (m ((c.tc : Thread Cert.InIdeal.nD Cert.InIdeal.τ).loc Cert.InIdeal.main_arg9))) {x10 : FVec Ideal Cert.InIdeal.S2x64x1024 .f32} (h10 : x10 = (m ((c.tc : Thread Cert.InIdeal.nD Cert.InIdeal.τ).loc Cert.InIdeal.main_arg10))) {x11 : FVec Ideal Cert.InIdeal.S1x1024 .f32} (h11 : x11 = (m ((c.tc : Thread Cert.InIdeal.nD Cert.InIdeal.τ).loc Cert.InIdeal.main_arg11))) {x12 : FVec Ideal Cert.InIdeal.S1x1024x32 .f32} (h12 : x12 = (m ((c.tc : Thread Cert.InIdeal.nD Cert.InIdeal.τ).loc Cert.InIdeal.main_arg12))) {x13 : FVec Ideal Cert.InIdeal.S1x32x1024 .f32} (h13 : x13 = (m ((c.tc : Thread Cert.InIdeal.nD Cert.InIdeal.τ).loc Cert.InIdeal.main_arg13))) {x14 : FVec Ideal Cert.InIdeal.S2x1024x128 .f32} (h14 : x14 = (m ((c.tc : Thread Cert.InIdeal.nD Cert.InIdeal.τ).loc Cert.InIdeal.main_arg14))) {x15 : FVec Ideal Cert.InIdeal.S2x128x1024 .f32} (h15 : x15 = (m ((c.tc : Thread Cert.InIdeal.nD Cert.InIdeal.τ).loc Cert.InIdeal.main_arg15))) {x16 : FVec Ideal Cert.InIdeal.S2x1024 .f32} (h16 : x16 = (m ((c.tc : Thread Cert.InIdeal.nD Cert.InIdeal.τ).loc Cert.InIdeal.main_arg16))) {x17 : FVec Ideal Cert.InIdeal.S2x1024 .f32} (h17 : x17 = (m ((c.tc : Thread Cert.InIdeal.nD Cert.InIdeal.τ).loc Cert.InIdeal.main_arg17))) {x18 : FVec Ideal Cert.InIdeal.S2x16x64 .f32} (h18 : x18 = (m ((c.tc : Thread Cert.InIdeal.nD Cert.InIdeal.τ).loc Cert.InIdeal.main_arg18))) :
    Cert.InRefIdeal.Read.val_main_v129 (F := Ideal) x0 x2 x3 x4 = Cert.InIdeal.Layer.result m (e := .f32) Proj.r c := by
  refine funext fun i => ?_
  obtain ⟨n, j, rfl⟩ : ∃ (n : Fin 32768) (j : Fin 1024), i = ix2 n j := ⟨i 0, i 1, eq_ix2 i⟩
  refine (Cert.InRefIdeal.Layer.out_r x0 x1 x2 x3 x4 x8 x9 x10 x11 x12 x13 x14 x15 x16 x17 x18 n j).trans ?_
  subst h0 h1 h2 h3 h4 h8 h9 h10 h11 h12 h13 h14 h15 h16 h17 h18
  rfl

/-- The reference's result k on the same arrays is the kernel's. -/
theorem same_k (c : Dev Cert.InIdeal.nD) {x0 : FVec Ideal Cert.InIdeal.S2x16384x1024 .f32} (h0 : x0 = (m ((c.tc : Thread Cert.InIdeal.nD Cert.InIdeal.τ).loc Cert.InIdeal.main_arg0))) {x1 : FVec Ideal Cert.InIdeal.S2x16384x1024 .f32} (h1 : x1 = (m ((c.tc : Thread Cert.InIdeal.nD Cert.InIdeal.τ).loc Cert.InIdeal.main_arg1))) {x2 : FVec Ideal Cert.InIdeal.S4x1024 .f32} (h2 : x2 = (m ((c.tc : Thread Cert.InIdeal.nD Cert.InIdeal.τ).loc Cert.InIdeal.main_arg2))) {x3 : FVec Ideal Cert.InIdeal.S2x6x1024 .f32} (h3 : x3 = (m ((c.tc : Thread Cert.InIdeal.nD Cert.InIdeal.τ).loc Cert.InIdeal.main_arg3))) {x4 : FVec Ideal Cert.InIdeal.S2x3x1024x1024 .f32} (h4 : x4 = (m ((c.tc : Thread Cert.InIdeal.nD Cert.InIdeal.τ).loc Cert.InIdeal.main_arg4))) {x8 : FVec Ideal Cert.InIdeal.S2x1024 .f32} (h8 : x8 = (m ((c.tc : Thread Cert.InIdeal.nD Cert.InIdeal.τ).loc Cert.InIdeal.main_arg8))) {x9 : FVec Ideal Cert.InIdeal.S2x1024x64 .f32} (h9 : x9 = (m ((c.tc : Thread Cert.InIdeal.nD Cert.InIdeal.τ).loc Cert.InIdeal.main_arg9))) {x10 : FVec Ideal Cert.InIdeal.S2x64x1024 .f32} (h10 : x10 = (m ((c.tc : Thread Cert.InIdeal.nD Cert.InIdeal.τ).loc Cert.InIdeal.main_arg10))) {x11 : FVec Ideal Cert.InIdeal.S1x1024 .f32} (h11 : x11 = (m ((c.tc : Thread Cert.InIdeal.nD Cert.InIdeal.τ).loc Cert.InIdeal.main_arg11))) {x12 : FVec Ideal Cert.InIdeal.S1x1024x32 .f32} (h12 : x12 = (m ((c.tc : Thread Cert.InIdeal.nD Cert.InIdeal.τ).loc Cert.InIdeal.main_arg12))) {x13 : FVec Ideal Cert.InIdeal.S1x32x1024 .f32} (h13 : x13 = (m ((c.tc : Thread Cert.InIdeal.nD Cert.InIdeal.τ).loc Cert.InIdeal.main_arg13))) {x14 : FVec Ideal Cert.InIdeal.S2x1024x128 .f32} (h14 : x14 = (m ((c.tc : Thread Cert.InIdeal.nD Cert.InIdeal.τ).loc Cert.InIdeal.main_arg14))) {x15 : FVec Ideal Cert.InIdeal.S2x128x1024 .f32} (h15 : x15 = (m ((c.tc : Thread Cert.InIdeal.nD Cert.InIdeal.τ).loc Cert.InIdeal.main_arg15))) {x16 : FVec Ideal Cert.InIdeal.S2x1024 .f32} (h16 : x16 = (m ((c.tc : Thread Cert.InIdeal.nD Cert.InIdeal.τ).loc Cert.InIdeal.main_arg16))) {x17 : FVec Ideal Cert.InIdeal.S2x1024 .f32} (h17 : x17 = (m ((c.tc : Thread Cert.InIdeal.nD Cert.InIdeal.τ).loc Cert.InIdeal.main_arg17))) {x18 : FVec Ideal Cert.InIdeal.S2x16x64 .f32} (h18 : x18 = (m ((c.tc : Thread Cert.InIdeal.nD Cert.InIdeal.τ).loc Cert.InIdeal.main_arg18))) :
    Cert.InRefIdeal.Read.val_main_v130 (F := Ideal) x0 x2 x3 x4 x8 x9 x10 x17 = Cert.InIdeal.Layer.result m (e := .f32) Proj.k c := by
  refine funext fun i => ?_
  obtain ⟨n, j, rfl⟩ : ∃ (n : Fin 32768) (j : Fin 1024), i = ix2 n j := ⟨i 0, i 1, eq_ix2 i⟩
  refine (Cert.InRefIdeal.Layer.out_k x0 x1 x2 x3 x4 x8 x9 x10 x11 x12 x13 x14 x15 x16 x17 x18 n j).trans ?_
  subst h0 h1 h2 h3 h4 h8 h9 h10 h11 h12 h13 h14 h15 h16 h17 h18
  rfl

/-- The reference's result v on the same arrays is the kernel's. -/
theorem same_v (c : Dev Cert.InIdeal.nD) {x0 : FVec Ideal Cert.InIdeal.S2x16384x1024 .f32} (h0 : x0 = (m ((c.tc : Thread Cert.InIdeal.nD Cert.InIdeal.τ).loc Cert.InIdeal.main_arg0))) {x1 : FVec Ideal Cert.InIdeal.S2x16384x1024 .f32} (h1 : x1 = (m ((c.tc : Thread Cert.InIdeal.nD Cert.InIdeal.τ).loc Cert.InIdeal.main_arg1))) {x2 : FVec Ideal Cert.InIdeal.S4x1024 .f32} (h2 : x2 = (m ((c.tc : Thread Cert.InIdeal.nD Cert.InIdeal.τ).loc Cert.InIdeal.main_arg2))) {x3 : FVec Ideal Cert.InIdeal.S2x6x1024 .f32} (h3 : x3 = (m ((c.tc : Thread Cert.InIdeal.nD Cert.InIdeal.τ).loc Cert.InIdeal.main_arg3))) {x4 : FVec Ideal Cert.InIdeal.S2x3x1024x1024 .f32} (h4 : x4 = (m ((c.tc : Thread Cert.InIdeal.nD Cert.InIdeal.τ).loc Cert.InIdeal.main_arg4))) {x8 : FVec Ideal Cert.InIdeal.S2x1024 .f32} (h8 : x8 = (m ((c.tc : Thread Cert.InIdeal.nD Cert.InIdeal.τ).loc Cert.InIdeal.main_arg8))) {x9 : FVec Ideal Cert.InIdeal.S2x1024x64 .f32} (h9 : x9 = (m ((c.tc : Thread Cert.InIdeal.nD Cert.InIdeal.τ).loc Cert.InIdeal.main_arg9))) {x10 : FVec Ideal Cert.InIdeal.S2x64x1024 .f32} (h10 : x10 = (m ((c.tc : Thread Cert.InIdeal.nD Cert.InIdeal.τ).loc Cert.InIdeal.main_arg10))) {x11 : FVec Ideal Cert.InIdeal.S1x1024 .f32} (h11 : x11 = (m ((c.tc : Thread Cert.InIdeal.nD Cert.InIdeal.τ).loc Cert.InIdeal.main_arg11))) {x12 : FVec Ideal Cert.InIdeal.S1x1024x32 .f32} (h12 : x12 = (m ((c.tc : Thread Cert.InIdeal.nD Cert.InIdeal.τ).loc Cert.InIdeal.main_arg12))) {x13 : FVec Ideal Cert.InIdeal.S1x32x1024 .f32} (h13 : x13 = (m ((c.tc : Thread Cert.InIdeal.nD Cert.InIdeal.τ).loc Cert.InIdeal.main_arg13))) {x14 : FVec Ideal Cert.InIdeal.S2x1024x128 .f32} (h14 : x14 = (m ((c.tc : Thread Cert.InIdeal.nD Cert.InIdeal.τ).loc Cert.InIdeal.main_arg14))) {x15 : FVec Ideal Cert.InIdeal.S2x128x1024 .f32} (h15 : x15 = (m ((c.tc : Thread Cert.InIdeal.nD Cert.InIdeal.τ).loc Cert.InIdeal.main_arg15))) {x16 : FVec Ideal Cert.InIdeal.S2x1024 .f32} (h16 : x16 = (m ((c.tc : Thread Cert.InIdeal.nD Cert.InIdeal.τ).loc Cert.InIdeal.main_arg16))) {x17 : FVec Ideal Cert.InIdeal.S2x1024 .f32} (h17 : x17 = (m ((c.tc : Thread Cert.InIdeal.nD Cert.InIdeal.τ).loc Cert.InIdeal.main_arg17))) {x18 : FVec Ideal Cert.InIdeal.S2x16x64 .f32} (h18 : x18 = (m ((c.tc : Thread Cert.InIdeal.nD Cert.InIdeal.τ).loc Cert.InIdeal.main_arg18))) :
    Cert.InRefIdeal.Read.val_main_v131 (F := Ideal) x0 x1 x2 x3 x4 x11 x12 x13 = Cert.InIdeal.Layer.result m (e := .f32) Proj.v c := by
  refine funext fun i => ?_
  obtain ⟨n, j, rfl⟩ : ∃ (n : Fin 32768) (j : Fin 1024), i = ix2 n j := ⟨i 0, i 1, eq_ix2 i⟩
  refine (Cert.InRefIdeal.Layer.out_v x0 x1 x2 x3 x4 x8 x9 x10 x11 x12 x13 x14 x15 x16 x17 x18 n j).trans ?_
  subst h0 h1 h2 h3 h4 h8 h9 h10 h11 h12 h13 h14 h15 h16 h17 h18
  rfl

/-- The reference's result unit on the same arrays is the kernel's. -/
theorem same_unit (c : Dev Cert.InIdeal.nD) {x0 : FVec Ideal Cert.InIdeal.S2x16384x1024 .f32} (h0 : x0 = (m ((c.tc : Thread Cert.InIdeal.nD Cert.InIdeal.τ).loc Cert.InIdeal.main_arg0))) {x1 : FVec Ideal Cert.InIdeal.S2x16384x1024 .f32} (h1 : x1 = (m ((c.tc : Thread Cert.InIdeal.nD Cert.InIdeal.τ).loc Cert.InIdeal.main_arg1))) {x2 : FVec Ideal Cert.InIdeal.S4x1024 .f32} (h2 : x2 = (m ((c.tc : Thread Cert.InIdeal.nD Cert.InIdeal.τ).loc Cert.InIdeal.main_arg2))) {x3 : FVec Ideal Cert.InIdeal.S2x6x1024 .f32} (h3 : x3 = (m ((c.tc : Thread Cert.InIdeal.nD Cert.InIdeal.τ).loc Cert.InIdeal.main_arg3))) {x4 : FVec Ideal Cert.InIdeal.S2x3x1024x1024 .f32} (h4 : x4 = (m ((c.tc : Thread Cert.InIdeal.nD Cert.InIdeal.τ).loc Cert.InIdeal.main_arg4))) {x8 : FVec Ideal Cert.InIdeal.S2x1024 .f32} (h8 : x8 = (m ((c.tc : Thread Cert.InIdeal.nD Cert.InIdeal.τ).loc Cert.InIdeal.main_arg8))) {x9 : FVec Ideal Cert.InIdeal.S2x1024x64 .f32} (h9 : x9 = (m ((c.tc : Thread Cert.InIdeal.nD Cert.InIdeal.τ).loc Cert.InIdeal.main_arg9))) {x10 : FVec Ideal Cert.InIdeal.S2x64x1024 .f32} (h10 : x10 = (m ((c.tc : Thread Cert.InIdeal.nD Cert.InIdeal.τ).loc Cert.InIdeal.main_arg10))) {x11 : FVec Ideal Cert.InIdeal.S1x1024 .f32} (h11 : x11 = (m ((c.tc : Thread Cert.InIdeal.nD Cert.InIdeal.τ).loc Cert.InIdeal.main_arg11))) {x12 : FVec Ideal Cert.InIdeal.S1x1024x32 .f32} (h12 : x12 = (m ((c.tc : Thread Cert.InIdeal.nD Cert.InIdeal.τ).loc Cert.InIdeal.main_arg12))) {x13 : FVec Ideal Cert.InIdeal.S1x32x1024 .f32} (h13 : x13 = (m ((c.tc : Thread Cert.InIdeal.nD Cert.InIdeal.τ).loc Cert.InIdeal.main_arg13))) {x14 : FVec Ideal Cert.InIdeal.S2x1024x128 .f32} (h14 : x14 = (m ((c.tc : Thread Cert.InIdeal.nD Cert.InIdeal.τ).loc Cert.InIdeal.main_arg14))) {x15 : FVec Ideal Cert.InIdeal.S2x128x1024 .f32} (h15 : x15 = (m ((c.tc : Thread Cert.InIdeal.nD Cert.InIdeal.τ).loc Cert.InIdeal.main_arg15))) {x16 : FVec Ideal Cert.InIdeal.S2x1024 .f32} (h16 : x16 = (m ((c.tc : Thread Cert.InIdeal.nD Cert.InIdeal.τ).loc Cert.InIdeal.main_arg16))) {x17 : FVec Ideal Cert.InIdeal.S2x1024 .f32} (h17 : x17 = (m ((c.tc : Thread Cert.InIdeal.nD Cert.InIdeal.τ).loc Cert.InIdeal.main_arg17))) {x18 : FVec Ideal Cert.InIdeal.S2x16x64 .f32} (h18 : x18 = (m ((c.tc : Thread Cert.InIdeal.nD Cert.InIdeal.τ).loc Cert.InIdeal.main_arg18))) :
    Cert.InRefIdeal.Read.val_main_v132 (F := Ideal) x0 x2 x3 x4 x16 = Cert.InIdeal.Layer.result m (e := .f32) Proj.unit c := by
  refine funext fun i => ?_
  obtain ⟨n, j, rfl⟩ : ∃ (n : Fin 32768) (j : Fin 1024), i = ix2 n j := ⟨i 0, i 1, eq_ix2 i⟩
  refine (Cert.InRefIdeal.Layer.out_unit x0 x1 x2 x3 x4 x8 x9 x10 x11 x12 x13 x14 x15 x16 x17 x18 n j).trans ?_
  subst h0 h1 h2 h3 h4 h8 h9 h10 h11 h12 h13 h14 h15 h16 h17 h18
  rfl

/-- The reference's result add on the same arrays is the kernel's. -/
theorem same_add (c : Dev Cert.InIdeal.nD) {x0 : FVec Ideal Cert.InIdeal.S2x16384x1024 .f32} (h0 : x0 = (m ((c.tc : Thread Cert.InIdeal.nD Cert.InIdeal.τ).loc Cert.InIdeal.main_arg0))) {x1 : FVec Ideal Cert.InIdeal.S2x16384x1024 .f32} (h1 : x1 = (m ((c.tc : Thread Cert.InIdeal.nD Cert.InIdeal.τ).loc Cert.InIdeal.main_arg1))) {x2 : FVec Ideal Cert.InIdeal.S4x1024 .f32} (h2 : x2 = (m ((c.tc : Thread Cert.InIdeal.nD Cert.InIdeal.τ).loc Cert.InIdeal.main_arg2))) {x3 : FVec Ideal Cert.InIdeal.S2x6x1024 .f32} (h3 : x3 = (m ((c.tc : Thread Cert.InIdeal.nD Cert.InIdeal.τ).loc Cert.InIdeal.main_arg3))) {x4 : FVec Ideal Cert.InIdeal.S2x3x1024x1024 .f32} (h4 : x4 = (m ((c.tc : Thread Cert.InIdeal.nD Cert.InIdeal.τ).loc Cert.InIdeal.main_arg4))) {x8 : FVec Ideal Cert.InIdeal.S2x1024 .f32} (h8 : x8 = (m ((c.tc : Thread Cert.InIdeal.nD Cert.InIdeal.τ).loc Cert.InIdeal.main_arg8))) {x9 : FVec Ideal Cert.InIdeal.S2x1024x64 .f32} (h9 : x9 = (m ((c.tc : Thread Cert.InIdeal.nD Cert.InIdeal.τ).loc Cert.InIdeal.main_arg9))) {x10 : FVec Ideal Cert.InIdeal.S2x64x1024 .f32} (h10 : x10 = (m ((c.tc : Thread Cert.InIdeal.nD Cert.InIdeal.τ).loc Cert.InIdeal.main_arg10))) {x11 : FVec Ideal Cert.InIdeal.S1x1024 .f32} (h11 : x11 = (m ((c.tc : Thread Cert.InIdeal.nD Cert.InIdeal.τ).loc Cert.InIdeal.main_arg11))) {x12 : FVec Ideal Cert.InIdeal.S1x1024x32 .f32} (h12 : x12 = (m ((c.tc : Thread Cert.InIdeal.nD Cert.InIdeal.τ).loc Cert.InIdeal.main_arg12))) {x13 : FVec Ideal Cert.InIdeal.S1x32x1024 .f32} (h13 : x13 = (m ((c.tc : Thread Cert.InIdeal.nD Cert.InIdeal.τ).loc Cert.InIdeal.main_arg13))) {x14 : FVec Ideal Cert.InIdeal.S2x1024x128 .f32} (h14 : x14 = (m ((c.tc : Thread Cert.InIdeal.nD Cert.InIdeal.τ).loc Cert.InIdeal.main_arg14))) {x15 : FVec Ideal Cert.InIdeal.S2x128x1024 .f32} (h15 : x15 = (m ((c.tc : Thread Cert.InIdeal.nD Cert.InIdeal.τ).loc Cert.InIdeal.main_arg15))) {x16 : FVec Ideal Cert.InIdeal.S2x1024 .f32} (h16 : x16 = (m ((c.tc : Thread Cert.InIdeal.nD Cert.InIdeal.τ).loc Cert.InIdeal.main_arg16))) {x17 : FVec Ideal Cert.InIdeal.S2x1024 .f32} (h17 : x17 = (m ((c.tc : Thread Cert.InIdeal.nD Cert.InIdeal.τ).loc Cert.InIdeal.main_arg17))) {x18 : FVec Ideal Cert.InIdeal.S2x16x64 .f32} (h18 : x18 = (m ((c.tc : Thread Cert.InIdeal.nD Cert.InIdeal.τ).loc Cert.InIdeal.main_arg18))) :
    Cert.InRefIdeal.Read.val_main_v133 (F := Ideal) x0 x2 x3 x4 x8 x9 x10 x16 = Cert.InIdeal.Layer.result m (e := .f32) Proj.add c := by
  refine funext fun i => ?_
  obtain ⟨n, j, rfl⟩ : ∃ (n : Fin 32768) (j : Fin 1024), i = ix2 n j := ⟨i 0, i 1, eq_ix2 i⟩
  refine (Cert.InRefIdeal.Layer.out_add x0 x1 x2 x3 x4 x8 x9 x10 x11 x12 x13 x14 x15 x16 x17 x18 n j).trans ?_
  subst h0 h1 h2 h3 h4 h8 h9 h10 h11 h12 h13 h14 h15 h16 h17 h18
  rfl

/-- The reference's result gate on the same arrays is the kernel's. -/
theorem same_gate (c : Dev Cert.InIdeal.nD) {x0 : FVec Ideal Cert.InIdeal.S2x16384x1024 .f32} (h0 : x0 = (m ((c.tc : Thread Cert.InIdeal.nD Cert.InIdeal.τ).loc Cert.InIdeal.main_arg0))) {x1 : FVec Ideal Cert.InIdeal.S2x16384x1024 .f32} (h1 : x1 = (m ((c.tc : Thread Cert.InIdeal.nD Cert.InIdeal.τ).loc Cert.InIdeal.main_arg1))) {x2 : FVec Ideal Cert.InIdeal.S4x1024 .f32} (h2 : x2 = (m ((c.tc : Thread Cert.InIdeal.nD Cert.InIdeal.τ).loc Cert.InIdeal.main_arg2))) {x3 : FVec Ideal Cert.InIdeal.S2x6x1024 .f32} (h3 : x3 = (m ((c.tc : Thread Cert.InIdeal.nD Cert.InIdeal.τ).loc Cert.InIdeal.main_arg3))) {x4 : FVec Ideal Cert.InIdeal.S2x3x1024x1024 .f32} (h4 : x4 = (m ((c.tc : Thread Cert.InIdeal.nD Cert.InIdeal.τ).loc Cert.InIdeal.main_arg4))) {x8 : FVec Ideal Cert.InIdeal.S2x1024 .f32} (h8 : x8 = (m ((c.tc : Thread Cert.InIdeal.nD Cert.InIdeal.τ).loc Cert.InIdeal.main_arg8))) {x9 : FVec Ideal Cert.InIdeal.S2x1024x64 .f32} (h9 : x9 = (m ((c.tc : Thread Cert.InIdeal.nD Cert.InIdeal.τ).loc Cert.InIdeal.main_arg9))) {x10 : FVec Ideal Cert.InIdeal.S2x64x1024 .f32} (h10 : x10 = (m ((c.tc : Thread Cert.InIdeal.nD Cert.InIdeal.τ).loc Cert.InIdeal.main_arg10))) {x11 : FVec Ideal Cert.InIdeal.S1x1024 .f32} (h11 : x11 = (m ((c.tc : Thread Cert.InIdeal.nD Cert.InIdeal.τ).loc Cert.InIdeal.main_arg11))) {x12 : FVec Ideal Cert.InIdeal.S1x1024x32 .f32} (h12 : x12 = (m ((c.tc : Thread Cert.InIdeal.nD Cert.InIdeal.τ).loc Cert.InIdeal.main_arg12))) {x13 : FVec Ideal Cert.InIdeal.S1x32x1024 .f32} (h13 : x13 = (m ((c.tc : Thread Cert.InIdeal.nD Cert.InIdeal.τ).loc Cert.InIdeal.main_arg13))) {x14 : FVec Ideal Cert.InIdeal.S2x1024x128 .f32} (h14 : x14 = (m ((c.tc : Thread Cert.InIdeal.nD Cert.InIdeal.τ).loc Cert.InIdeal.main_arg14))) {x15 : FVec Ideal Cert.InIdeal.S2x128x1024 .f32} (h15 : x15 = (m ((c.tc : Thread Cert.InIdeal.nD Cert.InIdeal.τ).loc Cert.InIdeal.main_arg15))) {x16 : FVec Ideal Cert.InIdeal.S2x1024 .f32} (h16 : x16 = (m ((c.tc : Thread Cert.InIdeal.nD Cert.InIdeal.τ).loc Cert.InIdeal.main_arg16))) {x17 : FVec Ideal Cert.InIdeal.S2x1024 .f32} (h17 : x17 = (m ((c.tc : Thread Cert.InIdeal.nD Cert.InIdeal.τ).loc Cert.InIdeal.main_arg17))) {x18 : FVec Ideal Cert.InIdeal.S2x16x64 .f32} (h18 : x18 = (m ((c.tc : Thread Cert.InIdeal.nD Cert.InIdeal.τ).loc Cert.InIdeal.main_arg18))) :
    Cert.InRefIdeal.Read.val_main_v135 (F := Ideal) x0 x2 x3 x14 x15 = Cert.InIdeal.Layer.result m (e := .bf16) Proj.gate c := by
  refine funext fun i => ?_
  obtain ⟨n, j, rfl⟩ : ∃ (n : Fin 32768) (j : Fin 1024), i = ix2 n j := ⟨i 0, i 1, eq_ix2 i⟩
  refine (Cert.InRefIdeal.Layer.out_gate x0 x1 x2 x3 x4 x8 x9 x10 x11 x12 x13 x14 x15 x16 x17 x18 n j).trans ?_
  subst h0 h1 h2 h3 h4 h8 h9 h10 h11 h12 h13 h14 h15 h16 h17 h18
  rfl

/-- The reference's result bonus on the same arrays is the kernel's. -/
theorem same_bonus (c : Dev Cert.InIdeal.nD) {x0 : FVec Ideal Cert.InIdeal.S2x16384x1024 .f32} (h0 : x0 = (m ((c.tc : Thread Cert.InIdeal.nD Cert.InIdeal.τ).loc Cert.InIdeal.main_arg0))) {x1 : FVec Ideal Cert.InIdeal.S2x16384x1024 .f32} (h1 : x1 = (m ((c.tc : Thread Cert.InIdeal.nD Cert.InIdeal.τ).loc Cert.InIdeal.main_arg1))) {x2 : FVec Ideal Cert.InIdeal.S4x1024 .f32} (h2 : x2 = (m ((c.tc : Thread Cert.InIdeal.nD Cert.InIdeal.τ).loc Cert.InIdeal.main_arg2))) {x3 : FVec Ideal Cert.InIdeal.S2x6x1024 .f32} (h3 : x3 = (m ((c.tc : Thread Cert.InIdeal.nD Cert.InIdeal.τ).loc Cert.InIdeal.main_arg3))) {x4 : FVec Ideal Cert.InIdeal.S2x3x1024x1024 .f32} (h4 : x4 = (m ((c.tc : Thread Cert.InIdeal.nD Cert.InIdeal.τ).loc Cert.InIdeal.main_arg4))) {x8 : FVec Ideal Cert.InIdeal.S2x1024 .f32} (h8 : x8 = (m ((c.tc : Thread Cert.InIdeal.nD Cert.InIdeal.τ).loc Cert.InIdeal.main_arg8))) {x9 : FVec Ideal Cert.InIdeal.S2x1024x64 .f32} (h9 : x9 = (m ((c.tc : Thread Cert.InIdeal.nD Cert.InIdeal.τ).loc Cert.InIdeal.main_arg9))) {x10 : FVec Ideal Cert.InIdeal.S2x64x1024 .f32} (h10 : x10 = (m ((c.tc : Thread Cert.InIdeal.nD Cert.InIdeal.τ).loc Cert.InIdeal.main_arg10))) {x11 : FVec Ideal Cert.InIdeal.S1x1024 .f32} (h11 : x11 = (m ((c.tc : Thread Cert.InIdeal.nD Cert.InIdeal.τ).loc Cert.InIdeal.main_arg11))) {x12 : FVec Ideal Cert.InIdeal.S1x1024x32 .f32} (h12 : x12 = (m ((c.tc : Thread Cert.InIdeal.nD Cert.InIdeal.τ).loc Cert.InIdeal.main_arg12))) {x13 : FVec Ideal Cert.InIdeal.S1x32x1024 .f32} (h13 : x13 = (m ((c.tc : Thread Cert.InIdeal.nD Cert.InIdeal.τ).loc Cert.InIdeal.main_arg13))) {x14 : FVec Ideal Cert.InIdeal.S2x1024x128 .f32} (h14 : x14 = (m ((c.tc : Thread Cert.InIdeal.nD Cert.InIdeal.τ).loc Cert.InIdeal.main_arg14))) {x15 : FVec Ideal Cert.InIdeal.S2x128x1024 .f32} (h15 : x15 = (m ((c.tc : Thread Cert.InIdeal.nD Cert.InIdeal.τ).loc Cert.InIdeal.main_arg15))) {x16 : FVec Ideal Cert.InIdeal.S2x1024 .f32} (h16 : x16 = (m ((c.tc : Thread Cert.InIdeal.nD Cert.InIdeal.τ).loc Cert.InIdeal.main_arg16))) {x17 : FVec Ideal Cert.InIdeal.S2x1024 .f32} (h17 : x17 = (m ((c.tc : Thread Cert.InIdeal.nD Cert.InIdeal.τ).loc Cert.InIdeal.main_arg17))) {x18 : FVec Ideal Cert.InIdeal.S2x16x64 .f32} (h18 : x18 = (m ((c.tc : Thread Cert.InIdeal.nD Cert.InIdeal.τ).loc Cert.InIdeal.main_arg18))) :
    Cert.InRefIdeal.Read.val_main_v137 (F := Ideal) x0 x1 x2 x3 x4 x8 x9 x10 x11 x12 x13 x17 x18 = Cert.InIdeal.Layer.result m (e := .bf16) Proj.bonus c := by
  refine funext fun i => ?_
  obtain ⟨n, j, rfl⟩ : ∃ (n : Fin 32768) (j : Fin 1024), i = ix2 n j := ⟨i 0, i 1, eq_ix2 i⟩
  refine (Cert.InRefIdeal.Layer.out_bonus x0 x1 x2 x3 x4 x8 x9 x10 x11 x12 x13 x14 x15 x16 x17 x18 n j).trans ?_
  subst h0 h1 h2 h3 h4 h8 h9 h10 h11 h12 h13 h14 h15 h16 h17 h18
  rfl

/-- The kernel and its reference leave the same arrays. -/
theorem algebraic : Cert.algebraic_InIdeal_InRefIdeal := by
  intro m g m' g' _ hagree
  refine ⟨fun c => Cert.InIdeal.Layer.result m (e := .f32) Proj.r c, fun c => Cert.InIdeal.Layer.result m (e := .f32) Proj.k c, fun c => Cert.InIdeal.Layer.result m (e := .f32) Proj.v c, fun c => Cert.InIdeal.Layer.result m (e := .f32) Proj.unit c, fun c => Cert.InIdeal.Layer.result m (e := .f32) Proj.add c, fun c => Cert.InIdeal.Layer.result m (e := .bf16) Proj.gate c, fun c => Cert.InIdeal.Layer.result m (e := .bf16) Proj.bonus c, ?_, ?_⟩
  · exact θ_run_mono (θ_run_and (kernel_run m g) (Cert.InIdeal.Layer.unchanged m g)) (fun r h c => ⟨(h.1 c).1, (h.1 c).2.1, (h.1 c).2.2.1, (h.1 c).2.2.2.1, (h.1 c).2.2.2.2.1, (h.1 c).2.2.2.2.2.1, (h.1 c).2.2.2.2.2.2, h.2 c⟩)
  · refine θ_run_mono (Cert.InRefIdeal.Value.run m' g') (fun r h c => ?_)
    obtain ⟨h0, h1, h2, h3, h4, h5, h6, h7, h8, h9, h10, h11, h12, h13, h14, h15, h16, h17, h18⟩ := hagree c
    obtain ⟨r0, r1, r2, r3, r4, r5, r6, hr⟩ := h c
    exact ⟨r0.trans ((Cert.InRefIdeal.Read.val_main_v129_eq m' c).trans (same_r m c h0 h1 h2 h3 h4 h8 h9 h10 h11 h12 h13 h14 h15 h16 h17 h18)),
      r1.trans ((Cert.InRefIdeal.Read.val_main_v130_eq m' c).trans (same_k m c h0 h1 h2 h3 h4 h8 h9 h10 h11 h12 h13 h14 h15 h16 h17 h18)),
      r2.trans ((Cert.InRefIdeal.Read.val_main_v131_eq m' c).trans (same_v m c h0 h1 h2 h3 h4 h8 h9 h10 h11 h12 h13 h14 h15 h16 h17 h18)),
      r3.trans ((Cert.InRefIdeal.Read.val_main_v132_eq m' c).trans (same_unit m c h0 h1 h2 h3 h4 h8 h9 h10 h11 h12 h13 h14 h15 h16 h17 h18)),
      r4.trans ((Cert.InRefIdeal.Read.val_main_v133_eq m' c).trans (same_add m c h0 h1 h2 h3 h4 h8 h9 h10 h11 h12 h13 h14 h15 h16 h17 h18)),
      r5.trans ((Cert.InRefIdeal.Read.val_main_v135_eq m' c).trans (same_gate m c h0 h1 h2 h3 h4 h8 h9 h10 h11 h12 h13 h14 h15 h16 h17 h18)),
      r6.trans ((Cert.InRefIdeal.Read.val_main_v137_eq m' c).trans (same_bonus m c h0 h1 h2 h3 h4 h8 h9 h10 h11 h12 h13 h14 h15 h16 h17 h18)), hr⟩

/-- The reference's frame. -/
theorem frame_ref : Cert.quiescent_InRefIdeal := fun m ρ _ =>
  (θ_run Cert.InRefIdeal.defs _ _).mono (fun r h => ⟨fun c => (h c).2.2.2.2.2.2.2, sem_eq_zero_of_no_sems (by decide) r.2⟩)
    (Cert.InRefIdeal.Value.run (F := Ideal) m ρ)

end Cert.In.Claims

end
-- ==== Proof.MidHeads.lean ====
/- The sums over the lanes of one head: the kernel lays the eight 128-lane tiles of a block under one another, multiplies
   by a 128×128 matrix and lays the results side by side again. -/
module

public import proofs.«01_k».proof.Proof.Rows
public import proofs.«01_k».proof.Proof.Gen.MidIdeal.Value

@[expose] public section

set_option maxRecDepth 16384

noncomputable section

namespace Cert.MidIdeal.Layer

open Cert.MidIdeal Cert.MidIdeal.Gen Idealize.ShloMosaic Idealize.ShloMosaic.TcCoe Idealize.SL.Sem
open Cert.Rows

/-- The eight tiles of a block, one under the other. -/
def stack (x : FVec Ideal S256x1024 .f32) : FVec Ideal S2048x128 .f32 :=
  concatenate S2048x128 0 [⟨S256x128, extractStridedSlice S256x128 ![0, 0] x slices_S256x1024_o0_0_S256x128⟩, ⟨S256x128, extractStridedSlice S256x128 ![0, 128] x slices_S256x1024_o0_128_S256x128⟩, ⟨S256x128, extractStridedSlice S256x128 ![0, 256] x slices_S256x1024_o0_256_S256x128⟩, ⟨S256x128, extractStridedSlice S256x128 ![0, 384] x slices_S256x1024_o0_384_S256x128⟩, ⟨S256x128, extractStridedSlice S256x128 ![0, 512] x slices_S256x1024_o0_512_S256x128⟩, ⟨S256x128, extractStridedSlice S256x128 ![0, 640] x slices_S256x1024_o0_640_S256x128⟩, ⟨S256x128, extractStridedSlice S256x128 ![0, 768] x slices_S256x1024_o0_768_S256x128⟩, ⟨S256x128, extractStridedSlice S256x128 ![0, 896] x slices_S256x1024_o0_896_S256x128⟩] concatenates_S256x128_S256x128_S256x128_S256x128_S256x128_S256x128_S256x128_S256x128_S2048x128_d0

/-- Eight row groups, side by side. -/
def unstack (x : FVec Ideal S2048x128 .f32) : FVec Ideal S256x1024 .f32 :=
  concatenate S256x1024 1 [⟨S256x128, extractStridedSlice S256x128 ![0, 0] x slices_S2048x128_o0_0_S256x128⟩, ⟨S256x128, extractStridedSlice S256x128 ![256, 0] x slices_S2048x128_o256_0_S256x128⟩, ⟨S256x128, extractStridedSlice S256x128 ![512, 0] x slices_S2048x128_o512_0_S256x128⟩, ⟨S256x128, extractStridedSlice S256x128 ![768, 0] x slices_S2048x128_o768_0_S256x128⟩, ⟨S256x128, extractStridedSlice S256x128 ![1024, 0] x slices_S2048x128_o1024_0_S256x128⟩, ⟨S256x128, extractStridedSlice S256x128 ![1280, 0] x slices_S2048x128_o1280_0_S256x128⟩, ⟨S256x128, extractStridedSlice S256x128 ![1536, 0] x slices_S2048x128_o1536_0_S256x128⟩, ⟨S256x128, extractStridedSlice S256x128 ![1792, 0] x slices_S2048x128_o1792_0_S256x128⟩] concatenates_S256x128_S256x128_S256x128_S256x128_S256x128_S256x128_S256x128_S256x128_S256x1024_d1

/-- An entry of the stacked tiles. -/
theorem stack_at (x : FVec Ideal S256x1024 .f32) (j : Fin 8) (a : Fin 256) (c : Fin 128) :
    stack x (ix2 ⟨256 * j.val + a.val, by omega⟩ c) = x (ix2 a ⟨128 * j.val + c.val, by omega⟩) := by
  refine (concatenate_ofFn_apply (t := S2048x128) (s₁ := S256x128) 0 ![extractStridedSlice S256x128 ![0, 0] x slices_S256x1024_o0_0_S256x128, extractStridedSlice S256x128 ![0, 128] x slices_S256x1024_o0_128_S256x128, extractStridedSlice S256x128 ![0, 256] x slices_S256x1024_o0_256_S256x128, extractStridedSlice S256x128 ![0, 384] x slices_S256x1024_o0_384_S256x128, extractStridedSlice S256x128 ![0, 512] x slices_S256x1024_o0_512_S256x128, extractStridedSlice S256x128 ![0, 640] x slices_S256x1024_o0_640_S256x128, extractStridedSlice S256x128 ![0, 768] x slices_S256x1024_o0_768_S256x128, extractStridedSlice S256x128 ![0, 896] x slices_S256x1024_o0_896_S256x128] _ rfl 256 rfl _ j ?_ (ix2 a c) ?_ ?_).trans ?_
  · show (256 * j.val + a.val) / 256 = j.val
    omega
  · show a.val = (256 * j.val + a.val) % 256
    omega
  · intro b hb
    match b with
    | ⟨0, _⟩ => exact absurd rfl hb
    | ⟨1, _⟩ => rfl
  · fin_vals j with hj
    all_goals
      obtain rfl : j = ⟨_, by decide⟩ := Fin.ext hj
      simp only [Matrix.cons_val]
      pointwise

/-- An entry of the rows laid side by side. -/
theorem unstack_at (x : FVec Ideal S2048x128 .f32) (j : Fin 8) (a : Fin 256) (c : Fin 128) :
    unstack x (ix2 a ⟨128 * j.val + c.val, by omega⟩) = x (ix2 ⟨256 * j.val + a.val, by omega⟩ c) := by
  refine (concatenate_ofFn_apply (t := S256x1024) (s₁ := S256x128) 1 ![extractStridedSlice S256x128 ![0, 0] x slices_S2048x128_o0_0_S256x128, extractStridedSlice S256x128 ![256, 0] x slices_S2048x128_o256_0_S256x128, extractStridedSlice S256x128 ![512, 0] x slices_S2048x128_o512_0_S256x128, extractStridedSlice S256x128 ![768, 0] x slices_S2048x128_o768_0_S256x128, extractStridedSlice S256x128 ![1024, 0] x slices_S2048x128_o1024_0_S256x128, extractStridedSlice S256x128 ![1280, 0] x slices_S2048x128_o1280_0_S256x128, extractStridedSlice S256x128 ![1536, 0] x slices_S2048x128_o1536_0_S256x128, extractStridedSlice S256x128 ![1792, 0] x slices_S2048x128_o1792_0_S256x128] _ rfl 128 rfl _ j ?_ (ix2 a c) ?_ ?_).trans ?_
  · show (128 * j.val + c.val) / 128 = j.val
    omega
  · show c.val = (128 * j.val + c.val) % 128
    omega
  · intro b hb
    match b with
    | ⟨0, _⟩ => rfl
    | ⟨1, _⟩ => exact absurd rfl hb
  · fin_vals j with hj
    all_goals
      obtain rfl : j = ⟨_, by decide⟩ := Fin.ext hj
      simp only [Matrix.cons_val]
      pointwise

/-- The sums within the heads of 256 rows, as the kernel takes them. -/
def hsum (x : FVec Ideal S256x1024 .f32) (o : FVec Ideal S128x128 .bf16) : FVec Ideal S256x1024 .f32 :=
  unstack (matmul dot_S2048x128_S128x128_S2048x128_1_0_0_1_n_n none (truncf .bf16 (stack x) bitsLt_bf16_f32 : FVec Ideal S2048x128 .bf16)
    (shapeCast S128x128 o shapeCasts_S128x128_S128x128) (constant S2048x128 .f32 0x00000000#32))

/-- A sum within a head, in one tile of the block. -/
theorem hsum_group (x : FVec Ideal S256x1024 .f32) (o : FVec Ideal S128x128 .bf16) (j : Fin 8) (a : Fin 256) (c : Fin 128) :
    hsum x o (ix2 a ⟨128 * j.val + c.val, by omega⟩) = ∑ k : Fin 128, x (ix2 a ⟨128 * j.val + k.val, by omega⟩) * o (ix2 k c) := by
  rw [hsum, unstack_at]
  pointwise [stack_at]

/-- A sum within a head, at any lane of the block. -/
theorem hsum_at (x : FVec Ideal S256x1024 .f32) (o : FVec Ideal S128x128 .bf16) (a : Fin 256) (j : Fin 1024) :
    hsum x o (ix2 a j) = laneSum (fun k c => o (ix2 k c)) (fun k => x (ix2 a k)) j := by
  refine Eq.trans ?_ (hsum_group x o ⟨j.val / 128, by omega⟩ a ⟨j.val % 128, Nat.mod_lt _ (by decide)⟩)
  exact congrArg (fun j => hsum x o (ix2 a j)) (Fin.ext (by show j.val = 128 * (j.val / 128) + j.val % 128; omega))

end Cert.MidIdeal.Layer

end
-- ==== Proof.MidValue.lean ====
/- The middle call on one step: what it leaves in the output block, over the blocks it is given. -/
module

public import proofs.«01_k».proof.Proof.MidHeads
public import proofs.«01_k».proof.Proof.Gen.MidIdeal.Value
public import Idealize.ShloMosaic.Lib.Pipeline.ValueKit
public import Idealize.ShloMosaic.Lib.Claim

@[expose] public section

set_option maxRecDepth 16384

noncomputable section

namespace Cert.MidIdeal.Layer

open Cert.MidIdeal Cert.MidIdeal.Gen Idealize.ShloMosaic Idealize.ShloMosaic.TcCoe Idealize.SL.Sem
open Idealize.ShloMosaic.Pipeline (Dat)
open Cert.Rows

/-- The kernel's mean of a row over each head. -/
def kmean (o : Fin 128 → Fin 128 → EReal) (y : Fin 1024 → EReal) (k : Fin 1024) : EReal :=
  laneSum o y k * Ideal.ofBits .f32 0x3C800000#32

/-- The means within the heads of 256 rows. -/
def vmean (y : FVec Ideal S256x1024 .f32) (o : FVec Ideal S128x128 .bf16) : FVec Ideal S256x1024 .f32 :=
  mulf (hsum y o) (broadcast S256x1024 (Scalar.ofBits .f32 0x3C800000#32))

/-- A mean of the block is the row's mean. -/
theorem vmean_at (y : FVec Ideal S256x1024 .f32) (o : FVec Ideal S128x128 .bf16) (a : Fin 256) (k : Fin 1024) :
    vmean y o (ix2 a k) = kmean (fun k c => o (ix2 k c)) (fun k => y (ix2 a k)) k := by
  pointwise [vmean, hsum_at, kmean]

/-- 256 rows without the means within their heads. -/
def vdev (y : FVec Ideal S256x1024 .f32) (o : FVec Ideal S128x128 .bf16) : FVec Ideal S256x1024 .f32 := subf y (vmean y o)

/-- An entry of the block without the means. -/
theorem vdev_at (y : FVec Ideal S256x1024 .f32) (o : FVec Ideal S128x128 .bf16) (a : Fin 256) (k : Fin 1024) :
    vdev y o (ix2 a k) = dev (kmean (fun k c => o (ix2 k c))) (fun k => y (ix2 a k)) k := by
  pointwise [vdev, vmean_at, dev]

/-- The gated normalization of 256 rows. -/
def vgated (y : FVec Ideal S256x1024 .f32) (o : FVec Ideal S128x128 .bf16) (lg lb : FVec Ideal S1x1024 .f32) (bon gt : FVec Ideal S256x1024 .bf16) :
    FVec Ideal S256x1024 .bf16 :=
  k0_pay24 (vdev y o) (vmean (mulf (vdev y o) (vdev y o)) o) lg lb bon gt

/-- An entry of the gated normalization. -/
theorem vgated_at (y : FVec Ideal S256x1024 .f32) (o : FVec Ideal S128x128 .bf16) (lg lb : FVec Ideal S1x1024 .f32) (bon gt : FVec Ideal S256x1024 .bf16)
    (a : Fin 256) (k : Fin 1024) : vgated y o lg lb bon gt (ix2 a k)
      = gated (kmean (fun k c => o (ix2 k c))) (fun k => y (ix2 a k)) (fun k => lg (ix2 0 k)) (fun k => lb (ix2 0 k)) (fun k => bon (ix2 a k)) (fun k => gt (ix2 a k)) k := by
  pointwise [vgated, k0_pay24, vdev_at, vmean_at, gated]

variable (x0 : Vec Ideal S512x1024 .f32) (x1 x2 : Vec Ideal S512x1024 .bf16) (x3 : Vec Ideal S512x1024 .f32) (x4 x5 : Vec Ideal S1x1024 .f32)
  (x6 : Vec Ideal S1x1024x1024 .bf16) (x7 : Vec Ideal S128x128 .bf16) (x8 : Vec Ideal S1x1024 .f32) (x9 : Vec Ideal S1x1024x4096 .bf16)
  (x10 : Vec Ideal S1x4096x1024 .bf16) (x11 : Vec Ideal S1x1024 .f32)

/-- The payload of the upper half of the rows is the gated normalization of them. -/
theorem upper : k0_pay42 x0 x1 x2 x3 x4 x5 x6 x7 x8 x9 x10 x11
    = vgated (k0_pay2 (View.ld x0 r0_0)) (View.ld x7 r0_2) (View.ld x4 r0_3) (View.ld x5 r0_3) (View.ld x1 r0_0) (View.ld x2 r0_0) := rfl

/-- The payload of the lower half of the rows is the gated normalization of them. -/
theorem lower : k0_pay43 x0 x1 x2 x3 x4 x5 x6 x7 x8 x9 x10 x11
    = vgated (k0_pay3 (View.ld x0 r0_1)) (View.ld x7 r0_2) (View.ld x4 r0_3) (View.ld x5 r0_3) (View.ld x1 r0_1) (View.ld x2 r0_1) := rfl

/-- The projection and the skip connection, at an entry. -/
theorem proj_at (a : Fin 512) (r : Fin 1024) :
    k0_pay26 (k0_pay42 x0 x1 x2 x3 x4 x5 x6 x7 x8 x9 x10 x11) (k0_pay43 x0 x1 x2 x3 x4 x5 x6 x7 x8 x9 x10 x11) (View.ld x3 r0_0) x6 (View.ld x3 r0_1) x6 (ix2 a r)
      = proj (kmean fun k c => x7 (ix2 k c)) (fun k => x0 (ix2 a k)) (fun k => x4 (ix2 0 k)) (fun k => x5 (ix2 0 k)) (fun k => x1 (ix2 a k)) (fun k => x2 (ix2 a k))
          (fun k => x3 (ix2 a k)) (fun k r => x6 (ix3 0 k r)) r := by
  rw [upper, lower]
  rcases Nat.lt_or_ge a.val 256 with h | h
  · obtain ⟨b, rfl⟩ : ∃ b : Fin 256, a = ⟨b.val, b.isLt.trans (by decide)⟩ := ⟨⟨a.val, h⟩, rfl⟩
    pointwise [k0_pay26, vgated_at, proj, k0_pay2, r0_0, r0_1, r0_2, r0_3, r0_4]
  · obtain ⟨b, rfl⟩ : ∃ b : Fin 256, a = ⟨256 + b.val, Nat.add_lt_add_left b.isLt 256⟩ := ⟨⟨a.val - 256, by omega⟩, Fin.ext (by show a.val = 256 + (a.val - 256); omega)⟩
    pointwise [k0_pay26, vgated_at, proj, k0_pay3, r0_0, r0_1, r0_2, r0_3, r0_4]

/-- The normalization before the perceptron layer, at an entry. -/
theorem norm_at (a : Fin 512) (k : Fin 1024) :
    k0_pay27 (k0_pay42 x0 x1 x2 x3 x4 x5 x6 x7 x8 x9 x10 x11) (k0_pay43 x0 x1 x2 x3 x4 x5 x6 x7 x8 x9 x10 x11) (View.ld x3 r0_0) x6 (View.ld x3 r0_1) x6
      x8 (ix2 a k)
      = rms (proj (kmean fun k c => x7 (ix2 k c)) (fun k => x0 (ix2 a k)) (fun k => x4 (ix2 0 k)) (fun k => x5 (ix2 0 k)) (fun k => x1 (ix2 a k)) (fun k => x2 (ix2 a k))
          (fun k => x3 (ix2 a k)) (fun k r => x6 (ix3 0 k r))) (fun k => x8 (ix2 0 k)) k := by
  pointwise [k0_pay27, proj_at, rms, rmsScale, r0_3]

/-- The last quarter added to the others, at an entry. -/
theorem last_at (v200 : FVec Ideal S512x1024 .f32) (v207 : FVec Ideal S512x1024 .bf16) (v208 : Vec Ideal S1x1024x1024 .bf16)
    (a : Fin 512) (j : Fin 1024) : k0_pay1 v200 v207 v208 (ix2 a j) = v200 (ix2 a j) + ∑ k : Fin 1024, v207 (ix2 a k) * v208 (ix3 0 k j) := by
  pointwise [k0_pay1]

/-- The hidden units of one quarter, at an entry. -/
theorem unit_at (a : Fin 512) (k : Fin 1024) (v : Vec Ideal S1x1024x1024 .bf16) :
    k0_pay28 (k0_pay42 x0 x1 x2 x3 x4 x5 x6 x7 x8 x9 x10 x11) (k0_pay43 x0 x1 x2 x3 x4 x5 x6 x7 x8 x9 x10 x11) (View.ld x3 r0_0) x6 (View.ld x3 r0_1) x6
      x8 v (ix2 a k)
      = unit (rms (proj (kmean fun k c => x7 (ix2 k c)) (fun k => x0 (ix2 a k)) (fun k => x4 (ix2 0 k)) (fun k => x5 (ix2 0 k)) (fun k => x1 (ix2 a k)) (fun k => x2 (ix2 a k))
          (fun k => x3 (ix2 a k)) (fun k r => x6 (ix3 0 k r))) (fun k => x8 (ix2 0 k))) (fun l => v (ix3 0 l k)) := by
  pointwise [k0_pay28, norm_at, unit]

/-- The perceptron layer on a row whose projection and normalization are known. -/
theorem ffn_at (P : FVec Ideal S512x1024 .f32) (N U : FVec Ideal S512x1024 .bf16) (p : Fin 1024 → EReal) (n : Fin 1024 → EReal) (a : Fin 512) (hp : ∀ r, P (ix2 a r) = p r)
    (hn : ∀ k, N (ix2 a k) = n k) (hu : ∀ k, U (ix2 a k) = unit n (fun l => x9 (ix3 0 l ⟨k.val, by omega⟩))) (r : Fin 1024) :
    k0_pay29 P N U (View.ld x10 r0_6) (View.ld x9 r0_7) (View.ld x10 r0_8) (View.ld x9 r0_9) (View.ld x10 r0_10) (ix2 a r)
      + ∑ k : Fin 1024, k0_pay30 N (View.ld x9 r0_11) (ix2 a k) * View.ld x10 r0_12 (ix3 0 k r : S1x1024x1024.Idx)
    = p r + ∑ k, unit n (fun l => x9 (ix3 0 l k)) * x10 (ix3 0 k r) := by
  rw [sum_quarters, ← hp]
  pointwise [k0_pay29, k0_pay30, unit, hn, hu, r0_6, r0_7, r0_8, r0_9, r0_10, r0_11, r0_12]

/-- What one step leaves in the output block, at an entry. -/
theorem out_at (a : Fin 512) (j : Fin 1024) : out0_12 x0 x1 x2 x3 x4 x5 x6 x7 x8 x9 x10 x11 (ix2 a j)
    = ffn (proj (kmean fun k c => x7 (ix2 k c)) (fun k => x0 (ix2 a k)) (fun k => x4 (ix2 0 k)) (fun k => x5 (ix2 0 k)) (fun k => x1 (ix2 a k)) (fun k => x2 (ix2 a k))
          (fun k => x3 (ix2 a k)) (fun k r => x6 (ix3 0 k r))) (fun k => x8 (ix2 0 k)) (fun l k => x9 (ix3 0 l k)) (fun k j => x10 (ix3 0 k j)) j := by
  unfold out0_12 k0_pay44
  frame_out
  refine (last_at _ _ _ a j).trans ?_
  have h := ffn_at x9 x10 _ _ _ _ _ a (proj_at x0 x1 x2 x3 x4 x5 x6 x7 x8 x9 x10 x11 a) (fun k => norm_at x0 x1 x2 x3 x4 x5 x6 x7 x8 x9 x10 x11 a k)
    (fun k => (unit_at x0 x1 x2 x3 x4 x5 x6 x7 x8 x9 x10 x11 a k (View.ld x9 r0_5)).trans (congrArg (unit _) (funext fun l => by pointwise [r0_5]))) j
  exact h

end Cert.MidIdeal.Layer

end
-- ==== Proof.MidFinal.lean ====
/- What the middle call leaves in its output array: each row of the result, over the argument arrays. -/
module

public import proofs.«01_k».proof.Proof.MidValue

@[expose] public section

set_option maxRecDepth 16384

noncomputable section

namespace Cert.MidIdeal.Layer

open Cert.MidIdeal Cert.MidIdeal.Gen Idealize.ShloMosaic Idealize.ShloMosaic.TcCoe Idealize.SL.Sem
open Idealize.ShloMosaic.Pipeline (Dat)
open Cert.Rows

/-- The block each window holds at each step. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0, 0] ∧ win0_7.index t = ![0, 0] ∧ win0_8.index t = ![0, 0]
    ∧ win0_9.index t = ![1, 0, 0] ∧ win0_10.index t = ![1, 0, 0] ∧ win0_11.index t = ![0, 0] ∧ win0_12.index t = ![t.val, 0] :=
  (by decide +kernel : ∀ t : Fin grid0.N, _)

/-- The grid has 64 steps. -/
theorem lt_N (t : Fin cfg0.N) : t.val < 64 := (by decide +kernel : ∀ t : Fin grid0.N, t.val < 64) t

variable (m : (ℓ : Loc nD τ sig) → Buf (Elt Ideal) ℓ)

/-! Where each window's block lies in its array. -/

/-- Where an entry of the block of window 0 lies in its array. -/
theorem emb0 (t : Fin cfg0.N) (a : Fin 512) (k : Fin 1024) : ((cfg0.win 0).blk t).view.emb (ix2 a k) = (ix2 ⟨t.val * 512 + a.val, by have := lt_N t; omega⟩ k : S32768x1024.Idx) := by
  blk_ext [idx t]

/-- Where an entry of the block of window 1 lies in its array. -/
theorem emb1 (t : Fin cfg0.N) (a : Fin 512) (k : Fin 1024) : ((cfg0.win 1).blk t).view.emb (ix2 a k) = (ix2 ⟨t.val * 512 + a.val, by have := lt_N t; omega⟩ k : S32768x1024.Idx) := by
  blk_ext [idx t]

/-- Where an entry of the block of window 2 lies in its array. -/
theorem emb2 (t : Fin cfg0.N) (a : Fin 512) (k : Fin 1024) : ((cfg0.win 2).blk t).view.emb (ix2 a k) = (ix2 ⟨t.val * 512 + a.val, by have := lt_N t; omega⟩ k : S32768x1024.Idx) := by
  blk_ext [idx t]

/-- Where an entry of the block of window 3 lies in its array. -/
theorem emb3 (t : Fin cfg0.N) (a : Fin 512) (k : Fin 1024) : ((cfg0.win 3).blk t).view.emb (ix2 a k) = (ix2 ⟨t.val * 512 + a.val, by have := lt_N t; omega⟩ k : S32768x1024.Idx) := by
  blk_ext [idx t]

/-- Where an entry of the block of window 12 lies in its array. -/
theorem emb12 (t : Fin cfg0.N) (a : Fin 512) (k : Fin 1024) : ((cfg0.win 12).blk t).view.emb (ix2 a k) = (ix2 ⟨t.val * 512 + a.val, by have := lt_N t; omega⟩ k : S32768x1024.Idx) := by
  blk_ext [idx t]

/-- Where an entry of the block of window 4 lies in its array. -/
theorem emb4 (t : Fin cfg0.N) (k : Fin 1024) : ((cfg0.win 4).blk t).view.emb (ix2 0 k) = (ix2 0 k : S1x1024.Idx) := by
  blk_ext [idx t]

/-- Where an entry of the block of window 5 lies in its array. -/
theorem emb5 (t : Fin cfg0.N) (k : Fin 1024) : ((cfg0.win 5).blk t).view.emb (ix2 0 k) = (ix2 0 k : S1x1024.Idx) := by
  blk_ext [idx t]

/-- Where an entry of the block of window 8 lies in its array. -/
theorem emb8 (t : Fin cfg0.N) (k : Fin 1024) : ((cfg0.win 8).blk t).view.emb (ix2 0 k) = (ix2 0 k : S1x1024.Idx) := by
  blk_ext [idx t]

/-- Where an entry of the block of window 7 lies in its array. -/
theorem emb7 (t : Fin cfg0.N) (k c : Fin 128) : ((cfg0.win 7).blk t).view.emb (ix2 k c) = (ix2 k c : S128x128.Idx) := by
  blk_ext [idx t]

/-- Where an entry of the block of window 6 lies in its array. -/
theorem emb6 (t : Fin cfg0.N) (k : Fin 1024) (j : Fin 1024) : ((cfg0.win 6).blk t).view.emb (ix3 0 k j) = (ix3 0 k j : S2x1024x1024.Idx) := by
  blk_ext [idx t]

/-- Where an entry of the block of window 9 lies in its array. -/
theorem emb9 (t : Fin cfg0.N) (k : Fin 1024) (j : Fin 4096) : ((cfg0.win 9).blk t).view.emb (ix3 0 k j) = (ix3 1 k j : S4x1024x4096.Idx) := by
  blk_ext [idx t]

/-- Where an entry of the block of window 10 lies in its array. -/
theorem emb10 (t : Fin cfg0.N) (k : Fin 4096) (j : Fin 1024) : ((cfg0.win 10).blk t).view.emb (ix3 0 k j) = (ix3 1 k j : S4x4096x1024.Idx) := by
  blk_ext [idx t]

/-! What each input block holds, over the argument arrays. -/

/-- The wkv block of a step, at an entry, over the argument arrays. -/
theorem y_at (c : Dev nD) (t : Fin cfg0.N) (a : Fin 512) (k : Fin 1024) :
    (show FVec Ideal S512x1024 .f32 from iblk m c 0 t) (ix2 a k) = (show FVec Ideal S2x16384x1024 .f32 from m ((c : Thread nD τ).loc main_arg0)) (ix3 ⟨(t.val * 512 + a.val) / 16384, by have := lt_N t; omega⟩ ⟨(t.val * 512 + a.val) % 16384, Nat.mod_lt _ (by decide)⟩ k) := by
  show V m c main_v15 (((cfg0.win 0).blk t).view.emb (ix2 a k)) = _
  rw [emb0]
  simp only [V, hostOps0, hostOps0_1, hostOps0_2, List.flatten_cons, List.flatten_nil, List.append_nil, List.cons_append, List.nil_append]
  entry_read
  pointwise

/-- The bonus block of a step, at an entry, over the argument arrays. -/
theorem bonus_at (c : Dev nD) (t : Fin cfg0.N) (a : Fin 512) (k : Fin 1024) :
    (show FVec Ideal S512x1024 .bf16 from iblk m c 1 t) (ix2 a k) = (show FVec Ideal S32768x1024 .bf16 from m ((c : Thread nD τ).loc main_arg1)) (ix2 ⟨t.val * 512 + a.val, by have := lt_N t; omega⟩ k) := by
  show V m c main_arg1 (((cfg0.win 1).blk t).view.emb (ix2 a k)) = _
  rw [emb1]
  simp only [V, hostOps0, hostOps0_1, hostOps0_2, List.flatten_cons, List.flatten_nil, List.append_nil, List.cons_append, List.nil_append]
  entry_read
  pointwise

/-- The gate block of a step, at an entry, over the argument arrays. -/
theorem gate_at (c : Dev nD) (t : Fin cfg0.N) (a : Fin 512) (k : Fin 1024) :
    (show FVec Ideal S512x1024 .bf16 from iblk m c 2 t) (ix2 a k) = (show FVec Ideal S32768x1024 .bf16 from m ((c : Thread nD τ).loc main_arg2)) (ix2 ⟨t.val * 512 + a.val, by have := lt_N t; omega⟩ k) := by
  show V m c main_arg2 (((cfg0.win 2).blk t).view.emb (ix2 a k)) = _
  rw [emb2]
  simp only [V, hostOps0, hostOps0_1, hostOps0_2, List.flatten_cons, List.flatten_nil, List.append_nil, List.cons_append, List.nil_append]
  entry_read
  pointwise

/-- The skip block of a step, at an entry, over the argument arrays. -/
theorem x_at (c : Dev nD) (t : Fin cfg0.N) (a : Fin 512) (k : Fin 1024) :
    (show FVec Ideal S512x1024 .f32 from iblk m c 3 t) (ix2 a k) = (show FVec Ideal S32768x1024 .f32 from m ((c : Thread nD τ).loc main_arg3)) (ix2 ⟨t.val * 512 + a.val, by have := lt_N t; omega⟩ k) := by
  show V m c main_arg3 (((cfg0.win 3).blk t).view.emb (ix2 a k)) = _
  rw [emb3]
  simp only [V, hostOps0, hostOps0_1, hostOps0_2, List.flatten_cons, List.flatten_nil, List.append_nil, List.cons_append, List.nil_append]
  entry_read
  pointwise

/-- The normalization scale block of a step, at an entry, over the argument arrays. -/
theorem lg_at (c : Dev nD) (t : Fin cfg0.N) (k : Fin 1024) :
    (show FVec Ideal S1x1024 .f32 from iblk m c 4 t) (ix2 0 k) = (show FVec Ideal S2x1024 .f32 from m ((c : Thread nD τ).loc main_arg4)) (ix2 0 k) := by
  show V m c main_v10 (((cfg0.win 4).blk t).view.emb (ix2 0 k)) = _
  rw [emb4]
  simp only [V, hostOps0, hostOps0_1, hostOps0_2, List.flatten_cons, List.flatten_nil, List.append_nil, List.cons_append, List.nil_append]
  entry_read
  pointwise

/-- The normalization shift block of a step, at an entry, over the argument arrays. -/
theorem lb_at (c : Dev nD) (t : Fin cfg0.N) (k : Fin 1024) :
    (show FVec Ideal S1x1024 .f32 from iblk m c 5 t) (ix2 0 k) = (show FVec Ideal S2x1024 .f32 from m ((c : Thread nD τ).loc main_arg5)) (ix2 0 k) := by
  show V m c main_v13 (((cfg0.win 5).blk t).view.emb (ix2 0 k)) = _
  rw [emb5]
  simp only [V, hostOps0, hostOps0_1, hostOps0_2, List.flatten_cons, List.flatten_nil, List.append_nil, List.cons_append, List.nil_append]
  entry_read
  pointwise

/-- The projection block of a step, at an entry, over the argument arrays. -/
theorem wo_at (c : Dev nD) (t : Fin cfg0.N) (k : Fin 1024) (j : Fin 1024) :
    (show FVec Ideal S1x1024x1024 .bf16 from iblk m c 6 t) (ix3 0 k j) = (show FVec Ideal S2x1024x1024 .f32 from m ((c : Thread nD τ).loc main_arg6)) (ix3 0 k j) := by
  show V m c main_v14 (((cfg0.win 6).blk t).view.emb (ix3 0 k j)) = _
  rw [emb6]
  simp only [V, hostOps0, hostOps0_1, hostOps0_2, List.flatten_cons, List.flatten_nil, List.append_nil, List.cons_append, List.nil_append]
  entry_read
  pointwise

/-- The second normalization scale block of a step, at an entry, over the argument arrays. -/
theorem ng_at (c : Dev nD) (t : Fin cfg0.N) (k : Fin 1024) :
    (show FVec Ideal S1x1024 .f32 from iblk m c 8 t) (ix2 0 k) = (show FVec Ideal S4x1024 .f32 from m ((c : Thread nD τ).loc main_arg7)) (ix2 1 k) := by
  show V m c main_v18 (((cfg0.win 8).blk t).view.emb (ix2 0 k)) = _
  rw [emb8]
  simp only [V, hostOps0, hostOps0_1, hostOps0_2, List.flatten_cons, List.flatten_nil, List.append_nil, List.cons_append, List.nil_append]
  entry_read
  pointwise

/-- The first perceptron weight block of a step, at an entry, over the argument arrays. -/
theorem w1_at (c : Dev nD) (t : Fin cfg0.N) (k : Fin 1024) (j : Fin 4096) :
    (show FVec Ideal S1x1024x4096 .bf16 from iblk m c 9 t) (ix3 0 k j) = (show FVec Ideal S4x1024x4096 .f32 from m ((c : Thread nD τ).loc main_arg8)) (ix3 1 k j) := by
  show V m c main_v19 (((cfg0.win 9).blk t).view.emb (ix3 0 k j)) = _
  rw [emb9]
  simp only [V, hostOps0, hostOps0_1, hostOps0_2, List.flatten_cons, List.flatten_nil, List.append_nil, List.cons_append, List.nil_append]
  entry_read
  pointwise

/-- The second perceptron weight block of a step, at an entry, over the argument arrays. -/
theorem w2_at (c : Dev nD) (t : Fin cfg0.N) (k : Fin 4096) (j : Fin 1024) :
    (show FVec Ideal S1x4096x1024 .bf16 from iblk m c 10 t) (ix3 0 k j) = (show FVec Ideal S4x4096x1024 .f32 from m ((c : Thread nD τ).loc main_arg9)) (ix3 1 k j) := by
  show V m c main_v20 (((cfg0.win 10).blk t).view.emb (ix3 0 k j)) = _
  rw [emb10]
  simp only [V, hostOps0, hostOps0_1, hostOps0_2, List.flatten_cons, List.flatten_nil, List.append_nil, List.cons_append, List.nil_append]
  entry_read
  pointwise

/-- The head of each lane of a group, as the host computes it. -/
def headOf : S128.Idx → BitVec 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

/-- The head of a lane, computed. -/
theorem headOf_at : ∀ k : Fin 128, headOf (ix1 k) = BitVec.ofNat 32 (k.val / 64) := by decide +kernel

/-- Two lanes have the same head word exactly when they lie in the same head. -/
theorem headOf_eq (k j : Fin 128) : (headOf (ix1 k) = headOf (ix1 j)) ↔ k.val / 64 = j.val / 64 := by
  rw [headOf_at, headOf_at]
  constructor
  · intro h
    have := congrArg BitVec.toNat h
    simp at this
    omega
  · intro h
    rw [h]

/-- The matrix of ones the kernel is given, at an entry. -/
theorem ones_at (c : Dev nD) (t : Fin cfg0.N) (k j : Fin 128) :
    (show FVec Ideal S128x128 .bf16 from iblk m c 7 t) (ix2 k j) = blockOnes k j := by
  show V m c main_v7 (((cfg0.win 7).blk t).view.emb (ix2 k j)) = _
  rw [emb7]
  simp only [V, hostOps0, hostOps0_1, hostOps0_2, List.flatten_cons, List.flatten_nil, List.append_nil, List.cons_append, List.nil_append]
  entry_read
  show (uitofp .bf16 (cmpi .eq (broadcastInDim S128x128 ![0, 1] bcast_S128x1_S128x128_0_1 (broadcastInDim S128x1 ![0] bcast_S128_S128x1_0 headOf))
    (broadcastInDim S128x128 ![0, 1] bcast_S1x128_S128x128_0_1 (broadcastInDim S1x128 ![1] bcast_S128_S1x128_1 headOf))) : FVec Ideal S128x128 .bf16) (ix2 k j) = _
  pointwise
  rw [blockOnes]
  have e := headOf_eq k j
  by_cases h : headOf (ix1 k) = headOf (ix1 j)
  · rw [if_pos (e.1 h), h]
    simp [IntOp.cmpi, FloatOps.uitofp]
  · rw [if_neg (fun q => h (e.2 q))]
    simp [IntOp.cmpi, FloatOps.uitofp, h]

/-- A row of the result depends on its operands element by element. -/
theorem row_congr (s : (Fin 1024 → EReal) → Fin 1024 → EReal) {y y' lg lg' lb lb' bon bon' gt gt' x x' ng ng' : Fin 1024 → EReal}
    {wo wo' : Fin 1024 → Fin 1024 → EReal} {w1 w1' : Fin 1024 → Fin 4096 → EReal} {w2 w2' : Fin 4096 → Fin 1024 → EReal}
    (hy : ∀ k, y k = y' k) (hlg : ∀ k, lg k = lg' k) (hlb : ∀ k, lb k = lb' k) (hbon : ∀ k, bon k = bon' k) (hgt : ∀ k, gt k = gt' k)
    (hx : ∀ k, x k = x' k) (hwo : ∀ k r, wo k r = wo' k r) (hng : ∀ k, ng k = ng' k) (h1 : ∀ l k, w1 l k = w1' l k) (h2 : ∀ k j, w2 k j = w2' k j)
    (j : Fin 1024) : ffn (proj s y lg lb bon gt x wo) ng w1 w2 j = ffn (proj s y' lg' lb' bon' gt' x' wo') ng' w1' w2' j := by
  rw [funext hy, funext hlg, funext hlb, funext hbon, funext hgt, funext hx, funext hng, funext fun k => funext (hwo k),
    funext fun l => funext (h1 l), funext fun k => funext (h2 k)]

/-- The whole result, row by row, over the argument arrays. -/
def G (Y : FVec Ideal S2x16384x1024 .f32) (B T : FVec Ideal S32768x1024 .bf16) (X : FVec Ideal S32768x1024 .f32) (lg lb : FVec Ideal S2x1024 .f32)
    (wo : FVec Ideal S2x1024x1024 .f32) (ng : FVec Ideal S4x1024 .f32) (w1 : FVec Ideal S4x1024x4096 .f32) (w2 : FVec Ideal S4x4096x1024 .f32) :
    FVec Ideal S32768x1024 .f32 := fun i =>
  ffn (proj headMean (fun k => Y (ix3 ⟨(i 0).val / 16384, by have : (i 0).val < 32768 := (i 0).isLt; omega⟩ ⟨(i 0).val % 16384, Nat.mod_lt _ (by decide)⟩ k))
    (fun k => lg (ix2 0 k)) (fun k => lb (ix2 0 k)) (fun k => B (ix2 (i 0) k)) (fun k => T (ix2 (i 0) k)) (fun k => X (ix2 (i 0) k)) (fun k r => wo (ix3 0 k r)))
    (fun k => ng (ix2 1 k)) (fun l k => w1 (ix3 1 l k)) (fun k j => w2 (ix3 1 k j)) (i 1)

/-- The kernel's means are the means within the heads. -/
theorem kmean_blockOnes : kmean blockOnes = headMean := by
  funext y k
  rw [kmean, laneSum_blockOnes, mul_64th, headMean]

/-- The output array after the last step. -/
theorem final (c : Dev nD) : (dats m 0 c).arrAt 12 (cfgs 0).N
    = G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) := by
  refine (dats m 0 c).arrAt_eq_of_covers 12 _ (by decide +kernel) fun t _ y => ?_
  blk_simp
  rw [after0_12]
  idx_vars y
  refine (out_at _ _ _ _ _ _ _ _ _ _ _ _ y0 y1).trans ?_
  refine Eq.trans ?_ (congrArg (G _ _ _ _ _ _ _ _ _ _) (emb12 t y0 y1)).symm
  rw [show (fun k j => (show FVec Ideal S128x128 .bf16 from iblk m c 7 t) (ix2 k j)) = blockOnes from funext fun k => funext fun j => ones_at m c t k j, kmean_blockOnes]
  refine Eq.trans (row_congr headMean (fun k => y_at m c t y0 k) (lg_at m c t) (lb_at m c t) (fun k => bonus_at m c t y0 k) (fun k => gate_at m c t y0 k)
    (fun k => x_at m c t y0 k) (wo_at m c t) (ng_at m c t) (w1_at m c t) (w2_at m c t) y1) ?_
  rfl

end Cert.MidIdeal.Layer

end
-- ==== Proof.MidRef.lean ====
/- The reference of the middle call computes the same rows, and the claims about the pair. -/
module

public import proofs.«01_k».proof.Proof.MidFinal
public import proofs.«01_k».proof.Proof.Gen.MidRefIdeal.Read
public import proofs.«01_k».proof.Defs

@[expose] public section

set_option maxRecDepth 16384

noncomputable section

namespace Cert.MidRefIdeal.Layer

open Cert.MidRefIdeal Cert.MidRefIdeal.Gen Cert.MidRefIdeal.Read Idealize.ShloMosaic Idealize.ShloMosaic.TcCoe Idealize.SL.Sem
open Cert.Rows

variable (Y : FVec Ideal S2x16384x1024 .f32) (B T : FVec Ideal S32768x1024 .bf16) (X : FVec Ideal S32768x1024 .f32) (lg lb : FVec Ideal S2x1024 .f32)
    (wo : FVec Ideal S2x1024x1024 .f32) (ng : FVec Ideal S4x1024 .f32) (w1 : FVec Ideal S4x1024x4096 .f32) (w2 : FVec Ideal S4x4096x1024 .f32)

/-- The reference's mean within a head. -/
theorem mean_at (b : Fin 2) (q : Fin 16384) (h : Fin 16) : val_main_v4 (F := Ideal) Y (ix4 b q h 0)
    = Ideal.div (∑ l : Fin 64, Y (ix3 b q ⟨h.val * 64 + l.val, by omega⟩)) (Ideal.ofBits .f32 0x42800000#32) := by
  pointwise [val_main_v4, val_main_v3, val_main_v2, val_main_v1, val_main_v0, val_main_cst, val_main_cst_0]

/-- The reference's row without the means. -/
theorem dev_at (b : Fin 2) (q : Fin 16384) (h : Fin 16) (l : Fin 64) : val_main_v13 (F := Ideal) Y (ix4 b q h l)
    = dev headMean (fun k => Y (ix3 b q k)) ⟨h.val * 64 + l.val, by omega⟩ := by
  pointwise [val_main_v13, val_main_v12, val_main_v0, mean_at, dev, headMean_head]

/-- The same row, as the variance reads it. -/
theorem dev_at' (b : Fin 2) (q : Fin 16384) (h : Fin 16) (l : Fin 64) : val_main_v6 (F := Ideal) Y (ix4 b q h l)
    = dev headMean (fun k => Y (ix3 b q k)) ⟨h.val * 64 + l.val, by omega⟩ := by
  pointwise [val_main_v6, val_main_v5, val_main_v0, mean_at, dev, headMean_head]

/-- The reference's variance within a head, with its small constant. -/
theorem var_at (b : Fin 2) (q : Fin 16384) (h : Fin 16) (l : Fin 64) : val_main_v17 (F := Ideal) Y (ix4 b q h l)
    = Ideal.rsqrt (headMean (fun k => dev headMean (fun k => Y (ix3 b q k)) k * dev headMean (fun k => Y (ix3 b q k)) k) ⟨h.val * 64 + l.val, by omega⟩
        + Ideal.ofBits .f32 0x3A27C5AC#32) := by
  rw [headMean_head]
  pointwise [val_main_v17, val_main_v16, val_main_v15, val_main_v14, val_main_v11, val_main_v10, val_main_v9, val_main_v8, val_main_v7, val_main_cst_1, val_main_cst_2, val_main_cst_3, dev_at']

/-- The reference's normalized row. -/
theorem norm_at (r : Fin 32768) (k : Fin 1024) : val_main_v19 (F := Ideal) Y (ix2 r k)
    = dev headMean (fun k => Y (ix3 ⟨r.val / 16384, by omega⟩ ⟨r.val % 16384, Nat.mod_lt _ (by decide)⟩ k)) k * Ideal.rsqrt (headMean (fun k => dev headMean (fun k => Y (ix3 ⟨r.val / 16384, by omega⟩ ⟨r.val % 16384, Nat.mod_lt _ (by decide)⟩ k)) k * dev headMean (fun k => Y (ix3 ⟨r.val / 16384, by omega⟩ ⟨r.val % 16384, Nat.mod_lt _ (by decide)⟩ k)) k) k
        + Ideal.ofBits .f32 0x3A27C5AC#32) := by
  have e : k = ⟨k.val / 64 * 64 + k.val % 64, by omega⟩ := Fin.ext (by show k.val = k.val / 64 * 64 + k.val % 64; omega)
  refine Eq.trans ?_ ((congrArg₂ (fun (d : Fin 1024 → EReal) k => d k * Ideal.rsqrt (headMean (fun k => d k * d k) k + Ideal.ofBits .f32 0x3A27C5AC#32)) rfl e).symm)
  pointwise [val_main_v19, val_main_v18, dev_at, var_at]

/-- The reference's gated row. -/
theorem gated_at (r : Fin 32768) (k : Fin 1024) : val_main_v33 (F := Ideal) Y B T lg lb (ix2 r k) = gated headMean (fun k => Y (ix3 ⟨r.val / 16384, by omega⟩ ⟨r.val % 16384, Nat.mod_lt _ (by decide)⟩ k)) (fun k => lg (ix2 0 k)) (fun k => lb (ix2 0 k)) (fun k => B (ix2 r k)) (fun k => T (ix2 r k)) k := by
  pointwise [val_main_v33, val_main_v32, val_main_v31, val_main_v30, val_main_v29, val_main_v28, val_main_v27, val_main_v26, val_main_v25, val_main_v24, val_main_v23, val_main_v22, val_main_v21, val_main_v20, norm_at, gated]

/-- The reference's projection. -/
theorem proj_at (r : Fin 32768) (j : Fin 1024) : val_main_v37 (F := Ideal) Y B T X lg lb wo (ix2 r j) = (proj headMean (fun k => Y (ix3 ⟨r.val / 16384, by omega⟩ ⟨r.val % 16384, Nat.mod_lt _ (by decide)⟩ k)) (fun k => lg (ix2 0 k)) (fun k => lb (ix2 0 k)) (fun k => B (ix2 r k)) (fun k => T (ix2 r k)) (fun k => X (ix2 r k)) (fun k r => wo (ix3 0 k r))) j := by
  pointwise [val_main_v37, val_main_v36, val_main_v35, val_main_v34, gated_at, proj]

/-- The reference's normalization before the perceptron layer. -/
theorem rms_at (r : Fin 32768) (k : Fin 1024) : val_main_v52 (F := Ideal) Y B T X lg lb wo ng (ix2 r k) = rms (proj headMean (fun k => Y (ix3 ⟨r.val / 16384, by omega⟩ ⟨r.val % 16384, Nat.mod_lt _ (by decide)⟩ k)) (fun k => lg (ix2 0 k)) (fun k => lb (ix2 0 k)) (fun k => B (ix2 r k)) (fun k => T (ix2 r k)) (fun k => X (ix2 r k)) (fun k r => wo (ix3 0 k r))) (fun k => ng (ix2 1 k)) k := by
  pointwise [val_main_v52, val_main_v51, val_main_v50, val_main_v49, val_main_v48, val_main_v47, val_main_v46, val_main_v45, val_main_v44, val_main_v43, val_main_v42, val_main_v41, val_main_v40, val_main_v39, val_main_v38, val_main_cst_4, val_main_cst_5, val_main_cst_6, proj_at, rms, rmsScale]

/-- The reference's perceptron layer. -/
theorem ffn_at (r : Fin 32768) (j : Fin 1024) : val_main_v61 (F := Ideal) Y B T X lg lb wo ng w1 w2 (ix2 r j) = (ffn (proj headMean (fun k => Y (ix3 ⟨r.val / 16384, by omega⟩ ⟨r.val % 16384, Nat.mod_lt _ (by decide)⟩ k)) (fun k => lg (ix2 0 k)) (fun k => lb (ix2 0 k)) (fun k => B (ix2 r k)) (fun k => T (ix2 r k)) (fun k => X (ix2 r k)) (fun k r => wo (ix3 0 k r))) (fun k => ng (ix2 1 k)) (fun l k => w1 (ix3 1 l k)) (fun k j => w2 (ix3 1 k j))) j := by
  pointwise [val_main_v61, val_main_v60, val_main_v59, val_main_v58, val_main_v57, val_main_v56, val_main_v55, val_main_v54, val_main_v53, val_main_call0_cst, val_main_call0_v0, rms_at, proj_at, ffn, unit]

/-- The reference's result, element by element. -/
theorem ref_at (r : Fin 32768) (j : Fin 1024) : val_main_v61 (F := Ideal) Y B T X lg lb wo ng w1 w2 (ix2 r j)
    = Cert.MidIdeal.Layer.G Y B T X lg lb wo ng w1 w2 (ix2 r j) := ffn_at Y B T X lg lb wo ng w1 w2 r j

/-- The reference's result. -/
theorem ref_eq : val_main_v61 (F := Ideal) Y B T X lg lb wo ng w1 w2 = Cert.MidIdeal.Layer.G Y B T X lg lb wo ng w1 w2 :=
  funext fun i => (congrArg _ (eq_ix2 i)).trans ((ref_at Y B T X lg lb wo ng w1 w2 (i 0) (i 1)).trans (congrArg _ (eq_ix2 i).symm))

end Cert.MidRefIdeal.Layer

namespace Cert.Mid.Claims
open Idealize.ShloMosaic Idealize.ShloMosaic.TcCoe Idealize.SL.Sem

/-- Equal arrays give equal results. -/
theorem g_congr {Y Y' : FVec Ideal S2x16384x1024 .f32} {B B' T T' : FVec Ideal S32768x1024 .bf16} {X X' : FVec Ideal S32768x1024 .f32} {lg lg' lb lb' : FVec Ideal S2x1024 .f32}
    {wo wo' : FVec Ideal S2x1024x1024 .f32} {ng ng' : FVec Ideal S4x1024 .f32} {w1 w1' : FVec Ideal S4x1024x4096 .f32} {w2 w2' : FVec Ideal S4x4096x1024 .f32} (h0 : Y' = Y) (h1 : B' = B) (h2 : T' = T) (h3 : X' = X) (h4 : lg' = lg) (h5 : lb' = lb) (h6 : wo' = wo) (h7 : ng' = ng)
    (h8 : w1' = w1) (h9 : w2' = w2) :
    Cert.MidIdeal.Layer.G Y' B' T' X' lg' lb' wo' ng' w1' w2' = Cert.MidIdeal.Layer.G Y B T X lg lb wo ng w1 w2 := by
  subst h0 h1 h2 h3 h4 h5 h6 h7 h8 h9; rfl

set_option maxHeartbeats 2000000 in
/-- The kernel and its reference leave the same array. -/
theorem algebraic : Cert.algebraic_MidIdeal_MidRefIdeal := by
  pair_intro
  · run_from Cert.MidIdeal.Gen.run_main m g
    exacts [Cert.MidIdeal.Gen.V_main_arg0 m c,
      Cert.MidIdeal.Gen.V_main_arg4 m c,
      Cert.MidIdeal.Gen.V_main_arg5 m c,
      Cert.MidIdeal.Gen.V_main_arg6 m c,
      Cert.MidIdeal.Gen.V_main_arg7 m c,
      Cert.MidIdeal.Gen.V_main_arg8 m c,
      Cert.MidIdeal.Gen.V_main_arg9 m c,
      Cert.MidIdeal.Gen.V_main_arg10 m c]
  · run_from Cert.MidRefIdeal.Value.run m' g'
    rw [Cert.MidIdeal.Layer.final m c, Cert.MidRefIdeal.Read.val_main_v61_eq]
    obtain ⟨h0, h1, h2, h3, h4, h5, h6, h7, h8, h9, h10⟩ := hagree c
    exact (Cert.MidRefIdeal.Layer.ref_eq _ _ _ _ _ _ _ _ _ _).trans (g_congr h0 h1 h2 h3 h4 h5 h6 h7 h8 h9)

/-- The reference's frame. -/
theorem frame_ref : Cert.quiescent_MidRefIdeal := fun m ρ _ =>
  (θ_run Cert.MidRefIdeal.defs _ _).mono (fun r h => ⟨fun c => (h c).2, sem_eq_zero_of_no_sems (by decide) r.2⟩)
    (Cert.MidRefIdeal.Value.run (F := Ideal) m ρ)

end Cert.Mid.Claims

end
-- ==== Proof.lean ====
/- The claims about the calls, assembled. -/
module

public import proofs.«01_k».proof.Defs
public import proofs.«01_k».proof.Proof.SguRef
public import proofs.«01_k».proof.Proof.Gen.Sgu.Frame
public import proofs.«01_k».proof.Proof.FfnRef
public import proofs.«01_k».proof.Proof.Gen.Ffn.Frame
public import proofs.«01_k».proof.Proof.OutRef
public import proofs.«01_k».proof.Proof.Gen.Out.Frame
public import proofs.«01_k».proof.Proof.InRef
public import proofs.«01_k».proof.Proof.InFrame
public import proofs.«01_k».proof.Proof.MidRef
public import proofs.«01_k».proof.Proof.Gen.Mid.Frame
public import proofs.«01_k».proof.Proof.Gen.WkvIdeal.Frame
public import proofs.«01_k».proof.Proof.Gen.Wkv.Frame
public import Idealize.ShloMosaic.Adequacy
public import Idealize.ShloMosaic.Init

@[expose] public section

noncomputable section

namespace Cert.Proof

open Idealize.ShloMosaic Idealize.SL.Sem

/-- Every claim of the statement. -/
theorem claim : Cert.Claim := ⟨Cert.Sgu.Gen.facts, Cert.SguIdeal.Gen.facts, Cert.SguRefIdeal.Gen.facts,
  Cert.Ffn.Gen.facts, Cert.FfnIdeal.Gen.facts, Cert.FfnRefIdeal.Gen.facts,
  Cert.Out.Gen.facts, Cert.OutIdeal.Gen.facts, Cert.OutRefIdeal.Gen.facts,
  Cert.In.Gen.facts, Cert.InIdeal.Gen.facts, Cert.InRefIdeal.Gen.facts,
  Cert.Mid.Gen.facts, Cert.MidIdeal.Gen.facts, Cert.MidRefIdeal.Gen.facts,
  Cert.Wkv.Gen.facts, Cert.WkvIdeal.Gen.facts, Cert.Pre_sgu_weights_finite.Layer.facts,
  fun m ρ _ => Cert.Sgu.Gen.frame m ρ, fun m ρ _ => Cert.SguIdeal.Gen.frame m ρ, fun m ρ _ => Cert.SguIdeal.Gen.frame m ρ, Cert.Sgu.Claims.frame_ref, fun m ρ _ => Cert.Sgu.Claims.frame_ref m ρ trivial,
  fun m ρ _ => Cert.Ffn.Gen.frame m ρ, fun m ρ _ => Cert.FfnIdeal.Gen.frame m ρ, Cert.Ffn.Claims.frame_ref,
  fun m ρ _ => Cert.Out.Gen.frame m ρ, fun m ρ _ => Cert.OutIdeal.Gen.frame m ρ, Cert.Out.Claims.frame_ref,
  fun m ρ _ => Cert.In.Layer.frame m ρ, fun m ρ _ => Cert.InIdeal.Layer.frame m ρ, Cert.In.Claims.frame_ref,
  fun m ρ _ => Cert.Mid.Gen.frame m ρ, fun m ρ _ => Cert.MidIdeal.Gen.frame m ρ, Cert.Mid.Claims.frame_ref,
  fun m ρ _ => Cert.Wkv.Gen.frame m ρ, fun m ρ _ => Cert.WkvIdeal.Gen.frame m ρ,
  trivial, Cert.Sgu.Claims.algebraic,
  trivial, Cert.Ffn.Claims.algebraic,
  trivial, Cert.Out.Claims.algebraic,
  trivial, Cert.In.Claims.algebraic,
  trivial, Cert.Mid.Claims.algebraic,
  trivial⟩

end Cert.Proof

end
